-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_operands_finite [hPre_operands_finite : Cert.Pre_operands_finite.Facts] (m : (ℓ : Loc Cert.KernelIdeal.nD Cert.KernelIdeal.τ Cert.KernelIdeal.sig) → Buf (Elt Ideal) ℓ) : Prop :=
  ∀ c : Dev Cert.KernelIdeal.nD,
    (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_operands_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_operands_finite [hPre_operands_finite : Cert.Pre_operands_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_operands_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_FfnPromptRefIdeal (m : (ℓ : Loc Cert.FfnPromptRefIdeal.nD Cert.FfnPromptRefIdeal.τ Cert.FfnPromptRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_ProjAttn (m : (ℓ : Loc Cert.ProjAttn.nD Cert.ProjAttn.τ Cert.ProjAttn.sig) → Buf (Elt Bits) ℓ) : Prop :=
  True

def Pre_ProjAttnIdeal (m : (ℓ : Loc Cert.ProjAttnIdeal.nD Cert.ProjAttnIdeal.τ Cert.ProjAttnIdeal.sig) → Buf (Elt Ideal) ℓ) : Prop :=
  True

def Pre_ProjAttnRefIdeal (m : (ℓ : Loc Cert.ProjAttnRefIdeal.nD Cert.ProjAttnRefIdeal.τ Cert.ProjAttnRefIdeal.sig) → Buf (Elt Ideal) ℓ) : Prop :=
  True

def Pre_ProjGlu (m : (ℓ : Loc Cert.ProjGlu.nD Cert.ProjGlu.τ Cert.ProjGlu.sig) → Buf (Elt Bits) ℓ) : Prop :=
  True

def Pre_ProjGluIdeal (m : (ℓ : Loc Cert.ProjGluIdeal.nD Cert.ProjGluIdeal.τ Cert.ProjGluIdeal.sig) → Buf (Elt Ideal) ℓ) : Prop :=
  True

def Pre_ProjGluRefIdeal (m : (ℓ : Loc Cert.ProjGluRefIdeal.nD Cert.ProjGluRefIdeal.τ Cert.ProjGluRefIdeal.sig) → Buf (Elt Ideal) ℓ) : Prop :=
  True

def Pre_ProjPair (m : (ℓ : Loc Cert.ProjPair.nD Cert.ProjPair.τ Cert.ProjPair.sig) → Buf (Elt Bits) ℓ) : Prop :=
  True

def Pre_ProjPairIdeal (m : (ℓ : Loc Cert.ProjPairIdeal.nD Cert.ProjPairIdeal.τ Cert.ProjPairIdeal.sig) → Buf (Elt Ideal) ℓ) : Prop :=
  True

def Pre_ProjPairRefIdeal (m : (ℓ : Loc Cert.ProjPairRefIdeal.nD Cert.ProjPairRefIdeal.τ Cert.ProjPairRefIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_finite [hPre_attention_finite : Cert.Pre_attention_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 = (fun _ => 1#1)
    ∧ (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2 = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_attention_finite [hPre_attention_finite : Cert.Pre_attention_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_attention_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4))).1 = (fun _ => 1#1)
    ∧ (Cert.Pre_attention_finite.fn (F := Ideal) (m ((c.tc : Thread Cert.AttentionRefIdeal.nD Cert.AttentionRefIdeal.τ).loc Cert.AttentionRefIdeal.main_arg0)) (m ((c.tc : Thread Cert.AttentionRefIdeal.nD Cert.AttentionRefIdeal.τ).loc Cert.AttentionRefIdeal.main_arg1)) (m ((c.tc : Thread Cert.AttentionRefIdeal.nD Cert.AttentionRefIdeal.τ).loc Cert.AttentionRefIdeal.main_arg2)) (m ((c.tc : Thread Cert.AttentionRefIdeal.nD Cert.AttentionRefIdeal.τ).loc Cert.AttentionRefIdeal.main_arg3)) (m ((c.tc : Thread Cert.AttentionRefIdeal.nD Cert.AttentionRefIdeal.τ).loc Cert.AttentionRefIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_operands_finite [hKernelIdeal : Cert.KernelIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_operands_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_operands_finite [hReferenceIdeal : Cert.ReferenceIdeal.Facts] [hPre_operands_finite : Cert.Pre_operands_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_operands_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4)
      ∧ r.2.mem ((c.tc : Thread Cert.FfnPrompt.nD Cert.FfnPrompt.τ).loc Cert.FfnPrompt.main_arg5) = m ((c.tc : Thread Cert.FfnPrompt.nD Cert.FfnPrompt.τ).loc Cert.FfnPrompt.main_arg5)
      ∧ r.2.mem ((c.tc : Thread Cert.FfnPrompt.nD Cert.FfnPrompt.τ).loc Cert.FfnPrompt.main_arg6) = m ((c.tc : Thread Cert.FfnPrompt.nD Cert.FfnPrompt.τ).loc Cert.FfnPrompt.main_arg6))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
      ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5)
      ∧ r.2.mem ((c.tc : Thread Cert.FfnPromptIdeal.nD Cert.FfnPromptIdeal.τ).loc Cert.FfnPromptIdeal.main_arg6) = m ((c.tc : Thread Cert.FfnPromptIdeal.nD Cert.FfnPromptIdeal.τ).loc Cert.FfnPromptIdeal.main_arg6))
      ∧ r.2.sem = fun _ => 0)

def quiescent_FfnPromptRefIdeal [hFfnPromptRefIdeal : Cert.FfnPromptRefIdeal.Facts] : Prop :=
  ∀ (m : (ℓ : Loc Cert.FfnPromptRefIdeal.nD Cert.FfnPromptRefIdeal.τ Cert.FfnPromptRefIdeal.sig) → Buf (Elt Ideal) ℓ) (g : Dev Cert.FfnPromptRefIdeal.nD → PrngReg), Pre_FfnPromptRefIdeal m →
    θ_run (Cert.FfnPromptRefIdeal.defs (F := Ideal)) (onTc (τ := Cert.FfnPromptRefIdeal.τ) (Cert.FfnPromptRefIdeal.main (F := Ideal))) ⟨m, fun _ => 0, g⟩ (fun r => (∀ c : Dev Cert.FfnPromptRefIdeal.nD,
      r.2.mem ((c.tc : Thread Cert.FfnPromptRefIdeal.nD Cert.FfnPromptRefIdeal.τ).loc Cert.FfnPromptRefIdeal.main_arg0) = m ((c.tc : Thread Cert.FfnPromptRefIdeal.nD Cert.FfnPromptRefIdeal.τ).loc Cert.FfnPromptRefIdeal.main_arg0)
      ∧ r.2.mem ((c.tc : Thread Cert.FfnPromptRefIdeal.nD Cert.FfnPromptRefIdeal.τ).loc Cert.FfnPromptRefIdeal.main_arg1) = m ((c.tc : Thread Cert.FfnPromptRefIdeal.nD Cert.FfnPromptRefIdeal.τ).loc Cert.FfnPromptRefIdeal.main_arg1)
      ∧ r.2.mem ((c.tc : Thread Cert.FfnPromptRefIdeal.nD Cert.FfnPromptRefIdeal.τ).loc Cert.FfnPromptRefIdeal.main_arg2) = m ((c.tc : Thread Cert.FfnPromptRefIdeal.nD Cert.FfnPromptRefIdeal.τ).loc Cert.FfnPromptRefIdeal.main_arg2)
      ∧ r.2.mem ((c.tc : Thread Cert.FfnPromptRefIdeal.nD Cert.FfnPromptRefIdeal.τ).loc Cert.FfnPromptRefIdeal.main_arg3) = m ((c.tc : Thread Cert.FfnPromptRefIdeal.nD Cert.FfnPromptRefIdeal.τ).loc Cert.FfnPromptRefIdeal.main_arg3)
      ∧ r.2.mem ((c.tc : Thread Cert.FfnPromptRefIdeal.nD Cert.FfnPromptRefIdeal.τ).loc Cert.FfnPromptRefIdeal.main_arg4) = m ((c.tc : Thread Cert.FfnPromptRefIdeal.nD Cert.FfnPromptRefIdeal.τ).loc Cert.FfnPromptRefIdeal.main_arg4)
      ∧ r.2.mem ((c.tc : Thread Cert.FfnPromptRefIdeal.nD Cert.FfnPromptRefIdeal.τ).loc Cert.FfnPromptRefIdeal.main_arg5) = m ((c.tc : Thread Cert.FfnPromptRefIdeal.nD Cert.FfnPromptRefIdeal.τ).loc Cert.FfnPromptRefIdeal.main_arg5)
      ∧ r.2.mem ((c.tc : Thread Cert.FfnPromptRefIdeal.nD Cert.FfnPromptRefIdeal.τ).loc Cert.FfnPromptRefIdeal.main_arg6) = m ((c.tc : Thread Cert.FfnPromptRefIdeal.nD Cert.FfnPromptRefIdeal.τ).loc Cert.FfnPromptRefIdeal.main_arg6))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5)
      ∧ r.2.mem ((c.tc : Thread Cert.FfnSampleRefIdeal.nD Cert.FfnSampleRefIdeal.τ).loc Cert.FfnSampleRefIdeal.main_arg6) = m ((c.tc : Thread Cert.FfnSampleRefIdeal.nD Cert.FfnSampleRefIdeal.τ).loc Cert.FfnSampleRefIdeal.main_arg6))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5))
      ∧ r.2.sem = fun _ => 0)

def quiescent_ProjAttn [hProjAttn : Cert.ProjAttn.Facts] : Prop :=
  ∀ (m : (ℓ : Loc Cert.ProjAttn.nD Cert.ProjAttn.τ Cert.ProjAttn.sig) → Buf (Elt Bits) ℓ) (g : Dev Cert.ProjAttn.nD → PrngReg), Pre_ProjAttn m →
    θ_run (Cert.ProjAttn.defs (F := Bits)) (onTc (τ := Cert.ProjAttn.τ) (Cert.ProjAttn.main (F := Bits))) ⟨m, fun _ => 0, g⟩ (fun r => (∀ c : Dev Cert.ProjAttn.nD,
      r.2.mem ((c.tc : Thread Cert.ProjAttn.nD Cert.ProjAttn.τ).loc Cert.ProjAttn.main_arg0) = m ((c.tc : Thread Cert.ProjAttn.nD Cert.ProjAttn.τ).loc Cert.ProjAttn.main_arg0)
      ∧ r.2.mem ((c.tc : Thread Cert.ProjAttn.nD Cert.ProjAttn.τ).loc Cert.ProjAttn.main_arg1) = m ((c.tc : Thread Cert.ProjAttn.nD Cert.ProjAttn.τ).loc Cert.ProjAttn.main_arg1)
      ∧ r.2.mem ((c.tc : Thread Cert.ProjAttn.nD Cert.ProjAttn.τ).loc Cert.ProjAttn.main_arg2) = m ((c.tc : Thread Cert.ProjAttn.nD Cert.ProjAttn.τ).loc Cert.ProjAttn.main_arg2)
      ∧ r.2.mem ((c.tc : Thread Cert.ProjAttn.nD Cert.ProjAttn.τ).loc Cert.ProjAttn.main_arg3) = m ((c.tc : Thread Cert.ProjAttn.nD Cert.ProjAttn.τ).loc Cert.ProjAttn.main_arg3))
      ∧ r.2.sem = fun _ => 0)

def quiescent_ProjAttnIdeal [hProjAttnIdeal : Cert.ProjAttnIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg), Pre_ProjAttnIdeal m →
    θ_run (Cert.ProjAttnIdeal.defs (F := Ideal)) (onTc (τ := Cert.ProjAttnIdeal.τ) (Cert.ProjAttnIdeal.main (F := Ideal))) ⟨m, fun _ => 0, g⟩ (fun r => (∀ c : Dev Cert.ProjAttnIdeal.nD,
      r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
      ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1)
      ∧ r.2.mem ((c.tc : Thread Cert.ProjAttnIdeal.nD Cert.ProjAttnIdeal.τ).loc Cert.ProjAttnIdeal.main_arg2) = m ((c.tc : Thread Cert.ProjAttnIdeal.nD Cert.ProjAttnIdeal.τ).loc Cert.ProjAttnIdeal.main_arg2)
      ∧ r.2.mem ((c.tc : Thread Cert.ProjAttnIdeal.nD Cert.ProjAttnIdeal.τ).loc Cert.ProjAttnIdeal.main_arg3) = m ((c.tc : Thread Cert.ProjAttnIdeal.nD Cert.ProjAttnIdeal.τ).loc Cert.ProjAttnIdeal.main_arg3))
      ∧ r.2.sem = fun _ => 0)

def quiescent_ProjAttnRefIdeal [hProjAttnRefIdeal : Cert.ProjAttnRefIdeal.Facts] : Prop :=
  ∀ (m : (ℓ : Loc Cert.ProjAttnRefIdeal.nD Cert.ProjAttnRefIdeal.τ Cert.ProjAttnRefIdeal.sig) → Buf (Elt Ideal) ℓ) (g : Dev Cert.ProjAttnRefIdeal.nD → PrngReg), Pre_ProjAttnRefIdeal m →
    θ_run (Cert.ProjAttnRefIdeal.defs (F := Ideal)) (onTc (τ := Cert.ProjAttnRefIdeal.τ) (Cert.ProjAttnRefIdeal.main (F := Ideal))) ⟨m, fun _ => 0, g⟩ (fun r => (∀ c : Dev Cert.ProjAttnRefIdeal.nD,
      r.2.mem ((c.tc : Thread Cert.ProjAttnRefIdeal.nD Cert.ProjAttnRefIdeal.τ).loc Cert.ProjAttnRefIdeal.main_arg0) = m ((c.tc : Thread Cert.ProjAttnRefIdeal.nD Cert.ProjAttnRefIdeal.τ).loc Cert.ProjAttnRefIdeal.main_arg0)
      ∧ r.2.mem ((c.tc : Thread Cert.ProjAttnRefIdeal.nD Cert.ProjAttnRefIdeal.τ).loc Cert.ProjAttnRefIdeal.main_arg1) = m ((c.tc : Thread Cert.ProjAttnRefIdeal.nD Cert.ProjAttnRefIdeal.τ).loc Cert.ProjAttnRefIdeal.main_arg1)
      ∧ r.2.mem ((c.tc : Thread Cert.ProjAttnRefIdeal.nD Cert.ProjAttnRefIdeal.τ).loc Cert.ProjAttnRefIdeal.main_arg2) = m ((c.tc : Thread Cert.ProjAttnRefIdeal.nD Cert.ProjAttnRefIdeal.τ).loc Cert.ProjAttnRefIdeal.main_arg2)
      ∧ r.2.mem ((c.tc : Thread Cert.ProjAttnRefIdeal.nD Cert.ProjAttnRefIdeal.τ).loc Cert.ProjAttnRefIdeal.main_arg3) = m ((c.tc : Thread Cert.ProjAttnRefIdeal.nD Cert.ProjAttnRefIdeal.τ).loc Cert.ProjAttnRefIdeal.main_arg3))
      ∧ r.2.sem = fun _ => 0)

def quiescent_ProjGlu [hProjGlu : Cert.ProjGlu.Facts] : Prop :=
  ∀ (m : (ℓ : Loc Cert.ProjGlu.nD Cert.ProjGlu.τ Cert.ProjGlu.sig) → Buf (Elt Bits) ℓ) (g : Dev Cert.ProjGlu.nD → PrngReg), Pre_ProjGlu m →
    θ_run (Cert.ProjGlu.defs (F := Bits)) (onTc (τ := Cert.ProjGlu.τ) (Cert.ProjGlu.main (F := Bits))) ⟨m, fun _ => 0, g⟩ (fun r => (∀ c : Dev Cert.ProjGlu.nD,
      r.2.mem ((c.tc : Thread Cert.ProjGlu.nD Cert.ProjGlu.τ).loc Cert.ProjGlu.main_arg0) = m ((c.tc : Thread Cert.ProjGlu.nD Cert.ProjGlu.τ).loc Cert.ProjGlu.main_arg0)
      ∧ r.2.mem ((c.tc : Thread Cert.ProjGlu.nD Cert.ProjGlu.τ).loc Cert.ProjGlu.main_arg1) = m ((c.tc : Thread Cert.ProjGlu.nD Cert.ProjGlu.τ).loc Cert.ProjGlu.main_arg1)
      ∧ r.2.mem ((c.tc : Thread Cert.ProjGlu.nD Cert.ProjGlu.τ).loc Cert.ProjGlu.main_arg2) = m ((c.tc : Thread Cert.ProjGlu.nD Cert.ProjGlu.τ).loc Cert.ProjGlu.main_arg2)
      ∧ r.2.mem ((c.tc : Thread Cert.ProjGlu.nD Cert.ProjGlu.τ).loc Cert.ProjGlu.main_arg3) = m ((c.tc : Thread Cert.ProjGlu.nD Cert.ProjGlu.τ).loc Cert.ProjGlu.main_arg3)
      ∧ r.2.mem ((c.tc : Thread Cert.ProjGlu.nD Cert.ProjGlu.τ).loc Cert.ProjGlu.main_arg4) = m ((c.tc : Thread Cert.ProjGlu.nD Cert.ProjGlu.τ).loc Cert.ProjGlu.main_arg4))
      ∧ r.2.sem = fun _ => 0)

def quiescent_ProjGluIdeal [hProjGluIdeal : Cert.ProjGluIdeal.Facts] : Prop :=
  ∀ (m : (ℓ : Loc Cert.ProjGluIdeal.nD Cert.ProjGluIdeal.τ Cert.ProjGluIdeal.sig) → Buf (Elt Ideal) ℓ) (g : Dev Cert.ProjGluIdeal.nD → PrngReg), Pre_ProjGluIdeal m →
    θ_run (Cert.ProjGluIdeal.defs (F := Ideal)) (onTc (τ := Cert.ProjGluIdeal.τ) (Cert.ProjGluIdeal.main (F := Ideal))) ⟨m, fun _ => 0, g⟩ (fun r => (∀ c : Dev Cert.ProjGluIdeal.nD,
      r.2.mem ((c.tc : Thread Cert.ProjGluIdeal.nD Cert.ProjGluIdeal.τ).loc Cert.ProjGluIdeal.main_arg0) = m ((c.tc : Thread Cert.ProjGluIdeal.nD Cert.ProjGluIdeal.τ).loc Cert.ProjGluIdeal.main_arg0)
      ∧ r.2.mem ((c.tc : Thread Cert.ProjGluIdeal.nD Cert.ProjGluIdeal.τ).loc Cert.ProjGluIdeal.main_arg1) = m ((c.tc : Thread Cert.ProjGluIdeal.nD Cert.ProjGluIdeal.τ).loc Cert.ProjGluIdeal.main_arg1)
      ∧ r.2.mem ((c.tc : Thread Cert.ProjGluIdeal.nD Cert.ProjGluIdeal.τ).loc Cert.ProjGluIdeal.main_arg2) = m ((c.tc : Thread Cert.ProjGluIdeal.nD Cert.ProjGluIdeal.τ).loc Cert.ProjGluIdeal.main_arg2)
      ∧ r.2.mem ((c.tc : Thread Cert.ProjGluIdeal.nD Cert.ProjGluIdeal.τ).loc Cert.ProjGluIdeal.main_arg3) = m ((c.tc : Thread Cert.ProjGluIdeal.nD Cert.ProjGluIdeal.τ).loc Cert.ProjGluIdeal.main_arg3)
      ∧ r.2.mem ((c.tc : Thread Cert.ProjGluIdeal.nD Cert.ProjGluIdeal.τ).loc Cert.ProjGluIdeal.main_arg4) = m ((c.tc : Thread Cert.ProjGluIdeal.nD Cert.ProjGluIdeal.τ).loc Cert.ProjGluIdeal.main_arg4))
      ∧ r.2.sem = fun _ => 0)

def quiescent_ProjGluRefIdeal [hProjGluRefIdeal : Cert.ProjGluRefIdeal.Facts] : Prop :=
  ∀ (m : (ℓ : Loc Cert.ProjGluRefIdeal.nD Cert.ProjGluRefIdeal.τ Cert.ProjGluRefIdeal.sig) → Buf (Elt Ideal) ℓ) (g : Dev Cert.ProjGluRefIdeal.nD → PrngReg), Pre_ProjGluRefIdeal m →
    θ_run (Cert.ProjGluRefIdeal.defs (F := Ideal)) (onTc (τ := Cert.ProjGluRefIdeal.τ) (Cert.ProjGluRefIdeal.main (F := Ideal))) ⟨m, fun _ => 0, g⟩ (fun r => (∀ c : Dev Cert.ProjGluRefIdeal.nD,
      r.2.mem ((c.tc : Thread Cert.ProjGluRefIdeal.nD Cert.ProjGluRefIdeal.τ).loc Cert.ProjGluRefIdeal.main_arg0) = m ((c.tc : Thread Cert.ProjGluRefIdeal.nD Cert.ProjGluRefIdeal.τ).loc Cert.ProjGluRefIdeal.main_arg0)
      ∧ r.2.mem ((c.tc : Thread Cert.ProjGluRefIdeal.nD Cert.ProjGluRefIdeal.τ).loc Cert.ProjGluRefIdeal.main_arg1) = m ((c.tc : Thread Cert.ProjGluRefIdeal.nD Cert.ProjGluRefIdeal.τ).loc Cert.ProjGluRefIdeal.main_arg1)
      ∧ r.2.mem ((c.tc : Thread Cert.ProjGluRefIdeal.nD Cert.ProjGluRefIdeal.τ).loc Cert.ProjGluRefIdeal.main_arg2) = m ((c.tc : Thread Cert.ProjGluRefIdeal.nD Cert.ProjGluRefIdeal.τ).loc Cert.ProjGluRefIdeal.main_arg2)
      ∧ r.2.mem ((c.tc : Thread Cert.ProjGluRefIdeal.nD Cert.ProjGluRefIdeal.τ).loc Cert.ProjGluRefIdeal.main_arg3) = m ((c.tc : Thread Cert.ProjGluRefIdeal.nD Cert.ProjGluRefIdeal.τ).loc Cert.ProjGluRefIdeal.main_arg3)
      ∧ r.2.mem ((c.tc : Thread Cert.ProjGluRefIdeal.nD Cert.ProjGluRefIdeal.τ).loc Cert.ProjGluRefIdeal.main_arg4) = m ((c.tc : Thread Cert.ProjGluRefIdeal.nD Cert.ProjGluRefIdeal.τ).loc Cert.ProjGluRefIdeal.main_arg4))
      ∧ r.2.sem = fun _ => 0)

def quiescent_ProjPair [hProjPair : Cert.ProjPair.Facts] : Prop :=
  ∀ (m : (ℓ : Loc Cert.ProjPair.nD Cert.ProjPair.τ Cert.ProjPair.sig) → Buf (Elt Bits) ℓ) (g : Dev Cert.ProjPair.nD → PrngReg), Pre_ProjPair m →
    θ_run (Cert.ProjPair.defs (F := Bits)) (onTc (τ := Cert.ProjPair.τ) (Cert.ProjPair.main (F := Bits))) ⟨m, fun _ => 0, g⟩ (fun r => (∀ c : Dev Cert.ProjPair.nD,
      r.2.mem ((c.tc : Thread Cert.ProjPair.nD Cert.ProjPair.τ).loc Cert.ProjPair.main_arg0) = m ((c.tc : Thread Cert.ProjPair.nD Cert.ProjPair.τ).loc Cert.ProjPair.main_arg0)
      ∧ r.2.mem ((c.tc : Thread Cert.ProjPair.nD Cert.ProjPair.τ).loc Cert.ProjPair.main_arg1) = m ((c.tc : Thread Cert.ProjPair.nD Cert.ProjPair.τ).loc Cert.ProjPair.main_arg1)
      ∧ r.2.mem ((c.tc : Thread Cert.ProjPair.nD Cert.ProjPair.τ).loc Cert.ProjPair.main_arg2) = m ((c.tc : Thread Cert.ProjPair.nD Cert.ProjPair.τ).loc Cert.ProjPair.main_arg2)
      ∧ r.2.mem ((c.tc : Thread Cert.ProjPair.nD Cert.ProjPair.τ).loc Cert.ProjPair.main_arg3) = m ((c.tc : Thread Cert.ProjPair.nD Cert.ProjPair.τ).loc Cert.ProjPair.main_arg3))
      ∧ r.2.sem = fun _ => 0)

def quiescent_ProjPairIdeal [hProjPairIdeal : Cert.ProjPairIdeal.Facts] : Prop :=
  ∀ (m : (ℓ : Loc Cert.ProjPairIdeal.nD Cert.ProjPairIdeal.τ Cert.ProjPairIdeal.sig) → Buf (Elt Ideal) ℓ) (g : Dev Cert.ProjPairIdeal.nD → PrngReg), Pre_ProjPairIdeal m →
    θ_run (Cert.ProjPairIdeal.defs (F := Ideal)) (onTc (τ := Cert.ProjPairIdeal.τ) (Cert.ProjPairIdeal.main (F := Ideal))) ⟨m, fun _ => 0, g⟩ (fun r => (∀ c : Dev Cert.ProjPairIdeal.nD,
      r.2.mem ((c.tc : Thread Cert.ProjPairIdeal.nD Cert.ProjPairIdeal.τ).loc Cert.ProjPairIdeal.main_arg0) = m ((c.tc : Thread Cert.ProjPairIdeal.nD Cert.ProjPairIdeal.τ).loc Cert.ProjPairIdeal.main_arg0)
      ∧ r.2.mem ((c.tc : Thread Cert.ProjPairIdeal.nD Cert.ProjPairIdeal.τ).loc Cert.ProjPairIdeal.main_arg1) = m ((c.tc : Thread Cert.ProjPairIdeal.nD Cert.ProjPairIdeal.τ).loc Cert.ProjPairIdeal.main_arg1)
      ∧ r.2.mem ((c.tc : Thread Cert.ProjPairIdeal.nD Cert.ProjPairIdeal.τ).loc Cert.ProjPairIdeal.main_arg2) = m ((c.tc : Thread Cert.ProjPairIdeal.nD Cert.ProjPairIdeal.τ).loc Cert.ProjPairIdeal.main_arg2)
      ∧ r.2.mem ((c.tc : Thread Cert.ProjPairIdeal.nD Cert.ProjPairIdeal.τ).loc Cert.ProjPairIdeal.main_arg3) = m ((c.tc : Thread Cert.ProjPairIdeal.nD Cert.ProjPairIdeal.τ).loc Cert.ProjPairIdeal.main_arg3))
      ∧ r.2.sem = fun _ => 0)

def quiescent_ProjPairRefIdeal [hProjPairRefIdeal : Cert.ProjPairRefIdeal.Facts] : Prop :=
  ∀ (m : (ℓ : Loc Cert.ProjPairRefIdeal.nD Cert.ProjPairRefIdeal.τ Cert.ProjPairRefIdeal.sig) → Buf (Elt Ideal) ℓ) (g : Dev Cert.ProjPairRefIdeal.nD → PrngReg), Pre_ProjPairRefIdeal m →
    θ_run (Cert.ProjPairRefIdeal.defs (F := Ideal)) (onTc (τ := Cert.ProjPairRefIdeal.τ) (Cert.ProjPairRefIdeal.main (F := Ideal))) ⟨m, fun _ => 0, g⟩ (fun r => (∀ c : Dev Cert.ProjPairRefIdeal.nD,
      r.2.mem ((c.tc : Thread Cert.ProjPairRefIdeal.nD Cert.ProjPairRefIdeal.τ).loc Cert.ProjPairRefIdeal.main_arg0) = m ((c.tc : Thread Cert.ProjPairRefIdeal.nD Cert.ProjPairRefIdeal.τ).loc Cert.ProjPairRefIdeal.main_arg0)
      ∧ r.2.mem ((c.tc : Thread Cert.ProjPairRefIdeal.nD Cert.ProjPairRefIdeal.τ).loc Cert.ProjPairRefIdeal.main_arg1) = m ((c.tc : Thread Cert.ProjPairRefIdeal.nD Cert.ProjPairRefIdeal.τ).loc Cert.ProjPairRefIdeal.main_arg1)
      ∧ r.2.mem ((c.tc : Thread Cert.ProjPairRefIdeal.nD Cert.ProjPairRefIdeal.τ).loc Cert.ProjPairRefIdeal.main_arg2) = m ((c.tc : Thread Cert.ProjPairRefIdeal.nD Cert.ProjPairRefIdeal.τ).loc Cert.ProjPairRefIdeal.main_arg2)
      ∧ r.2.mem ((c.tc : Thread Cert.ProjPairRefIdeal.nD Cert.ProjPairRefIdeal.τ).loc Cert.ProjPairRefIdeal.main_arg3) = m ((c.tc : Thread Cert.ProjPairRefIdeal.nD Cert.ProjPairRefIdeal.τ).loc Cert.ProjPairRefIdeal.main_arg3))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_attention_finite [hAttentionIdeal : Cert.AttentionIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4))
      ∧ r.2.sem = fun _ => 0)

def quiescent_AttentionRefIdeal_pre_attention_finite [hAttentionRefIdeal : Cert.AttentionRefIdeal.Facts] [hPre_attention_finite : Cert.Pre_attention_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_attention_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0)
      ∧ r.2.mem ((c.tc : Thread Cert.AttentionRefIdeal.nD Cert.AttentionRefIdeal.τ).loc Cert.AttentionRefIdeal.main_arg1) = m ((c.tc : Thread Cert.AttentionRefIdeal.nD Cert.AttentionRefIdeal.τ).loc Cert.AttentionRefIdeal.main_arg1)
      ∧ r.2.mem ((c.tc : Thread Cert.AttentionRefIdeal.nD Cert.AttentionRefIdeal.τ).loc Cert.AttentionRefIdeal.main_arg2) = m ((c.tc : Thread Cert.AttentionRefIdeal.nD Cert.AttentionRefIdeal.τ).loc Cert.AttentionRefIdeal.main_arg2)
      ∧ r.2.mem ((c.tc : Thread Cert.AttentionRefIdeal.nD Cert.AttentionRefIdeal.τ).loc Cert.AttentionRefIdeal.main_arg3) = m ((c.tc : Thread Cert.AttentionRefIdeal.nD Cert.AttentionRefIdeal.τ).loc Cert.AttentionRefIdeal.main_arg3)
      ∧ r.2.mem ((c.tc : Thread Cert.AttentionRefIdeal.nD Cert.AttentionRefIdeal.τ).loc Cert.AttentionRefIdeal.main_arg4) = m ((c.tc : Thread Cert.AttentionRefIdeal.nD Cert.AttentionRefIdeal.τ).loc Cert.AttentionRefIdeal.main_arg4))
      ∧ r.2.sem = fun _ => 0)

def preserves_Kernel_KernelIdeal : Prop :=
  True

def algebraic_KernelIdeal_ReferenceIdeal_pre_operands_finite [hKernelIdeal : Cert.KernelIdeal.Facts] [hReferenceIdeal : Cert.ReferenceIdeal.Facts] [hPre_operands_finite : Cert.Pre_operands_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_operands_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_FfnPrompt_FfnPromptIdeal : Prop :=
  True

def algebraic_FfnPromptIdeal_FfnPromptRefIdeal [hFfnPromptIdeal : Cert.FfnPromptIdeal.Facts] [hFfnPromptRefIdeal : Cert.FfnPromptRefIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.FfnPromptRefIdeal.nD Cert.FfnPromptRefIdeal.τ Cert.FfnPromptRefIdeal.sig) → Buf (Elt Ideal) ℓ) (g' : Dev Cert.FfnPromptRefIdeal.nD → PrngReg), Pre_FfnPromptIdeal m →
    (∀ c : Dev Cert.FfnPromptIdeal.nD,
      m' ((c.tc : Thread Cert.FfnPromptRefIdeal.nD Cert.FfnPromptRefIdeal.τ).loc Cert.FfnPromptRefIdeal.main_arg0) = m ((c.tc : Thread Cert.FfnPromptIdeal.nD Cert.FfnPromptIdeal.τ).loc Cert.FfnPromptIdeal.main_arg0)
      ∧ m' ((c.tc : Thread Cert.FfnPromptRefIdeal.nD Cert.FfnPromptRefIdeal.τ).loc Cert.FfnPromptRefIdeal.main_arg1) = m ((c.tc : Thread Cert.FfnPromptIdeal.nD Cert.FfnPromptIdeal.τ).loc Cert.FfnPromptIdeal.main_arg1)
      ∧ m' ((c.tc : Thread Cert.FfnPromptRefIdeal.nD Cert.FfnPromptRefIdeal.τ).loc Cert.FfnPromptRefIdeal.main_arg2) = m ((c.tc : Thread Cert.FfnPromptIdeal.nD Cert.FfnPromptIdeal.τ).loc Cert.FfnPromptIdeal.main_arg2)
      ∧ m' ((c.tc : Thread Cert.FfnPromptRefIdeal.nD Cert.FfnPromptRefIdeal.τ).loc Cert.FfnPromptRefIdeal.main_arg3) = m ((c.tc : Thread Cert.FfnPromptIdeal.nD Cert.FfnPromptIdeal.τ).loc Cert.FfnPromptIdeal.main_arg3)
      ∧ m' ((c.tc : Thread Cert.FfnPromptRefIdeal.nD Cert.FfnPromptRefIdeal.τ).loc Cert.FfnPromptRefIdeal.main_arg4) = m ((c.tc : Thread Cert.FfnPromptIdeal.nD Cert.FfnPromptIdeal.τ).loc Cert.FfnPromptIdeal.main_arg4)
      ∧ m' ((c.tc : Thread Cert.FfnPromptRefIdeal.nD Cert.FfnPromptRefIdeal.τ).loc Cert.FfnPromptRefIdeal.main_arg5) = m ((c.tc : Thread Cert.FfnPromptIdeal.nD Cert.FfnPromptIdeal.τ).loc Cert.FfnPromptIdeal.main_arg5)
      ∧ m' ((c.tc : Thread Cert.FfnPromptRefIdeal.nD Cert.FfnPromptRefIdeal.τ).loc Cert.FfnPromptRefIdeal.main_arg6) = m ((c.tc : Thread Cert.FfnPromptIdeal.nD Cert.FfnPromptIdeal.τ).loc Cert.FfnPromptIdeal.main_arg6)) →
    ∃ (v0 : (c : Dev Cert.FfnPromptIdeal.nD) → Buf (Elt Ideal) ((c.tc : Thread Cert.FfnPromptIdeal.nD Cert.FfnPromptIdeal.τ).loc Cert.FfnPromptIdeal.main_v11)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v11) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
          ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5)
          ∧ r.2.mem ((c.tc : Thread Cert.FfnPromptIdeal.nD Cert.FfnPromptIdeal.τ).loc Cert.FfnPromptIdeal.main_arg6) = m ((c.tc : Thread Cert.FfnPromptIdeal.nD Cert.FfnPromptIdeal.τ).loc Cert.FfnPromptIdeal.main_arg6))
      ∧ θ_run (Cert.FfnPromptRefIdeal.defs (F := Ideal)) (onTc (τ := Cert.FfnPromptRefIdeal.τ) (Cert.FfnPromptRefIdeal.main (F := Ideal))) ⟨m', fun _ => 0, g'⟩ (fun r => ∀ c : Dev Cert.FfnPromptRefIdeal.nD,
          r.2.mem ((c.tc : Thread Cert.FfnPromptRefIdeal.nD Cert.FfnPromptRefIdeal.τ).loc Cert.FfnPromptRefIdeal.main_v76) = v0 c
          ∧ r.2.mem ((c.tc : Thread Cert.FfnPromptRefIdeal.nD Cert.FfnPromptRefIdeal.τ).loc Cert.FfnPromptRefIdeal.main_arg0) = m' ((c.tc : Thread Cert.FfnPromptRefIdeal.nD Cert.FfnPromptRefIdeal.τ).loc Cert.FfnPromptRefIdeal.main_arg0)
          ∧ r.2.mem ((c.tc : Thread Cert.FfnPromptRefIdeal.nD Cert.FfnPromptRefIdeal.τ).loc Cert.FfnPromptRefIdeal.main_arg1) = m' ((c.tc : Thread Cert.FfnPromptRefIdeal.nD Cert.FfnPromptRefIdeal.τ).loc Cert.FfnPromptRefIdeal.main_arg1)
          ∧ r.2.mem ((c.tc : Thread Cert.FfnPromptRefIdeal.nD Cert.FfnPromptRefIdeal.τ).loc Cert.FfnPromptRefIdeal.main_arg2) = m' ((c.tc : Thread Cert.FfnPromptRefIdeal.nD Cert.FfnPromptRefIdeal.τ).loc Cert.FfnPromptRefIdeal.main_arg2)
          ∧ r.2.mem ((c.tc : Thread Cert.FfnPromptRefIdeal.nD Cert.FfnPromptRefIdeal.τ).loc Cert.FfnPromptRefIdeal.main_arg3) = m' ((c.tc : Thread Cert.FfnPromptRefIdeal.nD Cert.FfnPromptRefIdeal.τ).loc Cert.FfnPromptRefIdeal.main_arg3)
          ∧ r.2.mem ((c.tc : Thread Cert.FfnPromptRefIdeal.nD Cert.FfnPromptRefIdeal.τ).loc Cert.FfnPromptRefIdeal.main_arg4) = m' ((c.tc : Thread Cert.FfnPromptRefIdeal.nD Cert.FfnPromptRefIdeal.τ).loc Cert.FfnPromptRefIdeal.main_arg4)
          ∧ r.2.mem ((c.tc : Thread Cert.FfnPromptRefIdeal.nD Cert.FfnPromptRefIdeal.τ).loc Cert.FfnPromptRefIdeal.main_arg5) = m' ((c.tc : Thread Cert.FfnPromptRefIdeal.nD Cert.FfnPromptRefIdeal.τ).loc Cert.FfnPromptRefIdeal.main_arg5)
          ∧ r.2.mem ((c.tc : Thread Cert.FfnPromptRefIdeal.nD Cert.FfnPromptRefIdeal.τ).loc Cert.FfnPromptRefIdeal.main_arg6) = m' ((c.tc : Thread Cert.FfnPromptRefIdeal.nD Cert.FfnPromptRefIdeal.τ).loc Cert.FfnPromptRefIdeal.main_arg6))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)
      ∧ m' ((c.tc : Thread Cert.FfnSampleRefIdeal.nD Cert.FfnSampleRefIdeal.τ).loc Cert.FfnSampleRefIdeal.main_arg6) = m ((c.tc : Thread Cert.FfnSampleIdeal.nD Cert.FfnSampleIdeal.τ).loc Cert.FfnSampleIdeal.main_arg6)) →
    ∃ (v0 : (c : Dev Cert.FfnSampleIdeal.nD) → Buf (Elt Ideal) ((c.tc : Thread Cert.FfnSampleIdeal.nD Cert.FfnSampleIdeal.τ).loc Cert.FfnSampleIdeal.main_v11)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v11) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v76) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5)
          ∧ r.2.mem ((c.tc : Thread Cert.FfnSampleRefIdeal.nD Cert.FfnSampleRefIdeal.τ).loc Cert.FfnSampleRefIdeal.main_arg6) = m' ((c.tc : Thread Cert.FfnSampleRefIdeal.nD Cert.FfnSampleRefIdeal.τ).loc Cert.FfnSampleRefIdeal.main_arg6))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v6_0)) (v1 : (c : Dev Cert.FfnFirstIdeal.nD) → Buf (Elt Ideal) ((c.tc : Thread Cert.FfnFirstIdeal.nD Cert.FfnFirstIdeal.τ).loc Cert.FfnFirstIdeal.main_v6_1)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v6_0) = v0 c
          ∧ r.2.mem ((c.tc : Thread Cert.FfnFirstIdeal.nD Cert.FfnFirstIdeal.τ).loc Cert.FfnFirstIdeal.main_v6_1) = v1 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v53) = v0 c
          ∧ r.2.mem ((c.tc : Thread Cert.FfnFirstRefIdeal.nD Cert.FfnFirstRefIdeal.τ).loc Cert.FfnFirstRefIdeal.main_v56) = v1 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5))

def preserves_ProjAttn_ProjAttnIdeal : Prop :=
  True

def algebraic_ProjAttnIdeal_ProjAttnRefIdeal [hProjAttnIdeal : Cert.ProjAttnIdeal.Facts] [hProjAttnRefIdeal : Cert.ProjAttnRefIdeal.Facts] : Prop :=
  ∀ (m : (ℓ : Loc Cert.ProjAttnIdeal.nD Cert.ProjAttnIdeal.τ Cert.ProjAttnIdeal.sig) → Buf (Elt Ideal) ℓ) (g : Dev Cert.ProjAttnIdeal.nD → PrngReg)
    (m' : (ℓ : Loc Cert.ProjAttnRefIdeal.nD Cert.ProjAttnRefIdeal.τ Cert.ProjAttnRefIdeal.sig) → Buf (Elt Ideal) ℓ) (g' : Dev Cert.ProjAttnRefIdeal.nD → PrngReg), Pre_ProjAttnIdeal m →
    (∀ c : Dev Cert.ProjAttnIdeal.nD,
      m' ((c.tc : Thread Cert.ProjAttnRefIdeal.nD Cert.ProjAttnRefIdeal.τ).loc Cert.ProjAttnRefIdeal.main_arg0) = m ((c.tc : Thread Cert.ProjAttnIdeal.nD Cert.ProjAttnIdeal.τ).loc Cert.ProjAttnIdeal.main_arg0)
      ∧ m' ((c.tc : Thread Cert.ProjAttnRefIdeal.nD Cert.ProjAttnRefIdeal.τ).loc Cert.ProjAttnRefIdeal.main_arg1) = m ((c.tc : Thread Cert.ProjAttnIdeal.nD Cert.ProjAttnIdeal.τ).loc Cert.ProjAttnIdeal.main_arg1)
      ∧ m' ((c.tc : Thread Cert.ProjAttnRefIdeal.nD Cert.ProjAttnRefIdeal.τ).loc Cert.ProjAttnRefIdeal.main_arg2) = m ((c.tc : Thread Cert.ProjAttnIdeal.nD Cert.ProjAttnIdeal.τ).loc Cert.ProjAttnIdeal.main_arg2)
      ∧ m' ((c.tc : Thread Cert.ProjAttnRefIdeal.nD Cert.ProjAttnRefIdeal.τ).loc Cert.ProjAttnRefIdeal.main_arg3) = m ((c.tc : Thread Cert.ProjAttnIdeal.nD Cert.ProjAttnIdeal.τ).loc Cert.ProjAttnIdeal.main_arg3)) →
    ∃ (v0 : (c : Dev Cert.ProjAttnIdeal.nD) → Buf (Elt Ideal) ((c.tc : Thread Cert.ProjAttnIdeal.nD Cert.ProjAttnIdeal.τ).loc Cert.ProjAttnIdeal.main_v5_0)) (v1 : (c : Dev Cert.ProjAttnIdeal.nD) → Buf (Elt Ideal) ((c.tc : Thread Cert.ProjAttnIdeal.nD Cert.ProjAttnIdeal.τ).loc Cert.ProjAttnIdeal.main_v5_1)) (v2 : (c : Dev Cert.ProjAttnIdeal.nD) → Buf (Elt Ideal) ((c.tc : Thread Cert.ProjAttnIdeal.nD Cert.ProjAttnIdeal.τ).loc Cert.ProjAttnIdeal.main_v5_2)),
      θ_run (Cert.ProjAttnIdeal.defs (F := Ideal)) (onTc (τ := Cert.ProjAttnIdeal.τ) (Cert.ProjAttnIdeal.main (F := Ideal))) ⟨m, fun _ => 0, g⟩ (fun r => ∀ c : Dev Cert.ProjAttnIdeal.nD,
          r.2.mem ((c.tc : Thread Cert.ProjAttnIdeal.nD Cert.ProjAttnIdeal.τ).loc Cert.ProjAttnIdeal.main_v5_0) = v0 c
          ∧ r.2.mem ((c.tc : Thread Cert.ProjAttnIdeal.nD Cert.ProjAttnIdeal.τ).loc Cert.ProjAttnIdeal.main_v5_1) = v1 c
          ∧ r.2.mem ((c.tc : Thread Cert.ProjAttnIdeal.nD Cert.ProjAttnIdeal.τ).loc Cert.ProjAttnIdeal.main_v5_2) = v2 c
          ∧ r.2.mem ((c.tc : Thread Cert.ProjAttnIdeal.nD Cert.ProjAttnIdeal.τ).loc Cert.ProjAttnIdeal.main_arg0) = m ((c.tc : Thread Cert.ProjAttnIdeal.nD Cert.ProjAttnIdeal.τ).loc Cert.ProjAttnIdeal.main_arg0)
          ∧ r.2.mem ((c.tc : Thread Cert.ProjAttnIdeal.nD Cert.ProjAttnIdeal.τ).loc Cert.ProjAttnIdeal.main_arg1) = m ((c.tc : Thread Cert.ProjAttnIdeal.nD Cert.ProjAttnIdeal.τ).loc Cert.ProjAttnIdeal.main_arg1)
          ∧ r.2.mem ((c.tc : Thread Cert.ProjAttnIdeal.nD Cert.ProjAttnIdeal.τ).loc Cert.ProjAttnIdeal.main_arg2) = m ((c.tc : Thread Cert.ProjAttnIdeal.nD Cert.ProjAttnIdeal.τ).loc Cert.ProjAttnIdeal.main_arg2)
          ∧ r.2.mem ((c.tc : Thread Cert.ProjAttnIdeal.nD Cert.ProjAttnIdeal.τ).loc Cert.ProjAttnIdeal.main_arg3) = m ((c.tc : Thread Cert.ProjAttnIdeal.nD Cert.ProjAttnIdeal.τ).loc Cert.ProjAttnIdeal.main_arg3))
      ∧ θ_run (Cert.ProjAttnRefIdeal.defs (F := Ideal)) (onTc (τ := Cert.ProjAttnRefIdeal.τ) (Cert.ProjAttnRefIdeal.main (F := Ideal))) ⟨m', fun _ => 0, g'⟩ (fun r => ∀ c : Dev Cert.ProjAttnRefIdeal.nD,
          r.2.mem ((c.tc : Thread Cert.ProjAttnRefIdeal.nD Cert.ProjAttnRefIdeal.τ).loc Cert.ProjAttnRefIdeal.main_v28) = v0 c
          ∧ r.2.mem ((c.tc : Thread Cert.ProjAttnRefIdeal.nD Cert.ProjAttnRefIdeal.τ).loc Cert.ProjAttnRefIdeal.main_v29) = v1 c
          ∧ r.2.mem ((c.tc : Thread Cert.ProjAttnRefIdeal.nD Cert.ProjAttnRefIdeal.τ).loc Cert.ProjAttnRefIdeal.main_v30) = v2 c
          ∧ r.2.mem ((c.tc : Thread Cert.ProjAttnRefIdeal.nD Cert.ProjAttnRefIdeal.τ).loc Cert.ProjAttnRefIdeal.main_arg0) = m' ((c.tc : Thread Cert.ProjAttnRefIdeal.nD Cert.ProjAttnRefIdeal.τ).loc Cert.ProjAttnRefIdeal.main_arg0)
          ∧ r.2.mem ((c.tc : Thread Cert.ProjAttnRefIdeal.nD Cert.ProjAttnRefIdeal.τ).loc Cert.ProjAttnRefIdeal.main_arg1) = m' ((c.tc : Thread Cert.ProjAttnRefIdeal.nD Cert.ProjAttnRefIdeal.τ).loc Cert.ProjAttnRefIdeal.main_arg1)
          ∧ r.2.mem ((c.tc : Thread Cert.ProjAttnRefIdeal.nD Cert.ProjAttnRefIdeal.τ).loc Cert.ProjAttnRefIdeal.main_arg2) = m' ((c.tc : Thread Cert.ProjAttnRefIdeal.nD Cert.ProjAttnRefIdeal.τ).loc Cert.ProjAttnRefIdeal.main_arg2)
          ∧ r.2.mem ((c.tc : Thread Cert.ProjAttnRefIdeal.nD Cert.ProjAttnRefIdeal.τ).loc Cert.ProjAttnRefIdeal.main_arg3) = m' ((c.tc : Thread Cert.ProjAttnRefIdeal.nD Cert.ProjAttnRefIdeal.τ).loc Cert.ProjAttnRefIdeal.main_arg3))

def preserves_ProjGlu_ProjGluIdeal : Prop :=
  True

def algebraic_ProjGluIdeal_ProjGluRefIdeal [hProjGluIdeal : Cert.ProjGluIdeal.Facts] [hProjGluRefIdeal : Cert.ProjGluRefIdeal.Facts] : Prop :=
  ∀ (m : (ℓ : Loc Cert.ProjGluIdeal.nD Cert.ProjGluIdeal.τ Cert.ProjGluIdeal.sig) → Buf (Elt Ideal) ℓ) (g : Dev Cert.ProjGluIdeal.nD → PrngReg)
    (m' : (ℓ : Loc Cert.ProjGluRefIdeal.nD Cert.ProjGluRefIdeal.τ Cert.ProjGluRefIdeal.sig) → Buf (Elt Ideal) ℓ) (g' : Dev Cert.ProjGluRefIdeal.nD → PrngReg), Pre_ProjGluIdeal m →
    (∀ c : Dev Cert.ProjGluIdeal.nD,
      m' ((c.tc : Thread Cert.ProjGluRefIdeal.nD Cert.ProjGluRefIdeal.τ).loc Cert.ProjGluRefIdeal.main_arg0) = m ((c.tc : Thread Cert.ProjGluIdeal.nD Cert.ProjGluIdeal.τ).loc Cert.ProjGluIdeal.main_arg0)
      ∧ m' ((c.tc : Thread Cert.ProjGluRefIdeal.nD Cert.ProjGluRefIdeal.τ).loc Cert.ProjGluRefIdeal.main_arg1) = m ((c.tc : Thread Cert.ProjGluIdeal.nD Cert.ProjGluIdeal.τ).loc Cert.ProjGluIdeal.main_arg1)
      ∧ m' ((c.tc : Thread Cert.ProjGluRefIdeal.nD Cert.ProjGluRefIdeal.τ).loc Cert.ProjGluRefIdeal.main_arg2) = m ((c.tc : Thread Cert.ProjGluIdeal.nD Cert.ProjGluIdeal.τ).loc Cert.ProjGluIdeal.main_arg2)
      ∧ m' ((c.tc : Thread Cert.ProjGluRefIdeal.nD Cert.ProjGluRefIdeal.τ).loc Cert.ProjGluRefIdeal.main_arg3) = m ((c.tc : Thread Cert.ProjGluIdeal.nD Cert.ProjGluIdeal.τ).loc Cert.ProjGluIdeal.main_arg3)
      ∧ m' ((c.tc : Thread Cert.ProjGluRefIdeal.nD Cert.ProjGluRefIdeal.τ).loc Cert.ProjGluRefIdeal.main_arg4) = m ((c.tc : Thread Cert.ProjGluIdeal.nD Cert.ProjGluIdeal.τ).loc Cert.ProjGluIdeal.main_arg4)) →
    ∃ (v0 : (c : Dev Cert.ProjGluIdeal.nD) → Buf (Elt Ideal) ((c.tc : Thread Cert.ProjGluIdeal.nD Cert.ProjGluIdeal.τ).loc Cert.ProjGluIdeal.main_v6)),
      θ_run (Cert.ProjGluIdeal.defs (F := Ideal)) (onTc (τ := Cert.ProjGluIdeal.τ) (Cert.ProjGluIdeal.main (F := Ideal))) ⟨m, fun _ => 0, g⟩ (fun r => ∀ c : Dev Cert.ProjGluIdeal.nD,
          r.2.mem ((c.tc : Thread Cert.ProjGluIdeal.nD Cert.ProjGluIdeal.τ).loc Cert.ProjGluIdeal.main_v6) = v0 c
          ∧ r.2.mem ((c.tc : Thread Cert.ProjGluIdeal.nD Cert.ProjGluIdeal.τ).loc Cert.ProjGluIdeal.main_arg0) = m ((c.tc : Thread Cert.ProjGluIdeal.nD Cert.ProjGluIdeal.τ).loc Cert.ProjGluIdeal.main_arg0)
          ∧ r.2.mem ((c.tc : Thread Cert.ProjGluIdeal.nD Cert.ProjGluIdeal.τ).loc Cert.ProjGluIdeal.main_arg1) = m ((c.tc : Thread Cert.ProjGluIdeal.nD Cert.ProjGluIdeal.τ).loc Cert.ProjGluIdeal.main_arg1)
          ∧ r.2.mem ((c.tc : Thread Cert.ProjGluIdeal.nD Cert.ProjGluIdeal.τ).loc Cert.ProjGluIdeal.main_arg2) = m ((c.tc : Thread Cert.ProjGluIdeal.nD Cert.ProjGluIdeal.τ).loc Cert.ProjGluIdeal.main_arg2)
          ∧ r.2.mem ((c.tc : Thread Cert.ProjGluIdeal.nD Cert.ProjGluIdeal.τ).loc Cert.ProjGluIdeal.main_arg3) = m ((c.tc : Thread Cert.ProjGluIdeal.nD Cert.ProjGluIdeal.τ).loc Cert.ProjGluIdeal.main_arg3)
          ∧ r.2.mem ((c.tc : Thread Cert.ProjGluIdeal.nD Cert.ProjGluIdeal.τ).loc Cert.ProjGluIdeal.main_arg4) = m ((c.tc : Thread Cert.ProjGluIdeal.nD Cert.ProjGluIdeal.τ).loc Cert.ProjGluIdeal.main_arg4))
      ∧ θ_run (Cert.ProjGluRefIdeal.defs (F := Ideal)) (onTc (τ := Cert.ProjGluRefIdeal.τ) (Cert.ProjGluRefIdeal.main (F := Ideal))) ⟨m', fun _ => 0, g'⟩ (fun r => ∀ c : Dev Cert.ProjGluRefIdeal.nD,
          r.2.mem ((c.tc : Thread Cert.ProjGluRefIdeal.nD Cert.ProjGluRefIdeal.τ).loc Cert.ProjGluRefIdeal.main_v39) = v0 c
          ∧ r.2.mem ((c.tc : Thread Cert.ProjGluRefIdeal.nD Cert.ProjGluRefIdeal.τ).loc Cert.ProjGluRefIdeal.main_arg0) = m' ((c.tc : Thread Cert.ProjGluRefIdeal.nD Cert.ProjGluRefIdeal.τ).loc Cert.ProjGluRefIdeal.main_arg0)
          ∧ r.2.mem ((c.tc : Thread Cert.ProjGluRefIdeal.nD Cert.ProjGluRefIdeal.τ).loc Cert.ProjGluRefIdeal.main_arg1) = m' ((c.tc : Thread Cert.ProjGluRefIdeal.nD Cert.ProjGluRefIdeal.τ).loc Cert.ProjGluRefIdeal.main_arg1)
          ∧ r.2.mem ((c.tc : Thread Cert.ProjGluRefIdeal.nD Cert.ProjGluRefIdeal.τ).loc Cert.ProjGluRefIdeal.main_arg2) = m' ((c.tc : Thread Cert.ProjGluRefIdeal.nD Cert.ProjGluRefIdeal.τ).loc Cert.ProjGluRefIdeal.main_arg2)
          ∧ r.2.mem ((c.tc : Thread Cert.ProjGluRefIdeal.nD Cert.ProjGluRefIdeal.τ).loc Cert.ProjGluRefIdeal.main_arg3) = m' ((c.tc : Thread Cert.ProjGluRefIdeal.nD Cert.ProjGluRefIdeal.τ).loc Cert.ProjGluRefIdeal.main_arg3)
          ∧ r.2.mem ((c.tc : Thread Cert.ProjGluRefIdeal.nD Cert.ProjGluRefIdeal.τ).loc Cert.ProjGluRefIdeal.main_arg4) = m' ((c.tc : Thread Cert.ProjGluRefIdeal.nD Cert.ProjGluRefIdeal.τ).loc Cert.ProjGluRefIdeal.main_arg4))

def preserves_ProjPair_ProjPairIdeal : Prop :=
  True

def algebraic_ProjPairIdeal_ProjPairRefIdeal [hProjPairIdeal : Cert.ProjPairIdeal.Facts] [hProjPairRefIdeal : Cert.ProjPairRefIdeal.Facts] : Prop :=
  ∀ (m : (ℓ : Loc Cert.ProjPairIdeal.nD Cert.ProjPairIdeal.τ Cert.ProjPairIdeal.sig) → Buf (Elt Ideal) ℓ) (g : Dev Cert.ProjPairIdeal.nD → PrngReg)
    (m' : (ℓ : Loc Cert.ProjPairRefIdeal.nD Cert.ProjPairRefIdeal.τ Cert.ProjPairRefIdeal.sig) → Buf (Elt Ideal) ℓ) (g' : Dev Cert.ProjPairRefIdeal.nD → PrngReg), Pre_ProjPairIdeal m →
    (∀ c : Dev Cert.ProjPairIdeal.nD,
      m' ((c.tc : Thread Cert.ProjPairRefIdeal.nD Cert.ProjPairRefIdeal.τ).loc Cert.ProjPairRefIdeal.main_arg0) = m ((c.tc : Thread Cert.ProjPairIdeal.nD Cert.ProjPairIdeal.τ).loc Cert.ProjPairIdeal.main_arg0)
      ∧ m' ((c.tc : Thread Cert.ProjPairRefIdeal.nD Cert.ProjPairRefIdeal.τ).loc Cert.ProjPairRefIdeal.main_arg1) = m ((c.tc : Thread Cert.ProjPairIdeal.nD Cert.ProjPairIdeal.τ).loc Cert.ProjPairIdeal.main_arg1)
      ∧ m' ((c.tc : Thread Cert.ProjPairRefIdeal.nD Cert.ProjPairRefIdeal.τ).loc Cert.ProjPairRefIdeal.main_arg2) = m ((c.tc : Thread Cert.ProjPairIdeal.nD Cert.ProjPairIdeal.τ).loc Cert.ProjPairIdeal.main_arg2)
      ∧ m' ((c.tc : Thread Cert.ProjPairRefIdeal.nD Cert.ProjPairRefIdeal.τ).loc Cert.ProjPairRefIdeal.main_arg3) = m ((c.tc : Thread Cert.ProjPairIdeal.nD Cert.ProjPairIdeal.τ).loc Cert.ProjPairIdeal.main_arg3)) →
    ∃ (v0 : (c : Dev Cert.ProjPairIdeal.nD) → Buf (Elt Ideal) ((c.tc : Thread Cert.ProjPairIdeal.nD Cert.ProjPairIdeal.τ).loc Cert.ProjPairIdeal.main_v5_0)) (v1 : (c : Dev Cert.ProjPairIdeal.nD) → Buf (Elt Ideal) ((c.tc : Thread Cert.ProjPairIdeal.nD Cert.ProjPairIdeal.τ).loc Cert.ProjPairIdeal.main_v5_1)),
      θ_run (Cert.ProjPairIdeal.defs (F := Ideal)) (onTc (τ := Cert.ProjPairIdeal.τ) (Cert.ProjPairIdeal.main (F := Ideal))) ⟨m, fun _ => 0, g⟩ (fun r => ∀ c : Dev Cert.ProjPairIdeal.nD,
          r.2.mem ((c.tc : Thread Cert.ProjPairIdeal.nD Cert.ProjPairIdeal.τ).loc Cert.ProjPairIdeal.main_v5_0) = v0 c
          ∧ r.2.mem ((c.tc : Thread Cert.ProjPairIdeal.nD Cert.ProjPairIdeal.τ).loc Cert.ProjPairIdeal.main_v5_1) = v1 c
          ∧ r.2.mem ((c.tc : Thread Cert.ProjPairIdeal.nD Cert.ProjPairIdeal.τ).loc Cert.ProjPairIdeal.main_arg0) = m ((c.tc : Thread Cert.ProjPairIdeal.nD Cert.ProjPairIdeal.τ).loc Cert.ProjPairIdeal.main_arg0)
          ∧ r.2.mem ((c.tc : Thread Cert.ProjPairIdeal.nD Cert.ProjPairIdeal.τ).loc Cert.ProjPairIdeal.main_arg1) = m ((c.tc : Thread Cert.ProjPairIdeal.nD Cert.ProjPairIdeal.τ).loc Cert.ProjPairIdeal.main_arg1)
          ∧ r.2.mem ((c.tc : Thread Cert.ProjPairIdeal.nD Cert.ProjPairIdeal.τ).loc Cert.ProjPairIdeal.main_arg2) = m ((c.tc : Thread Cert.ProjPairIdeal.nD Cert.ProjPairIdeal.τ).loc Cert.ProjPairIdeal.main_arg2)
          ∧ r.2.mem ((c.tc : Thread Cert.ProjPairIdeal.nD Cert.ProjPairIdeal.τ).loc Cert.ProjPairIdeal.main_arg3) = m ((c.tc : Thread Cert.ProjPairIdeal.nD Cert.ProjPairIdeal.τ).loc Cert.ProjPairIdeal.main_arg3))
      ∧ θ_run (Cert.ProjPairRefIdeal.defs (F := Ideal)) (onTc (τ := Cert.ProjPairRefIdeal.τ) (Cert.ProjPairRefIdeal.main (F := Ideal))) ⟨m', fun _ => 0, g'⟩ (fun r => ∀ c : Dev Cert.ProjPairRefIdeal.nD,
          r.2.mem ((c.tc : Thread Cert.ProjPairRefIdeal.nD Cert.ProjPairRefIdeal.τ).loc Cert.ProjPairRefIdeal.main_v28) = v0 c
          ∧ r.2.mem ((c.tc : Thread Cert.ProjPairRefIdeal.nD Cert.ProjPairRefIdeal.τ).loc Cert.ProjPairRefIdeal.main_v31) = v1 c
          ∧ r.2.mem ((c.tc : Thread Cert.ProjPairRefIdeal.nD Cert.ProjPairRefIdeal.τ).loc Cert.ProjPairRefIdeal.main_arg0) = m' ((c.tc : Thread Cert.ProjPairRefIdeal.nD Cert.ProjPairRefIdeal.τ).loc Cert.ProjPairRefIdeal.main_arg0)
          ∧ r.2.mem ((c.tc : Thread Cert.ProjPairRefIdeal.nD Cert.ProjPairRefIdeal.τ).loc Cert.ProjPairRefIdeal.main_arg1) = m' ((c.tc : Thread Cert.ProjPairRefIdeal.nD Cert.ProjPairRefIdeal.τ).loc Cert.ProjPairRefIdeal.main_arg1)
          ∧ r.2.mem ((c.tc : Thread Cert.ProjPairRefIdeal.nD Cert.ProjPairRefIdeal.τ).loc Cert.ProjPairRefIdeal.main_arg2) = m' ((c.tc : Thread Cert.ProjPairRefIdeal.nD Cert.ProjPairRefIdeal.τ).loc Cert.ProjPairRefIdeal.main_arg2)
          ∧ r.2.mem ((c.tc : Thread Cert.ProjPairRefIdeal.nD Cert.ProjPairRefIdeal.τ).loc Cert.ProjPairRefIdeal.main_arg3) = m' ((c.tc : Thread Cert.ProjPairRefIdeal.nD Cert.ProjPairRefIdeal.τ).loc Cert.ProjPairRefIdeal.main_arg3))

def preserves_Attention_AttentionIdeal : Prop :=
  True

def algebraic_AttentionIdeal_AttentionRefIdeal_pre_attention_finite [hAttentionIdeal : Cert.AttentionIdeal.Facts] [hAttentionRefIdeal : Cert.AttentionRefIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_attention_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)
      ∧ m' ((c.tc : Thread Cert.AttentionRefIdeal.nD Cert.AttentionRefIdeal.τ).loc Cert.AttentionRefIdeal.main_arg1) = m ((c.tc : Thread Cert.AttentionIdeal.nD Cert.AttentionIdeal.τ).loc Cert.AttentionIdeal.main_arg1)
      ∧ m' ((c.tc : Thread Cert.AttentionRefIdeal.nD Cert.AttentionRefIdeal.τ).loc Cert.AttentionRefIdeal.main_arg2) = m ((c.tc : Thread Cert.AttentionIdeal.nD Cert.AttentionIdeal.τ).loc Cert.AttentionIdeal.main_arg2)
      ∧ m' ((c.tc : Thread Cert.AttentionRefIdeal.nD Cert.AttentionRefIdeal.τ).loc Cert.AttentionRefIdeal.main_arg3) = m ((c.tc : Thread Cert.AttentionIdeal.nD Cert.AttentionIdeal.τ).loc Cert.AttentionIdeal.main_arg3)
      ∧ m' ((c.tc : Thread Cert.AttentionRefIdeal.nD Cert.AttentionRefIdeal.τ).loc Cert.AttentionRefIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v1) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          r.2.mem ((c.tc : Thread Cert.AttentionRefIdeal.nD Cert.AttentionRefIdeal.τ).loc Cert.AttentionRefIdeal.main_v58) = v0 c
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0)
          ∧ r.2.mem ((c.tc : Thread Cert.AttentionRefIdeal.nD Cert.AttentionRefIdeal.τ).loc Cert.AttentionRefIdeal.main_arg1) = m' ((c.tc : Thread Cert.AttentionRefIdeal.nD Cert.AttentionRefIdeal.τ).loc Cert.AttentionRefIdeal.main_arg1)
          ∧ r.2.mem ((c.tc : Thread Cert.AttentionRefIdeal.nD Cert.AttentionRefIdeal.τ).loc Cert.AttentionRefIdeal.main_arg2) = m' ((c.tc : Thread Cert.AttentionRefIdeal.nD Cert.AttentionRefIdeal.τ).loc Cert.AttentionRefIdeal.main_arg2)
          ∧ r.2.mem ((c.tc : Thread Cert.AttentionRefIdeal.nD Cert.AttentionRefIdeal.τ).loc Cert.AttentionRefIdeal.main_arg3) = m' ((c.tc : Thread Cert.AttentionRefIdeal.nD Cert.AttentionRefIdeal.τ).loc Cert.AttentionRefIdeal.main_arg3)
          ∧ r.2.mem ((c.tc : Thread Cert.AttentionRefIdeal.nD Cert.AttentionRefIdeal.τ).loc Cert.AttentionRefIdeal.main_arg4) = m' ((c.tc : Thread Cert.AttentionRefIdeal.nD Cert.AttentionRefIdeal.τ).loc Cert.AttentionRefIdeal.main_arg4))

def Claim : Prop :=
  ∃ (hKernel : Cert.Kernel.Facts) (hKernelIdeal : Cert.KernelIdeal.Facts) (hReferenceIdeal : Cert.ReferenceIdeal.Facts) (hFfnPrompt : Cert.FfnPrompt.Facts) (hFfnPromptIdeal : Cert.FfnPromptIdeal.Facts) (hFfnPromptRefIdeal : Cert.FfnPromptRefIdeal.Facts) (hFfnSample : Cert.FfnSample.Facts) (hFfnSampleIdeal : Cert.FfnSampleIdeal.Facts) (hFfnSampleRefIdeal : Cert.FfnSampleRefIdeal.Facts) (hFfnFirst : Cert.FfnFirst.Facts) (hFfnFirstIdeal : Cert.FfnFirstIdeal.Facts) (hFfnFirstRefIdeal : Cert.FfnFirstRefIdeal.Facts) (hProjAttn : Cert.ProjAttn.Facts) (hProjAttnIdeal : Cert.ProjAttnIdeal.Facts) (hProjAttnRefIdeal : Cert.ProjAttnRefIdeal.Facts) (hProjGlu : Cert.ProjGlu.Facts) (hProjGluIdeal : Cert.ProjGluIdeal.Facts) (hProjGluRefIdeal : Cert.ProjGluRefIdeal.Facts) (hProjPair : Cert.ProjPair.Facts) (hProjPairIdeal : Cert.ProjPairIdeal.Facts) (hProjPairRefIdeal : Cert.ProjPairRefIdeal.Facts) (hAttention : Cert.Attention.Facts) (hAttentionIdeal : Cert.AttentionIdeal.Facts) (hAttentionRefIdeal : Cert.AttentionRefIdeal.Facts) (hPre_operands_finite : Cert.Pre_operands_finite.Facts) (hPre_attention_finite : Cert.Pre_attention_finite.Facts),
    quiescent_Kernel (hKernel := hKernel)
    ∧ quiescent_KernelIdeal (hKernelIdeal := hKernelIdeal)
    ∧ quiescent_KernelIdeal_pre_operands_finite (hKernelIdeal := hKernelIdeal) (hPre_operands_finite := hPre_operands_finite)
    ∧ quiescent_ReferenceIdeal (hReferenceIdeal := hReferenceIdeal)
    ∧ quiescent_ReferenceIdeal_pre_operands_finite (hReferenceIdeal := hReferenceIdeal) (hPre_operands_finite := hPre_operands_finite)
    ∧ quiescent_FfnPrompt (hFfnPrompt := hFfnPrompt)
    ∧ quiescent_FfnPromptIdeal (hFfnPromptIdeal := hFfnPromptIdeal)
    ∧ quiescent_FfnPromptRefIdeal (hFfnPromptRefIdeal := hFfnPromptRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_ProjAttn (hProjAttn := hProjAttn)
    ∧ quiescent_ProjAttnIdeal (hProjAttnIdeal := hProjAttnIdeal)
    ∧ quiescent_ProjAttnRefIdeal (hProjAttnRefIdeal := hProjAttnRefIdeal)
    ∧ quiescent_ProjGlu (hProjGlu := hProjGlu)
    ∧ quiescent_ProjGluIdeal (hProjGluIdeal := hProjGluIdeal)
    ∧ quiescent_ProjGluRefIdeal (hProjGluRefIdeal := hProjGluRefIdeal)
    ∧ quiescent_ProjPair (hProjPair := hProjPair)
    ∧ quiescent_ProjPairIdeal (hProjPairIdeal := hProjPairIdeal)
    ∧ quiescent_ProjPairRefIdeal (hProjPairRefIdeal := hProjPairRefIdeal)
    ∧ quiescent_Attention (hAttention := hAttention)
    ∧ quiescent_AttentionIdeal (hAttentionIdeal := hAttentionIdeal)
    ∧ quiescent_AttentionIdeal_pre_attention_finite (hAttentionIdeal := hAttentionIdeal) (hPre_attention_finite := hPre_attention_finite)
    ∧ quiescent_AttentionRefIdeal (hAttentionRefIdeal := hAttentionRefIdeal)
    ∧ quiescent_AttentionRefIdeal_pre_attention_finite (hAttentionRefIdeal := hAttentionRefIdeal) (hPre_attention_finite := hPre_attention_finite)
    ∧ preserves_Kernel_KernelIdeal
    ∧ algebraic_KernelIdeal_ReferenceIdeal_pre_operands_finite (hKernelIdeal := hKernelIdeal) (hReferenceIdeal := hReferenceIdeal) (hPre_operands_finite := hPre_operands_finite)
    ∧ preserves_FfnPrompt_FfnPromptIdeal
    ∧ algebraic_FfnPromptIdeal_FfnPromptRefIdeal (hFfnPromptIdeal := hFfnPromptIdeal) (hFfnPromptRefIdeal := hFfnPromptRefIdeal)
    ∧ preserves_FfnSample_FfnSampleIdeal
    ∧ algebraic_FfnSampleIdeal_FfnSampleRefIdeal (hFfnSampleIdeal := hFfnSampleIdeal) (hFfnSampleRefIdeal := hFfnSampleRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_ProjAttn_ProjAttnIdeal
    ∧ algebraic_ProjAttnIdeal_ProjAttnRefIdeal (hProjAttnIdeal := hProjAttnIdeal) (hProjAttnRefIdeal := hProjAttnRefIdeal)
    ∧ preserves_ProjGlu_ProjGluIdeal
    ∧ algebraic_ProjGluIdeal_ProjGluRefIdeal (hProjGluIdeal := hProjGluIdeal) (hProjGluRefIdeal := hProjGluRefIdeal)
    ∧ preserves_ProjPair_ProjPairIdeal
    ∧ algebraic_ProjPairIdeal_ProjPairRefIdeal (hProjPairIdeal := hProjPairIdeal) (hProjPairRefIdeal := hProjPairRefIdeal)
    ∧ preserves_Attention_AttentionIdeal
    ∧ algebraic_AttentionIdeal_AttentionRefIdeal_pre_attention_finite (hAttentionIdeal := hAttentionIdeal) (hAttentionRefIdeal := hAttentionRefIdeal) (hPre_attention_finite := hPre_attention_finite)
-- ==== Pre_attention_finite.lean ====
abbrev S8192x1024 : Shape := ⟨2, ![8192, 1024]⟩
abbrev S4x64 : Shape := ⟨2, ![4, 64]⟩
abbrev S128 : Shape := ⟨1, ![128]⟩
abbrev S_ : Shape := ⟨0, ![]⟩

class Facts : Prop where
  bcast_S_S8192x1024 : S_.BroadcastsInDim S8192x1024 (![] : Fin 0 → Fin S8192x1024.rank)
  bcast_S_S4x64 : S_.BroadcastsInDim S4x64 (![] : Fin 0 → Fin S4x64.rank)

variable [Facts]

def fn {F : FTy → Type} [FloatOps F] (main_arg0 : FVec F S8192x1024 .f32) (main_arg1 : FVec F S8192x1024 .f32) (main_arg2 : FVec F S8192x1024 .f32) (main_arg3 : FVec F S4x64 .f32) (main_arg4 : FVec F S128 .f32) : IVec S8192x1024 1 × IVec S4x64 1 :=
  let main_v0 : FVec F S8192x1024 .f32 := Host.absf main_arg2
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x64 .f32 := Host.absf main_arg3
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  (main_v2, main_v5)
-- ==== Pre_operands_finite.lean ====
abbrev S8192x1024 : Shape := ⟨2, ![8192, 1024]⟩
abbrev S128 : Shape := ⟨1, ![128]⟩
abbrev S_ : Shape := ⟨0, ![]⟩

class Facts : Prop where
  bcast_S_S8192x1024 : S_.BroadcastsInDim S8192x1024 (![] : Fin 0 → Fin S8192x1024.rank)

variable [Facts]

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S8192x1024 .f32) (main_arg5 : FVec F S8192x1024 .f32) (main_arg6 : FVec F S8192x1024 .f32) (main_arg7 : FVec F S128 .f32) : IVec S8192x1024 1 × IVec S8192x1024 1 × IVec S8192x1024 1 × IVec S8192x1024 1 × IVec S8192x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x1024 : Shape := ⟨2, ![8192, 1024]⟩
abbrev S128 : Shape := ⟨1, ![128]⟩
abbrev S1x128 : Shape := ⟨2, ![1, 128]⟩
abbrev S32x2x8x128x128 : Shape := ⟨5, ![32, 2, 8, 128, 128]⟩
abbrev S256x512 : Shape := ⟨2, ![256, 512]⟩
abbrev S1x2x4x128x128 : Shape := ⟨5, ![1, 2, 4, 128, 128]⟩
abbrev S4x128x128 : Shape := ⟨3, ![4, 128, 128]⟩
abbrev S128x128 : Shape := ⟨2, ![128, 128]⟩
abbrev S1x128x128 : Shape := ⟨3, ![1, 128, 128]⟩
abbrev S128x1 : Shape := ⟨2, ![128, 1]⟩
abbrev S16x8x128 : Shape := ⟨3, ![16, 8, 128]⟩
abbrev S16x1x128 : Shape := ⟨3, ![16, 1, 128]⟩
abbrev S8x16x128 : Shape := ⟨3, ![8, 16, 128]⟩
abbrev S8x1x128 : Shape := ⟨3, ![8, 1, 128]⟩
abbrev S4x32x128 : Shape := ⟨3, ![4, 32, 128]⟩
abbrev S4x1x128 : Shape := ⟨3, ![4, 1, 128]⟩
abbrev S2x64x128 : Shape := ⟨3, ![2, 64, 128]⟩
abbrev S2x1x128 : Shape := ⟨3, ![2, 1, 128]⟩
abbrev S1x1x128 : Shape := ⟨3, ![1, 1, 128]⟩
abbrev S1x1x1x128x128 : Shape := ⟨5, ![1, 1, 1, 128, 128]⟩
abbrev S256x128 : Shape := ⟨2, ![256, 128]⟩
abbrev S256 : Shape := ⟨1, ![256]⟩
abbrev S256x1 : Shape := ⟨2, ![256, 1]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S128, .f32⟩
  | .hbm, ⟨8, _⟩ => ⟨S1x128, .f32⟩
  | .hbm, ⟨9, _⟩ => ⟨S8192x1024, .bf16⟩
  | .hbm, ⟨10, _⟩ => ⟨S32x2x8x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x128, .f32⟩
  | .local _ .vmem, ⟨15, _⟩ => ⟨S256x512, .bf16⟩
  | .local _ .vmem, ⟨16, _⟩ => ⟨S256x512, .bf16⟩
  | .local _ .vmem, ⟨17, _⟩ => ⟨S1x2x4x128x128, .f32⟩
  | .local _ .vmem, ⟨18, _⟩ => ⟨S1x2x4x128x128, .f32⟩
  | .local _ .vmem, ⟨19, _⟩ => ⟨S256x512, .f32⟩
  | .local _ .vmem, ⟨20, _⟩ => ⟨S256x512, .f32⟩
  | .local _ .vmem, ⟨21, _⟩ => ⟨S4x128x128, .f32⟩
  | .local _ .vmem, ⟨22, _⟩ => ⟨S4x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32_59 : BitVec 32 := 0#32
  let c2_i32_60 : BitVec 32 := 2#32
  let v118 : BitVec 32 := Scalar.addi c0_i32_59 c2_i32_60
  let c1_i32_61 : BitVec 32 := 1#32
  ⟨c0_i32_59, v118, c1_i32_61⟩
def k0_mult1 (k0_t1 : Fin k0_t1_loop.trips) : BitVec 32 :=
  let c0_i32_59 : BitVec 32 := 0#32
  let c1_i32_61 : BitVec 32 := 1#32
  let arg16 : BitVec 32 := Scf.iv c0_i32_59 c1_i32_61 k0_t1
  let c128_i32 : BitVec 32 := 128#32
  let v259 : BitVec 32 := Scalar.muli arg16 c128_i32
  v259
def k0_off1 (k0_t1 : Fin k0_t1_loop.trips) : Fin 2 → Nat :=
  let c0_i32_59 : BitVec 32 := 0#32
  let c1_i32_61 : BitVec 32 := 1#32
  let arg16 : BitVec 32 := Scf.iv c0_i32_59 c1_i32_61 k0_t1
  let c128_i32 : BitVec 32 := 128#32
  let v259 : BitVec 32 := Scalar.muli arg16 c128_i32
  let v260 : BitVec 32 := v259
  let v261 : Index := Scalar.indexCast v260
  let c0_176 : Index := 0#32
  ![v261.toNat, 0]
def k0_mult2 (k0_t1 : Fin k0_t1_loop.trips) : BitVec 32 :=
  let c1_i32_183 : BitVec 32 := 1#32
  let c0_i32_59 : BitVec 32 := 0#32
  let c1_i32_61 : BitVec 32 := 1#32
  let arg16 : BitVec 32 := Scf.iv c0_i32_59 c1_i32_61 k0_t1
  let v271 : BitVec 32 := Scalar.subi c1_i32_183 arg16
  let c128_i32_184 : BitVec 32 := 128#32
  let v272 : BitVec 32 := Scalar.muli v271 c128_i32_184
  v272
def k0_off2 (k0_t1 : Fin k0_t1_loop.trips) : Fin 2 → Nat :=
  let c1_i32_183 : BitVec 32 := 1#32
  let c0_i32_59 : BitVec 32 := 0#32
  let c1_i32_61 : BitVec 32 := 1#32
  let arg16 : BitVec 32 := Scf.iv c0_i32_59 c1_i32_61 k0_t1
  let v271 : BitVec 32 := Scalar.subi c1_i32_183 arg16
  let c128_i32_184 : BitVec 32 := 128#32
  let v272 : BitVec 32 := Scalar.muli v271 c128_i32_184
  let v273 : BitVec 32 := v272
  let v274 : Index := Scalar.indexCast v273
  let c0_185 : Index := 0#32
  ![v274.toNat, 0]
def k0_mult3 (k0_t1 : Fin k0_t1_loop.trips) : BitVec 32 :=
  let c0_i32_59 : BitVec 32 := 0#32
  let c1_i32_61 : BitVec 32 := 1#32
  let arg16 : BitVec 32 := Scf.iv c0_i32_59 c1_i32_61 k0_t1
  let c128_i32_192 : BitVec 32 := 128#32
  let v284 : BitVec 32 := Scalar.muli arg16 c128_i32_192
  v284
def k0_off3 (k0_t1 : Fin k0_t1_loop.trips) : Fin 2 → Nat :=
  let c0_i32_59 : BitVec 32 := 0#32
  let c1_i32_61 : BitVec 32 := 1#32
  let arg16 : BitVec 32 := Scf.iv c0_i32_59 c1_i32_61 k0_t1
  let c128_i32_192 : BitVec 32 := 128#32
  let v284 : BitVec 32 := Scalar.muli arg16 c128_i32_192
  let v285 : BitVec 32 := v284
  let v286 : Index := Scalar.indexCast v285
  let c128_193 : Index := 128#32
  ![v286.toNat, 128]
def k0_mult4 (k0_t1 : Fin k0_t1_loop.trips) : BitVec 32 :=
  let c1_i32_200 : BitVec 32 := 1#32
  let c0_i32_59 : BitVec 32 := 0#32
  let c1_i32_61 : BitVec 32 := 1#32
  let arg16 : BitVec 32 := Scf.iv c0_i32_59 c1_i32_61 k0_t1
  let v296 : BitVec 32 := Scalar.subi c1_i32_200 arg16
  let c128_i32_201 : BitVec 32 := 128#32
  let v297 : BitVec 32 := Scalar.muli v296 c128_i32_201
  v297
def k0_off4 (k0_t1 : Fin k0_t1_loop.trips) : Fin 2 → Nat :=
  let c1_i32_200 : BitVec 32 := 1#32
  let c0_i32_59 : BitVec 32 := 0#32
  let c1_i32_61 : BitVec 32 := 1#32
  let arg16 : BitVec 32 := Scf.iv c0_i32_59 c1_i32_61 k0_t1
  let v296 : BitVec 32 := Scalar.subi c1_i32_200 arg16
  let c128_i32_201 : BitVec 32 := 128#32
  let v297 : BitVec 32 := Scalar.muli v296 c128_i32_201
  let v298 : BitVec 32 := v297
  let v299 : Index := Scalar.indexCast v298
  let c128_202 : Index := 128#32
  ![v299.toNat, 128]
def k0_mult5 (k0_t1 : Fin k0_t1_loop.trips) : BitVec 32 :=
  let c0_i32_59 : BitVec 32 := 0#32
  let c1_i32_61 : BitVec 32 := 1#32
  let arg16 : BitVec 32 := Scf.iv c0_i32_59 c1_i32_61 k0_t1
  let c128_i32_209 : BitVec 32 := 128#32
  let v309 : BitVec 32 := Scalar.muli arg16 c128_i32_209
  v309
def k0_off5 (k0_t1 : Fin k0_t1_loop.trips) : Fin 2 → Nat :=
  let c0_i32_59 : BitVec 32 := 0#32
  let c1_i32_61 : BitVec 32 := 1#32
  let arg16 : BitVec 32 := Scf.iv c0_i32_59 c1_i32_61 k0_t1
  let c128_i32_209 : BitVec 32 := 128#32
  let v309 : BitVec 32 := Scalar.muli arg16 c128_i32_209
  let v310 : BitVec 32 := v309
  let v311 : Index := Scalar.indexCast v310
  let c256_210 : Index := 256#32
  ![v311.toNat, 256]
def k0_mult6 (k0_t1 : Fin k0_t1_loop.trips) : BitVec 32 :=
  let c1_i32_217 : BitVec 32 := 1#32
  let c0_i32_59 : BitVec 32 := 0#32
  let c1_i32_61 : BitVec 32 := 1#32
  let arg16 : BitVec 32 := Scf.iv c0_i32_59 c1_i32_61 k0_t1
  let v321 : BitVec 32 := Scalar.subi c1_i32_217 arg16
  let c128_i32_218 : BitVec 32 := 128#32
  let v322 : BitVec 32 := Scalar.muli v321 c128_i32_218
  v322
def k0_off6 (k0_t1 : Fin k0_t1_loop.trips) : Fin 2 → Nat :=
  let c1_i32_217 : BitVec 32 := 1#32
  let c0_i32_59 : BitVec 32 := 0#32
  let c1_i32_61 : BitVec 32 := 1#32
  let arg16 : BitVec 32 := Scf.iv c0_i32_59 c1_i32_61 k0_t1
  let v321 : BitVec 32 := Scalar.subi c1_i32_217 arg16
  let c128_i32_218 : BitVec 32 := 128#32
  let v322 : BitVec 32 := Scalar.muli v321 c128_i32_218
  let v323 : BitVec 32 := v322
  let v324 : Index := Scalar.indexCast v323
  let c256_219 : Index := 256#32
  ![v324.toNat, 256]
def k0_mult7 (k0_t1 : Fin k0_t1_loop.trips) : BitVec 32 :=
  let c0_i32_59 : BitVec 32 := 0#32
  let c1_i32_61 : BitVec 32 := 1#32
  let arg16 : BitVec 32 := Scf.iv c0_i32_59 c1_i32_61 k0_t1
  let c128_i32_226 : BitVec 32 := 128#32
  let v334 : BitVec 32 := Scalar.muli arg16 c128_i32_226
  v334
def k0_off7 (k0_t1 : Fin k0_t1_loop.trips) : Fin 2 → Nat :=
  let c0_i32_59 : BitVec 32 := 0#32
  let c1_i32_61 : BitVec 32 := 1#32
  let arg16 : BitVec 32 := Scf.iv c0_i32_59 c1_i32_61 k0_t1
  let c128_i32_226 : BitVec 32 := 128#32
  let v334 : BitVec 32 := Scalar.muli arg16 c128_i32_226
  let v335 : BitVec 32 := v334
  let v336 : Index := Scalar.indexCast v335
  let c384_227 : Index := 384#32
  ![v336.toNat, 384]
def k0_mult8 (k0_t1 : Fin k0_t1_loop.trips) : BitVec 32 :=
  let c1_i32_234 : BitVec 32 := 1#32
  let c0_i32_59 : BitVec 32 := 0#32
  let c1_i32_61 : BitVec 32 := 1#32
  let arg16 : BitVec 32 := Scf.iv c0_i32_59 c1_i32_61 k0_t1
  let v346 : BitVec 32 := Scalar.subi c1_i32_234 arg16
  let c128_i32_235 : BitVec 32 := 128#32
  let v347 : BitVec 32 := Scalar.muli v346 c128_i32_235
  v347
def k0_off8 (k0_t1 : Fin k0_t1_loop.trips) : Fin 2 → Nat :=
  let c1_i32_234 : BitVec 32 := 1#32
  let c0_i32_59 : BitVec 32 := 0#32
  let c1_i32_61 : BitVec 32 := 1#32
  let arg16 : BitVec 32 := Scf.iv c0_i32_59 c1_i32_61 k0_t1
  let v346 : BitVec 32 := Scalar.subi c1_i32_234 arg16
  let c128_i32_235 : BitVec 32 := 128#32
  let v347 : BitVec 32 := Scalar.muli v346 c128_i32_235
  let v348 : BitVec 32 := v347
  let v349 : Index := Scalar.indexCast v348
  let c384_236 : Index := 384#32
  ![v349.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8192x1024 : Shape := ⟨2, ![8192, 1024]⟩
abbrev S128 : Shape := ⟨1, ![128]⟩
abbrev S32x256x8x128 : Shape := ⟨4, ![32, 256, 8, 128]⟩
abbrev S_ : Shape := ⟨0, ![]⟩
abbrev S32x8x128x128 : Shape := ⟨4, ![32, 8, 128, 128]⟩
abbrev S32x32 : Shape := ⟨2, ![32, 32]⟩
abbrev S32x32x1x1 : Shape := ⟨4, ![32, 32, 1, 1]⟩
abbrev S32x8x32x8x128 : Shape := ⟨5, ![32, 8, 32, 8, 128]⟩
abbrev S8x32x32x8x128 : Shape := ⟨5, ![8, 32, 32, 8, 128]⟩
abbrev S1x32x32x8x128 : Shape := ⟨5, ![1, 32, 32, 8, 128]⟩
abbrev S32x32x8x128 : Shape := ⟨4, ![32, 32, 8, 128]⟩
abbrev S32x32x1x8x128 : Shape := ⟨5, ![32, 32, 1, 8, 128]⟩
abbrev S32x1x32x8x128 : Shape := ⟨5, ![32, 1, 32, 8, 128]⟩
abbrev S32x32x32x8x128 : Shape := ⟨5, ![32, 32, 32, 8, 128]⟩
abbrev S32x32x32x8 : Shape := ⟨4, ![32, 32, 32, 8]⟩
abbrev S32x8x128x32 : Shape := ⟨4, ![32, 8, 128, 32]⟩
abbrev S32x1x8x128 : Shape := ⟨4, ![32, 1, 8, 128]⟩
abbrev S32x8x128 : Shape := ⟨3, ![32, 8, 128]⟩
abbrev S32x8x128x1 : Shape := ⟨4, ![32, 8, 128, 1]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S32x1x8x128x128 : Shape := ⟨5, ![32, 1, 8, 128, 128]⟩
abbrev S32x2x8x128x128 : Shape := ⟨5, ![32, 2, 8, 128, 128]⟩

abbrev nBuf : Space → Nat
  | .hbm => 272
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S128, .f32⟩
  | 8 => ⟨S32x256x8x128, .f32⟩
  | 9 => ⟨S32x256x8x128, .f32⟩
  | 10 => ⟨S32x256x8x128, .f32⟩
  | 11 => ⟨S32x256x8x128, .f32⟩
  | 12 => ⟨S32x256x8x128, .f32⟩
  | 13 => ⟨S32x256x8x128, .f32⟩
  | 14 => ⟨S_, .f32⟩
  | 15 => ⟨S32x8x128x128, .f32⟩
  | 16 => ⟨S_, .i1⟩
  | 17 => ⟨S32x32, .i1⟩
  | 18 => ⟨S32x32, .i32⟩
  | 19 => ⟨S_, .i32⟩
  | 20 => ⟨S32x32, .i32⟩
  | 21 => ⟨S32x32, .i32⟩
  | 22 => ⟨S32x32, .i32⟩
  | 23 => ⟨S32x32, .i1⟩
  | 24 => ⟨S_, .i1⟩
  | 25 => ⟨S32x32, .i1⟩
  | 26 => ⟨S32x32, .i1⟩
  | 27 => ⟨S32x32x1x1, .i1⟩
  | 28 => ⟨S32x8x32x8x128, .f32⟩
  | 29 => ⟨S8x32x32x8x128, .f32⟩
  | 30 => ⟨S32x8x32x8x128, .f32⟩
  | 31 => ⟨S8x32x32x8x128, .f32⟩
  | 32 => ⟨S32x8x32x8x128, .f32⟩
  | 33 => ⟨S8x32x32x8x128, .f32⟩
  | 34 => ⟨S32x8x32x8x128, .f32⟩
  | 35 => ⟨S8x32x32x8x128, .f32⟩
  | 36 => ⟨S_, .f32⟩
  | 37 => ⟨S8x32x32x8x128, .f32⟩
  | 38 => ⟨S_, .i32⟩
  | 39 => ⟨S8x32x32x8x128, .f32⟩
  | 40 => ⟨S8x32x32x8x128, .f32⟩
  | 41 => ⟨S8x32x32x8x128, .f32⟩
  | 42 => ⟨S8x32x32x8x128, .f32⟩
  | 43 => ⟨S32x32x1x1, .i1⟩
  | 44 => ⟨S_, .i32⟩
  | 45 => ⟨S32x8x128x128, .f32⟩
  | 46 => ⟨S8x32x32x8x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1x32x32x8x128, .f32⟩
  | 54 => ⟨S32x32x8x128, .f32⟩
  | 55 => ⟨S_, .i32⟩
  | 56 => ⟨S_, .i32⟩
  | 57 => ⟨S_, .i32⟩
  | 58 => ⟨S_, .i32⟩
  | 59 => ⟨S1x32x32x8x128, .f32⟩
  | 60 => ⟨S32x32x8x128, .f32⟩
  | 61 => ⟨S_, .i32⟩
  | 62 => ⟨S_, .i32⟩
  | 63 => ⟨S_, .i32⟩
  | 64 => ⟨S_, .i32⟩
  | 65 => ⟨S1x32x32x8x128, .f32⟩
  | 66 => ⟨S32x32x8x128, .f32⟩
  | 67 => ⟨S_, .i32⟩
  | 68 => ⟨S_, .i32⟩
  | 69 => ⟨S_, .i32⟩
  | 70 => ⟨S_, .i32⟩
  | 71 => ⟨S1x32x32x8x128, .f32⟩
  | 72 => ⟨S32x32x8x128, .f32⟩
  | 73 => ⟨S_, .f32⟩
  | 74 => ⟨S_, .f32⟩
  | 75 => ⟨S32x32x8x128, .f32⟩
  | 76 => ⟨S32x32x1x8x128, .f32⟩
  | 77 => ⟨S32x1x32x8x128, .f32⟩
  | 78 => ⟨S32x32x32x8x128, .f32⟩
  | 79 => ⟨S32x32x32x8x128, .f32⟩
  | 80 => ⟨S32x32x32x8x128, .f32⟩
  | 81 => ⟨S_, .f32⟩
  | 82 => ⟨S_, .f32⟩
  | 83 => ⟨S32x32x32x8x128, .i1⟩
  | 84 => ⟨S32x32x32x8x128, .f32⟩
  | 85 => ⟨S32x32x32x8x128, .f32⟩
  | 86 => ⟨S32x32x32x8x128, .f32⟩
  | 87 => ⟨S32x32x1x8x128, .f32⟩
  | 88 => ⟨S32x1x32x8x128, .f32⟩
  | 89 => ⟨S32x32x32x8x128, .f32⟩
  | 90 => ⟨S32x32x32x8x128, .f32⟩
  | 91 => ⟨S32x32x32x8x128, .f32⟩
  | 92 => ⟨S32x32x32x8x128, .f32⟩
  | 93 => ⟨S_, .f32⟩
  | 94 => ⟨S32x32x32x8, .f32⟩
  | 95 => ⟨S32x8x128x32, .f32⟩
  | 96 => ⟨S32x32x8x128, .f32⟩
  | 97 => ⟨S32x32x8x128, .f32⟩
  | 98 => ⟨S32x32x8x128, .f32⟩
  | 99 => ⟨S32x8x128x32, .f32⟩
  | 100 => ⟨S32x32x8x128, .f32⟩
  | 101 => ⟨S32x32x8x128, .f32⟩
  | 102 => ⟨S32x1x8x128, .f32⟩
  | 103 => ⟨S32x8x128, .f32⟩
  | 104 => ⟨S32x8x128, .f32⟩
  | 105 => ⟨S32x8x128x1, .f32⟩
  | 106 => ⟨S32x8x128x128, .f32⟩
  | 107 => ⟨S32x8x128x128, .f32⟩
  | 108 => ⟨S32x1x8x128, .f32⟩
  | 109 => ⟨S32x32x8x128, .f32⟩
  | 110 => ⟨S32x32x8x128, .f32⟩
  | 111 => ⟨S32x32x8x128, .f32⟩
  | 112 => ⟨S32x32x8x128, .f32⟩
  | 113 => ⟨S32x8x128x128, .f32⟩
  | 114 => ⟨S32x8x128x128, .f32⟩
  | 115 => ⟨S1x32x32x8x128, .f32⟩
  | 116 => ⟨S_, .i32⟩
  | 117 => ⟨S_, .i32⟩
  | 118 => ⟨S_, .i32⟩
  | 119 => ⟨S_, .i32⟩
  | 120 => ⟨S8x32x32x8x128, .f32⟩
  | 121 => ⟨S_, .i32⟩
  | 122 => ⟨S_, .i32⟩
  | 123 => ⟨S32x8x32x8x128, .f32⟩
  | 124 => ⟨S32x256x8x128, .f32⟩
  | 125 => ⟨S32x256x8x128, .f32⟩
  | 126 => ⟨S32x256x8x128, .f32⟩
  | 127 => ⟨S32x256x8x128, .f32⟩
  | _ => ⟨S8192x1024, .f32⟩

abbrev hbmTy0_1 (i : Nat) : BufTy := match i % 128 with
  | 0 => ⟨S32x256x8x128, .f32⟩
  | 1 => ⟨S_, .i1⟩
  | 2 => ⟨S32x32, .i1⟩
  | 3 => ⟨S32x32, .i32⟩
  | 4 => ⟨S_, .i32⟩
  | 5 => ⟨S32x32, .i32⟩
  | 6 => ⟨S32x32, .i32⟩
  | 7 => ⟨S32x32, .i32⟩
  | 8 => ⟨S32x32, .i1⟩
  | 9 => ⟨S_, .i1⟩
  | 10 => ⟨S32x32, .i1⟩
  | 11 => ⟨S32x32, .i1⟩
  | 12 => ⟨S32x32x1x1, .i1⟩
  | 13 => ⟨S32x8x32x8x128, .f32⟩
  | 14 => ⟨S8x32x32x8x128, .f32⟩
  | 15 => ⟨S32x8x32x8x128, .f32⟩
  | 16 => ⟨S8x32x32x8x128, .f32⟩
  | 17 => ⟨S32x8x32x8x128, .f32⟩
  | 18 => ⟨S8x32x32x8x128, .f32⟩
  | 19 => ⟨S32x8x32x8x128, .f32⟩
  | 20 => ⟨S8x32x32x8x128, .f32⟩
  | 21 => ⟨S_, .f32⟩
  | 22 => ⟨S8x32x32x8x128, .f32⟩
  | 23 => ⟨S_, .i32⟩
  | 24 => ⟨S8x32x32x8x128, .f32⟩
  | 25 => ⟨S8x32x32x8x128, .f32⟩
  | 26 => ⟨S8x32x32x8x128, .f32⟩
  | 27 => ⟨S8x32x32x8x128, .f32⟩
  | 28 => ⟨S32x32x1x1, .i1⟩
  | 29 => ⟨S_, .i32⟩
  | 30 => ⟨S32x8x128x128, .f32⟩
  | 31 => ⟨S8x32x32x8x128, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1x32x32x8x128, .f32⟩
  | 39 => ⟨S32x32x8x128, .f32⟩
  | 40 => ⟨S_, .i32⟩
  | 41 => ⟨S_, .i32⟩
  | 42 => ⟨S_, .i32⟩
  | 43 => ⟨S_, .i32⟩
  | 44 => ⟨S1x32x32x8x128, .f32⟩
  | 45 => ⟨S32x32x8x128, .f32⟩
  | 46 => ⟨S_, .i32⟩
  | 47 => ⟨S_, .i32⟩
  | 48 => ⟨S_, .i32⟩
  | 49 => ⟨S_, .i32⟩
  | 50 => ⟨S1x32x32x8x128, .f32⟩
  | 51 => ⟨S32x32x8x128, .f32⟩
  | 52 => ⟨S_, .i32⟩
  | 53 => ⟨S_, .i32⟩
  | 54 => ⟨S_, .i32⟩
  | 55 => ⟨S_, .i32⟩
  | 56 => ⟨S1x32x32x8x128, .f32⟩
  | 57 => ⟨S32x32x8x128, .f32⟩
  | 58 => ⟨S_, .f32⟩
  | 59 => ⟨S_, .f32⟩
  | 60 => ⟨S32x32x8x128, .f32⟩
  | 61 => ⟨S32x32x1x8x128, .f32⟩
  | 62 => ⟨S32x1x32x8x128, .f32⟩
  | 63 => ⟨S32x32x32x8x128, .f32⟩
  | 64 => ⟨S32x32x32x8x128, .f32⟩
  | 65 => ⟨S32x32x32x8x128, .f32⟩
  | 66 => ⟨S_, .f32⟩
  | 67 => ⟨S_, .f32⟩
  | 68 => ⟨S32x32x32x8x128, .i1⟩
  | 69 => ⟨S32x32x32x8x128, .f32⟩
  | 70 => ⟨S32x32x32x8x128, .f32⟩
  | 71 => ⟨S32x32x32x8x128, .f32⟩
  | 72 => ⟨S32x32x1x8x128, .f32⟩
  | 73 => ⟨S32x1x32x8x128, .f32⟩
  | 74 => ⟨S32x32x32x8x128, .f32⟩
  | 75 => ⟨S32x32x32x8x128, .f32⟩
  | 76 => ⟨S32x32x32x8x128, .f32⟩
  | 77 => ⟨S32x32x32x8x128, .f32⟩
  | 78 => ⟨S_, .f32⟩
  | 79 => ⟨S32x32x32x8, .f32⟩
  | 80 => ⟨S32x8x128x32, .f32⟩
  | 81 => ⟨S32x32x8x128, .f32⟩
  | 82 => ⟨S32x32x8x128, .f32⟩
  | 83 => ⟨S32x32x8x128, .f32⟩
  | 84 => ⟨S32x8x128x32, .f32⟩
  | 85 => ⟨S32x32x8x128, .f32⟩
  | 86 => ⟨S32x32x8x128, .f32⟩
  | 87 => ⟨S32x1x8x128, .f32⟩
  | 88 => ⟨S32x8x128, .f32⟩
  | 89 => ⟨S32x8x128, .f32⟩
  | 90 => ⟨S32x8x128x1, .f32⟩
  | 91 => ⟨S32x8x128x128, .f32⟩
  | 92 => ⟨S32x8x128x128, .f32⟩
  | 93 => ⟨S32x1x8x128, .f32⟩
  | 94 => ⟨S32x32x8x128, .f32⟩
  | 95 => ⟨S32x32x8x128, .f32⟩
  | 96 => ⟨S32x32x8x128, .f32⟩
  | 97 => ⟨S32x32x8x128, .f32⟩
  | 98 => ⟨S32x8x128x128, .f32⟩
  | 99 => ⟨S32x8x128x128, .f32⟩
  | 100 => ⟨S1x32x32x8x128, .f32⟩
  | 101 => ⟨S_, .i32⟩
  | 102 => ⟨S_, .i32⟩
  | 103 => ⟨S_, .i32⟩
  | 104 => ⟨S_, .i32⟩
  | 105 => ⟨S8x32x32x8x128, .f32⟩
  | 106 => ⟨S_, .i32⟩
  | 107 => ⟨S_, .i32⟩
  | 108 => ⟨S32x8x32x8x128, .f32⟩
  | 109 => ⟨S32x256x8x128, .f32⟩
  | 110 => ⟨S32x256x8x128, .f32⟩
  | 111 => ⟨S32x256x8x128, .f32⟩
  | 112 => ⟨S32x256x8x128, .f32⟩
  | 113 => ⟨S_, .f32⟩
  | 114 => ⟨S32x256x8, .f32⟩
  | 115 => ⟨S32x256x8x1, .f32⟩
  | 116 => ⟨S_, .f32⟩
  | 117 => ⟨S32x256x8x1, .f32⟩
  | 118 => ⟨S32x256x8x1, .f32⟩
  | 119 => ⟨S_, .f32⟩
  | 120 => ⟨S32x256x8x1, .f32⟩
  | 121 => ⟨S32x256x8x1, .f32⟩
  | 122 => ⟨S32x256x8x1, .f32⟩
  | 123 => ⟨S32x256x8x128, .f32⟩
  | 124 => ⟨S32x256x8x128, .f32⟩
  | 125 => ⟨S1x1x1x128, .f32⟩
  | 126 => ⟨S32x256x8x128, .f32⟩
  | 127 => ⟨S32x256x8x128, .f32⟩
  | _ => ⟨S8192x1024, .f32⟩

abbrev hbmTy0_2 (i : Nat) : BufTy := match i % 128 with
  | 0 => ⟨S32x256x8x128, .f32⟩
  | 1 => ⟨S32x256x8x128, .f32⟩
  | 2 => ⟨S32x256x8x128, .f32⟩
  | 3 => ⟨S_, .f32⟩
  | 4 => ⟨S32x256x8x128, .f32⟩
  | 5 => ⟨S32x256x8x128, .f32⟩
  | 6 => ⟨S_, .f32⟩
  | 7 => ⟨S32x256x8x128, .f32⟩
  | 8 => ⟨S32x256x8x128, .f32⟩
  | 9 => ⟨S32x256x8x128, .f32⟩
  | 10 => ⟨S32x256x8x128, .f32⟩
  | 11 => ⟨S32x256x8x128, .bf16⟩
  | 12 => ⟨S8192x1024, .bf16⟩
  | 13 => ⟨S32x1x8x128x128, .f32⟩
  | 14 => ⟨S32x1x8x128x128, .f32⟩
  | 15 => ⟨S32x2x8x128x128, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_c_1 : Ref sig .tc := ⟨.hbm, 38, rfl⟩
abbrev main_v19_0 : Ref sig .tc := ⟨.hbm, 39, rfl⟩
abbrev main_v19_1 : Ref sig .tc := ⟨.hbm, 40, rfl⟩
abbrev main_v19_2 : Ref sig .tc := ⟨.hbm, 41, rfl⟩
abbrev main_v19_3 : Ref sig .tc := ⟨.hbm, 42, rfl⟩
abbrev main_v19_4 : Ref sig .tc := ⟨.hbm, 43, rfl⟩
abbrev main_v19_5 : Ref sig .tc := ⟨.hbm, 44, rfl⟩
abbrev main_v19_6 : Ref sig .tc := ⟨.hbm, 45, rfl⟩
abbrev main_v19_7 : Ref sig .tc := ⟨.hbm, 46, rfl⟩
abbrev main_while0c_c_15 : Ref sig .tc := ⟨.hbm, 47, rfl⟩
abbrev main_while0c_v64 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v64 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v65 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v66 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v67 : Ref sig .tc := ⟨.hbm, 72, rfl⟩
abbrev main_while0b_call5_call0_cst : Ref sig .tc := ⟨.hbm, 73, rfl⟩
abbrev main_while0b_call5_call0_v0 : Ref sig .tc := ⟨.hbm, 74, rfl⟩
abbrev main_while0b_v68 : Ref sig .tc := ⟨.hbm, 75, rfl⟩
abbrev main_while0b_v69 : Ref sig .tc := ⟨.hbm, 76, rfl⟩
abbrev main_while0b_v70 : Ref sig .tc := ⟨.hbm, 77, rfl⟩
abbrev main_while0b_v71 : Ref sig .tc := ⟨.hbm, 78, rfl⟩
abbrev main_while0b_v72 : Ref sig .tc := ⟨.hbm, 79, rfl⟩
abbrev main_while0b_v73 : Ref sig .tc := ⟨.hbm, 80, rfl⟩
abbrev main_while0b_cst_15 : Ref sig .tc := ⟨.hbm, 81, rfl⟩
abbrev main_while0b_call6_v0 : Ref sig .tc := ⟨.hbm, 82, rfl⟩
abbrev main_while0b_call6_v1 : Ref sig .tc := ⟨.hbm, 83, rfl⟩
abbrev main_while0b_call6_v2 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_cst_16 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_v93 : Ref sig .tc := ⟨.hbm, 105, rfl⟩
abbrev main_while0b_v94 : Ref sig .tc := ⟨.hbm, 106, rfl⟩
abbrev main_while0b_v95 : Ref sig .tc := ⟨.hbm, 107, rfl⟩
abbrev main_while0b_v96 : Ref sig .tc := ⟨.hbm, 108, rfl⟩
abbrev main_while0b_v97 : Ref sig .tc := ⟨.hbm, 109, rfl⟩
abbrev main_while0b_v98 : Ref sig .tc := ⟨.hbm, 110, rfl⟩
abbrev main_while0b_v99 : Ref sig .tc := ⟨.hbm, 111, rfl⟩
abbrev main_while0b_v100 : Ref sig .tc := ⟨.hbm, 112, rfl⟩
abbrev main_while0b_v101 : Ref sig .tc := ⟨.hbm, 113, rfl⟩
abbrev main_while0b_v102 : Ref sig .tc := ⟨.hbm, 114, rfl⟩
abbrev main_while0b_call7_v0 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_call7_c_1 : Ref sig .tc := ⟨.hbm, 118, rfl⟩
abbrev main_while0b_call7_c_2 : Ref sig .tc := ⟨.hbm, 119, rfl⟩
abbrev main_while0b_v103 : Ref sig .tc := ⟨.hbm, 120, rfl⟩
abbrev main_while0b_c_17 : Ref sig .tc := ⟨.hbm, 121, rfl⟩
abbrev main_while0b_v104 : Ref sig .tc := ⟨.hbm, 122, rfl⟩
abbrev main_v20 : Ref sig .tc := ⟨.hbm, 123, rfl⟩
abbrev main_v21 : Ref sig .tc := ⟨.hbm, 124, rfl⟩
abbrev main_v22 : Ref sig .tc := ⟨.hbm, 125, rfl⟩
abbrev main_v23 : Ref sig .tc := ⟨.hbm, 126, rfl⟩
abbrev main_v24 : Ref sig .tc := ⟨.hbm, 127, rfl⟩
abbrev main_v25 : Ref sig .tc := ⟨.hbm, 128, rfl⟩
abbrev main_c_2 : Ref sig .tc := ⟨.hbm, 129, rfl⟩
abbrev main_v26 : Ref sig .tc := ⟨.hbm, 130, rfl⟩
abbrev main_call12_v0 : Ref sig .tc := ⟨.hbm, 131, rfl⟩
abbrev main_call12_c : Ref sig .tc := ⟨.hbm, 132, rfl⟩
abbrev main_call12_v1 : Ref sig .tc := ⟨.hbm, 133, rfl⟩
abbrev main_call12_v2 : Ref sig .tc := ⟨.hbm, 134, rfl⟩
abbrev main_call12_v3 : Ref sig .tc := ⟨.hbm, 135, rfl⟩
abbrev main_call12_v4 : Ref sig .tc := ⟨.hbm, 136, rfl⟩
abbrev main_call12_c_0 : Ref sig .tc := ⟨.hbm, 137, rfl⟩
abbrev main_call12_v5 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_cst_3 : Ref sig .tc := ⟨.hbm, 149, rfl⟩
abbrev main_v37 : Ref sig .tc := ⟨.hbm, 150, rfl⟩
abbrev main_c_4 : Ref sig .tc := ⟨.hbm, 151, rfl⟩
abbrev main_v38_0 : Ref sig .tc := ⟨.hbm, 152, rfl⟩
abbrev main_v38_1 : Ref sig .tc := ⟨.hbm, 153, rfl⟩
abbrev main_v38_2 : Ref sig .tc := ⟨.hbm, 154, rfl⟩
abbrev main_v38_3 : Ref sig .tc := ⟨.hbm, 155, rfl⟩
abbrev main_v38_4 : Ref sig .tc := ⟨.hbm, 156, rfl⟩
abbrev main_v38_5 : Ref sig .tc := ⟨.hbm, 157, rfl⟩
abbrev main_v38_6 : Ref sig .tc := ⟨.hbm, 158, rfl⟩
abbrev main_v38_7 : Ref sig .tc := ⟨.hbm, 159, rfl⟩
abbrev main_while1c_c_15 : Ref sig .tc := ⟨.hbm, 160, rfl⟩
abbrev main_while1c_v64 : Ref sig .tc := ⟨.hbm, 161, rfl⟩
abbrev main_while1b_call13_c : Ref sig .tc := ⟨.hbm, 162, rfl⟩
abbrev main_while1b_call13_c_0 : Ref sig .tc := ⟨.hbm, 163, rfl⟩
abbrev main_while1b_call13_c_1 : Ref sig .tc := ⟨.hbm, 164, rfl⟩
abbrev main_while1b_call13_c_2 : Ref sig .tc := ⟨.hbm, 165, rfl⟩
abbrev main_while1b_call13_v0 : Ref sig .tc := ⟨.hbm, 166, rfl⟩
abbrev main_while1b_v64 : Ref sig .tc := ⟨.hbm, 167, rfl⟩
abbrev main_while1b_call14_c : Ref sig .tc := ⟨.hbm, 168, rfl⟩
abbrev main_while1b_call14_c_0 : Ref sig .tc := ⟨.hbm, 169, rfl⟩
abbrev main_while1b_call14_c_1 : Ref sig .tc := ⟨.hbm, 170, rfl⟩
abbrev main_while1b_call14_c_2 : Ref sig .tc := ⟨.hbm, 171, rfl⟩
abbrev main_while1b_call14_v0 : Ref sig .tc := ⟨.hbm, 172, rfl⟩
abbrev main_while1b_v65 : Ref sig .tc := ⟨.hbm, 173, rfl⟩
abbrev main_while1b_call15_c : Ref sig .tc := ⟨.hbm, 174, rfl⟩
abbrev main_while1b_call15_c_0 : Ref sig .tc := ⟨.hbm, 175, rfl⟩
abbrev main_while1b_call15_c_1 : Ref sig .tc := ⟨.hbm, 176, rfl⟩
abbrev main_while1b_call15_c_2 : Ref sig .tc := ⟨.hbm, 177, rfl⟩
abbrev main_while1b_call15_v0 : Ref sig .tc := ⟨.hbm, 178, rfl⟩
abbrev main_while1b_v66 : Ref sig .tc := ⟨.hbm, 179, rfl⟩
abbrev main_while1b_call16_c : Ref sig .tc := ⟨.hbm, 180, rfl⟩
abbrev main_while1b_call16_c_0 : Ref sig .tc := ⟨.hbm, 181, rfl⟩
abbrev main_while1b_call16_c_1 : Ref sig .tc := ⟨.hbm, 182, rfl⟩
abbrev main_while1b_call16_c_2 : Ref sig .tc := ⟨.hbm, 183, rfl⟩
abbrev main_while1b_call16_v0 : Ref sig .tc := ⟨.hbm, 184, rfl⟩
abbrev main_while1b_v67 : Ref sig .tc := ⟨.hbm, 185, rfl⟩
abbrev main_while1b_call17_call0_cst : Ref sig .tc := ⟨.hbm, 186, rfl⟩
abbrev main_while1b_call17_call0_v0 : Ref sig .tc := ⟨.hbm, 187, rfl⟩
abbrev main_while1b_v68 : Ref sig .tc := ⟨.hbm, 188, rfl⟩
abbrev main_while1b_v69 : Ref sig .tc := ⟨.hbm, 189, rfl⟩
abbrev main_while1b_v70 : Ref sig .tc := ⟨.hbm, 190, rfl⟩
abbrev main_while1b_v71 : Ref sig .tc := ⟨.hbm, 191, rfl⟩
abbrev main_while1b_v72 : Ref sig .tc := ⟨.hbm, 192, rfl⟩
abbrev main_while1b_v73 : Ref sig .tc := ⟨.hbm, 193, rfl⟩
abbrev main_while1b_cst_15 : Ref sig .tc := ⟨.hbm, 194, rfl⟩
abbrev main_while1b_call18_v0 : Ref sig .tc := ⟨.hbm, 195, rfl⟩
abbrev main_while1b_call18_v1 : Ref sig .tc := ⟨.hbm, 196, rfl⟩
abbrev main_while1b_call18_v2 : Ref sig .tc := ⟨.hbm, 197, rfl⟩
abbrev main_while1b_v74 : Ref sig .tc := ⟨.hbm, 198, rfl⟩
abbrev main_while1b_v75 : Ref sig .tc := ⟨.hbm, 199, rfl⟩
abbrev main_while1b_v76 : Ref sig .tc := ⟨.hbm, 200, rfl⟩
abbrev main_while1b_v77 : Ref sig .tc := ⟨.hbm, 201, rfl⟩
abbrev main_while1b_v78 : Ref sig .tc := ⟨.hbm, 202, rfl⟩
abbrev main_while1b_v79 : Ref sig .tc := ⟨.hbm, 203, rfl⟩
abbrev main_while1b_v80 : Ref sig .tc := ⟨.hbm, 204, rfl⟩
abbrev main_while1b_v81 : Ref sig .tc := ⟨.hbm, 205, rfl⟩
abbrev main_while1b_cst_16 : Ref sig .tc := ⟨.hbm, 206, rfl⟩
abbrev main_while1b_v82 : Ref sig .tc := ⟨.hbm, 207, rfl⟩
abbrev main_while1b_v83 : Ref sig .tc := ⟨.hbm, 208, rfl⟩
abbrev main_while1b_v84 : Ref sig .tc := ⟨.hbm, 209, rfl⟩
abbrev main_while1b_v85 : Ref sig .tc := ⟨.hbm, 210, rfl⟩
abbrev main_while1b_v86 : Ref sig .tc := ⟨.hbm, 211, rfl⟩
abbrev main_while1b_v87 : Ref sig .tc := ⟨.hbm, 212, rfl⟩
abbrev main_while1b_v88 : Ref sig .tc := ⟨.hbm, 213, rfl⟩
abbrev main_while1b_v89 : Ref sig .tc := ⟨.hbm, 214, rfl⟩
abbrev main_while1b_v90 : Ref sig .tc := ⟨.hbm, 215, rfl⟩
abbrev main_while1b_v91 : Ref sig .tc := ⟨.hbm, 216, rfl⟩
abbrev main_while1b_v92 : Ref sig .tc := ⟨.hbm, 217, rfl⟩
abbrev main_while1b_v93 : Ref sig .tc := ⟨.hbm, 218, rfl⟩
abbrev main_while1b_v94 : Ref sig .tc := ⟨.hbm, 219, rfl⟩
abbrev main_while1b_v95 : Ref sig .tc := ⟨.hbm, 220, rfl⟩
abbrev main_while1b_v96 : Ref sig .tc := ⟨.hbm, 221, rfl⟩
abbrev main_while1b_v97 : Ref sig .tc := ⟨.hbm, 222, rfl⟩
abbrev main_while1b_v98 : Ref sig .tc := ⟨.hbm, 223, rfl⟩
abbrev main_while1b_v99 : Ref sig .tc := ⟨.hbm, 224, rfl⟩
abbrev main_while1b_v100 : Ref sig .tc := ⟨.hbm, 225, rfl⟩
abbrev main_while1b_v101 : Ref sig .tc := ⟨.hbm, 226, rfl⟩
abbrev main_while1b_v102 : Ref sig .tc := ⟨.hbm, 227, rfl⟩
abbrev main_while1b_call19_v0 : Ref sig .tc := ⟨.hbm, 228, rfl⟩
abbrev main_while1b_call19_c : Ref sig .tc := ⟨.hbm, 229, rfl⟩
abbrev main_while1b_call19_c_0 : Ref sig .tc := ⟨.hbm, 230, rfl⟩
abbrev main_while1b_call19_c_1 : Ref sig .tc := ⟨.hbm, 231, rfl⟩
abbrev main_while1b_call19_c_2 : Ref sig .tc := ⟨.hbm, 232, rfl⟩
abbrev main_while1b_v103 : Ref sig .tc := ⟨.hbm, 233, rfl⟩
abbrev main_while1b_c_17 : Ref sig .tc := ⟨.hbm, 234, rfl⟩
abbrev main_while1b_v104 : Ref sig .tc := ⟨.hbm, 235, rfl⟩
abbrev main_v39 : Ref sig .tc := ⟨.hbm, 236, rfl⟩
abbrev main_v40 : Ref sig .tc := ⟨.hbm, 237, rfl⟩
abbrev main_v41 : Ref sig .tc := ⟨.hbm, 238, rfl⟩
abbrev main_v42 : Ref sig .tc := ⟨.hbm, 239, rfl⟩
abbrev main_v43 : Ref sig .tc := ⟨.hbm, 240, rfl⟩
abbrev main_cst_5 : Ref sig .tc := ⟨.hbm, 241, rfl⟩
abbrev main_v44 : Ref sig .tc := ⟨.hbm, 242, rfl⟩
abbrev main_v45 : Ref sig .tc := ⟨.hbm, 243, rfl⟩
abbrev main_cst_6 : Ref sig .tc := ⟨.hbm, 244, rfl⟩
abbrev main_v46 : Ref sig .tc := ⟨.hbm, 245, rfl⟩
abbrev main_v47 : Ref sig .tc := ⟨.hbm, 246, rfl⟩
abbrev main_cst_7 : Ref sig .tc := ⟨.hbm, 247, rfl⟩
abbrev main_v48 : Ref sig .tc := ⟨.hbm, 248, rfl⟩
abbrev main_v49 : Ref sig .tc := ⟨.hbm, 249, rfl⟩
abbrev main_v50 : Ref sig .tc := ⟨.hbm, 250, rfl⟩
abbrev main_v51 : Ref sig .tc := ⟨.hbm, 251, rfl⟩
abbrev main_v52 : Ref sig .tc := ⟨.hbm, 252, rfl⟩
abbrev main_v53 : Ref sig .tc := ⟨.hbm, 253, rfl⟩
abbrev main_v54 : Ref sig .tc := ⟨.hbm, 254, rfl⟩
abbrev main_v55 : Ref sig .tc := ⟨.hbm, 255, rfl⟩
abbrev main_v56 : Ref sig .tc := ⟨.hbm, 256, rfl⟩
abbrev main_call21_v0 : Ref sig .tc := ⟨.hbm, 257, rfl⟩
abbrev main_call21_v1 : Ref sig .tc := ⟨.hbm, 258, rfl⟩
abbrev main_call21_cst : Ref sig .tc := ⟨.hbm, 259, rfl⟩
abbrev main_call21_v2 : Ref sig .tc := ⟨.hbm, 260, rfl⟩
abbrev main_call21_v3 : Ref sig .tc := ⟨.hbm, 261, rfl⟩
abbrev main_call21_cst_0 : Ref sig .tc := ⟨.hbm, 262, rfl⟩
abbrev main_call21_v4 : Ref sig .tc := ⟨.hbm, 263, rfl⟩
abbrev main_call21_v5 : Ref sig .tc := ⟨.hbm, 264, rfl⟩
abbrev main_v57 : Ref sig .tc := ⟨.hbm, 265, rfl⟩
abbrev main_v58 : Ref sig .tc := ⟨.hbm, 266, rfl⟩
abbrev main_v59 : Ref sig .tc := ⟨.hbm, 267, rfl⟩
abbrev main_v60 : Ref sig .tc := ⟨.hbm, 268, rfl⟩
abbrev main_v61 : Ref sig .tc := ⟨.hbm, 269, rfl⟩
abbrev main_v62 : Ref sig .tc := ⟨.hbm, 270, rfl⟩
abbrev main_v63 : Ref sig .tc := ⟨.hbm, 271, rfl⟩

abbrev nD : Nat := 1
abbrev τ : Topo := Topo.v7x

variable {F : FTy → Type} [FloatOps F]

abbrev main_while0_count : Scf.Loop 32 := ⟨0#32, 8#32, 1#32⟩

abbrev main_while1_count : Scf.Loop 32 := ⟨0#32, 8#32, 1#32⟩
-- ==== FfnPrompt.lean ====
abbrev S8192x1024 : Shape := ⟨2, ![8192, 1024]⟩
abbrev S1024x1024 : Shape := ⟨2, ![1024, 1024]⟩
abbrev S8x3x3x1024 : Shape := ⟨4, ![8, 3, 3, 1024]⟩
abbrev S3x2x1024 : Shape := ⟨3, ![3, 2, 1024]⟩
abbrev S1024x5632 : Shape := ⟨2, ![1024, 5632]⟩
abbrev S2816x1024 : Shape := ⟨2, ![2816, 1024]⟩
abbrev S8x1x3x1024 : Shape := ⟨4, ![8, 1, 3, 1024]⟩
abbrev S8x3x1024 : Shape := ⟨3, ![8, 3, 1024]⟩
abbrev S1x2x1024 : Shape := ⟨3, ![1, 2, 1024]⟩
abbrev S2x1024 : Shape := ⟨2, ![2, 1024]⟩
abbrev S1x3x1024 : Shape := ⟨3, ![1, 3, 1024]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S8x3x3x1024, .f32⟩
  | .hbm, ⟨4, _⟩ => ⟨S3x2x1024, .f32⟩
  | .hbm, ⟨5, _⟩ => ⟨S1024x5632, .f32⟩
  | .hbm, ⟨6, _⟩ => ⟨S2816x1024, .f32⟩
  | .hbm, ⟨7, _⟩ => ⟨S8x1x3x1024, .f32⟩
  | .hbm, ⟨8, _⟩ => ⟨S8x3x1024, .f32⟩
  | .hbm, ⟨9, _⟩ => ⟨S1x2x1024, .f32⟩
  | .hbm, ⟨10, _⟩ => ⟨S2x1024, .f32⟩
  | .hbm, ⟨11, _⟩ => ⟨S8x1x3x1024, .f32⟩
  | .hbm, ⟨12, _⟩ => ⟨S8x3x1024, .f32⟩
  | .hbm, ⟨13, _⟩ => ⟨S1x2x1024, .f32⟩
  | .hbm, ⟨14, _⟩ => ⟨S2x1024, .f32⟩
  | .hbm, ⟨15, _⟩ => ⟨S1024x5632, .bf16⟩
  | .hbm, ⟨16, _⟩ => ⟨S2816x1024, .bf16⟩
  | .hbm, ⟨17, _⟩ => ⟨S1024x1024, .bf16⟩
  | .hbm, ⟨18, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x3x1024, .f32⟩
  | .local _ .vmem, ⟨6, _⟩ => ⟨S1x3x1024, .f32⟩
  | .local _ .vmem, ⟨7, _⟩ => ⟨S2x1024, .f32⟩
  | .local _ .vmem, ⟨8, _⟩ => ⟨S1x3x1024, .f32⟩
  | .local _ .vmem, ⟨9, _⟩ => ⟨S1x3x1024, .f32⟩
  | .local _ .vmem, ⟨10, _⟩ => ⟨S2x1024, .f32⟩
  | .local _ .vmem, ⟨11, _⟩ => ⟨S1024x5632, .bf16⟩
  | .local _ .vmem, ⟨12, _⟩ => ⟨S2816x1024, .bf16⟩
  | .local _ .vmem, ⟨13, _⟩ => ⟨S1024x1024, .f32⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnPromptRefIdeal.lean ====
abbrev S8192x1024 : Shape := ⟨2, ![8192, 1024]⟩
abbrev S1024x1024 : Shape := ⟨2, ![1024, 1024]⟩
abbrev S8x3x3x1024 : Shape := ⟨4, ![8, 3, 3, 1024]⟩
abbrev S3x2x1024 : Shape := ⟨3, ![3, 2, 1024]⟩
abbrev S1024x5632 : Shape := ⟨2, ![1024, 5632]⟩
abbrev S2816x1024 : Shape := ⟨2, ![2816, 1024]⟩
abbrev S1x3x3x1024 : Shape := ⟨4, ![1, 3, 3, 1024]⟩
abbrev S1x1x3x3x1024 : Shape := ⟨5, ![1, 1, 3, 3, 1024]⟩
abbrev S1x8192x3x3x1024 : Shape := ⟨5, ![1, 8192, 3, 3, 1024]⟩
abbrev S8192x3x3x1024 : Shape := ⟨4, ![8192, 3, 3, 1024]⟩
abbrev S1x1x1024 : Shape := ⟨3, ![1, 1, 1024]⟩
abbrev S1024 : Shape := ⟨1, ![1024]⟩
abbrev S8192x1x1x1024 : Shape := ⟨4, ![8192, 1, 1, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S8x3x3x1024, .f32⟩
  | .hbm, ⟨4, _⟩ => ⟨S3x2x1024, .f32⟩
  | .hbm, ⟨5, _⟩ => ⟨S1024x5632, .f32⟩
  | .hbm, ⟨6, _⟩ => ⟨S2816x1024, .f32⟩
  | .hbm, ⟨7, _⟩ => ⟨S1x3x3x1024, .f32⟩
  | .hbm, ⟨8, _⟩ => ⟨S1x1x3x3x1024, .f32⟩
  | .hbm, ⟨9, _⟩ => ⟨S1x8192x3x3x1024, .f32⟩
  | .hbm, ⟨10, _⟩ => ⟨S8192x3x3x1024, .f32⟩
  | .hbm, ⟨11, _⟩ => ⟨S8192x1024, .f32⟩
  | .hbm, ⟨12, _⟩ => ⟨S8192x1024, .f32⟩
  | .hbm, ⟨13, _⟩ => ⟨S1x1x1024, .f32⟩
  | .hbm, ⟨14, _⟩ => ⟨S1024, .f32⟩
  | .hbm, ⟨15, _⟩ => ⟨S8192x1x1x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1x1024, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1x1x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1x1x1024, .f32⟩
  | .hbm, ⟨63, _⟩ => ⟨S8192x1024, .f32⟩
  | .hbm, ⟨64, _⟩ => ⟨S8192x1024, .f32⟩
  | .hbm, ⟨65, _⟩ => ⟨S8192x5632, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S_, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x1024, .f32⟩
  | .hbm, ⟨79, _⟩ => ⟨S1x1x1024, .f32⟩
  | .hbm, ⟨80, _⟩ => ⟨S1024, .f32⟩
  | .hbm, ⟨81, _⟩ => ⟨S8192x1x1x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== FfnSample.lean ====
abbrev S8192x1024 : Shape := ⟨2, ![8192, 1024]⟩
abbrev S1024x1024 : Shape := ⟨2, ![1024, 1024]⟩
abbrev S8x3x3x1024 : Shape := ⟨4, ![8, 3, 3, 1024]⟩
abbrev S3x2x1024 : Shape := ⟨3, ![3, 2, 1024]⟩
abbrev S1024x5632 : Shape := ⟨2, ![1024, 5632]⟩
abbrev S2816x1024 : Shape := ⟨2, ![2816, 1024]⟩
abbrev S8x1x3x1024 : Shape := ⟨4, ![8, 1, 3, 1024]⟩
abbrev S8x3x1024 : Shape := ⟨3, ![8, 3, 1024]⟩
abbrev S1x2x1024 : Shape := ⟨3, ![1, 2, 1024]⟩
abbrev S2x1024 : Shape := ⟨2, ![2, 1024]⟩
abbrev S1x3x1024 : Shape := ⟨3, ![1, 3, 1024]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 19
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S8x3x3x1024, .f32⟩
  | .hbm, ⟨4, _⟩ => ⟨S3x2x1024, .f32⟩
  | .hbm, ⟨5, _⟩ => ⟨S1024x5632, .f32⟩
  | .hbm, ⟨6, _⟩ => ⟨S2816x1024, .f32⟩
  | .hbm, ⟨7, _⟩ => ⟨S8x1x3x1024, .f32⟩
  | .hbm, ⟨8, _⟩ => ⟨S8x3x1024, .f32⟩
  | .hbm, ⟨9, _⟩ => ⟨S1x2x1024, .f32⟩
  | .hbm, ⟨10, _⟩ => ⟨S2x1024, .f32⟩
  | .hbm, ⟨11, _⟩ => ⟨S8x1x3x1024, .f32⟩
  | .hbm, ⟨12, _⟩ => ⟨S8x3x1024, .f32⟩
  | .hbm, ⟨13, _⟩ => ⟨S1x2x1024, .f32⟩
  | .hbm, ⟨14, _⟩ => ⟨S2x1024, .f32⟩
  | .hbm, ⟨15, _⟩ => ⟨S1024x5632, .bf16⟩
  | .hbm, ⟨16, _⟩ => ⟨S2816x1024, .bf16⟩
  | .hbm, ⟨17, _⟩ => ⟨S1024x1024, .bf16⟩
  | .hbm, ⟨18, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x3x1024, .f32⟩
  | .local _ .vmem, ⟨6, _⟩ => ⟨S1x3x1024, .f32⟩
  | .local _ .vmem, ⟨7, _⟩ => ⟨S2x1024, .f32⟩
  | .local _ .vmem, ⟨8, _⟩ => ⟨S1x3x1024, .f32⟩
  | .local _ .vmem, ⟨9, _⟩ => ⟨S1x3x1024, .f32⟩
  | .local _ .vmem, ⟨10, _⟩ => ⟨S2x1024, .f32⟩
  | .local _ .vmem, ⟨11, _⟩ => ⟨S1024x5632, .bf16⟩
  | .local _ .vmem, ⟨12, _⟩ => ⟨S2816x1024, .bf16⟩
  | .local _ .vmem, ⟨13, _⟩ => ⟨S1024x1024, .f32⟩
  | .local _ .vmem, ⟨14, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let v18 : BitVec 32 := Scalar.addi c1_i32_4 v17
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnSampleRefIdeal.lean ====
abbrev S8192x1024 : Shape := ⟨2, ![8192, 1024]⟩
abbrev S1024x1024 : Shape := ⟨2, ![1024, 1024]⟩
abbrev S8x3x3x1024 : Shape := ⟨4, ![8, 3, 3, 1024]⟩
abbrev S3x2x1024 : Shape := ⟨3, ![3, 2, 1024]⟩
abbrev S1024x5632 : Shape := ⟨2, ![1024, 5632]⟩
abbrev S2816x1024 : Shape := ⟨2, ![2816, 1024]⟩
abbrev S4x3x3x1024 : Shape := ⟨4, ![4, 3, 3, 1024]⟩
abbrev S4x1x3x3x1024 : Shape := ⟨5, ![4, 1, 3, 3, 1024]⟩
abbrev S4x2048x3x3x1024 : Shape := ⟨5, ![4, 2048, 3, 3, 1024]⟩
abbrev S8192x3x3x1024 : Shape := ⟨4, ![8192, 3, 3, 1024]⟩
abbrev S1x1x1024 : Shape := ⟨3, ![1, 1, 1024]⟩
abbrev S1024 : Shape := ⟨1, ![1024]⟩
abbrev S8192x1x1x1024 : Shape := ⟨4, ![8192, 1, 1, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩

abbrev nBuf : Space → Nat
  | .hbm => 104
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S8x3x3x1024, .f32⟩
  | .hbm, ⟨4, _⟩ => ⟨S3x2x1024, .f32⟩
  | .hbm, ⟨5, _⟩ => ⟨S1024x5632, .f32⟩
  | .hbm, ⟨6, _⟩ => ⟨S2816x1024, .f32⟩
  | .hbm, ⟨7, _⟩ => ⟨S4x3x3x1024, .f32⟩
  | .hbm, ⟨8, _⟩ => ⟨S4x1x3x3x1024, .f32⟩
  | .hbm, ⟨9, _⟩ => ⟨S4x2048x3x3x1024, .f32⟩
  | .hbm, ⟨10, _⟩ => ⟨S8192x3x3x1024, .f32⟩
  | .hbm, ⟨11, _⟩ => ⟨S8192x1024, .f32⟩
  | .hbm, ⟨12, _⟩ => ⟨S8192x1024, .f32⟩
  | .hbm, ⟨13, _⟩ => ⟨S1x1x1024, .f32⟩
  | .hbm, ⟨14, _⟩ => ⟨S1024, .f32⟩
  | .hbm, ⟨15, _⟩ => ⟨S8192x1x1x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1x1x1024, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S8192x1x1x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1x1x1024, .f32⟩
  | .hbm, ⟨63, _⟩ => ⟨S8192x1024, .f32⟩
  | .hbm, ⟨64, _⟩ => ⟨S8192x1024, .f32⟩
  | .hbm, ⟨65, _⟩ => ⟨S8192x5632, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S_, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x1024, .f32⟩
  | .hbm, ⟨79, _⟩ => ⟨S1x1x1024, .f32⟩
  | .hbm, ⟨80, _⟩ => ⟨S1024, .f32⟩
  | .hbm, ⟨81, _⟩ => ⟨S8192x1x1x1024, .f32⟩
  | .hbm, ⟨82, _⟩ => ⟨S8192x1024, .f32⟩
  | .hbm, ⟨83, _⟩ => ⟨S_, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S_, .f32⟩
  | .hbm, ⟨91, _⟩ => ⟨S8192x1, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S8192x1, .f32⟩
  | .hbm, ⟨97, _⟩ => ⟨S8192x1024, .f32⟩
  | .hbm, ⟨98, _⟩ => ⟨S8192x1024, .f32⟩
  | .hbm, ⟨99, _⟩ => ⟨S1x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_cst_9 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩

abbrev nD : Nat := 1
abbrev τ : Topo := Topo.v7x

variable {F : FTy → Type} [FloatOps F]
-- ==== FfnFirst.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x5632 : Shape := ⟨2, ![1024, 5632]⟩
abbrev S2816x1024 : Shape := ⟨2, ![2816, 1024]⟩
abbrev S4x2x1024x5632 : Shape := ⟨4, ![4, 2, 1024, 5632]⟩
abbrev S8x1x3x1024 : Shape := ⟨4, ![8, 1, 3, 1024]⟩
abbrev S8x3x1024 : Shape := ⟨3, ![8, 3, 1024]⟩
abbrev S1x2x1024 : Shape := ⟨3, ![1, 2, 1024]⟩
abbrev S2x1024 : Shape := ⟨2, ![2, 1024]⟩
abbrev S1024x1024 : Shape := ⟨2, ![1024, 1024]⟩
abbrev S1x3x1024 : Shape := ⟨3, ![1, 3, 1024]⟩
abbrev S1x1x128x5632 : Shape := ⟨4, ![1, 1, 128, 5632]⟩
abbrev S128x5632 : Shape := ⟨2, ![128, 5632]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 14
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x5632, .f32⟩
  | .hbm, ⟨4, _⟩ => ⟨S2816x1024, .f32⟩
  | .hbm, ⟨5, _⟩ => ⟨S4x2x1024x5632, .f32⟩
  | .hbm, ⟨6, _⟩ => ⟨S8x1x3x1024, .f32⟩
  | .hbm, ⟨7, _⟩ => ⟨S8x3x1024, .f32⟩
  | .hbm, ⟨8, _⟩ => ⟨S1x2x1024, .f32⟩
  | .hbm, ⟨9, _⟩ => ⟨S2x1024, .f32⟩
  | .hbm, ⟨10, _⟩ => ⟨S1024x5632, .bf16⟩
  | .hbm, ⟨11, _⟩ => ⟨S2816x1024, .bf16⟩
  | .hbm, ⟨12, _⟩ => ⟨S8192x1024, .f32⟩
  | .hbm, ⟨13, _⟩ => ⟨S1024x5632, .bf16⟩
  | .local _ .vmem, ⟨0, _⟩ => ⟨S1024x1024, .f32⟩
  | .local _ .vmem, ⟨1, _⟩ => ⟨S1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x128x5632, .f32⟩
  | .local _ .vmem, ⟨8, _⟩ => ⟨S1x1x128x5632, .f32⟩
  | .local _ .vmem, ⟨9, _⟩ => ⟨S1024x1024, .f32⟩
  | .local _ .vmem, ⟨10, _⟩ => ⟨S1024x1024, .f32⟩
  | .local _ .vmem, ⟨11, _⟩ => ⟨S128x5632, .bf16⟩
  | .local _ .vmem, ⟨12, _⟩ => ⟨S128x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFirstRefIdeal.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x5632 : Shape := ⟨2, ![1024, 5632]⟩
abbrev S2816x1024 : Shape := ⟨2, ![2816, 1024]⟩
abbrev S4x2x1024x5632 : Shape := ⟨4, ![4, 2, 1024, 5632]⟩
abbrev S1x3x3x1024 : Shape := ⟨4, ![1, 3, 3, 1024]⟩
abbrev S1x1x3x3x1024 : Shape := ⟨5, ![1, 1, 3, 3, 1024]⟩
abbrev S1x8192x3x3x1024 : Shape := ⟨5, ![1, 8192, 3, 3, 1024]⟩
abbrev S8192x3x3x1024 : Shape := ⟨4, ![8192, 3, 3, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1x1x1024 : Shape := ⟨4, ![8192, 1, 1, 1024]⟩
abbrev S8192x5632 : Shape := ⟨2, ![8192, 5632]⟩
abbrev S8192x2816 : Shape := ⟨2, ![8192, 2816]⟩
abbrev S1x1x1024x5632 : Shape := ⟨4, ![1, 1, 1024, 5632]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x5632, .f32⟩
  | .hbm, ⟨4, _⟩ => ⟨S2816x1024, .f32⟩
  | .hbm, ⟨5, _⟩ => ⟨S4x2x1024x5632, .f32⟩
  | .hbm, ⟨6, _⟩ => ⟨S1x3x3x1024, .f32⟩
  | .hbm, ⟨7, _⟩ => ⟨S1x1x3x3x1024, .f32⟩
  | .hbm, ⟨8, _⟩ => ⟨S1x8192x3x3x1024, .f32⟩
  | .hbm, ⟨9, _⟩ => ⟨S8192x3x3x1024, .f32⟩
  | .hbm, ⟨10, _⟩ => ⟨S1x1x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1x1x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1x1x1024, .f32⟩
  | .hbm, ⟨35, _⟩ => ⟨S8192x1024, .f32⟩
  | .hbm, ⟨36, _⟩ => ⟨S8192x1024, .f32⟩
  | .hbm, ⟨37, _⟩ => ⟨S8192x5632, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x1024, .f32⟩
  | .hbm, ⟨51, _⟩ => ⟨S1x1x1024, .f32⟩
  | .hbm, ⟨52, _⟩ => ⟨S1024, .f32⟩
  | .hbm, ⟨53, _⟩ => ⟨S8192x1x1x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S1x1x1024x5632, .f32⟩
  | .hbm, ⟨77, _⟩ => ⟨S1024x5632, .f32⟩
  | .hbm, ⟨78, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== ProjAttn.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x3072 : Shape := ⟨2, ![1024, 3072]⟩
abbrev S8x1x3x1024 : Shape := ⟨4, ![8, 1, 3, 1024]⟩
abbrev S8x3x1024 : Shape := ⟨3, ![8, 3, 1024]⟩
abbrev S1x2x1024 : Shape := ⟨3, ![1, 2, 1024]⟩
abbrev S2x1024 : Shape := ⟨2, ![2, 1024]⟩
abbrev S512x1024 : Shape := ⟨2, ![512, 1024]⟩
abbrev S1x3x1024 : Shape := ⟨3, ![1, 3, 1024]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x3072, .f32⟩
  | .hbm, ⟨4, _⟩ => ⟨S8x1x3x1024, .f32⟩
  | .hbm, ⟨5, _⟩ => ⟨S8x3x1024, .f32⟩
  | .hbm, ⟨6, _⟩ => ⟨S1x2x1024, .f32⟩
  | .hbm, ⟨7, _⟩ => ⟨S2x1024, .f32⟩
  | .hbm, ⟨8, _⟩ => ⟨S1024x3072, .bf16⟩
  | .hbm, ⟨9, _⟩ => ⟨S8192x1024, .f32⟩
  | .hbm, ⟨10, _⟩ => ⟨S8192x1024, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x3072, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ProjAttnRefIdeal.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x3072 : Shape := ⟨2, ![1024, 3072]⟩
abbrev S1x3x3x1024 : Shape := ⟨4, ![1, 3, 3, 1024]⟩
abbrev S1x1x3x3x1024 : Shape := ⟨5, ![1, 1, 3, 3, 1024]⟩
abbrev S1x8192x3x3x1024 : Shape := ⟨5, ![1, 8192, 3, 3, 1024]⟩
abbrev S8192x3x3x1024 : Shape := ⟨4, ![8192, 3, 3, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1x1x1024 : Shape := ⟨4, ![8192, 1, 1, 1024]⟩
abbrev S8192x3072 : Shape := ⟨2, ![8192, 3072]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x3072, .f32⟩
  | .hbm, ⟨4, _⟩ => ⟨S1x3x3x1024, .f32⟩
  | .hbm, ⟨5, _⟩ => ⟨S1x1x3x3x1024, .f32⟩
  | .hbm, ⟨6, _⟩ => ⟨S1x8192x3x3x1024, .f32⟩
  | .hbm, ⟨7, _⟩ => ⟨S8192x3x3x1024, .f32⟩
  | .hbm, ⟨8, _⟩ => ⟨S1x1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1x1x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1x1024, .f32⟩
  | .hbm, ⟨33, _⟩ => ⟨S8192x1024, .f32⟩
  | .hbm, ⟨34, _⟩ => ⟨S8192x1024, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== ProjGlu.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x2048 : Shape := ⟨2, ![1024, 2048]⟩
abbrev S2048 : Shape := ⟨1, ![2048]⟩
abbrev S8x1x3x1024 : Shape := ⟨4, ![8, 1, 3, 1024]⟩
abbrev S8x3x1024 : Shape := ⟨3, ![8, 3, 1024]⟩
abbrev S1x2x1024 : Shape := ⟨3, ![1, 2, 1024]⟩
abbrev S2x1024 : Shape := ⟨2, ![2, 1024]⟩
abbrev S1x2048 : Shape := ⟨2, ![1, 2048]⟩
abbrev S512x1024 : Shape := ⟨2, ![512, 1024]⟩
abbrev S1x3x1024 : Shape := ⟨3, ![1, 3, 1024]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x2048, .f32⟩
  | .hbm, ⟨4, _⟩ => ⟨S2048, .f32⟩
  | .hbm, ⟨5, _⟩ => ⟨S8x1x3x1024, .f32⟩
  | .hbm, ⟨6, _⟩ => ⟨S8x3x1024, .f32⟩
  | .hbm, ⟨7, _⟩ => ⟨S1x2x1024, .f32⟩
  | .hbm, ⟨8, _⟩ => ⟨S2x1024, .f32⟩
  | .hbm, ⟨9, _⟩ => ⟨S1024x2048, .bf16⟩
  | .hbm, ⟨10, _⟩ => ⟨S1x2048, .f32⟩
  | .hbm, ⟨11, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x2048, .bf16⟩
  | .local _ .vmem, ⟨6, _⟩ => ⟨S1x2048, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjGluRefIdeal.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x2048 : Shape := ⟨2, ![1024, 2048]⟩
abbrev S2048 : Shape := ⟨1, ![2048]⟩
abbrev S1x3x3x1024 : Shape := ⟨4, ![1, 3, 3, 1024]⟩
abbrev S1x1x3x3x1024 : Shape := ⟨5, ![1, 1, 3, 3, 1024]⟩
abbrev S1x8192x3x3x1024 : Shape := ⟨5, ![1, 8192, 3, 3, 1024]⟩
abbrev S8192x3x3x1024 : Shape := ⟨4, ![8192, 3, 3, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1x1x1024 : Shape := ⟨4, ![8192, 1, 1, 1024]⟩
abbrev S8192x2048 : Shape := ⟨2, ![8192, 2048]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x2048, .f32⟩
  | .hbm, ⟨4, _⟩ => ⟨S2048, .f32⟩
  | .hbm, ⟨5, _⟩ => ⟨S1x3x3x1024, .f32⟩
  | .hbm, ⟨6, _⟩ => ⟨S1x1x3x3x1024, .f32⟩
  | .hbm, ⟨7, _⟩ => ⟨S1x8192x3x3x1024, .f32⟩
  | .hbm, ⟨8, _⟩ => ⟨S8192x3x3x1024, .f32⟩
  | .hbm, ⟨9, _⟩ => ⟨S1x1x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1x1x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1x1x1024, .f32⟩
  | .hbm, ⟨34, _⟩ => ⟨S8192x1024, .f32⟩
  | .hbm, ⟨35, _⟩ => ⟨S8192x1024, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== ProjPair.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x3072 : Shape := ⟨2, ![1024, 3072]⟩
abbrev S8x1x3x1024 : Shape := ⟨4, ![8, 1, 3, 1024]⟩
abbrev S8x3x1024 : Shape := ⟨3, ![8, 3, 1024]⟩
abbrev S1x2x1024 : Shape := ⟨3, ![1, 2, 1024]⟩
abbrev S2x1024 : Shape := ⟨2, ![2, 1024]⟩
abbrev S512x1024 : Shape := ⟨2, ![512, 1024]⟩
abbrev S1x3x1024 : Shape := ⟨3, ![1, 3, 1024]⟩
abbrev S3x1024 : Shape := ⟨2, ![3, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x3072, .f32⟩
  | .hbm, ⟨4, _⟩ => ⟨S8x1x3x1024, .f32⟩
  | .hbm, ⟨5, _⟩ => ⟨S8x3x1024, .f32⟩
  | .hbm, ⟨6, _⟩ => ⟨S1x2x1024, .f32⟩
  | .hbm, ⟨7, _⟩ => ⟨S2x1024, .f32⟩
  | .hbm, ⟨8, _⟩ => ⟨S1024x3072, .bf16⟩
  | .hbm, ⟨9, _⟩ => ⟨S8192x1024, .f32⟩
  | .hbm, ⟨10, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S2x1024, .f32⟩
  | .local _ .vmem, ⟨5, _⟩ => ⟨S1024x3072, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let v18 : BitVec 32 := Scalar.addi c0_i32_4 v17
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjPairRefIdeal.lean ====
abbrev S8192x1024 : Shape := ⟨2, ![8192, 1024]⟩
abbrev S8x3x3x1024 : Shape := ⟨4, ![8, 3, 3, 1024]⟩
abbrev S3x2x1024 : Shape := ⟨3, ![3, 2, 1024]⟩
abbrev S1024x3072 : Shape := ⟨2, ![1024, 3072]⟩
abbrev S1x3x3x1024 : Shape := ⟨4, ![1, 3, 3, 1024]⟩
abbrev S1x1x3x3x1024 : Shape := ⟨5, ![1, 1, 3, 3, 1024]⟩
abbrev S1x8192x3x3x1024 : Shape := ⟨5, ![1, 8192, 3, 3, 1024]⟩
abbrev S8192x3x3x1024 : Shape := ⟨4, ![8192, 3, 3, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1x1x1024 : Shape := ⟨4, ![8192, 1, 1, 1024]⟩
abbrev S8192x3072 : Shape := ⟨2, ![8192, 3072]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x3x3x1024, .f32⟩
  | .hbm, ⟨2, _⟩ => ⟨S3x2x1024, .f32⟩
  | .hbm, ⟨3, _⟩ => ⟨S1024x3072, .f32⟩
  | .hbm, ⟨4, _⟩ => ⟨S1x3x3x1024, .f32⟩
  | .hbm, ⟨5, _⟩ => ⟨S1x1x3x3x1024, .f32⟩
  | .hbm, ⟨6, _⟩ => ⟨S1x8192x3x3x1024, .f32⟩
  | .hbm, ⟨7, _⟩ => ⟨S8192x3x3x1024, .f32⟩
  | .hbm, ⟨8, _⟩ => ⟨S1x1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1x1x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1x1024, .f32⟩
  | .hbm, ⟨33, _⟩ => ⟨S8192x1024, .f32⟩
  | .hbm, ⟨34, _⟩ => ⟨S8192x1024, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Attention.lean ====
abbrev S8192x1024 : Shape := ⟨2, ![8192, 1024]⟩
abbrev S4x64 : Shape := ⟨2, ![4, 64]⟩
abbrev S128 : Shape := ⟨1, ![128]⟩
abbrev S1x128 : Shape := ⟨2, ![1, 128]⟩
abbrev S256x1024 : Shape := ⟨2, ![256, 1024]⟩
abbrev S8x256x128 : Shape := ⟨3, ![8, 256, 128]⟩
abbrev S8x128x256 : Shape := ⟨3, ![8, 128, 256]⟩
abbrev S256x128 : Shape := ⟨2, ![256, 128]⟩
abbrev S1x256x128 : Shape := ⟨3, ![1, 256, 128]⟩
abbrev S128x256 : Shape := ⟨2, ![128, 256]⟩
abbrev S1x128x256 : Shape := ⟨3, ![1, 128, 256]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S4x64x256 : Shape := ⟨3, ![4, 64, 256]⟩
abbrev S64x256 : Shape := ⟨2, ![64, 256]⟩
abbrev S4x16x256 : Shape := ⟨3, ![4, 16, 256]⟩
abbrev S16x256 : Shape := ⟨2, ![16, 256]⟩
abbrev S2x8x256 : Shape := ⟨3, ![2, 8, 256]⟩
abbrev S8x256 : Shape := ⟨2, ![8, 256]⟩
abbrev S256 : Shape := ⟨1, ![256]⟩
abbrev S1x256 : Shape := ⟨2, ![1, 256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x64, .f32⟩
  | .hbm, ⟨4, _⟩ => ⟨S128, .f32⟩
  | .hbm, ⟨5, _⟩ => ⟨S1x128, .f32⟩
  | .hbm, ⟨6, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x64, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S8x256x128, .bf16⟩
  | .local _ .vmem, ⟨11, _⟩ => ⟨S8x128x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttentionRefIdeal.lean ====
abbrev S8192x1024 : Shape := ⟨2, ![8192, 1024]⟩
abbrev S4x64 : Shape := ⟨2, ![4, 64]⟩
abbrev S128 : Shape := ⟨1, ![128]⟩
abbrev S32x256x8x2x64 : Shape := ⟨5, ![32, 256, 8, 2, 64]⟩
abbrev S32x256x8x128 : Shape := ⟨4, ![32, 256, 8, 128]⟩
abbrev S1x64 : Shape := ⟨2, ![1, 64]⟩
abbrev S64 : Shape := ⟨1, ![64]⟩
abbrev S_ : Shape := ⟨0, ![]⟩
abbrev S32x8x2x256x256 : Shape := ⟨5, ![32, 8, 2, 256, 256]⟩
abbrev S32x8x2x256 : Shape := ⟨4, ![32, 8, 2, 256]⟩
abbrev S32x8x2x256x1 : Shape := ⟨5, ![32, 8, 2, 256, 1]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S32x256x8 : Shape := ⟨3, ![32, 256, 8]⟩
abbrev S32x256x8x1 : Shape := ⟨4, ![32, 256, 8, 1]⟩
abbrev S1x1x1x128 : Shape := ⟨4, ![1, 1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S4x64, .f32⟩
  | .hbm, ⟨4, _⟩ => ⟨S128, .f32⟩
  | .hbm, ⟨5, _⟩ => ⟨S32x256x8x2x64, .f32⟩
  | .hbm, ⟨6, _⟩ => ⟨S32x256x8x2x64, .f32⟩
  | .hbm, ⟨7, _⟩ => ⟨S32x256x8x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x8x2x256x256, .f32⟩
  | .hbm, ⟨28, _⟩ => ⟨S_, .f32⟩
  | .hbm, ⟨29, _⟩ => ⟨S32x8x2x256x256, .f32⟩
  | .hbm, ⟨30, _⟩ => ⟨S32x8x2x256x256, .f32⟩
  | .hbm, ⟨31, _⟩ => ⟨S_, .f32⟩
  | .hbm, ⟨32, _⟩ => ⟨S32x8x2x256, .f32⟩
  | .hbm, ⟨33, _⟩ => ⟨S_, .f32⟩
  | .hbm, ⟨34, _⟩ => ⟨S32x8x2x256, .f32⟩
  | .hbm, ⟨35, _⟩ => ⟨S32x8x2x256, .f32⟩
  | .hbm, ⟨36, _⟩ => ⟨S32x8x2x256x1, .f32⟩
  | .hbm, ⟨37, _⟩ => ⟨S32x8x2x256x256, .f32⟩
  | .hbm, ⟨38, _⟩ => ⟨S32x8x2x256x256, .f32⟩
  | .hbm, ⟨39, _⟩ => ⟨S32x8x2x256x256, .f32⟩
  | .hbm, ⟨40, _⟩ => ⟨S_, .f32⟩
  | .hbm, ⟨41, _⟩ => ⟨S32x8x2x256, .f32⟩
  | .hbm, ⟨42, _⟩ => ⟨S32x8x2x256x1, .f32⟩
  | .hbm, ⟨43, _⟩ => ⟨S32x8x2x256x256, .f32⟩
  | .hbm, ⟨44, _⟩ => ⟨S32x8x2x256x256, .f32⟩
  | .hbm, ⟨45, _⟩ => ⟨S32x8x1x256x256, .f32⟩
  | .hbm, ⟨46, _⟩ => ⟨S32x8x256x256, .f32⟩
  | .hbm, ⟨47, _⟩ => ⟨S32x8x1x256x256, .f32⟩
  | .hbm, ⟨48, _⟩ => ⟨S32x8x256x256, .f32⟩
  | .hbm, ⟨49, _⟩ => ⟨S32x8x256x256, .f32⟩
  | .hbm, ⟨50, _⟩ => ⟨S32x8x256x256, .f32⟩
  | .hbm, ⟨51, _⟩ => ⟨S32x8x256x256, .f32⟩
  | .hbm, ⟨52, _⟩ => ⟨S32x8x128x256, .f32⟩
  | .hbm, ⟨53, _⟩ => ⟨S32x256x8x128, .f32⟩
  | .hbm, ⟨54, _⟩ => ⟨S32x256x8x128, .f32⟩
  | .hbm, ⟨55, _⟩ => ⟨S_, .f32⟩
  | .hbm, ⟨56, _⟩ => ⟨S32x256x8, .f32⟩
  | .hbm, ⟨57, _⟩ => ⟨S32x256x8x1, .f32⟩
  | .hbm, ⟨58, _⟩ => ⟨S_, .f32⟩
  | .hbm, ⟨59, _⟩ => ⟨S32x256x8x1, .f32⟩
  | .hbm, ⟨60, _⟩ => ⟨S32x256x8x1, .f32⟩
  | .hbm, ⟨61, _⟩ => ⟨S_, .f32⟩
  | .hbm, ⟨62, _⟩ => ⟨S32x256x8x1, .f32⟩
  | .hbm, ⟨63, _⟩ => ⟨S32x256x8x1, .f32⟩
  | .hbm, ⟨64, _⟩ => ⟨S32x256x8x1, .f32⟩
  | .hbm, ⟨65, _⟩ => ⟨S32x256x8x128, .f32⟩
  | .hbm, ⟨66, _⟩ => ⟨S32x256x8x128, .f32⟩
  | .hbm, ⟨67, _⟩ => ⟨S1x1x1x128, .f32⟩
  | .hbm, ⟨68, _⟩ => ⟨S32x256x8x128, .f32⟩
  | .hbm, ⟨69, _⟩ => ⟨S32x256x8x128, .f32⟩
  | .hbm, ⟨70, _⟩ => ⟨S_, .f32⟩
  | .hbm, ⟨71, _⟩ => ⟨S32x256x8x128, .f32⟩
  | .hbm, ⟨72, _⟩ => ⟨S32x256x8x128, .f32⟩
  | .hbm, ⟨73, _⟩ => ⟨S8192x1024, .f32⟩
  | .hbm, ⟨74, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== Proof.Chain.lean ====
/-
  One chain of the kernel's loop (a head, a direction) as functions of the blocks it reads, over any float
  instance: the running sums of the log gates, the score matrix assembled from the seven levels and the
  diagonal, the output of a chunk and the state it hands on.
-/
module

public import proofs.«01_k».proof.Proof.Gen.KernelIdeal.Skeleton

@[expose] public section

set_option maxRecDepth 16384

noncomputable section

namespace Cert.KernelIdeal.Hgrn

open Cert.KernelIdeal Cert.KernelIdeal.Gen
open Idealize.ShloMosaic Idealize.ShloMosaic.TcCoe

variable {F : FTy → Type} [FloatOps F]

/-- A matrix product of two 128×128 factors, accumulated from zero. -/
def mm (a b : FVec F S128x128 .bf16) : FVec F S128x128 .f32 :=
  matmul dot_S128x128_S128x128_S128x128_1_0_0_1_n_n none a b (constant S128x128 .f32 0x00000000#32)

/-- The same with the right factor transposed. -/
def mmT (a b : FVec F S128x128 .bf16) : FVec F S128x128 .f32 :=
  matmul dot_S128x128_S128x128_S128x128_1_1_0_0_n_n none a b (constant S128x128 .f32 0x00000000#32)

/-- A matrix of single-precision numbers rounded to bfloat16. -/
def rnd (x : FVec F S128x128 .f32) : FVec F S128x128 .bf16 := truncf .bf16 x bitsLt_bf16_f32

/-- What rounding to bfloat16 takes away. -/
def rest (x : FVec F S128x128 .f32) : FVec F S128x128 .f32 := subf x (extf .f32 (rnd x) bitsLt_bf16_f32)

/-- The product of a 0/1 matrix with the log gates, the gates split into three bfloat16 parts. -/
def sums (tri : FVec F S128x128 .bf16) (x : FVec F S128x128 .f32) : FVec F S128x128 .f32 :=
  addf (addf (mm tri (rnd x)) (mm tri (rnd (rest x)))) (mm tri (rnd (rest (rest x))))

/-- The state a chunk hands on: the old one decayed by the chunk's whole gate, plus the chunk's outer products. -/
def handOn (b : FVec F S128x128 .f32) (bl : FVec F S1x128 .f32) (k v : FVec F S128x128 .f32)
    (st : FVec F S1x128x128 .f32) : FVec F S128x128 .f32 :=
  addf (mulf (shapeCast S128x128 st shapeCasts_S1x128x128_S128x128)
      (broadcastTo S128x128 (exp bl) broadcasts_S1x128_S128x128))
    (mm (rnd (transpose S128x128 [1, 0] v transposes_S128x128_p1_0_S128x128))
      (rnd (mulf k (exp (subf (broadcastTo S128x128 bl broadcasts_S1x128_S128x128) b)))))

/-- The part of a chunk's output that reads the old state. -/
def fromState (b q : FVec F S128x128 .f32) (st : FVec F S1x128x128 .f32) : FVec F S128x128 .f32 :=
  mmT (rnd (mulf q (exp b))) (rnd (shapeCast S128x128 st shapeCasts_S1x128x128_S128x128))

/-- Queries and keys of one level, each decayed to the boundary `B`; `side` is +1 on the rows of queries and −1
    on those of keys. -/
def zed (side B b q k : FVec F S128x128 .f32) : FVec F S128x128 .bf16 :=
  rnd (mulf (select (cmpf .ogt side (broadcast S128x128 (Scalar.ofBits .f32 0x00000000#32))) q k)
    (exp (mulf (subf b B) side)))

/-- The scores of one level, both factors in one matrix. -/
def gram (side B b q k : FVec F S128x128 .f32) : FVec F S128x128 .f32 :=
  mmT (zed side B b q k) (zed side B b q k)

/-- The diagonal scores, everything else zero. -/
def diag (lv : IVec S128x128 32) (q k : FVec F S128x128 .f32) : FVec F S128x128 .f32 :=
  select (cmpi .eq lv (broadcast S128x128 4294967295#32))
    (broadcastTo S128x128
      (shapeCast S128x1
        (shapeCast S128x1 (multiReduction .add [1] S128 (mulf q k) 0x00000000#32 reduces_S128x128_S128 (.inl rfl) rfl)
          shapeCasts_S128_S128x1) shapeCasts_S128x1_S128x1) broadcasts_S128x1_S128x128)
    (broadcast S128x128 (Scalar.ofBits .f32 0x00000000#32))

/-- `x` where the level is `n`, `y` elsewhere. -/
def at' (lv : IVec S128x128 32) (n : BitVec 32) (x y : FVec F S128x128 .f32) : FVec F S128x128 .f32 :=
  select (cmpi .eq lv (broadcast S128x128 n)) x y

/-- One row of every group of `b`, repeated over the group. -/
def rowOf (G R : Shape) (off : Fin G.rank → Nat) (h : S128x128.ShapeCasts G) (hs : G.Slices off R) (hr : R.ShapeCasts R)
    (hb : R.Broadcasts G) (b : FVec F S128x128 .f32) : FVec F G .f32 :=
  broadcastTo G (shapeCast R (extractStridedSlice R off (shapeCast G b h) hs) hr) hb

/-- Row `r` of every group of eight. -/
abbrev row8 (r : Nat) (hs : S16x8x128.Slices ![0, r, 0] S16x1x128) (b : FVec F S128x128 .f32) : FVec F S16x8x128 .f32 :=
  rowOf S16x8x128 S16x1x128 ![0, r, 0] shapeCasts_S128x128_S16x8x128 hs shapeCasts_S16x1x128_S16x1x128
    broadcasts_S16x1x128_S16x8x128 b

/-- `x` on the rows of a group of eight from `n` on, `y` before. -/
def from8 (n : BitVec 32) (x y : FVec F S16x8x128 .f32) : FVec F S16x8x128 .f32 :=
  select (cmpi .sge (iota .tc S16x8x128 32 [1] iota_S16x8x128_d1_w32) (broadcast S16x8x128 n)) x y

/-- The boundary row of every pair, from the four candidates in a group of eight. -/
def pairs (r0 r1 r2 r3 : FVec F S16x8x128 .f32) : FVec F S128x128 .f32 :=
  shapeCast S128x128 (from8 6#32 r3 (from8 4#32 r2 (from8 2#32 r1 r0))) shapeCasts_S16x8x128_S128x128

/-- The boundary row of every four, from the two candidates in a group of eight. -/
def quads (r0 r1 : FVec F S16x8x128 .f32) : FVec F S128x128 .f32 :=
  shapeCast S128x128 (from8 4#32 r1 r0) shapeCasts_S16x8x128_S128x128

/-! ## Forward: the boundary of a block is the last row of its first half -/

def fB0 (b : FVec F S128x128 .f32) : FVec F S128x128 .f32 :=
  pairs (row8 0 slices_S16x8x128_o0_0_0_S16x1x128 b) (row8 2 slices_S16x8x128_o0_2_0_S16x1x128 b)
    (row8 4 slices_S16x8x128_o0_4_0_S16x1x128 b) (row8 6 slices_S16x8x128_o0_6_0_S16x1x128 b)
def fB1 (b : FVec F S128x128 .f32) : FVec F S128x128 .f32 :=
  quads (row8 1 slices_S16x8x128_o0_1_0_S16x1x128 b) (row8 5 slices_S16x8x128_o0_5_0_S16x1x128 b)
def fB2 (b : FVec F S128x128 .f32) : FVec F S128x128 .f32 :=
  shapeCast S128x128 (row8 3 slices_S16x8x128_o0_3_0_S16x1x128 b) shapeCasts_S16x8x128_S128x128
def fB3 (b : FVec F S128x128 .f32) : FVec F S128x128 .f32 :=
  shapeCast S128x128 (rowOf S8x16x128 S8x1x128 ![0, 7, 0] shapeCasts_S128x128_S8x16x128
    slices_S8x16x128_o0_7_0_S8x1x128 shapeCasts_S8x1x128_S8x1x128 broadcasts_S8x1x128_S8x16x128 b) shapeCasts_S8x16x128_S128x128
def fB4 (b : FVec F S128x128 .f32) : FVec F S128x128 .f32 :=
  shapeCast S128x128 (rowOf S4x32x128 S4x1x128 ![0, 15, 0] shapeCasts_S128x128_S4x32x128
    slices_S4x32x128_o0_15_0_S4x1x128 shapeCasts_S4x1x128_S4x1x128 broadcasts_S4x1x128_S4x32x128 b) shapeCasts_S4x32x128_S128x128
def fB5 (b : FVec F S128x128 .f32) : FVec F S128x128 .f32 :=
  shapeCast S128x128 (rowOf S2x64x128 S2x1x128 ![0, 31, 0] shapeCasts_S128x128_S2x64x128
    slices_S2x64x128_o0_31_0_S2x1x128 shapeCasts_S2x1x128_S2x1x128 broadcasts_S2x1x128_S2x64x128 b) shapeCasts_S2x64x128_S128x128
def fB6 (b : FVec F S128x128 .f32) : FVec F S128x128 .f32 :=
  shapeCast S128x128 (rowOf S1x128x128 S1x1x128 ![0, 63, 0] shapeCasts_S128x128_S1x128x128
    slices_S1x128x128_o0_63_0_S1x1x128 shapeCasts_S1x1x128_S1x1x128 broadcasts_S1x1x128_S1x128x128 b) shapeCasts_S1x128x128_S128x128

/-! ## Backward: the boundary of a block is the first row of its second half -/

def gB0 (b : FVec F S128x128 .f32) : FVec F S128x128 .f32 :=
  pairs (row8 1 slices_S16x8x128_o0_1_0_S16x1x128 b) (row8 3 slices_S16x8x128_o0_3_0_S16x1x128 b)
    (row8 5 slices_S16x8x128_o0_5_0_S16x1x128 b) (row8 7 slices_S16x8x128_o0_7_0_S16x1x128 b)
def gB1 (b : FVec F S128x128 .f32) : FVec F S128x128 .f32 :=
  quads (row8 2 slices_S16x8x128_o0_2_0_S16x1x128 b) (row8 6 slices_S16x8x128_o0_6_0_S16x1x128 b)
def gB2 (b : FVec F S128x128 .f32) : FVec F S128x128 .f32 :=
  shapeCast S128x128 (row8 4 slices_S16x8x128_o0_4_0_S16x1x128 b) shapeCasts_S16x8x128_S128x128
def gB3 (b : FVec F S128x128 .f32) : FVec F S128x128 .f32 :=
  shapeCast S128x128 (rowOf S8x16x128 S8x1x128 ![0, 8, 0] shapeCasts_S128x128_S8x16x128
    slices_S8x16x128_o0_8_0_S8x1x128 shapeCasts_S8x1x128_S8x1x128 broadcasts_S8x1x128_S8x16x128 b) shapeCasts_S8x16x128_S128x128
def gB4 (b : FVec F S128x128 .f32) : FVec F S128x128 .f32 :=
  shapeCast S128x128 (rowOf S4x32x128 S4x1x128 ![0, 16, 0] shapeCasts_S128x128_S4x32x128
    slices_S4x32x128_o0_16_0_S4x1x128 shapeCasts_S4x1x128_S4x1x128 broadcasts_S4x1x128_S4x32x128 b) shapeCasts_S4x32x128_S128x128
def gB5 (b : FVec F S128x128 .f32) : FVec F S128x128 .f32 :=
  shapeCast S128x128 (rowOf S2x64x128 S2x1x128 ![0, 32, 0] shapeCasts_S128x128_S2x64x128
    slices_S2x64x128_o0_32_0_S2x1x128 shapeCasts_S2x1x128_S2x1x128 broadcasts_S2x1x128_S2x64x128 b) shapeCasts_S2x64x128_S128x128
def gB6 (b : FVec F S128x128 .f32) : FVec F S128x128 .f32 :=
  shapeCast S128x128 (rowOf S1x128x128 S1x1x128 ![0, 64, 0] shapeCasts_S128x128_S1x128x128
    slices_S1x128x128_o0_64_0_S1x1x128 shapeCasts_S1x1x128_S1x1x128 broadcasts_S1x1x128_S1x128x128 b) shapeCasts_S1x128x128_S128x128

/-! ## A chunk -/

/-- The scores: each pair of rows read at its own level, the diagonal at level −1, zero at level −2. -/
def score (lv : IVec S128x128 32) (q k g0 g1 g2 g3 g4 g5 g6 : FVec F S128x128 .f32) : FVec F S128x128 .f32 :=
  at' lv 6#32 g6 (at' lv 5#32 g5 (at' lv 4#32 g4 (at' lv 3#32 g3 (at' lv 2#32 g2 (at' lv 1#32 g1 (at' lv 0#32 g0 (diag lv q k)))))))

/-- A chunk's output from its scores. -/
def outOf (b q v : FVec F S128x128 .f32) (st : FVec F S1x128x128 .f32) (sc : FVec F S128x128 .f32) : FVec F S128x128 .f32 :=
  addf (fromState b q st) (mm (rnd sc) (rnd v))

/-- The scores of a forward chunk with running sums `b`. -/
def fScore (lv : IVec S128x128 32) (m0 m1 m2 m3 m4 m5 m6 : FVec F S128x128 .f32) (b q k : FVec F S128x128 .f32) : FVec F S128x128 .f32 :=
  score lv q k (gram m0 (fB0 b) b q k) (gram m1 (fB1 b) b q k) (gram m2 (fB2 b) b q k) (gram m3 (fB3 b) b q k)
    (gram m4 (fB4 b) b q k) (gram m5 (fB5 b) b q k) (gram m6 (fB6 b) b q k)

/-- The scores of a backward chunk with running sums `b`. -/
def gScore (lv : IVec S128x128 32) (m0 m1 m2 m3 m4 m5 m6 : FVec F S128x128 .f32) (b q k : FVec F S128x128 .f32) : FVec F S128x128 .f32 :=
  score lv q k (gram m0 (gB0 b) b q k) (gram m1 (gB1 b) b q k) (gram m2 (gB2 b) b q k) (gram m3 (gB3 b) b q k)
    (gram m4 (gB4 b) b q k) (gram m5 (gB5 b) b q k) (gram m6 (gB6 b) b q k)

/-- Last row of a matrix of running sums. -/
def lastRow (b : FVec F S128x128 .f32) : FVec F S1x128 .f32 := extractStridedSlice S1x128 ![127, 0] b slices_S128x128_o127_0_S1x128
/-- First row of a matrix of running sums. -/
def firstRow (b : FVec F S128x128 .f32) : FVec F S1x128 .f32 := extractStridedSlice S1x128 ![0, 0] b slices_S128x128_o0_0_S1x128

/-- A forward chunk's output: queries, keys, values, log gates, the state before the chunk. -/
def fOut (tri : FVec F S128x128 .bf16) (lv : IVec S128x128 32) (m0 m1 m2 m3 m4 m5 m6 : FVec F S128x128 .f32)
    (q k v lf : FVec F S128x128 .f32) (st : FVec F S1x128x128 .f32) : FVec F S128x128 .f32 :=
  outOf (sums tri lf) q v st (fScore lv m0 m1 m2 m3 m4 m5 m6 (sums tri lf) q k)
/-- The state a forward chunk hands on. -/
def fState (tri : FVec F S128x128 .bf16) (k v lf : FVec F S128x128 .f32) (st : FVec F S1x128x128 .f32) : FVec F S128x128 .f32 :=
  handOn (sums tri lf) (lastRow (sums tri lf)) k v st
/-- A backward chunk's output. -/
def gOut (tri : FVec F S128x128 .bf16) (lv : IVec S128x128 32) (m0 m1 m2 m3 m4 m5 m6 : FVec F S128x128 .f32)
    (q k v lf : FVec F S128x128 .f32) (st : FVec F S1x128x128 .f32) : FVec F S128x128 .f32 :=
  outOf (sums tri lf) q v st (gScore lv m0 m1 m2 m3 m4 m5 m6 (sums tri lf) q k)
/-- The state a backward chunk hands on. -/
def gState (tri : FVec F S128x128 .bf16) (k v lf : FVec F S128x128 .f32) (st : FVec F S1x128x128 .f32) : FVec F S128x128 .f32 :=
  handOn (sums tri lf) (firstRow (sums tri lf)) k v st

/-- A matrix stored as one plane of a stack. -/
def plane (x : FVec F S128x128 .f32) : FVec F S1x128x128 .f32 := shapeCast S1x128x128 x shapeCasts_S128x128_S1x128x128
/-- A matrix stored as it is. -/
def same (x : FVec F S128x128 .f32) : FVec F S128x128 .f32 := shapeCast S128x128 x shapeCasts_S128x128_S128x128

end Cert.KernelIdeal.Hgrn
-- ==== Proof.Chunks.lean ====
/-
  The kernel's grid point as functions of the blocks it reads: each head's two states after each of the two chunks,
  each chunk's output, and the two blocks written back.
-/
module

public import proofs.«01_k».proof.Proof.Chain
public import Idealize.ShloMosaic.Lib.Pointwise

@[expose] public section

set_option maxRecDepth 16384

noncomputable section

namespace Cert.KernelIdeal.Hgrn

open Cert.KernelIdeal Cert.KernelIdeal.Gen
open Idealize.ShloMosaic Idealize.ShloMosaic.TcCoe

/-- The row of an entry of a table lies below the number of rows. -/
theorem lt0 {a b : ℕ} (j : (⟨2, ![a, b]⟩ : Shape).Idx) : (j 0).val < a := (j 0).isLt

/-- The column of an entry of a table lies below the number of columns. -/
theorem lt1 {a b : ℕ} (j : (⟨2, ![a, b]⟩ : Shape).Idx) : (j 1).val < b := (j 1).isLt

variable {F : FTy → Type} [FloatOps F]

/-- What one direction's chains share: the triangle of ones, the level of each pair of rows, and for each level the
    sign of each row. -/
structure Par (F : FTy → Type) where
  tri : FVec F S128x128 .bf16
  lv : IVec S128x128 32
  m0 : FVec F S128x128 .f32
  m1 : FVec F S128x128 .f32
  m2 : FVec F S128x128 .f32
  m3 : FVec F S128x128 .f32
  m4 : FVec F S128x128 .f32
  m5 : FVec F S128x128 .f32
  m6 : FVec F S128x128 .f32

/-- Row numbers. -/
def rowIx : IVec S128x128 32 := iota .tc S128x128 32 [0] iota_S128x128_d0_w32
/-- Column numbers. -/
def colIx : IVec S128x128 32 := iota .tc S128x128 32 [1] iota_S128x128_d1_w32
/-- The highest bit in which row and column number differ; −1 on the diagonal. -/
def parted : IVec S128x128 32 := subi (broadcast S128x128 31#32) (ctlz (xori rowIx colIx))
/-- +1 on the rows whose number has the bits of `n`, −1 on the others. -/
def side (n : BitVec 32) : FVec F S128x128 .f32 :=
  select (cmpi .ne (andi rowIx (broadcast S128x128 n)) (broadcast S128x128 0#32))
    (broadcast S128x128 (Scalar.ofBits .f32 0x3F800000#32)) (broadcast S128x128 (Scalar.ofBits .f32 0xBF800000#32))
/-- The other sign. -/
def oside (n : BitVec 32) : FVec F S128x128 .f32 :=
  subf (broadcast S128x128 (Scalar.ofBits .f32 0x00000000#32)) (side n)
/-- Ones where `p` holds, zeros elsewhere. -/
def ones (p : IVec S128x128 1) : FVec F S128x128 .bf16 :=
  truncf .bf16 (select p (broadcast S128x128 (Scalar.ofBits .f32 0x3F800000#32))
    (broadcast S128x128 (Scalar.ofBits .f32 0x00000000#32))) bitsLt_bf16_f32
/-- The pair's level where `p` holds, −2 elsewhere. -/
def levels (p : IVec S128x128 1) : IVec S128x128 32 := select p parted (broadcast S128x128 4294967294#32)

/-- The forward direction: a row sees the rows up to itself. -/
def fwd : Par F where
  tri := ones (cmpi .sle colIx rowIx)
  lv := levels (cmpi .sle colIx rowIx)
  m0 := side 1#32
  m1 := side 2#32
  m2 := side 4#32
  m3 := side 8#32
  m4 := side 16#32
  m5 := side 32#32
  m6 := side 64#32

/-- The backward direction: a row sees the rows from itself on. -/
def bwd : Par F where
  tri := ones (cmpi .sge colIx rowIx)
  lv := levels (cmpi .sge colIx rowIx)
  m0 := oside 1#32
  m1 := oside 2#32
  m2 := oside 4#32
  m3 := oside 8#32
  m4 := oside 16#32
  m5 := oside 32#32
  m6 := oside 64#32

/-- A forward chunk's output with the shared matrices `P`. -/
def fO (P : Par F) (q k v lf st : FVec F S128x128 .f32) : FVec F S128x128 .f32 :=
  same (fOut P.tri P.lv P.m0 P.m1 P.m2 P.m3 P.m4 P.m5 P.m6 q k v lf (plane st))
/-- A forward chunk's state handed on. -/
def fS (P : Par F) (k v lf st : FVec F S128x128 .f32) : FVec F S128x128 .f32 := fState P.tri k v lf (plane st)
/-- A backward chunk's output. -/
def gO (P : Par F) (q k v lf st : FVec F S128x128 .f32) : FVec F S128x128 .f32 :=
  same (gOut P.tri P.lv P.m0 P.m1 P.m2 P.m3 P.m4 P.m5 P.m6 q k v lf (plane st))
/-- A backward chunk's state handed on. -/
def gS (P : Par F) (k v lf st : FVec F S128x128 .f32) : FVec F S128x128 .f32 := gState P.tri k v lf (plane st)

/-- Chunk `a` of head `h` of a block: 128 rows, 128 columns. -/
def slab (x : Vec F S256x512 .f32) (a : ℕ) (h : Fin 4) : FVec F S128x128 .f32 := fun j =>
  x (ix2 ⟨(128 * a + (j 0).val) % 256, Nat.mod_lt _ (by omega)⟩
    ⟨128 * h.val + (j 1).val, by have := (j 1).isLt; have := h.isLt; simp at *; omega⟩)

/-- Head `h` of a block: all rows, 128 columns. -/
def cols (x : Vec F S256x512 .f32) (h : Fin 4) : FVec F S256x128 .f32 := fun j =>
  x (ix2 ⟨(j 0).val, (j 0).isLt⟩ ⟨128 * h.val + (j 1).val, by have := (j 1).isLt; have := h.isLt; simp at *; omega⟩)

/-- Plane `h` of a stack of four. -/
def pl (y : Vec F S4x128x128 .f32) (h : Fin 4) : FVec F S1x128x128 .f32 := fun j =>
  y (ix3 h ⟨(j 1).val, (j 1).isLt⟩ ⟨(j 2).val, (j 2).isLt⟩)

/-- The state before the first chunk. -/
def zero128 : FVec F S128x128 .f32 := broadcast S128x128 (Scalar.ofBits .f32 0x00000000#32)

/-- Head `h`'s forward state before chunk `n` (stored transposed: values by keys). -/
def stF (P : Par F) (x3 x4 x7 : Vec F S256x512 .f32) (h : Fin 4) : ℕ → FVec F S128x128 .f32
  | 0 => zero128
  | n + 1 => fS P (slab x4 n h) (slab x7 n h) (slab x3 n h) (stF P x3 x4 x7 h n)

/-- Head `h`'s backward state after `n` chunks, the last first. -/
def stB (P : Par F) (x5 x6 x7 : Vec F S256x512 .f32) (h : Fin 4) : ℕ → FVec F S128x128 .f32
  | 0 => zero128
  | n + 1 => gS P (slab x6 (1 - n) h) (slab x7 (1 - n) h) (slab x5 (1 - n) h) (stB P x5 x6 x7 h n)

/-- Head `h`'s forward output of chunk `n`. -/
def ouF (P : Par F) (x2 x3 x4 x7 : Vec F S256x512 .f32) (h : Fin 4) (n : ℕ) : FVec F S128x128 .f32 :=
  fO P (slab x2 n h) (slab x4 n h) (slab x7 n h) (slab x3 n h) (stF P x3 x4 x7 h n)

/-- Head `h`'s backward output of chunk `1 − n`. -/
def ouB (P : Par F) (x2 x5 x6 x7 : Vec F S256x512 .f32) (h : Fin 4) (n : ℕ) : FVec F S128x128 .f32 :=
  gO P (slab x2 (1 - n) h) (slab x6 (1 - n) h) (slab x7 (1 - n) h) (slab x5 (1 - n) h) (stB P x5 x6 x7 h n)

/-- Two chunks one above the other. -/
def stack (o0 o1 : FVec F S128x128 .f32) : FVec F S256x128 .f32 := fun j =>
  if (j 0).val < 128 then o0 (ix2 ⟨(j 0).val % 128, Nat.mod_lt _ (by omega)⟩ ⟨(j 1).val, (j 1).isLt⟩)
  else o1 (ix2 ⟨(j 0).val % 128, Nat.mod_lt _ (by omega)⟩ ⟨(j 1).val, (j 1).isLt⟩)

/-- Head `h` of the block of mixed values. -/
def headOut (x2 x3 x4 x5 x6 x7 x8 : Vec F S256x512 .f32) (x9 : Vec F S1x128 .f32) (h : Fin 4) : FVec F S256x128 .bf16 :=
  k0_pay348 (stack (ouF fwd x2 x3 x4 x7 h 0) (ouF fwd x2 x3 x4 x7 h 1))
    (stack (ouB bwd x2 x5 x6 x7 h 1) (ouB bwd x2 x5 x6 x7 h 0)) x9 (cols x8 h)

/-- The block of mixed values a grid point writes. -/
def G10 (x2 x3 x4 x5 x6 x7 x8 : Vec F S256x512 .f32) (x9 : Vec F S1x128 .f32) : Vec F S256x512 .bf16 := fun j =>
  headOut x2 x3 x4 x5 x6 x7 x8 x9 ⟨(j 1).val / 128, by have := (j 1).isLt; simp at *; omega⟩
    (ix2 ⟨(j 0).val, (j 0).isLt⟩ ⟨(j 1).val % 128, Nat.mod_lt _ (by omega)⟩)

/-- The block of final states a grid point writes: direction, head, key, value. -/
def G11 (x3 x4 x5 x6 x7 : Vec F S256x512 .f32) : Vec F S1x2x4x128x128 .f32 := fun j =>
  if (j 1).val = 0 then
    stF fwd x3 x4 x7 ⟨(j 2).val, (j 2).isLt⟩ 2 (ix2 ⟨(j 4).val, (j 4).isLt⟩ ⟨(j 3).val, (j 3).isLt⟩)
  else stB bwd x5 x6 x7 ⟨(j 2).val, (j 2).isLt⟩ 2 (ix2 ⟨(j 4).val, (j 4).isLt⟩ ⟨(j 3).val, (j 3).isLt⟩)

end Cert.KernelIdeal.Hgrn
-- ==== Proof.Trip.lean ====
/-
  One trip of the kernel's loop: what it leaves in the two output scratches and the two state scratches, as the
  functions of `Chain` at the blocks' slabs.
-/
module

public import proofs.«01_k».proof.Proof.Chain
public import proofs.«01_k».proof.Proof.Gen.KernelIdeal.Loops

@[expose] public section

set_option maxRecDepth 16384

noncomputable section

namespace Cert.KernelIdeal.Hgrn

open Cert.KernelIdeal Cert.KernelIdeal.Gen
open Idealize.ShloMosaic Idealize.ShloMosaic.TcCoe Idealize.SL Idealize.SL.Sem

variable {F : FTy → Type} [FloatOps F]

/-- What a load of 128 rows and 128 columns at `off` reads. -/
def ld (m : Memref sig .tc .vmem S256x512 .f32) (X : BufTy.Contents (Elt F) m.view.ty) (off : Fin S256x512.rank → ℕ)
    (inb : ∀ a, off a + S128x128.size a ≤ S256x512.size a) : FVec F S128x128 .f32 :=
  View.readAt (Elt F) m.view (Rect.unit (s := S256x512) off S128x128.size inb).toLoadRect X

/-- What a load of one plane of a stack of four reads. -/
def ldP (m : Memref sig .tc .vmem S4x128x128 .f32) (f : BufTy.Contents (Elt F) m.view.ty) (off : Fin S4x128x128.rank → ℕ)
    (inb : ∀ a, off a + S1x128x128.size a ≤ S4x128x128.size a) : FVec F S1x128x128 .f32 :=
  View.readAt (Elt F) m.view (Rect.unit (s := S4x128x128) off S1x128x128.size inb).toLoadRect f

/-- A store of 128 rows and 128 columns at `off`. -/
abbrev pc (off : Fin S256x512.rank → ℕ) (inb : ∀ a, off a + S128x128.size a ≤ S256x512.size a) (x : FVec F S128x128 .f32) :
    View.Piece (Elt F) S256x512 .f32 := ⟨Rect.unit (s := S256x512) off S128x128.size inb, x⟩

/-- A store of one plane of a stack of four. -/
abbrev pcP (off : Fin S4x128x128.rank → ℕ) (inb : ∀ a, off a + S1x128x128.size a ≤ S4x128x128.size a) (x : FVec F S1x128x128 .f32) :
    View.Piece (Elt F) S4x128x128 .f32 := ⟨Rect.unit (s := S4x128x128) off S1x128x128.size inb, x⟩

section
variable (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (arg10 : Memref sig .tc .vmem S256x512 .bf16) (harg10 : arg10.IsWhole) (arg11 : Memref sig .tc .vmem S1x2x4x128x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x128x128 .f32) (harg14 : arg14.IsWhole) (arg15 : Memref sig .tc .vmem S4x128x128 .f32) (harg15 : arg15.IsWhole)
  (v13 : FVec F S128x128 .f32) (v20 : FVec F S128x128 .f32) (v27 : FVec F S128x128 .f32) (v34 : FVec F S128x128 .f32) (v41 : FVec F S128x128 .f32) (v48 : FVec F S128x128 .f32) (v55 : FVec F S128x128 .f32) (v60 : FVec F S128x128 .bf16) (v63 : IVec S128x128 32) (v68 : FVec F S128x128 .bf16) (v71 : IVec S128x128 32) (v73 : FVec F S128x128 .f32) (v75 : FVec F S128x128 .f32) (v77 : FVec F S128x128 .f32) (v79 : FVec F S128x128 .f32) (v81 : FVec F S128x128 .f32) (v83 : FVec F S128x128 .f32) (v85 : FVec F S128x128 .f32) (v106 : FVec F S128x128 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips)
  (f12 : BufTy.Contents (Elt F) arg12.view.ty) (f13 : BufTy.Contents (Elt F) arg13.view.ty) (f14 : BufTy.Contents (Elt F) arg14.view.ty) (f15 : BufTy.Contents (Elt F) arg15.view.ty)

/-- A trip's forward outputs: the four heads' chunks. -/
theorem trip12 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).1 f12 f13 f14 f15
      = [pc (k0_off7 k) (k0_off7_inb k) (same (fOut v60 v63 v13 v20 v27 v34 v41 v48 v55 (ld arg2 X2 (k0_off7 k) (k0_off7_inb k)) (ld arg4 X4 (k0_off7 k) (k0_off7_inb k)) (ld arg7 X7 (k0_off7 k) (k0_off7_inb k)) (ld arg3 X3 (k0_off7 k) (k0_off7_inb k)) (ldP arg14 f14 ![3, 0, 0] inb_S4x128x128_S1x128x128_3_0_0))),
        pc (k0_off5 k) (k0_off5_inb k) (same (fOut v60 v63 v13 v20 v27 v34 v41 v48 v55 (ld arg2 X2 (k0_off5 k) (k0_off5_inb k)) (ld arg4 X4 (k0_off5 k) (k0_off5_inb k)) (ld arg7 X7 (k0_off5 k) (k0_off5_inb k)) (ld arg3 X3 (k0_off5 k) (k0_off5_inb k)) (ldP arg14 f14 ![2, 0, 0] inb_S4x128x128_S1x128x128_2_0_0))),
        pc (k0_off3 k) (k0_off3_inb k) (same (fOut v60 v63 v13 v20 v27 v34 v41 v48 v55 (ld arg2 X2 (k0_off3 k) (k0_off3_inb k)) (ld arg4 X4 (k0_off3 k) (k0_off3_inb k)) (ld arg7 X7 (k0_off3 k) (k0_off3_inb k)) (ld arg3 X3 (k0_off3 k) (k0_off3_inb k)) (ldP arg14 f14 ![1, 0, 0] inb_S4x128x128_S1x128x128_1_0_0))),
        pc (k0_off1 k) (k0_off1_inb k) (same (fOut v60 v63 v13 v20 v27 v34 v41 v48 v55 (ld arg2 X2 (k0_off1 k) (k0_off1_inb k)) (ld arg4 X4 (k0_off1 k) (k0_off1_inb k)) (ld arg7 X7 (k0_off1 k) (k0_off1_inb k)) (ld arg3 X3 (k0_off1 k) (k0_off1_inb k)) (ldP arg14 f14 ![0, 0, 0] inb_S4x128x128_S1x128x128_0_0_0)))] := by
  unfold trip_k0_t1
  rfl

/-- A trip's backward outputs: the four heads' chunks. -/
theorem trip13 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).2.1 f12 f13 f14 f15
      = [pc (k0_off8 k) (k0_off8_inb k) (same (gOut v68 v71 v73 v75 v77 v79 v81 v83 v85 (ld arg2 X2 (k0_off8 k) (k0_off8_inb k)) (ld arg6 X6 (k0_off8 k) (k0_off8_inb k)) (ld arg7 X7 (k0_off8 k) (k0_off8_inb k)) (ld arg5 X5 (k0_off8 k) (k0_off8_inb k)) (ldP arg15 f15 ![3, 0, 0] inb_S4x128x128_S1x128x128_3_0_0))),
        pc (k0_off6 k) (k0_off6_inb k) (same (gOut v68 v71 v73 v75 v77 v79 v81 v83 v85 (ld arg2 X2 (k0_off6 k) (k0_off6_inb k)) (ld arg6 X6 (k0_off6 k) (k0_off6_inb k)) (ld arg7 X7 (k0_off6 k) (k0_off6_inb k)) (ld arg5 X5 (k0_off6 k) (k0_off6_inb k)) (ldP arg15 f15 ![2, 0, 0] inb_S4x128x128_S1x128x128_2_0_0))),
        pc (k0_off4 k) (k0_off4_inb k) (same (gOut v68 v71 v73 v75 v77 v79 v81 v83 v85 (ld arg2 X2 (k0_off4 k) (k0_off4_inb k)) (ld arg6 X6 (k0_off4 k) (k0_off4_inb k)) (ld arg7 X7 (k0_off4 k) (k0_off4_inb k)) (ld arg5 X5 (k0_off4 k) (k0_off4_inb k)) (ldP arg15 f15 ![1, 0, 0] inb_S4x128x128_S1x128x128_1_0_0))),
        pc (k0_off2 k) (k0_off2_inb k) (same (gOut v68 v71 v73 v75 v77 v79 v81 v83 v85 (ld arg2 X2 (k0_off2 k) (k0_off2_inb k)) (ld arg6 X6 (k0_off2 k) (k0_off2_inb k)) (ld arg7 X7 (k0_off2 k) (k0_off2_inb k)) (ld arg5 X5 (k0_off2 k) (k0_off2_inb k)) (ldP arg15 f15 ![0, 0, 0] inb_S4x128x128_S1x128x128_0_0_0)))] := by
  unfold trip_k0_t1
  rfl

/-- A trip's forward states: the four heads'. -/
theorem trip14 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).2.2.1 f12 f13 f14 f15
      = [pcP ![3, 0, 0] inb_S4x128x128_S1x128x128_3_0_0 (plane (fState v60 (ld arg4 X4 (k0_off7 k) (k0_off7_inb k)) (ld arg7 X7 (k0_off7 k) (k0_off7_inb k)) (ld arg3 X3 (k0_off7 k) (k0_off7_inb k)) (ldP arg14 f14 ![3, 0, 0] inb_S4x128x128_S1x128x128_3_0_0))),
        pcP ![2, 0, 0] inb_S4x128x128_S1x128x128_2_0_0 (plane (fState v60 (ld arg4 X4 (k0_off5 k) (k0_off5_inb k)) (ld arg7 X7 (k0_off5 k) (k0_off5_inb k)) (ld arg3 X3 (k0_off5 k) (k0_off5_inb k)) (ldP arg14 f14 ![2, 0, 0] inb_S4x128x128_S1x128x128_2_0_0))),
        pcP ![1, 0, 0] inb_S4x128x128_S1x128x128_1_0_0 (plane (fState v60 (ld arg4 X4 (k0_off3 k) (k0_off3_inb k)) (ld arg7 X7 (k0_off3 k) (k0_off3_inb k)) (ld arg3 X3 (k0_off3 k) (k0_off3_inb k)) (ldP arg14 f14 ![1, 0, 0] inb_S4x128x128_S1x128x128_1_0_0))),
        pcP ![0, 0, 0] inb_S4x128x128_S1x128x128_0_0_0 (plane (fState v60 (ld arg4 X4 (k0_off1 k) (k0_off1_inb k)) (ld arg7 X7 (k0_off1 k) (k0_off1_inb k)) (ld arg3 X3 (k0_off1 k) (k0_off1_inb k)) (ldP arg14 f14 ![0, 0, 0] inb_S4x128x128_S1x128x128_0_0_0)))] := by
  unfold trip_k0_t1
  rfl

/-- A trip's backward states: the four heads'. -/
theorem trip15 :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).2.2.2.1 f12 f13 f14 f15
      = [pcP ![3, 0, 0] inb_S4x128x128_S1x128x128_3_0_0 (plane (gState v68 (ld arg6 X6 (k0_off8 k) (k0_off8_inb k)) (ld arg7 X7 (k0_off8 k) (k0_off8_inb k)) (ld arg5 X5 (k0_off8 k) (k0_off8_inb k)) (ldP arg15 f15 ![3, 0, 0] inb_S4x128x128_S1x128x128_3_0_0))),
        pcP ![2, 0, 0] inb_S4x128x128_S1x128x128_2_0_0 (plane (gState v68 (ld arg6 X6 (k0_off6 k) (k0_off6_inb k)) (ld arg7 X7 (k0_off6 k) (k0_off6_inb k)) (ld arg5 X5 (k0_off6 k) (k0_off6_inb k)) (ldP arg15 f15 ![2, 0, 0] inb_S4x128x128_S1x128x128_2_0_0))),
        pcP ![1, 0, 0] inb_S4x128x128_S1x128x128_1_0_0 (plane (gState v68 (ld arg6 X6 (k0_off4 k) (k0_off4_inb k)) (ld arg7 X7 (k0_off4 k) (k0_off4_inb k)) (ld arg5 X5 (k0_off4 k) (k0_off4_inb k)) (ldP arg15 f15 ![1, 0, 0] inb_S4x128x128_S1x128x128_1_0_0))),
        pcP ![0, 0, 0] inb_S4x128x128_S1x128x128_0_0_0 (plane (gState v68 (ld arg6 X6 (k0_off2 k) (k0_off2_inb k)) (ld arg7 X7 (k0_off2 k) (k0_off2_inb k)) (ld arg5 X5 (k0_off2 k) (k0_off2_inb k)) (ldP arg15 f15 ![0, 0, 0] inb_S4x128x128_S1x128x128_0_0_0)))] := by
  unfold trip_k0_t1
  rfl

end

end Cert.KernelIdeal.Hgrn
-- ==== Proof.Steps.lean ====
/-
  What the loop's two trips leave in the scratches: the heads' states plane by plane, the chunks' outputs slab by slab.
-/
module

public import proofs.«01_k».proof.Proof.Chunks
public import proofs.«01_k».proof.Proof.Trip
public import Idealize.ShloMosaic.Lib.WritesUnit

@[expose] public section

set_option maxRecDepth 16384

noncomputable section

namespace Cert.KernelIdeal.Hgrn

open Cert.KernelIdeal Cert.KernelIdeal.Gen
open Idealize.ShloMosaic Idealize.ShloMosaic.TcCoe Idealize.SL Idealize.SL.Sem

variable {F : FTy → Type} [FloatOps F]

/-- A load of 128 rows and columns at a chunk's offsets reads the chunk's slab. -/
theorem ld_eq (m : Memref sig .tc .vmem S256x512 .f32) (X : BufTy.Contents (Elt F) m.view.ty) (off : Fin S256x512.rank → ℕ)
    (inb : ∀ a, off a + S128x128.size a ≤ S256x512.size a) (a : ℕ) (h : Fin 4) (ha : a < 2)
    (ho : off = ![128 * a, 128 * h.val]) : ld m X off inb = slab (m.view.read (Elt F) X) a h := by
  subst ho
  funext j
  have h0 := lt0 j
  refine congrArg (m.view.read (Elt F) X) (funext fun d => Fin.ext ?_)
  match d with
  | ⟨0, _⟩ =>
    show 128 * a + 1 * (j 0).val = (128 * a + (j 0).val) % 256
    omega
  | ⟨1, _⟩ =>
    show 128 * h.val + 1 * (j 1).val = 128 * h.val + (j 1).val
    omega

/-- A load of a plane reads the plane. -/
theorem ldP_eq (m : Memref sig .tc .vmem S4x128x128 .f32) (f : BufTy.Contents (Elt F) m.view.ty) (off : Fin S4x128x128.rank → ℕ)
    (inb : ∀ a, off a + S1x128x128.size a ≤ S4x128x128.size a) (h : Fin 4)
    (ho : off = ![h.val, 0, 0]) : ldP m f off inb = pl (m.view.read (Elt F) f) h := by
  subst ho
  funext j
  have h0 : (j 0).val < 1 := (j 0).isLt
  refine congrArg (m.view.read (Elt F) f) (funext fun d => Fin.ext ?_)
  match d with
  | ⟨0, _⟩ =>
    show h.val + 1 * (j 0).val = h.val
    omega
  | ⟨1, _⟩ =>
    show 0 + 1 * (j 1).val = (j 1).val
    omega
  | ⟨2, _⟩ =>
    show 0 + 1 * (j 2).val = (j 2).val
    omega

/-- After stores of chunk `a` of the heads in `L`, a slab of chunk `a` of such a head reads what was stored, every other
    slab what was there. -/
theorem slab_writes (m : Memref sig .tc .vmem S256x512 .f32) (f : BufTy.Contents (Elt F) m.view.ty) (a : ℕ) (ha : a < 2)
    (o : Fin 4 → Fin S256x512.rank → ℕ) (inb : ∀ h, ∀ x, o h x + S128x128.size x ≤ S256x512.size x)
    (ho : ∀ h, o h = ![128 * a, 128 * h.val]) (w : Fin 4 → FVec F S128x128 .f32) (b : ℕ) (hb : b < 2) (h : Fin 4) (L : List (Fin 4)) :
    slab (m.view.read (Elt F) (m.view.writes (Elt F) f (L.map fun g => pc (o g) (inb g) (w g)))) b h
      = if b = a ∧ h ∈ L then w h else slab (m.view.read (Elt F) f) b h := by
  induction L with
  | nil => rw [if_neg (by simp)]; rfl
  | cons g L ih =>
    by_cases hg : b = a ∧ h = g
    · obtain ⟨rfl, rfl⟩ := hg
      rw [if_pos ⟨rfl, by simp⟩]
      funext j
      have h0 := lt0 j
      have h1 := lt1 j
      refine View.read_writes_cons_unit_of_mem m.view f (inb h) (w h) _ _ j (ho h) fun d => ?_
      match d with
      | ⟨0, _⟩ =>
        show (128 * b + (j 0).val) % 256 = 128 * b + (j 0).val
        omega
      | ⟨1, _⟩ => rfl
    · have hm : (b = a ∧ h ∈ g :: L) ↔ (b = a ∧ h ∈ L) := by
        simp only [List.mem_cons]
        constructor
        · rintro ⟨x, y | y⟩
          · exact absurd ⟨x, y⟩ hg
          · exact ⟨x, y⟩
        · rintro ⟨x, y⟩
          exact ⟨x, .inr y⟩
      simp only [hm]
      rw [← ih]
      funext j
      have h0 := lt0 j
      have h1 := lt1 j
      have hh := h.isLt
      have hgl := g.isLt
      by_cases hab : b = a
      · have hne : h.val ≠ g.val := fun e => hg ⟨hab, Fin.ext e⟩
        refine View.read_writes_cons_unit_of_not_mem m.view f (inb g) (w g) _ _ (ho g) 1 ?_
        show 128 * h.val + (j 1).val < 128 * g.val ∨ 128 * g.val + 128 ≤ 128 * h.val + (j 1).val
        omega
      · refine View.read_writes_cons_unit_of_not_mem m.view f (inb g) (w g) _ _ (ho g) 0 ?_
        show (128 * b + (j 0).val) % 256 < 128 * a ∨ 128 * a + 128 ≤ (128 * b + (j 0).val) % 256
        omega

/-- After stores of the planes in `L`, a plane in `L` reads what was stored, every other what was there. -/
theorem pl_writes (m : Memref sig .tc .vmem S4x128x128 .f32) (f : BufTy.Contents (Elt F) m.view.ty)
    (o : Fin 4 → Fin S4x128x128.rank → ℕ) (inb : ∀ h, ∀ x, o h x + S1x128x128.size x ≤ S4x128x128.size x)
    (ho : ∀ h, o h = ![h.val, 0, 0]) (w : Fin 4 → FVec F S1x128x128 .f32) (h : Fin 4) (L : List (Fin 4)) :
    pl (m.view.read (Elt F) (m.view.writes (Elt F) f (L.map fun g => pcP (o g) (inb g) (w g)))) h
      = if h ∈ L then w h else pl (m.view.read (Elt F) f) h := by
  induction L with
  | nil => rw [if_neg (by simp)]; rfl
  | cons g L ih =>
    by_cases hg : h = g
    · subst hg
      rw [if_pos (by simp)]
      funext j
      have h0 : (j 0).val < 1 := (j 0).isLt
      refine View.read_writes_cons_unit_of_mem m.view f (inb h) (w h) _ _ j (ho h) fun d => ?_
      match d with
      | ⟨0, _⟩ =>
        show h.val = h.val + (j 0).val
        omega
      | ⟨1, _⟩ => exact (Nat.zero_add _).symm
      | ⟨2, _⟩ => exact (Nat.zero_add _).symm
    · have hm : (h ∈ g :: L) ↔ (h ∈ L) := by simp [hg]
      simp only [hm]
      rw [← ih]
      funext j
      have hh := h.isLt
      have hgl := g.isLt
      have hne : h.val ≠ g.val := fun e => hg (Fin.ext e)
      refine View.read_writes_cons_unit_of_not_mem m.view f (inb g) (w g) _ _ (ho g) 0 ?_
      show h.val < g.val ∨ g.val + 1 ≤ h.val
      omega

/-- Where the four planes lie. -/
theorem inbP (h : Fin 4) : ∀ x, (![h.val, 0, 0] : Fin S4x128x128.rank → ℕ) x + S1x128x128.size x ≤ S4x128x128.size x := by
  intro x
  have := h.isLt
  match x with
  | ⟨0, _⟩ => show h.val + 1 ≤ 4; omega
  | ⟨1, _⟩ => show 0 + 128 ≤ 128; omega
  | ⟨2, _⟩ => show 0 + 128 ≤ 128; omega

/-- Where chunk `a` of head `h` lies. -/
theorem inbC (a : ℕ) (ha : a < 2) (h : Fin 4) :
    ∀ x, (![128 * a, 128 * h.val] : Fin S256x512.rank → ℕ) x + S128x128.size x ≤ S256x512.size x := by
  intro x
  have := h.isLt
  match x with
  | ⟨0, _⟩ => show 128 * a + 128 ≤ 256; omega
  | ⟨1, _⟩ => show 128 * h.val + 128 ≤ 512; omega

/-- The forward chains' offsets in trip `k`. -/
def offF (h : Fin 4) (k : Fin k0_t1_loop.trips) : Fin S256x512.rank → ℕ :=
  match h with | 0 => k0_off1 k | 1 => k0_off3 k | 2 => k0_off5 k | 3 => k0_off7 k
/-- The backward chains' offsets in trip `k`. -/
def offB (h : Fin 4) (k : Fin k0_t1_loop.trips) : Fin S256x512.rank → ℕ :=
  match h with | 0 => k0_off2 k | 1 => k0_off4 k | 2 => k0_off6 k | 3 => k0_off8 k
theorem offF_eq : ∀ (h : Fin 4) (k : Fin k0_t1_loop.trips), offF h k = ![128 * k.val, 128 * h.val] := by decide +kernel
theorem offB_eq : ∀ (h : Fin 4) (k : Fin k0_t1_loop.trips), offB h k = ![128 * (1 - k.val), 128 * h.val] := by decide +kernel
theorem trips_lt (k : Fin k0_t1_loop.trips) : k.val < 2 := Nat.lt_of_lt_of_le k.isLt k0_t1_abs.2.1
theorem offF_inb (h : Fin 4) (k : Fin k0_t1_loop.trips) : ∀ x, offF h k x + S128x128.size x ≤ S256x512.size x := by
  rw [offF_eq]; exact inbC _ (trips_lt k) h
theorem offB_inb (h : Fin 4) (k : Fin k0_t1_loop.trips) : ∀ x, offB h k x + S128x128.size x ≤ S256x512.size x := by
  rw [offB_eq]; exact inbC _ (by omega) h

/-- The operands of a forward output may be replaced by equal ones. -/
theorem fO_of {P : Par F} {q q' k k' v v' lf lf' : FVec F S128x128 .f32} {st : FVec F S1x128x128 .f32} {S : FVec F S128x128 .f32}
    (hq : q = q') (hk : k = k') (hv : v = v') (hlf : lf = lf') (hst : st = plane S) :
    same (fOut P.tri P.lv P.m0 P.m1 P.m2 P.m3 P.m4 P.m5 P.m6 q k v lf st) = fO P q' k' v' lf' S := by
  subst hq hk hv hlf hst
  rfl

/-- The operands of a backward output may be replaced by equal ones. -/
theorem gO_of {P : Par F} {q q' k k' v v' lf lf' : FVec F S128x128 .f32} {st : FVec F S1x128x128 .f32} {S : FVec F S128x128 .f32}
    (hq : q = q') (hk : k = k') (hv : v = v') (hlf : lf = lf') (hst : st = plane S) :
    same (gOut P.tri P.lv P.m0 P.m1 P.m2 P.m3 P.m4 P.m5 P.m6 q k v lf st) = gO P q' k' v' lf' S := by
  subst hq hk hv hlf hst
  rfl

/-- The operands of a forward state may be replaced by equal ones. -/
theorem fS_of {P : Par F} {k k' v v' lf lf' : FVec F S128x128 .f32} {st : FVec F S1x128x128 .f32} {S : FVec F S128x128 .f32}
    (hk : k = k') (hv : v = v') (hlf : lf = lf') (hst : st = plane S) :
    fState P.tri k v lf st = fS P k' v' lf' S := by
  subst hk hv hlf hst
  rfl

/-- The operands of a backward state may be replaced by equal ones. -/
theorem gS_of {P : Par F} {k k' v v' lf lf' : FVec F S128x128 .f32} {st : FVec F S1x128x128 .f32} {S : FVec F S128x128 .f32}
    (hk : k = k') (hv : v = v') (hlf : lf = lf') (hst : st = plane S) :
    gState P.tri k v lf st = gS P k' v' lf' S := by
  subst hk hv hlf hst
  rfl

section
variable (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (arg10 : Memref sig .tc .vmem S256x512 .bf16) (harg10 : arg10.IsWhole) (arg11 : Memref sig .tc .vmem S1x2x4x128x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x128x128 .f32) (harg14 : arg14.IsWhole) (arg15 : Memref sig .tc .vmem S4x128x128 .f32) (harg15 : arg15.IsWhole)
  (v13 : FVec F S128x128 .f32) (v20 : FVec F S128x128 .f32) (v27 : FVec F S128x128 .f32) (v34 : FVec F S128x128 .f32) (v41 : FVec F S128x128 .f32) (v48 : FVec F S128x128 .f32) (v55 : FVec F S128x128 .f32) (v60 : FVec F S128x128 .bf16) (v63 : IVec S128x128 32) (v68 : FVec F S128x128 .bf16) (v71 : IVec S128x128 32) (v73 : FVec F S128x128 .f32) (v75 : FVec F S128x128 .f32) (v77 : FVec F S128x128 .f32) (v79 : FVec F S128x128 .f32) (v81 : FVec F S128x128 .f32) (v83 : FVec F S128x128 .f32) (v85 : FVec F S128x128 .f32) (v106 : FVec F S128x128 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips)
  (f12 : BufTy.Contents (Elt F) arg12.view.ty) (f13 : BufTy.Contents (Elt F) arg13.view.ty) (f14 : BufTy.Contents (Elt F) arg14.view.ty) (f15 : BufTy.Contents (Elt F) arg15.view.ty)

/-- The forward outputs after a trip: its own chunk of each head, the rest as before. -/
theorem trip12_slab (S : Fin 4 → FVec F S128x128 .f32) (hS : ∀ h, pl (arg14.view.read (Elt F) f14) h = plane (S h))
    (b : ℕ) (hb : b < 2) (h : Fin 4) :
    slab (arg12.view.read (Elt F) (arg12.view.writes (Elt F) f12 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).1 f12 f13 f14 f15))) b h
      = if b = k.val then fO ⟨v60, v63, v13, v20, v27, v34, v41, v48, v55⟩ (slab (arg2.view.read (Elt F) X2) (k.val) h) (slab (arg4.view.read (Elt F) X4) (k.val) h) (slab (arg7.view.read (Elt F) X7) (k.val) h) (slab (arg3.view.read (Elt F) X3) (k.val) h) (S h)
        else slab (arg12.view.read (Elt F) f12) b h := by
  rw [trip12]
  refine (slab_writes arg12 f12 (k.val) (by have := trips_lt k; omega) (fun g => offF g k) (fun g => offF_inb g k) (fun g => offF_eq g k)
    (fun g => same (fOut v60 v63 v13 v20 v27 v34 v41 v48 v55 (ld arg2 X2 (offF g k) (offF_inb g k)) (ld arg4 X4 (offF g k) (offF_inb g k)) (ld arg7 X7 (offF g k) (offF_inb g k)) (ld arg3 X3 (offF g k) (offF_inb g k)) (ldP arg14 f14 ![g.val, 0, 0] (inbP g)))) b hb h [3, 2, 1, 0]).trans ?_
  have hL : h ∈ ([3, 2, 1, 0] : List (Fin 4)) := by revert h; decide
  simp only [hL, and_true]
  by_cases e : b = k.val
  · rw [if_pos e, if_pos e]
    exact fO_of (P := ⟨v60, v63, v13, v20, v27, v34, v41, v48, v55⟩) (ld_eq arg2 X2 _ _ (k.val) h (trips_lt k) (offF_eq h k)) (ld_eq arg4 X4 _ _ (k.val) h (trips_lt k) (offF_eq h k)) (ld_eq arg7 X7 _ _ (k.val) h (trips_lt k) (offF_eq h k)) (ld_eq arg3 X3 _ _ (k.val) h (trips_lt k) (offF_eq h k)) ((ldP_eq arg14 f14 _ _ h rfl).trans (hS h))
  · rw [if_neg e, if_neg e]

/-- The backward outputs after a trip: its own chunk of each head, the rest as before. -/
theorem trip13_slab (S : Fin 4 → FVec F S128x128 .f32) (hS : ∀ h, pl (arg15.view.read (Elt F) f15) h = plane (S h))
    (b : ℕ) (hb : b < 2) (h : Fin 4) :
    slab (arg13.view.read (Elt F) (arg13.view.writes (Elt F) f13 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).2.1 f12 f13 f14 f15))) b h
      = if b = 1 - k.val then gO ⟨v68, v71, v73, v75, v77, v79, v81, v83, v85⟩ (slab (arg2.view.read (Elt F) X2) (1 - k.val) h) (slab (arg6.view.read (Elt F) X6) (1 - k.val) h) (slab (arg7.view.read (Elt F) X7) (1 - k.val) h) (slab (arg5.view.read (Elt F) X5) (1 - k.val) h) (S h)
        else slab (arg13.view.read (Elt F) f13) b h := by
  rw [trip13]
  refine (slab_writes arg13 f13 (1 - k.val) (by have := trips_lt k; omega) (fun g => offB g k) (fun g => offB_inb g k) (fun g => offB_eq g k)
    (fun g => same (gOut v68 v71 v73 v75 v77 v79 v81 v83 v85 (ld arg2 X2 (offB g k) (offB_inb g k)) (ld arg6 X6 (offB g k) (offB_inb g k)) (ld arg7 X7 (offB g k) (offB_inb g k)) (ld arg5 X5 (offB g k) (offB_inb g k)) (ldP arg15 f15 ![g.val, 0, 0] (inbP g)))) b hb h [3, 2, 1, 0]).trans ?_
  have hL : h ∈ ([3, 2, 1, 0] : List (Fin 4)) := by revert h; decide
  simp only [hL, and_true]
  by_cases e : b = 1 - k.val
  · rw [if_pos e, if_pos e]
    exact gO_of (P := ⟨v68, v71, v73, v75, v77, v79, v81, v83, v85⟩) (ld_eq arg2 X2 _ _ (1 - k.val) h (by omega) (offB_eq h k)) (ld_eq arg6 X6 _ _ (1 - k.val) h (by omega) (offB_eq h k)) (ld_eq arg7 X7 _ _ (1 - k.val) h (by omega) (offB_eq h k)) (ld_eq arg5 X5 _ _ (1 - k.val) h (by omega) (offB_eq h k)) ((ldP_eq arg15 f15 _ _ h rfl).trans (hS h))
  · rw [if_neg e, if_neg e]

/-- The forward states after a trip: each head's. -/
theorem trip14_pl (S : Fin 4 → FVec F S128x128 .f32) (hS : ∀ h, pl (arg14.view.read (Elt F) f14) h = plane (S h)) (h : Fin 4) :
    pl (arg14.view.read (Elt F) (arg14.view.writes (Elt F) f14 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).2.2.1 f12 f13 f14 f15))) h
      = plane (fS ⟨v60, v63, v13, v20, v27, v34, v41, v48, v55⟩ (slab (arg4.view.read (Elt F) X4) (k.val) h) (slab (arg7.view.read (Elt F) X7) (k.val) h) (slab (arg3.view.read (Elt F) X3) (k.val) h) (S h)) := by
  rw [trip14]
  refine (pl_writes arg14 f14 (fun g => ![g.val, 0, 0]) inbP (fun _ => rfl)
    (fun g => plane (fState v60 (ld arg4 X4 (offF g k) (offF_inb g k)) (ld arg7 X7 (offF g k) (offF_inb g k)) (ld arg3 X3 (offF g k) (offF_inb g k)) (ldP arg14 f14 ![g.val, 0, 0] (inbP g)))) h [3, 2, 1, 0]).trans ?_
  have hL : h ∈ ([3, 2, 1, 0] : List (Fin 4)) := by revert h; decide
  rw [if_pos hL]
  exact congrArg plane (fS_of (P := ⟨v60, v63, v13, v20, v27, v34, v41, v48, v55⟩) (ld_eq arg4 X4 _ _ (k.val) h (trips_lt k) (offF_eq h k)) (ld_eq arg7 X7 _ _ (k.val) h (trips_lt k) (offF_eq h k)) (ld_eq arg3 X3 _ _ (k.val) h (trips_lt k) (offF_eq h k)) ((ldP_eq arg14 f14 _ _ h rfl).trans (hS h)))

/-- The backward states after a trip: each head's. -/
theorem trip15_pl (S : Fin 4 → FVec F S128x128 .f32) (hS : ∀ h, pl (arg15.view.read (Elt F) f15) h = plane (S h)) (h : Fin 4) :
    pl (arg15.view.read (Elt F) (arg15.view.writes (Elt F) f15 ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k).2.2.2.1 f12 f13 f14 f15))) h
      = plane (gS ⟨v68, v71, v73, v75, v77, v79, v81, v83, v85⟩ (slab (arg6.view.read (Elt F) X6) (1 - k.val) h) (slab (arg7.view.read (Elt F) X7) (1 - k.val) h) (slab (arg5.view.read (Elt F) X5) (1 - k.val) h) (S h)) := by
  rw [trip15]
  refine (pl_writes arg15 f15 (fun g => ![g.val, 0, 0]) inbP (fun _ => rfl)
    (fun g => plane (gState v68 (ld arg6 X6 (offB g k) (offB_inb g k)) (ld arg7 X7 (offB g k) (offB_inb g k)) (ld arg5 X5 (offB g k) (offB_inb g k)) (ldP arg15 f15 ![g.val, 0, 0] (inbP g)))) h [3, 2, 1, 0]).trans ?_
  have hL : h ∈ ([3, 2, 1, 0] : List (Fin 4)) := by revert h; decide
  rw [if_pos hL]
  exact congrArg plane (gS_of (P := ⟨v68, v71, v73, v75, v77, v79, v81, v83, v85⟩) (ld_eq arg6 X6 _ _ (1 - k.val) h (by omega) (offB_eq h k)) (ld_eq arg7 X7 _ _ (1 - k.val) h (by omega) (offB_eq h k)) (ld_eq arg5 X5 _ _ (1 - k.val) h (by omega) (offB_eq h k)) ((ldP_eq arg15 f15 _ _ h rfl).trans (hS h)))

end

section
variable (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (arg10 : Memref sig .tc .vmem S256x512 .bf16) (harg10 : arg10.IsWhole) (arg11 : Memref sig .tc .vmem S1x2x4x128x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x128x128 .f32) (harg14 : arg14.IsWhole) (arg15 : Memref sig .tc .vmem S4x128x128 .f32) (harg15 : arg15.IsWhole)
  (v13 : FVec F S128x128 .f32) (v20 : FVec F S128x128 .f32) (v27 : FVec F S128x128 .f32) (v34 : FVec F S128x128 .f32) (v41 : FVec F S128x128 .f32) (v48 : FVec F S128x128 .f32) (v55 : FVec F S128x128 .f32) (v60 : FVec F S128x128 .bf16) (v63 : IVec S128x128 32) (v68 : FVec F S128x128 .bf16) (v71 : IVec S128x128 32) (v73 : FVec F S128x128 .f32) (v75 : FVec F S128x128 .f32) (v77 : FVec F S128x128 .f32) (v79 : FVec F S128x128 .f32) (v81 : FVec F S128x128 .f32) (v83 : FVec F S128x128 .f32) (v85 : FVec F S128x128 .f32) (v106 : FVec F S128x128 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
  (G12 : BufTy.Contents (Elt F) arg12.view.ty) (G13 : BufTy.Contents (Elt F) arg13.view.ty) (G14 : BufTy.Contents (Elt F) arg14.view.ty) (G15 : BufTy.Contents (Elt F) arg15.view.ty)

/-- After `n` trips from zero states: each head's two states are the recursion's, and each chunk done holds its output. -/
theorem trips (h14 : ∀ h, pl (arg14.view.read (Elt F) G14) h = plane zero128) (h15 : ∀ h, pl (arg15.view.read (Elt F) G15) h = plane zero128)
    (n : ℕ) (hn : n ≤ 2) :
    (∀ h, pl (arg14.view.read (Elt F) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 n).2.2.1)) h = plane (stF ⟨v60, v63, v13, v20, v27, v34, v41, v48, v55⟩ (arg3.view.read (Elt F) X3) (arg4.view.read (Elt F) X4) (arg7.view.read (Elt F) X7) h n))
    ∧ (∀ h, pl (arg15.view.read (Elt F) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 n).2.2.2)) h = plane (stB ⟨v68, v71, v73, v75, v77, v79, v81, v83, v85⟩ (arg5.view.read (Elt F) X5) (arg6.view.read (Elt F) X6) (arg7.view.read (Elt F) X7) h n))
    ∧ (∀ b, b < n → ∀ h, slab (arg12.view.read (Elt F) (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 n).1)) b h = ouF ⟨v60, v63, v13, v20, v27, v34, v41, v48, v55⟩ (arg2.view.read (Elt F) X2) (arg3.view.read (Elt F) X3) (arg4.view.read (Elt F) X4) (arg7.view.read (Elt F) X7) h b)
    ∧ (∀ b, b < n → ∀ h, slab (arg13.view.read (Elt F) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 n).2.1)) (1 - b) h = ouB ⟨v68, v71, v73, v75, v77, v79, v81, v83, v85⟩ (arg2.view.read (Elt F) X2) (arg5.view.read (Elt F) X5) (arg6.view.read (Elt F) X6) (arg7.view.read (Elt F) X7) h b) := by
  induction n with
  | zero => exact ⟨h14, h15, fun b hb => absurd hb (Nat.not_lt_zero b), fun b hb => absurd hb (Nat.not_lt_zero b)⟩
  | succ n ih =>
    obtain ⟨i14, i15, i12, i13⟩ := ih (by omega)
    have hk : n < k0_t1_loop.trips := Nat.lt_of_lt_of_le (by omega : n < 2) (by decide)
    obtain ⟨k, rfl⟩ : ∃ k : Fin k0_t1_loop.trips, k.val = n := ⟨⟨n, hk⟩, rfl⟩
    rw [pb_k0_t1_succ]
    simp only [View.writes_append]
    refine ⟨fun h => ?_, fun h => ?_, fun b hb h => ?_, fun b hb h => ?_⟩
    · exact trip14_pl 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.1) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.2) _ i14 h
    · exact trip15_pl 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.1) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.2) _ i15 h
    · refine (trip12_slab 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.1) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.2) _ i14 b (by omega) h).trans ?_
      by_cases e : b = k.val
      · subst e
        rw [if_pos rfl]
        rfl
      · rw [if_neg e]
        exact i12 b (by omega) h
    · refine (trip13_slab 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 k (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).1) (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.1) (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.1) (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 k.val).2.2.2) _ i15 (1 - b) (by omega) h).trans ?_
      by_cases e : b = k.val
      · subst e
        rw [if_pos rfl]
        rfl
      · rw [if_neg (by omega)]
        exact i13 b (by omega) h

end

end Cert.KernelIdeal.Hgrn
-- ==== Proof.Gather.lean ====
/-
  The last stretch of the body: what its loads of the scratches read after the loop, and the two output blocks put
  together from the pieces stored.
-/
module

public import proofs.«01_k».proof.Proof.Steps
public import Idealize.ShloMosaic.Lib.Pointwise

@[expose] public section

set_option maxRecDepth 16384

noncomputable section

namespace Cert.KernelIdeal.Hgrn

open Cert.KernelIdeal Cert.KernelIdeal.Gen
open Idealize.ShloMosaic Idealize.ShloMosaic.TcCoe Idealize.SL Idealize.SL.Sem

variable {F : FTy → Type} [FloatOps F]

/-- A load of one head's columns, read as one array, is the head's columns. -/
theorem cols_eq (m : Memref sig .tc .vmem S256x512 .f32) (X : BufTy.Contents (Elt F) m.view.ty) (off : Fin S256x512.rank → ℕ)
    (inb : ∀ a, off a + S256x128.size a ≤ S256x512.size a) (h : Fin 4) (ho : off = ![0, 128 * h.val]) :
    View.readAt (Elt F) m.view (Rect.unit (s := S256x512) off S256x128.size inb).toLoadRect X = cols (m.view.read (Elt F) X) h := by
  subst ho
  funext j
  refine congrArg (m.view.read (Elt F) X) (funext fun d => Fin.ext ?_)
  match d with
  | ⟨0, _⟩ =>
    show 0 + 1 * (j 0).val = (j 0).val
    omega
  | ⟨1, _⟩ =>
    show 128 * h.val + 1 * (j 1).val = 128 * h.val + (j 1).val
    omega

/-- One head's columns are its two chunks one above the other. -/
theorem cols_eq_stack (y : Vec F S256x512 .f32) (h : Fin 4) : cols y h = stack (slab y 0 h) (slab y 1 h) := by
  funext j
  have h0 := lt0 j
  have h1 := lt1 j
  unfold cols stack slab
  by_cases e : (j 0).val < 128
  · rw [if_pos e]
    refine congrArg y (funext fun d => Fin.ext ?_)
    match d with
    | ⟨0, _⟩ =>
      show (j 0).val = (128 * 0 + (j 0).val % 128) % 256
      omega
    | ⟨1, _⟩ => rfl
  · rw [if_neg e]
    refine congrArg y (funext fun d => Fin.ext ?_)
    match d with
    | ⟨0, _⟩ =>
      show (j 0).val = (128 * 1 + (j 0).val % 128) % 256
      omega
    | ⟨1, _⟩ => rfl

/-- Where head `h`'s columns lie. -/
theorem inbH (h : Fin 4) : ∀ x, (![0, 128 * h.val] : Fin S256x512.rank → ℕ) x + S256x128.size x ≤ S256x512.size x := by
  intro x
  have := h.isLt
  match x with
  | ⟨0, _⟩ => show 0 + 256 ≤ 256; omega
  | ⟨1, _⟩ => show 128 * h.val + 128 ≤ 512; omega

/-- A block written head by head reads, column by column, the head's piece. -/
theorem heads_read (m : Memref sig .tc .vmem S256x512 .bf16) (f : BufTy.Contents (Elt F) m.view.ty) (w : Fin 4 → FVec F S256x128 .bf16) :
    m.view.read (Elt F) (m.view.writes (Elt F) f (([3, 2, 1, 0] : List (Fin 4)).map fun g =>
        (⟨Rect.unit (s := S256x512) ![0, 128 * g.val] S256x128.size (inbH g), w g⟩ : View.Piece (Elt F) S256x512 .bf16)))
      = fun (j : S256x512.Idx) => w ⟨(j 1).val / 128, by have := lt1 j; omega⟩
          (ix2 ⟨(j 0).val, (j 0).isLt⟩ ⟨(j 1).val % 128, Nat.mod_lt _ (by omega)⟩) := by
  have key : ∀ (L : List (Fin 4)) (j : S256x512.Idx) (h : Fin 4), h ∈ L → h.val = (j 1).val / 128 →
      m.view.read (Elt F) (m.view.writes (Elt F) f (L.map fun g =>
        (⟨Rect.unit (s := S256x512) ![0, 128 * g.val] S256x128.size (inbH g), w g⟩ : View.Piece (Elt F) S256x512 .bf16))) j
      = w h (ix2 ⟨(j 0).val, (j 0).isLt⟩ ⟨(j 1).val % 128, Nat.mod_lt _ (by omega)⟩) := by
    intro L j h hL hj
    have h1 := lt1 j
    induction L with
    | nil => simp at hL
    | cons g L ih =>
      by_cases e : h = g
      · subst e
        refine View.read_writes_cons_unit_of_mem m.view f (inbH h) (w h) _ j _ rfl fun d => ?_
        match d with
        | ⟨0, _⟩ => exact (Nat.zero_add _).symm
        | ⟨1, _⟩ =>
          show (j 1).val = 128 * h.val + (j 1).val % 128
          omega
      · have hL' : h ∈ L := by simpa [e] using hL
        rw [← ih hL']
        have hne : h.val ≠ g.val := fun x => e (Fin.ext x)
        refine View.read_writes_cons_unit_of_not_mem m.view f (inbH g) (w g) _ j rfl 1 ?_
        show (j 1).val < 128 * g.val ∨ 128 * g.val + 128 ≤ (j 1).val
        omega
  funext j
  have h1 := lt1 j
  exact key _ j ⟨(j 1).val / 128, by omega⟩
    ((by decide : ∀ h : Fin 4, h ∈ ([3, 2, 1, 0] : List (Fin 4))) _) rfl

/-- Where the state of direction `p.1`, head `p.2` lies. -/
theorem inbS (p : Fin 2 × Fin 4) : ∀ x, (![0, p.1.val, p.2.val, 0, 0] : Fin S1x2x4x128x128.rank → ℕ) x + S1x1x1x128x128.size x
    ≤ S1x2x4x128x128.size x := by
  intro x
  have := p.1.isLt
  have := p.2.isLt
  match x with
  | ⟨0, _⟩ => show 0 + 1 ≤ 1; omega
  | ⟨1, _⟩ => show p.1.val + 1 ≤ 2; omega
  | ⟨2, _⟩ => show p.2.val + 1 ≤ 4; omega
  | ⟨3, _⟩ => show 0 + 128 ≤ 128; omega
  | ⟨4, _⟩ => show 0 + 128 ≤ 128; omega

/-- The order in which the eight states are written, the newest first. -/
abbrev order : List (Fin 2 × Fin 4) := [(1, 3), (0, 3), (1, 2), (0, 2), (1, 1), (0, 1), (1, 0), (0, 0)]

/-- A block of states written one by one reads each state where it was put. -/
theorem states_read (m : Memref sig .tc .vmem S1x2x4x128x128 .f32) (f : BufTy.Contents (Elt F) m.view.ty)
    (w : Fin 2 × Fin 4 → FVec F S1x1x1x128x128 .f32) :
    m.view.read (Elt F) (m.view.writes (Elt F) f (order.map fun g =>
        (⟨Rect.unit (s := S1x2x4x128x128) ![0, g.1.val, g.2.val, 0, 0] S1x1x1x128x128.size (inbS g), w g⟩ : View.Piece (Elt F) S1x2x4x128x128 .f32)))
      = fun (j : S1x2x4x128x128.Idx) => w (⟨(j 1).val, (j 1).isLt⟩, ⟨(j 2).val, (j 2).isLt⟩)
          (ix5 0 0 0 ⟨(j 3).val, (j 3).isLt⟩ ⟨(j 4).val, (j 4).isLt⟩) := by
  have key : ∀ (L : List (Fin 2 × Fin 4)) (j : S1x2x4x128x128.Idx) (h : Fin 2 × Fin 4), h ∈ L → h.1.val = (j 1).val → h.2.val = (j 2).val →
      m.view.read (Elt F) (m.view.writes (Elt F) f (L.map fun g =>
        (⟨Rect.unit (s := S1x2x4x128x128) ![0, g.1.val, g.2.val, 0, 0] S1x1x1x128x128.size (inbS g), w g⟩ : View.Piece (Elt F) S1x2x4x128x128 .f32))) j
      = w h (ix5 0 0 0 ⟨(j 3).val, (j 3).isLt⟩ ⟨(j 4).val, (j 4).isLt⟩) := by
    intro L j h hL h1 h2
    have h0 : (j 0).val < 1 := (j 0).isLt
    induction L with
    | nil => simp at hL
    | cons g L ih =>
      by_cases e : h = g
      · subst e
        refine View.read_writes_cons_unit_of_mem m.view f (inbS h) (w h) _ j _ rfl fun d => ?_
        match d with
        | ⟨0, _⟩ => show (j 0).val = 0 + 0; omega
        | ⟨1, _⟩ => exact h1.symm
        | ⟨2, _⟩ => exact h2.symm
        | ⟨3, _⟩ => exact (Nat.zero_add _).symm
        | ⟨4, _⟩ => exact (Nat.zero_add _).symm
      · have hL' : h ∈ L := by simpa [e] using hL
        rw [← ih hL']
        by_cases e1 : h.1.val = g.1.val
        · have hne : h.2.val ≠ g.2.val := fun x => e (Prod.ext (Fin.ext e1) (Fin.ext x))
          refine View.read_writes_cons_unit_of_not_mem m.view f (inbS g) (w g) _ j rfl 2 ?_
          show (j 2).val < g.2.val ∨ g.2.val + 1 ≤ (j 2).val
          omega
        · refine View.read_writes_cons_unit_of_not_mem m.view f (inbS g) (w g) _ j rfl 1 ?_
          show (j 1).val < g.1.val ∨ g.1.val + 1 ≤ (j 1).val
          omega
  funext j
  exact key _ j (⟨(j 1).val, (j 1).isLt⟩, ⟨(j 2).val, (j 2).isLt⟩)
    ((by decide : ∀ h : Fin 2 × Fin 4, h ∈ order) _) rfl rfl

/-- The piece written for a state is the state transposed. -/
theorem emit_apply (s : FVec F S128x128 .f32) (a b : Fin 128) :
    k0_pay346 (plane s) (ix5 0 0 0 a b) = s (ix2 b a) := by
  pointwise [k0_pay346, plane]

section
variable (𝒱 : Variants) (c : Dev nD) (bd : Option 𝒱.V) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (arg10 : Memref sig .tc .vmem S256x512 .bf16) (harg10 : arg10.IsWhole) (arg11 : Memref sig .tc .vmem S1x2x4x128x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x128x128 .f32) (harg14 : arg14.IsWhole) (arg15 : Memref sig .tc .vmem S4x128x128 .f32) (harg15 : arg15.IsWhole)
  (v13 : FVec F S128x128 .f32) (v20 : FVec F S128x128 .f32) (v27 : FVec F S128x128 .f32) (v34 : FVec F S128x128 .f32) (v41 : FVec F S128x128 .f32) (v48 : FVec F S128x128 .f32) (v55 : FVec F S128x128 .f32) (v60 : FVec F S128x128 .bf16) (v63 : IVec S128x128 32) (v68 : FVec F S128x128 .bf16) (v71 : IVec S128x128 32) (v73 : FVec F S128x128 .f32) (v75 : FVec F S128x128 .f32) (v77 : FVec F S128x128 .f32) (v79 : FVec F S128x128 .f32) (v81 : FVec F S128x128 .f32) (v83 : FVec F S128x128 .f32) (v85 : FVec F S128x128 .f32) (v106 : FVec F S128x128 .f32)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
  (G12 : BufTy.Contents (Elt F) arg12.view.ty) (G13 : BufTy.Contents (Elt F) arg13.view.ty) (G14 : BufTy.Contents (Elt F) arg14.view.ty) (G15 : BufTy.Contents (Elt F) arg15.view.ty)
  {x2 x3 x4 x5 x6 x7 : Vec F S256x512 .f32}

/-- After the loop: what loads of the heads' columns and of the heads' states read. -/
theorem after_loop (hP : (⟨v60, v63, v13, v20, v27, v34, v41, v48, v55⟩ : Par F) = fwd) (hQ : (⟨v68, v71, v73, v75, v77, v79, v81, v83, v85⟩ : Par F) = bwd)
    (hx2 : arg2.view.read (Elt F) X2 = x2) (hx3 : arg3.view.read (Elt F) X3 = x3) (hx4 : arg4.view.read (Elt F) X4 = x4) (hx5 : arg5.view.read (Elt F) X5 = x5) (hx6 : arg6.view.read (Elt F) X6 = x6) (hx7 : arg7.view.read (Elt F) X7 = x7)
    (h14 : ∀ h, pl (arg14.view.read (Elt F) G14) h = plane zero128) (h15 : ∀ h, pl (arg15.view.read (Elt F) G15) h = plane zero128) :
    (∀ (h : Fin 4) (off : Fin S256x512.rank → ℕ) (inb : ∀ a, off a + S256x128.size a ≤ S256x512.size a), off = ![0, 128 * h.val] →
      View.readAt (Elt F) arg12.view (Rect.unit (s := S256x512) off S256x128.size inb).toLoadRect (arg12.view.writes (Elt F) G12 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 (Scf.trips k0_t1_loop.lb k0_t1_loop.ub k0_t1_loop.st)).1)
        = stack (ouF fwd x2 x3 x4 x7 h 0) (ouF fwd x2 x3 x4 x7 h 1))
    ∧ (∀ (h : Fin 4) (off : Fin S256x512.rank → ℕ) (inb : ∀ a, off a + S256x128.size a ≤ S256x512.size a), off = ![0, 128 * h.val] →
      View.readAt (Elt F) arg13.view (Rect.unit (s := S256x512) off S256x128.size inb).toLoadRect (arg13.view.writes (Elt F) G13 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 (Scf.trips k0_t1_loop.lb k0_t1_loop.ub k0_t1_loop.st)).2.1)
        = stack (ouB bwd x2 x5 x6 x7 h 1) (ouB bwd x2 x5 x6 x7 h 0))
    ∧ (∀ (h : Fin 4) (off : Fin S4x128x128.rank → ℕ) (inb : ∀ a, off a + S1x128x128.size a ≤ S4x128x128.size a), off = ![h.val, 0, 0] →
      View.readAt (Elt F) arg14.view (Rect.unit (s := S4x128x128) off S1x128x128.size inb).toLoadRect (arg14.view.writes (Elt F) G14 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 (Scf.trips k0_t1_loop.lb k0_t1_loop.ub k0_t1_loop.st)).2.2.1)
        = plane (stF fwd x3 x4 x7 h 2))
    ∧ (∀ (h : Fin 4) (off : Fin S4x128x128.rank → ℕ) (inb : ∀ a, off a + S1x128x128.size a ≤ S4x128x128.size a), off = ![h.val, 0, 0] →
      View.readAt (Elt F) arg15.view (Rect.unit (s := S4x128x128) off S1x128x128.size inb).toLoadRect (arg15.view.writes (Elt F) G15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 (Scf.trips k0_t1_loop.lb k0_t1_loop.ub k0_t1_loop.st)).2.2.2)
        = plane (stB bwd x5 x6 x7 h 2)) := by
  subst hx2 hx3 hx4 hx5 hx6 hx7
  have hN : Scf.trips k0_t1_loop.lb k0_t1_loop.ub k0_t1_loop.st = 2 := by decide +kernel
  obtain ⟨t14, t15, t12, t13⟩ := trips 𝒱 c bd i arg2 harg2 arg3 harg3 arg4 harg4 arg5 harg5 arg6 harg6 arg7 harg7 arg8 harg8 arg9 harg9 arg10 harg10 arg11 harg11 arg12 harg12 arg13 harg13 arg14 harg14 arg15 harg15 v13 v20 v27 v34 v41 v48 v55 v60 v63 v68 v71 v73 v75 v77 v79 v81 v83 v85 v106 X2 X3 X4 X5 X6 X7 G12 G13 G14 G15 h14 h15
    (Scf.trips k0_t1_loop.lb k0_t1_loop.ub k0_t1_loop.st) (Nat.le_of_eq hN)
  rw [hP] at t14 t12
  rw [hQ] at t15 t13
  refine ⟨fun h off inb ho => ?_, fun h off inb ho => ?_, fun h off inb ho => ?_, fun h off inb ho => ?_⟩
  · rw [cols_eq _ _ _ _ h ho, cols_eq_stack, t12 0 (by omega), t12 1 (by omega)]
  · have e0 := t13 0 (by omega) h
    have e1 := t13 1 (by omega) h
    rw [cols_eq _ _ _ _ h ho, cols_eq_stack]
    exact congrArg₂ stack e1 e0
  · refine (ldP_eq _ _ _ _ h ho).trans ?_
    rw [t14 h, hN]
  · refine (ldP_eq _ _ _ _ h ho).trans ?_
    rw [t15 h, hN]

end

/-- One head's mixed values, from what the loads read. -/
theorem head_eq (x2 x3 x4 x5 x6 x7 x8 : Vec F S256x512 .f32) (x9 : Vec F S1x128 .f32) (h : Fin 4)
    {u u' : Vec F S256x128 .f32} {w : Vec F S1x128 .f32} {y : Vec F S256x128 .f32}
    (hu : u = stack (ouF fwd x2 x3 x4 x7 h 0) (ouF fwd x2 x3 x4 x7 h 1))
    (hu' : u' = stack (ouB bwd x2 x5 x6 x7 h 1) (ouB bwd x2 x5 x6 x7 h 0)) (hw : w = x9) (hy : y = cols x8 h) :
    k0_pay348 u u' w y = headOut x2 x3 x4 x5 x6 x7 x8 x9 h := by
  subst hu hu' hw hy; rfl

/-- The second head's arithmetic is the first's. -/
theorem second_eq : k0_pay352 (F := F) = k0_pay348 := rfl

/-- The third head's arithmetic is the first's. -/
theorem third_eq : k0_pay355 (F := F) = k0_pay348 := rfl

/-- The fourth head's arithmetic is the first's. -/
theorem fourth_eq : k0_pay359 (F := F) = k0_pay348 := rfl

/-- A state is put out by the same arithmetic wherever it is put out. -/
theorem emit_347 : k0_pay347 (F := F) = k0_pay346 := rfl

/-- A state is put out by the same arithmetic wherever it is put out. -/
theorem emit_349 : k0_pay349 (F := F) = k0_pay346 := rfl

/-- A state is put out by the same arithmetic wherever it is put out. -/
theorem emit_353 : k0_pay353 (F := F) = k0_pay346 := rfl

/-- A state is put out by the same arithmetic wherever it is put out. -/
theorem emit_354 : k0_pay354 (F := F) = k0_pay346 := rfl

/-- A state is put out by the same arithmetic wherever it is put out. -/
theorem emit_358 : k0_pay358 (F := F) = k0_pay346 := rfl

/-- A state transposed first and cast after is put out by the same arithmetic. -/
theorem emit_351 (s : Vec F S1x128x128 .f32) : k0_pay351 (k0_pay350 s) = k0_pay346 s := rfl

/-- A state transposed first and cast after is put out by the same arithmetic. -/
theorem emit_357 (s : Vec F S1x128x128 .f32) : k0_pay357 (k0_pay356 s) = k0_pay346 s := rfl

/-- A load of the whole of the norm's weights reads them. -/
theorem weights_eq (m : Memref sig .tc .vmem S1x128 .f32) (X : BufTy.Contents (Elt F) m.view.ty) {x9 : Vec F S1x128 .f32}
    (hx : m.view.read (Elt F) X = x9) (inb : ∀ a, (![0, 0] : Fin S1x128.rank → ℕ) a + S1x128.size a ≤ S1x128.size a) :
    View.readAt (Elt F) m.view (Rect.unit (s := S1x128) ![0, 0] S1x128.size inb).toLoadRect X = x9 := by
  subst hx
  funext j
  refine congrArg (m.view.read (Elt F) X) (funext fun d => Fin.ext ?_)
  match d with
  | ⟨0, _⟩ =>
    show 0 + 1 * (j 0).val = (j 0).val
    omega
  | ⟨1, _⟩ =>
    show 0 + 1 * (j 1).val = (j 1).val
    omega

/-- The block of mixed values, from its four heads' pieces. -/
theorem mixed_block (m : Memref sig .tc .vmem S256x512 .bf16) (f : BufTy.Contents (Elt F) m.view.ty) (x2 x3 x4 x5 x6 x7 x8 : Vec F S256x512 .f32) (x9 : Vec F S1x128 .f32)
    {p3 p2 p1 p0 : FVec F S256x128 .bf16}
    (b3 : ∀ a, (![0, 384] : Fin S256x512.rank → ℕ) a + S256x128.size a ≤ S256x512.size a) (b2 : ∀ a, (![0, 256] : Fin S256x512.rank → ℕ) a + S256x128.size a ≤ S256x512.size a) (b1 : ∀ a, (![0, 128] : Fin S256x512.rank → ℕ) a + S256x128.size a ≤ S256x512.size a) (b0 : ∀ a, (![0, 0] : Fin S256x512.rank → ℕ) a + S256x128.size a ≤ S256x512.size a)
    (e3 : p3 = headOut x2 x3 x4 x5 x6 x7 x8 x9 3) (e2 : p2 = headOut x2 x3 x4 x5 x6 x7 x8 x9 2) (e1 : p1 = headOut x2 x3 x4 x5 x6 x7 x8 x9 1) (e0 : p0 = headOut x2 x3 x4 x5 x6 x7 x8 x9 0) :
    m.view.read (Elt F) (m.view.writes (Elt F) f [
        (⟨Rect.unit (s := S256x512) ![0, 384] S256x128.size b3, p3⟩ : View.Piece (Elt F) S256x512 .bf16), (⟨Rect.unit (s := S256x512) ![0, 256] S256x128.size b2, p2⟩ : View.Piece (Elt F) S256x512 .bf16), (⟨Rect.unit (s := S256x512) ![0, 128] S256x128.size b1, p1⟩ : View.Piece (Elt F) S256x512 .bf16), (⟨Rect.unit (s := S256x512) ![0, 0] S256x128.size b0, p0⟩ : View.Piece (Elt F) S256x512 .bf16)])
      = G10 x2 x3 x4 x5 x6 x7 x8 x9 := by
  subst e3 e2 e1 e0
  exact heads_read m f (headOut x2 x3 x4 x5 x6 x7 x8 x9)

/-- The block of final states, from its eight pieces. -/
theorem states_block (m : Memref sig .tc .vmem S1x2x4x128x128 .f32) (f : BufTy.Contents (Elt F) m.view.ty)
    (x3 x4 x5 x6 x7 : Vec F S256x512 .f32)
    {p13 p03 p12 p02 p11 p01 p10 p00 : FVec F S1x1x1x128x128 .f32}
    (b13 : ∀ a, (![0, 1, 3, 0, 0] : Fin S1x2x4x128x128.rank → ℕ) a + S1x1x1x128x128.size a ≤ S1x2x4x128x128.size a) (b03 : ∀ a, (![0, 0, 3, 0, 0] : Fin S1x2x4x128x128.rank → ℕ) a + S1x1x1x128x128.size a ≤ S1x2x4x128x128.size a) (b12 : ∀ a, (![0, 1, 2, 0, 0] : Fin S1x2x4x128x128.rank → ℕ) a + S1x1x1x128x128.size a ≤ S1x2x4x128x128.size a) (b02 : ∀ a, (![0, 0, 2, 0, 0] : Fin S1x2x4x128x128.rank → ℕ) a + S1x1x1x128x128.size a ≤ S1x2x4x128x128.size a) (b11 : ∀ a, (![0, 1, 1, 0, 0] : Fin S1x2x4x128x128.rank → ℕ) a + S1x1x1x128x128.size a ≤ S1x2x4x128x128.size a) (b01 : ∀ a, (![0, 0, 1, 0, 0] : Fin S1x2x4x128x128.rank → ℕ) a + S1x1x1x128x128.size a ≤ S1x2x4x128x128.size a) (b10 : ∀ a, (![0, 1, 0, 0, 0] : Fin S1x2x4x128x128.rank → ℕ) a + S1x1x1x128x128.size a ≤ S1x2x4x128x128.size a) (b00 : ∀ a, (![0, 0, 0, 0, 0] : Fin S1x2x4x128x128.rank → ℕ) a + S1x1x1x128x128.size a ≤ S1x2x4x128x128.size a)
    (e13 : p13 = k0_pay346 (plane (stB bwd x5 x6 x7 3 2))) (e03 : p03 = k0_pay346 (plane (stF fwd x3 x4 x7 3 2))) (e12 : p12 = k0_pay346 (plane (stB bwd x5 x6 x7 2 2))) (e02 : p02 = k0_pay346 (plane (stF fwd x3 x4 x7 2 2))) (e11 : p11 = k0_pay346 (plane (stB bwd x5 x6 x7 1 2))) (e01 : p01 = k0_pay346 (plane (stF fwd x3 x4 x7 1 2))) (e10 : p10 = k0_pay346 (plane (stB bwd x5 x6 x7 0 2))) (e00 : p00 = k0_pay346 (plane (stF fwd x3 x4 x7 0 2))) :
    m.view.read (Elt F) (m.view.writes (Elt F) f [
        (⟨Rect.unit (s := S1x2x4x128x128) ![0, 1, 3, 0, 0] S1x1x1x128x128.size b13, p13⟩ : View.Piece (Elt F) S1x2x4x128x128 .f32), (⟨Rect.unit (s := S1x2x4x128x128) ![0, 0, 3, 0, 0] S1x1x1x128x128.size b03, p03⟩ : View.Piece (Elt F) S1x2x4x128x128 .f32), (⟨Rect.unit (s := S1x2x4x128x128) ![0, 1, 2, 0, 0] S1x1x1x128x128.size b12, p12⟩ : View.Piece (Elt F) S1x2x4x128x128 .f32), (⟨Rect.unit (s := S1x2x4x128x128) ![0, 0, 2, 0, 0] S1x1x1x128x128.size b02, p02⟩ : View.Piece (Elt F) S1x2x4x128x128 .f32), (⟨Rect.unit (s := S1x2x4x128x128) ![0, 1, 1, 0, 0] S1x1x1x128x128.size b11, p11⟩ : View.Piece (Elt F) S1x2x4x128x128 .f32), (⟨Rect.unit (s := S1x2x4x128x128) ![0, 0, 1, 0, 0] S1x1x1x128x128.size b01, p01⟩ : View.Piece (Elt F) S1x2x4x128x128 .f32), (⟨Rect.unit (s := S1x2x4x128x128) ![0, 1, 0, 0, 0] S1x1x1x128x128.size b10, p10⟩ : View.Piece (Elt F) S1x2x4x128x128 .f32), (⟨Rect.unit (s := S1x2x4x128x128) ![0, 0, 0, 0, 0] S1x1x1x128x128.size b00, p00⟩ : View.Piece (Elt F) S1x2x4x128x128 .f32)])
      = G11 x3 x4 x5 x6 x7 := by
  subst e13 e03 e12 e02 e11 e01 e10 e00
  refine (states_read m f fun p => k0_pay346 (plane (if p.1.val = 0 then stF fwd x3 x4 x7 p.2 2 else stB bwd x5 x6 x7 p.2 2))).trans ?_
  funext j
  rw [emit_apply]
  unfold G11
  by_cases h : (j 1).val = 0
  · rw [if_pos h, if_pos h]
  · rw [if_neg h, if_neg h]

/-- A load off what lies under some pieces is a load off what those pieces were written on. -/
theorem plane_load (m : Memref sig .tc .vmem S4x128x128 .f32) (L L' : List (View.Piece (Elt F) S4x128x128 .f32))
    (off : Fin S4x128x128.rank → ℕ) (inb : ∀ a, off a + S1x128x128.size a ≤ S4x128x128.size a) :
    m.view.readCov (L ++ L') (Rect.unit (s := S4x128x128) off S1x128x128.size inb).toLoadRect
      = View.readAt (Elt F) m.view (Rect.unit (s := S4x128x128) off S1x128x128.size inb).toLoadRect
          (m.view.writes (Elt F) (m.view.writes (Elt F) m.view.junk L') L) := by
  unfold View.readCov
  rw [View.writes_append]

/-- The zero states as written: every head's plane is zero. -/
theorem zero_planes (m : Memref sig .tc .vmem S4x128x128 .f32) (f : BufTy.Contents (Elt F) m.view.ty)
    {p3 p2 p1 p0 : FVec F S1x128x128 .f32}
    (b3 : ∀ a, (![3, 0, 0] : Fin S4x128x128.rank → ℕ) a + S1x128x128.size a ≤ S4x128x128.size a) (b2 : ∀ a, (![2, 0, 0] : Fin S4x128x128.rank → ℕ) a + S1x128x128.size a ≤ S4x128x128.size a) (b1 : ∀ a, (![1, 0, 0] : Fin S4x128x128.rank → ℕ) a + S1x128x128.size a ≤ S4x128x128.size a) (b0 : ∀ a, (![0, 0, 0] : Fin S4x128x128.rank → ℕ) a + S1x128x128.size a ≤ S4x128x128.size a)
    (e3 : p3 = plane zero128) (e2 : p2 = plane zero128) (e1 : p1 = plane zero128) (e0 : p0 = plane zero128) (h : Fin 4) :
    pl (m.view.read (Elt F) (m.view.writes (Elt F) f [
        (⟨Rect.unit (s := S4x128x128) ![3, 0, 0] S1x128x128.size b3, p3⟩ : View.Piece (Elt F) S4x128x128 .f32), (⟨Rect.unit (s := S4x128x128) ![2, 0, 0] S1x128x128.size b2, p2⟩ : View.Piece (Elt F) S4x128x128 .f32), (⟨Rect.unit (s := S4x128x128) ![1, 0, 0] S1x128x128.size b1, p1⟩ : View.Piece (Elt F) S4x128x128 .f32), (⟨Rect.unit (s := S4x128x128) ![0, 0, 0] S1x128x128.size b0, p0⟩ : View.Piece (Elt F) S4x128x128 .f32)])) h
      = plane zero128 := by
  subst e3 e2 e1 e0
  refine (pl_writes m f (fun g => ![g.val, 0, 0]) inbP (fun _ => rfl) (fun _ => plane zero128) h [3, 2, 1, 0]).trans ?_
  rw [if_pos (by revert h; decide)]

end Cert.KernelIdeal.Hgrn
-- ==== Proof.Body.lean ====
/-
  The kernel's body at a grid point: from blocks of the operands to the two blocks it writes.
-/
module

public import proofs.«01_k».proof.Proof.Gather
public import proofs.«01_k».proof.Proof.Gen.KernelIdeal.Frame
public import Idealize.ShloMosaic.Lib.Tactic.Stretches

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- From the operands' blocks, the body leaves the mixed values and the final states of the block's heads in the two
    output buffers, and the operands' buffers as they were. -/
theorem body_run (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S256x512 .f32) (harg8 : arg8.IsWhole) (arg9 : Memref sig .tc .vmem S1x128 .f32) (harg9 : arg9.IsWhole) (arg10 : Memref sig .tc .vmem S256x512 .bf16) (harg10 : arg10.IsWhole) (arg11 : Memref sig .tc .vmem S1x2x4x128x128 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S4x128x128 .f32) (harg14 : arg14.IsWhole) (arg15 : Memref sig .tc .vmem S4x128x128 .f32) (harg15 : arg15.IsWhole)
    (x2 : Vec F S256x512 .f32) (x3 : Vec F S256x512 .f32) (x4 : Vec F S256x512 .f32) (x5 : Vec F S256x512 .f32) (x6 : Vec F S256x512 .f32) (x7 : Vec F S256x512 .f32) (x8 : Vec F S256x512 .f32) (x9 : Vec F S1x128 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (G10 x2 x3 x4 x5 x6 x7 x8 x9) ∗ owns (c : Thread nD τ) arg11 fullShare (G11 x3 x4 x5 x6 x7) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_hgrn2 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_hgrn2_eq_skeleton]
  unfold cc0_hgrn2_skel
  simp only [k0_part42_eq_skeleton, k0_part35_eq_skeleton, k0_part36_eq_skeleton, k0_part37_eq_skeleton,
    k0_part38_eq_skeleton, k0_part39_eq_skeleton, k0_part40_eq_skeleton, k0_part41_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec
  sl_step
  iapply Hk
  have after := after_loop (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 k0_pay315 k0_pay316 k0_pay317 k0_pay318 (k0_pay320 k0_pay319) (k0_pay321 body_run.sl.v0) (k0_pay322 body_run.sl.v0) (k0_pay323 body_run.sl.v0 body_run.sl.v1) (k0_pay324 body_run.sl.v0 body_run.sl.v1 k0_pay314) (k0_pay325 body_run.sl.v0 body_run.sl.v1) (k0_pay326 body_run.sl.v0 body_run.sl.v1 k0_pay314) body_run.sl.r body_run.sl.r_1 body_run.sl.r_2 body_run.sl.r_3 body_run.sl.r_4 body_run.sl.r_5 body_run.sl.r_6 (k0_pay340 (F := F))
    (harg2.unread x2) (harg3.unread x3) (harg4.unread x4) (harg5.unread x5) (harg6.unread x6) (harg7.unread x7) f12 f13
    (arg14.view.writes (Elt F) arg14.view.junk body_run.sl.H14_4) (arg15.view.writes (Elt F) arg15.view.junk body_run.sl.H15_4)
    rfl rfl (harg2.read_unread x2) (harg3.read_unread x3) (harg4.read_unread x4) (harg5.read_unread x5) (harg6.read_unread x6) (harg7.read_unread x7) (zero_planes arg14 _ _ _ _ _ rfl rfl rfl rfl) (zero_planes arg15 _ _ _ _ _ rfl rfl rfl rfl)
  obtain ⟨A, B, C, D⟩ := after
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine mixed_block arg10 f10 x2 x3 x4 x5 x6 x7 x8 x9 _ _ _ _ ?_ ?_ ?_ ?_
    · unfold body_run.sl.r_9; rw [fourth_eq]; exact head_eq x2 x3 x4 x5 x6 x7 x8 x9 3 (A 3 ![0, 384] _ rfl) (B 3 ![0, 384] _ rfl) (weights_eq arg9 _ (harg9.read_unread x9) _)
        ((cols_eq arg8 _ _ _ 3 rfl).trans (congrArg (cols · 3) (harg8.read_unread x8)))
    · rw [third_eq]; exact head_eq x2 x3 x4 x5 x6 x7 x8 x9 2 (A 2 ![0, 256] _ rfl) (B 2 ![0, 256] _ rfl) (weights_eq arg9 _ (harg9.read_unread x9) _)
        ((cols_eq arg8 _ _ _ 2 rfl).trans (congrArg (cols · 2) (harg8.read_unread x8)))
    · rw [second_eq]; exact head_eq x2 x3 x4 x5 x6 x7 x8 x9 1 (A 1 ![0, 128] _ rfl) (B 1 ![0, 128] _ rfl) (weights_eq arg9 _ (harg9.read_unread x9) _)
        ((cols_eq arg8 _ _ _ 1 rfl).trans (congrArg (cols · 1) (harg8.read_unread x8)))
    · exact head_eq x2 x3 x4 x5 x6 x7 x8 x9 0 (A 0 ![0, 0] _ rfl) (B 0 ![0, 0] _ rfl) (weights_eq arg9 _ (harg9.read_unread x9) _)
        ((cols_eq arg8 _ _ _ 0 rfl).trans (congrArg (cols · 0) (harg8.read_unread x8)))
  isplitl [H11]
  · iexists _; isplitr; swap; · iexact H11
    ipureintro
    refine states_block arg11 f11 x3 x4 x5 x6 x7 _ _ _ _ _ _ _ _ ?_ ?_ ?_ ?_ ?_ ?_ ?_ ?_
    · rw [emit_358]; exact congrArg k0_pay346 ((plane_load arg15 _ _ _ _).trans (D 3 ![3, 0, 0] _ rfl))
    · unfold body_run.sl.r_8; rw [emit_357]; exact congrArg k0_pay346 ((plane_load arg14 _ _ _ _).trans (C 3 ![3, 0, 0] _ rfl))
    · rw [emit_354]; exact congrArg k0_pay346 ((plane_load arg15 _ _ _ _).trans (D 2 ![2, 0, 0] _ rfl))
    · rw [emit_353]; exact congrArg k0_pay346 ((plane_load arg14 _ _ _ _).trans (C 2 ![2, 0, 0] _ rfl))
    · unfold body_run.sl.r_7; rw [emit_351]; exact congrArg k0_pay346 ((plane_load arg15 _ _ _ _).trans (D 1 ![1, 0, 0] _ rfl))
    · rw [emit_349]; exact congrArg k0_pay346 ((plane_load arg14 _ _ _ _).trans (C 1 ![1, 0, 0] _ rfl))
    · rw [emit_347]; exact congrArg k0_pay346 ((plane_load arg15 _ _ _ _).trans (D 0 ![0, 0, 0] _ rfl))
    · exact congrArg k0_pay346 ((plane_load arg14 _ _ _ _).trans (C 0 ![0, 0, 0] _ rfl))
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  iexists _, _; isplitr; swap; · iexact H15
  ipureintro; rfl

end Cert.KernelIdeal.Hgrn
-- ==== Proof.Run.lean ====
/-
  The launch: every grid point runs the body on its blocks, so each output array ends at the blocks the body leaves and
  every argument ends as it began.
-/
module

public import proofs.«01_k».proof.Proof.Body
public import Idealize.ShloMosaic.Lib.Claim

@[expose] public section

set_option maxRecDepth 16384

noncomputable section

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The mixed values point `t` writes. -/
def mixedAt (c : Dev nD) (t : Fin cfg0.N) : Vec F S256x512 .bf16 :=
  G10 (iblk m c 0 t) (iblk m c 1 t) (iblk m c 2 t) (iblk m c 3 t) (iblk m c 4 t) (iblk m c 5 t) (iblk m c 6 t) (iblk m c 7 t)

/-- The final states point `t` writes. -/
def statesAt (c : Dev nD) (t : Fin cfg0.N) : Vec F S1x2x4x128x128 .f32 :=
  G11 (iblk m c 1 t) (iblk m c 2 t) (iblk m c 3 t) (iblk m c 4 t) (iblk m c 5 t)

/-- The launch's data: operands keep their blocks, the outputs take the body's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => mixedAt m c t
    | ⟨9, _⟩ => statesAt m c t
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = mixedAt m c t := by dsimp only [dats]
theorem after_9 (c : Dev nD) (t : Fin cfg0.N) : (dats m 0 c).after 9 t = statesAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

abbrev st_0 (t : Fin cfg0.N) : Memref sig .tc .vmem S256x512 .f32 := win0_0.stage (cfg0.slots t 0)
abbrev st_1 (t : Fin cfg0.N) : Memref sig .tc .vmem S256x512 .f32 := win0_1.stage (cfg0.slots t 1)
abbrev st_2 (t : Fin cfg0.N) : Memref sig .tc .vmem S256x512 .f32 := win0_2.stage (cfg0.slots t 2)
abbrev st_3 (t : Fin cfg0.N) : Memref sig .tc .vmem S256x512 .f32 := win0_3.stage (cfg0.slots t 3)
abbrev st_4 (t : Fin cfg0.N) : Memref sig .tc .vmem S256x512 .f32 := win0_4.stage (cfg0.slots t 4)
abbrev st_5 (t : Fin cfg0.N) : Memref sig .tc .vmem S256x512 .f32 := win0_5.stage (cfg0.slots t 5)
abbrev st_6 (t : Fin cfg0.N) : Memref sig .tc .vmem S256x512 .f32 := win0_6.stage (cfg0.slots t 6)
abbrev st_7 (t : Fin cfg0.N) : Memref sig .tc .vmem S1x128 .f32 := win0_7.stage (cfg0.slots t 7)
abbrev st_8 (t : Fin cfg0.N) : Memref sig .tc .vmem S256x512 .bf16 := win0_8.stage (cfg0.slots t 8)
abbrev st_9 (t : Fin cfg0.N) : Memref sig .tc .vmem S1x2x4x128x128 .f32 := win0_9.stage (cfg0.slots t 9)
abbrev sc_0 : Memref sig .tc .vmem S256x512 .f32 := Memref.whole cc0_scratch0
abbrev sc_1 : Memref sig .tc .vmem S256x512 .f32 := Memref.whole cc0_scratch1
abbrev sc_2 : Memref sig .tc .vmem S4x128x128 .f32 := Memref.whole cc0_scratch2
abbrev sc_3 : Memref sig .tc .vmem S4x128x128 .f32 := Memref.whole cc0_scratch3

/-- What the launch keeps between points: the four scratches at some contents, and the generator's register. -/
theorem kept_eq (c : Dev nD) :
    (Pipeline.ΦA spec0 c : sProp 𝕄)
      = iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ (∃ r, prngReg c r)) := by
  unfold Pipeline.ΦA; rw [scopedRest0_eq]; simp only [sc_0, sc_1, sc_2, sc_3, owns_whole]; try rfl

/-- What the body is given at point `t`. -/
def given (c : Dev nD) (t : Fin cfg0.N) : sProp 𝕄 :=
  iprop((dats m 0 c).Φ t.castSucc ∗ (dats m 0 c).owesAt () t.castSucc
    ∗ (∃ d, owns (c : Thread nD τ) (st_0 t) fullShare ((dats m 0 c).before 0 t d)) ∗ (∃ d, owns (c : Thread nD τ) (st_1 t) fullShare ((dats m 0 c).before 1 t d)) ∗ (∃ d, owns (c : Thread nD τ) (st_2 t) fullShare ((dats m 0 c).before 2 t d)) ∗ (∃ d, owns (c : Thread nD τ) (st_3 t) fullShare ((dats m 0 c).before 3 t d)) ∗ (∃ d, owns (c : Thread nD τ) (st_4 t) fullShare ((dats m 0 c).before 4 t d)) ∗ (∃ d, owns (c : Thread nD τ) (st_5 t) fullShare ((dats m 0 c).before 5 t d)) ∗ (∃ d, owns (c : Thread nD τ) (st_6 t) fullShare ((dats m 0 c).before 6 t d)) ∗ (∃ d, owns (c : Thread nD τ) (st_7 t) fullShare ((dats m 0 c).before 7 t d)) ∗ (∃ d, owns (c : Thread nD τ) (st_8 t) fullShare ((dats m 0 c).before 8 t d)) ∗ (∃ d, owns (c : Thread nD τ) (st_9 t) fullShare ((dats m 0 c).before 9 t d)))

/-- What the body returns at point `t`. -/
def returned (c : Dev nD) (t : Fin cfg0.N) : sProp 𝕄 :=
  iprop((dats m 0 c).Φ t.succ ∗ (dats m 0 c).owesAt () t.succ
    ∗ owns (c : Thread nD τ) (st_0 t) fullShare ((dats m 0 c).after 0 t) ∗ owns (c : Thread nD τ) (st_1 t) fullShare ((dats m 0 c).after 1 t) ∗ owns (c : Thread nD τ) (st_2 t) fullShare ((dats m 0 c).after 2 t) ∗ owns (c : Thread nD τ) (st_3 t) fullShare ((dats m 0 c).after 3 t) ∗ owns (c : Thread nD τ) (st_4 t) fullShare ((dats m 0 c).after 4 t) ∗ owns (c : Thread nD τ) (st_5 t) fullShare ((dats m 0 c).after 5 t) ∗ owns (c : Thread nD τ) (st_6 t) fullShare ((dats m 0 c).after 6 t) ∗ owns (c : Thread nD τ) (st_7 t) fullShare ((dats m 0 c).after 7 t) ∗ owns (c : Thread nD τ) (st_8 t) fullShare ((dats m 0 c).after 8 t) ∗ owns (c : Thread nD τ) (st_9 t) fullShare ((dats m 0 c).after 9 t))

set_option maxHeartbeats 1200000 in
/-- The body at any point, on that point's blocks. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, kept_eq]
  iintro ⟨⟨⟨S0, S1, S2, S3⟩, R⟩, O, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  isplitl [S3]; · iexact S3
  iintro ⟨H0, H1, H2, H3, H4, H5, H6, H7, H8, H9, S0, S1, S2, S3⟩
  isplitl [S0 S1 S2 S3 R]
  · isplitl [S0 S1 S2 S3]
    · isplitl [S0]; · iexact S0
      isplitl [S1]; · iexact S1
      isplitl [S2]; · iexact S2
      iexact S3
    iexact R
  isplitl [O]; · iexact O
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The table of bodies holds the body at the launch's entry. -/
theorem table_row (t : Fin cfg0.N) :
    defs₀ (F := F) .tc cfg0.body (cfg0.bodyArgs t (cfg0.slots t)) = bodyAt0 t := by
  unfold defs₀; rw [Defs.onTc_tc]

/-- What the launch asks of the body, at every point. -/
theorem obligation (c : Dev nD) : BodyObligation (dats (F := F) m 0 c) (defs₀ (F := F)) Variants.none () Set.univ := fun t => by
  rw [bigSep_W0, bigSep_W0, table_row]
  exact triple_restated (body_at m c t) rfl .rfl fun _ => .rfl

set_option backward.isDefEq.respectTransparency.types false in
/-- The whole run: the arrays end as the launch's data say, and every counter at zero. -/
theorem run_all : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run, without the counters. -/
theorem run_arrays : θ_run defs (onTc (τ := τ) (main (F := F))) (s₀ m ρ) (Pipeline.FramePost cfgs (dats m) 0 (V m)) :=
  (θ_run defs _ _).mono (fun _ h => h.1) (run_all m ρ)

/-- The arguments end as they began, and every counter at zero. -/
theorem args_kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_arrays m ρ)) ((θ_run defs _ _).mono (fun _ h => h.2) (run_all m ρ))

end Cert.KernelIdeal.Hgrn
-- ==== Proof.Ffn.lean ====
/-
  The last feed-forward sub-layer of one token, behind the mixer's residual: what both programs compute of a row.
-/
module

public import Idealize.ShloMosaic.Lib.Pipeline.ValueKit
public import Idealize.ShloMosaic.Lib.Pointwise

@[expose] public section

noncomputable section

namespace Cert.Ffn

open Idealize.ShloMosaic

/-- A vector of the model's width. -/
abbrev Row : Type := Fin 1024 → EReal

/-- A row over its root mean square, scaled by `g`. -/
def norm (v g : Row) : Row := fun j =>
  v j * Ideal.rsqrt (Ideal.div (∑ l, v l * v l) (Ideal.ofBits .f32 0x44800000#32) + Ideal.ofBits .f32 0x358637BD#32) * g j

/-- A row times a matrix. -/
def times {a b : ℕ} (v : Fin a → EReal) (w : Fin a → Fin b → EReal) : Fin b → EReal := fun j => ∑ k, v k * w k j

/-- The mixer's part: the row `x` and the gated norm of `u w`. -/
def mixer (x u : Row) (w : Fin 1024 → Fin 1024 → EReal) (gate g : Row) : Row := fun j => x j + gate j * norm (times u w) g j

/-- What enters the feed-forward part: the norm of `x`, scaled and shifted. -/
def entering (shift scale x g : Row) : Row := fun j => norm x g j * (1 + scale j) + shift j

/-- The hidden row: the first half passed through the silu, times the second. -/
def hidden (h : Row) (w : Fin 1024 → Fin 5632 → EReal) : Fin 2816 → EReal := fun k =>
  times h w ⟨k.val, by omega⟩ * Ideal.logistic (times h w ⟨k.val, by omega⟩) * times h w ⟨2816 + k.val, by omega⟩

/-- What leaves: the row `x` and half the gated norm of the feed-forward part's product. -/
def leaving (gate x : Row) (a : Fin 2816 → EReal) (w : Fin 2816 → Fin 1024 → EReal) (g : Row) : Row := fun j =>
  x j + Ideal.ofBits .f32 0x3F000000#32 * gate j * norm (times a w) g j

/-- A token's result: `x` its row, `u` its mixer's row, `a` the modulation of the mixer and `b` that of the feed-forward part
    (shift, scale, gate), `p` and `q` the gains of the two (before, after). -/
def token (x u : Row) (w : Fin 1024 → Fin 1024 → EReal) (a b : Fin 3 → Row) (p q : Fin 2 → Row)
    (wi : Fin 1024 → Fin 5632 → EReal) (wo : Fin 2816 → Fin 1024 → EReal) : Row :=
  leaving (b 2) (mixer x u w (a 2) (p 1)) (hidden (entering (b 0) (b 1) (mixer x u w (a 2) (p 1)) (q 0)) wi) wo (q 1)

/-- The array of results, where token `r` has the modulation of row `md r`. -/
def result (md : Fin 8192 → Fin 8) (y u : (⟨2, ![8192, 1024]⟩ : Shape).Idx → EReal) (w : (⟨2, ![1024, 1024]⟩ : Shape).Idx → EReal)
    (mods : (⟨4, ![8, 3, 3, 1024]⟩ : Shape).Idx → EReal) (g : (⟨3, ![3, 2, 1024]⟩ : Shape).Idx → EReal)
    (wi : (⟨2, ![1024, 5632]⟩ : Shape).Idx → EReal) (wo : (⟨2, ![2816, 1024]⟩ : Shape).Idx → EReal) : (⟨2, ![8192, 1024]⟩ : Shape).Idx → EReal := fun i =>
  token (fun l => y (ix2 (i 0) l)) (fun l => u (ix2 (i 0) l)) (fun k l => w (ix2 k l)) (fun s l => mods (ix4 (md (i 0)) 1 s l))
    (fun s l => mods (ix4 (md (i 0)) 2 s l)) (fun s l => g (ix3 1 s l)) (fun s l => g (ix3 2 s l)) (fun k l => wi (ix2 k l)) (fun k l => wo (ix2 k l)) (i 1)

end Cert.Ffn

end
-- ==== Proof.FfnBlock.lean ====
/-
  What one grid point of the feed-forward kernel stores: each row of its block is the token's result.
-/
module

public import proofs.«01_k».proof.Proof.Gen.FfnPromptIdeal.Value
public import proofs.«01_k».proof.Proof.Ffn

@[expose] public section

set_option maxRecDepth 16384

noncomputable section

namespace Cert.FfnPromptIdeal.Block

open Cert.FfnPromptIdeal Cert.FfnPromptIdeal.Gen Cert.Ffn
open Idealize.ShloMosaic Idealize.ShloMosaic.TcCoe Idealize.SL.Sem

/-- The rows behind the mixer's residual. -/
theorem mixer_at (x : FVec Ideal S256x1024 .f32) (u : FVec Ideal S256x1024 .bf16) (w : FVec Ideal S1024x1024 .bf16) (a : FVec Ideal S1x3x1024 .f32) (g : FVec Ideal S1x1024 .f32)
    (r : Fin 256) (j : Fin 1024) : k0_pay6 (F := Ideal) x u w a g (ix2 r j)
      = mixer (fun l => x (ix2 r l)) (fun l => u (ix2 r l)) (fun k l => w (ix2 k l)) (fun l => a (ix3 0 2 l)) (fun l => g (ix2 0 l)) j := by
  pointwise [k0_pay6]
  rfl

/-- The rows that enter the feed-forward part. -/
theorem entering_at (b : FVec Ideal S1x3x1024 .f32) (x : FVec Ideal S256x1024 .f32) (g : FVec Ideal S1x1024 .f32)
    (r : Fin 256) (j : Fin 1024) : k0_pay8 (k0_pay3 b) (k0_pay4 b) x g (ix2 r j)
      = entering (fun l => b (ix3 0 0 l)) (fun l => b (ix3 0 1 l)) (fun l => x (ix2 r l)) (fun l => g (ix2 0 l)) j := by
  pointwise [k0_pay8, k0_pay3, k0_pay4, k0_pay2]
  rfl

/-- The rows that leave it. -/
theorem leaving_at (b : FVec Ideal S1x3x1024 .f32) (x : FVec Ideal S256x1024 .f32) (h : FVec Ideal S256x1024 .bf16) (w1 w2 : FVec Ideal S1024x2816 .bf16)
    (wo : FVec Ideal S2816x1024 .bf16) (g : FVec Ideal S1x1024 .f32) (w : Fin 1024 → Fin 5632 → EReal)
    (h1 : ∀ k (l : Fin 2816), w1 (ix2 k l) = w k ⟨l.val, by omega⟩) (h2 : ∀ k (l : Fin 2816), w2 (ix2 k l) = w k ⟨2816 + l.val, by omega⟩)
    (r : Fin 256) (j : Fin 1024) : k0_pay9 (k0_pay5 b) x h w1 w2 wo g (ix2 r j)
      = leaving (fun l => b (ix3 0 2 l)) (fun l => x (ix2 r l)) (hidden (fun l => h (ix2 r l)) w) (fun k l => wo (ix2 k l)) (fun l => g (ix2 0 l)) j := by
  pointwise [k0_pay9, k0_pay5, k0_pay2]
  simp only [h1, h2]
  rfl

variable (x0 : Vec Ideal S1024x1024 .f32) (x1 : Vec Ideal S1024x1024 .bf16) (x2 : Vec Ideal S1024x1024 .bf16) (x3 : Vec Ideal S1x3x1024 .f32) (x4 : Vec Ideal S2x1024 .f32)
  (x5 : Vec Ideal S1x3x1024 .f32) (x6 : Vec Ideal S2x1024 .f32) (x7 : Vec Ideal S1024x5632 .bf16) (x8 : Vec Ideal S2816x1024 .bf16)

/-- Rows `o` to `o + 255` of a block. -/
abbrev group (o : ℕ) (inb : ∀ a, (![o, 0] : Fin 2 → ℕ) a + S256x1024.size a ≤ S1024x1024.size a) : Rect S1024x1024 := Rect.unit (s := S1024x1024) ![o, 0] S256x1024.size inb

/-- The result of a row of the block. -/
def resultAt (y : S1024x1024.Idx) : EReal :=
  token (fun l => x0 (ix2 (y 0) l)) (fun l => x1 (ix2 (y 0) l)) (fun k l => x2 (ix2 k l)) (fun s l => x3 (ix3 0 s l)) (fun s l => x5 (ix3 0 s l))
    (fun s l => x4 (ix2 s l)) (fun s l => x6 (ix2 s l)) (fun k l => x7 (ix2 k l)) (fun k l => x8 (ix2 k l)) (y 1)

/-- What the body stores in the group of rows that starts at `o`. -/
def groupOf (o : ℕ) (inb : ∀ a, (![o, 0] : Fin 2 → ℕ) a + S256x1024.size a ≤ S1024x1024.size a) : FVec Ideal S256x1024 .f32 :=
  k0_pay9 (k0_pay5 (View.ld x5 r0_0)) (k0_pay6 (View.ld x0 (group o inb)) (View.ld x1 (group o inb)) (View.ld x2 r0_2) (View.ld x3 r0_0) (View.ld x4 r0_3))
    (k0_pay8 (k0_pay3 (View.ld x5 r0_0)) (k0_pay4 (View.ld x5 r0_0))
      (k0_pay6 (View.ld x0 (group o inb)) (View.ld x1 (group o inb)) (View.ld x2 r0_2) (View.ld x3 r0_0) (View.ld x4 r0_3)) (View.ld x6 r0_5))
    (View.ld x7 r0_6) (View.ld x7 r0_7) (View.ld x8 r0_8) (View.ld x6 r0_3)

/-- The block as four groups of rows. -/
theorem out_groups : out0_9 x0 x1 x2 x3 x4 x5 x6 x7 x8 = View.canon
    [⟨group 768 inb_S1024x1024_S256x1024_768_0, groupOf x0 x1 x2 x3 x4 x5 x6 x7 x8 768 inb_S1024x1024_S256x1024_768_0⟩,
     ⟨group 512 inb_S1024x1024_S256x1024_512_0, groupOf x0 x1 x2 x3 x4 x5 x6 x7 x8 512 inb_S1024x1024_S256x1024_512_0⟩,
     ⟨group 256 inb_S1024x1024_S256x1024_256_0, groupOf x0 x1 x2 x3 x4 x5 x6 x7 x8 256 inb_S1024x1024_S256x1024_256_0⟩,
     ⟨group 0 inb_S1024x1024_S256x1024_0_0, groupOf x0 x1 x2 x3 x4 x5 x6 x7 x8 0 inb_S1024x1024_S256x1024_0_0⟩] := by
  chain_rfl

/-- A row of a group is a row of the block. -/
theorem ld_group {e : EltTy} (X : Vec Ideal S1024x1024 e) (o : ℕ) (inb : ∀ a, (![o, 0] : Fin 2 → ℕ) a + S256x1024.size a ≤ S1024x1024.size a) (r : Fin 256) (j l : Fin 1024) :
    View.ld X (group o inb) (ix2 r l) = X (ix2 ((group o inb).emb (ix2 r j) 0) l) := by
  refine congrArg X (funext fun a => Fin.ext ?_)
  match a with
  | 0 => rfl
  | 1 => exact (Rect.idx_unit_val (s := S1024x1024) ![o, 0] S256x1024.size inb (ix2 r l) 1).trans (Nat.zero_add l.val)

/-- A row of a pair of gains. -/
theorem ld_first (X : Vec Ideal S2x1024 .f32) (l : Fin 1024) : View.ld X r0_5 (ix2 0 l) = X (ix2 0 l) :=
  View.ld_unit_apply_of X _ _ _ _ _ fun a => by match a with | 0 => rfl | 1 => exact (Nat.zero_add _).symm

theorem ld_second (X : Vec Ideal S2x1024 .f32) (l : Fin 1024) : View.ld X r0_3 (ix2 0 l) = X (ix2 1 l) :=
  View.ld_unit_apply_of X _ _ _ _ _ fun a => by match a with | 0 => rfl | 1 => exact (Nat.zero_add _).symm

/-- A read of a whole array. -/
theorem ld_mod (X : Vec Ideal S1x3x1024 .f32) (s : Fin 3) (l : Fin 1024) : View.ld X r0_0 (ix3 0 s l) = X (ix3 0 s l) :=
  View.ld_unit_apply_of X _ _ _ _ _ fun a => by match a with | 0 => rfl | 1 => exact (Nat.zero_add _).symm | 2 => exact (Nat.zero_add _).symm

theorem ld_mix (X : Vec Ideal S1024x1024 .bf16) (k l : Fin 1024) : View.ld X r0_2 (ix2 k l) = X (ix2 k l) :=
  View.ld_unit_apply_of X _ _ _ _ _ fun a => by match a with | 0 => exact (Nat.zero_add _).symm | 1 => exact (Nat.zero_add _).symm

theorem ld_back (X : Vec Ideal S2816x1024 .bf16) (k : Fin 2816) (l : Fin 1024) : View.ld X r0_8 (ix2 k l) = X (ix2 k l) :=
  View.ld_unit_apply_of X _ _ _ _ _ fun a => by match a with | 0 => exact (Nat.zero_add _).symm | 1 => exact (Nat.zero_add _).symm

/-- The two halves of the weights. -/
theorem ld_left (X : Vec Ideal S1024x5632 .bf16) (k : Fin 1024) (l : Fin 2816) : View.ld X r0_6 (ix2 k l) = X (ix2 k ⟨l.val, by omega⟩) :=
  View.ld_unit_apply_of X _ _ _ _ _ fun a => by match a with | 0 => exact (Nat.zero_add _).symm | 1 => exact (Nat.zero_add _).symm

theorem ld_right (X : Vec Ideal S1024x5632 .bf16) (k : Fin 1024) (l : Fin 2816) : View.ld X r0_7 (ix2 k l) = X (ix2 k ⟨2816 + l.val, by omega⟩) :=
  View.ld_unit_apply_of X _ _ _ _ _ fun a => by match a with | 0 => exact (Nat.zero_add _).symm | 1 => rfl

/-- A group's rows are the results of the rows of the block. -/
theorem group_at (o : ℕ) (inb : ∀ a, (![o, 0] : Fin 2 → ℕ) a + S256x1024.size a ≤ S1024x1024.size a) (y : S256x1024.Idx) :
    groupOf x0 x1 x2 x3 x4 x5 x6 x7 x8 o inb y = resultAt x0 x1 x2 x3 x4 x5 x6 x7 x8 ((group o inb).emb y) := by
  obtain ⟨r, j, rfl⟩ : ∃ r j, y = ix2 r j := ⟨y 0, y 1, by funext a; match a with | 0 => rfl | 1 => rfl⟩
  have col : (group o inb).emb (ix2 r j) 1 = j := Fin.ext ((Rect.idx_unit_val (s := S1024x1024) ![o, 0] S256x1024.size inb (ix2 r j) 1).trans (Nat.zero_add j.val))
  unfold groupOf resultAt
  rw [leaving_at _ _ _ _ _ _ _ (fun k l => x7 (ix2 k l)) (ld_left x7) (ld_right x7), col]
  simp only [entering_at, mixer_at, ld_group x0 o inb r j, ld_group x1 o inb r j]
  have h0 : (fun l => View.ld x5 r0_0 (ix3 0 0 l)) = fun l => x5 (ix3 0 0 l) := funext (ld_mod x5 0)
  have h1 : (fun l => View.ld x5 r0_0 (ix3 0 1 l)) = fun l => x5 (ix3 0 1 l) := funext (ld_mod x5 1)
  have h2 : (fun l => View.ld x5 r0_0 (ix3 0 2 l)) = fun l => x5 (ix3 0 2 l) := funext (ld_mod x5 2)
  have h3 : (fun l => View.ld x3 r0_0 (ix3 0 2 l)) = fun l => x3 (ix3 0 2 l) := funext (ld_mod x3 2)
  have h4 : (fun l => View.ld x4 r0_3 (ix2 0 l)) = fun l => x4 (ix2 1 l) := funext (ld_second x4)
  have h5 : (fun l => View.ld x6 r0_5 (ix2 0 l)) = fun l => x6 (ix2 0 l) := funext (ld_first x6)
  have h6 : (fun l => View.ld x6 r0_3 (ix2 0 l)) = fun l => x6 (ix2 1 l) := funext (ld_second x6)
  have h7 : (fun k l => View.ld x2 r0_2 (ix2 k l)) = fun k l => x2 (ix2 k l) := funext fun k => funext (ld_mix x2 k)
  have h8 : (fun k l => View.ld x8 r0_8 (ix2 k l)) = fun k l => x8 (ix2 k l) := funext fun k => funext (ld_back x8 k)
  rw [h0, h1, h2, h3, h4, h5, h6, h7, h8]
  rfl

/-- What a grid point leaves in its block. -/
theorem out_at (y : S1024x1024.Idx) : out0_9 x0 x1 x2 x3 x4 x5 x6 x7 x8 y = resultAt x0 x1 x2 x3 x4 x5 x6 x7 x8 y := by
  rw [out_groups]
  refine View.canon_eq_of_allAt _ y _ (cover0_9 _ _ _ _ y) fun p hp x hx => ?_
  simp only [List.mem_cons, List.not_mem_nil, or_false] at hp
  rcases hp with rfl | rfl | rfl | rfl <;> exact (group_at x0 x1 x2 x3 x4 x5 x6 x7 x8 _ _ x).trans (congrArg _ hx)

end Cert.FfnPromptIdeal.Block

end
-- ==== Proof.FfnPromptValue.lean ====
/-
  The feed-forward kernel's result array at the end of a run on the prompt's tokens.
-/
module

public import proofs.«01_k».proof.Proof.FfnBlock
public import Idealize.ShloMosaic.Lib.Pipeline.ValueKit

@[expose] public section

set_option maxRecDepth 16384

noncomputable section

namespace Cert.FfnPromptIdeal.Block

open Cert.FfnPromptIdeal Cert.FfnPromptIdeal.Gen Cert.Ffn
open Idealize.ShloMosaic Idealize.ShloMosaic.TcCoe Idealize.SL.Sem
open Idealize.ShloMosaic.Pipeline (Dat)

variable (m : (ℓ : Loc nD τ sig) → Buf (Elt Ideal) ℓ)

/-- Where each point's blocks lie. -/
theorem idx : ∀ t : Fin cfg0.N, t.val < 8 ∧ win0_0.index t = ![t.val, 0] ∧ win0_1.index t = ![t.val, 0] ∧ win0_2.index t = ![0, 0]
    ∧ win0_3.index t = ![0, 0, 0] ∧ win0_4.index t = ![0, 0] ∧ win0_5.index t = ![0, 0, 0] ∧ win0_6.index t = ![0, 0] ∧ win0_7.index t = ![0, 0]
    ∧ win0_8.index t = ![0, 0] ∧ win0_9.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8192x1024 .bf16 := m ((c : Thread nD τ).loc main_arg1)
abbrev arg2 : FVec Ideal S1024x1024 .f32 := m ((c : Thread nD τ).loc main_arg2)
abbrev arg3 : FVec Ideal S8x3x3x1024 .f32 := m ((c : Thread nD τ).loc main_arg3)
abbrev arg4 : FVec Ideal S3x2x1024 .f32 := m ((c : Thread nD τ).loc main_arg4)
abbrev arg5 : FVec Ideal S1024x5632 .f32 := m ((c : Thread nD τ).loc main_arg5)
abbrev arg6 : FVec Ideal S2816x1024 .f32 := m ((c : Thread nD τ).loc main_arg6)

variable (t : Fin cfg0.N)

theorem lt_eight : t.val < 8 := (idx t).1

theorem blk0 (r l : Fin 1024) : (iblk m c 0 t : Vec Ideal S1024x1024 .f32) (ix2 r l) = arg0 m c (ix2 ⟨1024 * t.val + r.val, by have := lt_eight t; omega⟩ l) := by
  blk_ext [iblk, V, idx t]
theorem blk1 (r l : Fin 1024) : (iblk m c 1 t : Vec Ideal S1024x1024 .bf16) (ix2 r l) = arg1 m c (ix2 ⟨1024 * t.val + r.val, by have := lt_eight t; omega⟩ l) := by
  blk_ext [iblk, V, idx t]
theorem blk2 (k l : Fin 1024) : (iblk m c 2 t : Vec Ideal S1024x1024 .bf16) (ix2 k l) = arg2 m c (ix2 k l) := by
  blk_point [iblk, V, idx t]
theorem blk3 (s : Fin 3) (l : Fin 1024) : (iblk m c 3 t : Vec Ideal S1x3x1024 .f32) (ix3 0 s l) = arg3 m c (ix4 0 1 s l) := by
  blk_point [iblk, V, idx t]
theorem blk4 (s : Fin 2) (l : Fin 1024) : (iblk m c 4 t : Vec Ideal S2x1024 .f32) (ix2 s l) = arg4 m c (ix3 1 s l) := by
  blk_point [iblk, V, idx t]
theorem blk5 (s : Fin 3) (l : Fin 1024) : (iblk m c 5 t : Vec Ideal S1x3x1024 .f32) (ix3 0 s l) = arg3 m c (ix4 0 2 s l) := by
  blk_point [iblk, V, idx t]
theorem blk6 (s : Fin 2) (l : Fin 1024) : (iblk m c 6 t : Vec Ideal S2x1024 .f32) (ix2 s l) = arg4 m c (ix3 2 s l) := by
  blk_point [iblk, V, idx t]
theorem blk7 (k : Fin 1024) (l : Fin 5632) : (iblk m c 7 t : Vec Ideal S1024x5632 .bf16) (ix2 k l) = arg5 m c (ix2 k l) := by
  blk_point [iblk, V, idx t]
theorem blk8 (k : Fin 2816) (l : Fin 1024) : (iblk m c 8 t : Vec Ideal S2816x1024 .bf16) (ix2 k l) = arg6 m c (ix2 k l) := by
  blk_point [iblk, V, idx t]

/-- What a point writes. -/
theorem result_at (y : S1024x1024.Idx) :
    out0_9 (iblk m c 0 t) (iblk m c 1 t) (iblk m c 2 t) (iblk m c 3 t) (iblk m c 4 t) (iblk m c 5 t) (iblk m c 6 t) (iblk m c 7 t) (iblk m c 8 t) y
      = result (fun _ => 0) (arg0 m c) (arg1 m c) (arg2 m c) (arg3 m c) (arg4 m c) (arg5 m c) (arg6 m c)
          (ix2 ⟨1024 * t.val + (y 0).val, by have := lt_eight t; have : (y 0).val < 1024 := (y 0).isLt; omega⟩ (y 1)) := by
  rw [out_at]
  unfold resultAt
  simp only [blk2, blk3, blk4, blk5, blk6, blk7, blk8]
  have h0 : (fun l => (iblk m c 0 t : Vec Ideal S1024x1024 .f32) (ix2 (y 0) l)) = _ := funext (blk0 m c t (y 0))
  have h1 : (fun l => (iblk m c 1 t : Vec Ideal S1024x1024 .bf16) (ix2 (y 0) l)) = _ := funext (blk1 m c t (y 0))
  rw [h0, h1]
  rfl

/-- The result array at the end. -/
theorem final : (dats m 0 c).arrAt 9 (cfgs 0).N
    = result (fun _ => 0) (arg0 m c) (arg1 m c) (arg2 m c) (arg3 m c) (arg4 m c) (arg5 m c) (arg6 m c) := by
  refine (dats m 0 c).arrAt_eq_of_covers 9 _ (by decide +kernel) fun t _ y => ?_
  blk_simp
  rw [after0_9]
  refine (result_at m c t y).trans ?_
  blk_ext [idx t]

end Cert.FfnPromptIdeal.Block
-- ==== Proof.FfnSampleValue.lean ====
/-
  The feed-forward kernel's result array at the end of a run on the samples' tokens.
-/
module

public import proofs.«01_k».proof.Proof.FfnBlock
public import proofs.«01_k».proof.Proof.Gen.FfnSampleIdeal.Value
public import Idealize.ShloMosaic.Lib.Pipeline.ValueKit

@[expose] public section

set_option maxRecDepth 16384

noncomputable section

namespace Cert.FfnSampleIdeal.Block

open Cert.FfnSampleIdeal Cert.FfnSampleIdeal.Gen Cert.Ffn
open Idealize.ShloMosaic Idealize.ShloMosaic.TcCoe Idealize.SL.Sem
open Idealize.ShloMosaic.Pipeline (Dat)

variable (m : (ℓ : Loc nD τ sig) → Buf (Elt Ideal) ℓ)

/-- Where each point's blocks lie. -/
theorem idx : ∀ t : Fin cfg0.N, t.val < 8 ∧ win0_0.index t = ![t.val, 0] ∧ win0_1.index t = ![t.val, 0] ∧ win0_2.index t = ![0, 0]
    ∧ win0_3.index t = ![1 + t.val / 2, 0, 0] ∧ win0_4.index t = ![0, 0] ∧ win0_5.index t = ![1 + t.val / 2, 0, 0] ∧ win0_6.index t = ![0, 0] ∧ win0_7.index t = ![0, 0]
    ∧ win0_8.index t = ![0, 0] ∧ win0_9.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8192x1024 .bf16 := m ((c : Thread nD τ).loc main_arg1)
abbrev arg2 : FVec Ideal S1024x1024 .f32 := m ((c : Thread nD τ).loc main_arg2)
abbrev arg3 : FVec Ideal S8x3x3x1024 .f32 := m ((c : Thread nD τ).loc main_arg3)
abbrev arg4 : FVec Ideal S3x2x1024 .f32 := m ((c : Thread nD τ).loc main_arg4)
abbrev arg5 : FVec Ideal S1024x5632 .f32 := m ((c : Thread nD τ).loc main_arg5)
abbrev arg6 : FVec Ideal S2816x1024 .f32 := m ((c : Thread nD τ).loc main_arg6)

variable (t : Fin cfg0.N)

/-- The modulation's row of a point. -/
abbrev modRow : Fin 8 := ⟨1 + t.val / 2, by have := (idx t).1; omega⟩

theorem lt_eight : t.val < 8 := (idx t).1

theorem blk0 (r l : Fin 1024) : (iblk m c 0 t : Vec Ideal S1024x1024 .f32) (ix2 r l) = arg0 m c (ix2 ⟨1024 * t.val + r.val, by have := lt_eight t; omega⟩ l) := by
  blk_ext [iblk, V, idx t]
theorem blk1 (r l : Fin 1024) : (iblk m c 1 t : Vec Ideal S1024x1024 .bf16) (ix2 r l) = arg1 m c (ix2 ⟨1024 * t.val + r.val, by have := lt_eight t; omega⟩ l) := by
  blk_ext [iblk, V, idx t]
theorem blk2 (k l : Fin 1024) : (iblk m c 2 t : Vec Ideal S1024x1024 .bf16) (ix2 k l) = arg2 m c (ix2 k l) := by
  blk_point [iblk, V, idx t]
theorem emb3 (s : Fin 3) (l : Fin 1024) : ((cfg0.win 3).blk t).view.emb (ix3 0 s l) = (ix3 (modRow t) s l : S8x3x1024.Idx) := by
  blk_ext [idx t]
theorem blk3 (s : Fin 3) (l : Fin 1024) : (iblk m c 3 t : Vec Ideal S1x3x1024 .f32) (ix3 0 s l) = arg3 m c (ix4 (modRow t) 1 s l) := by
  refine (congrArg (V m c main_v5) (emb3 t s l)).trans ?_
  unfold V
  entry_read
  pointwise
theorem blk4 (s : Fin 2) (l : Fin 1024) : (iblk m c 4 t : Vec Ideal S2x1024 .f32) (ix2 s l) = arg4 m c (ix3 1 s l) := by
  blk_point [iblk, V, idx t]
theorem emb5 (s : Fin 3) (l : Fin 1024) : ((cfg0.win 5).blk t).view.emb (ix3 0 s l) = (ix3 (modRow t) s l : S8x3x1024.Idx) := by
  blk_ext [idx t]
theorem blk5 (s : Fin 3) (l : Fin 1024) : (iblk m c 5 t : Vec Ideal S1x3x1024 .f32) (ix3 0 s l) = arg3 m c (ix4 (modRow t) 2 s l) := by
  refine (congrArg (V m c main_v1) (emb5 t s l)).trans ?_
  unfold V
  entry_read
  pointwise
theorem blk6 (s : Fin 2) (l : Fin 1024) : (iblk m c 6 t : Vec Ideal S2x1024 .f32) (ix2 s l) = arg4 m c (ix3 2 s l) := by
  blk_point [iblk, V, idx t]
theorem blk7 (k : Fin 1024) (l : Fin 5632) : (iblk m c 7 t : Vec Ideal S1024x5632 .bf16) (ix2 k l) = arg5 m c (ix2 k l) := by
  blk_point [iblk, V, idx t]
theorem blk8 (k : Fin 2816) (l : Fin 1024) : (iblk m c 8 t : Vec Ideal S2816x1024 .bf16) (ix2 k l) = arg6 m c (ix2 k l) := by
  blk_point [iblk, V, idx t]

/-- The modulation's row of a token. -/
def modRowOf (r : Fin 8192) : Fin 8 := ⟨1 + r.val / 2048, by omega⟩

/-- What a grid point leaves in its block, as in the prompt's program. -/
theorem out_eq : @out0_9 Ideal _ = @Cert.FfnPromptIdeal.Gen.out0_9 Ideal _ := by
  chain_rfl

/-- What a point writes. -/
theorem result_at (y : S1024x1024.Idx) :
    out0_9 (iblk m c 0 t) (iblk m c 1 t) (iblk m c 2 t) (iblk m c 3 t) (iblk m c 4 t) (iblk m c 5 t) (iblk m c 6 t) (iblk m c 7 t) (iblk m c 8 t) y
      = result modRowOf (arg0 m c) (arg1 m c) (arg2 m c) (arg3 m c) (arg4 m c) (arg5 m c) (arg6 m c)
          (ix2 ⟨1024 * t.val + (y 0).val, by have := lt_eight t; have : (y 0).val < 1024 := (y 0).isLt; omega⟩ (y 1)) := by
  have e : modRowOf ⟨1024 * t.val + (y 0).val, by have := lt_eight t; have : (y 0).val < 1024 := (y 0).isLt; omega⟩ = modRow t :=
    Fin.ext (by have : (y 0).val < 1024 := (y 0).isLt; show 1 + (1024 * t.val + (y 0).val) / 2048 = 1 + t.val / 2; omega)
  rw [out_eq, Cert.FfnPromptIdeal.Block.out_at]
  unfold Cert.FfnPromptIdeal.Block.resultAt result
  simp only [blk2, blk3, blk4, blk5, blk6, blk7, blk8]
  have h0 : (fun l => (iblk m c 0 t : Vec Ideal S1024x1024 .f32) (ix2 (y 0) l)) = _ := funext (blk0 m c t (y 0))
  have h1 : (fun l => (iblk m c 1 t : Vec Ideal S1024x1024 .bf16) (ix2 (y 0) l)) = _ := funext (blk1 m c t (y 0))
  rw [h0, h1]
  rw [← e]
  rfl

/-- The result array at the end. -/
theorem final : (dats m 0 c).arrAt 9 (cfgs 0).N
    = result modRowOf (arg0 m c) (arg1 m c) (arg2 m c) (arg3 m c) (arg4 m c) (arg5 m c) (arg6 m c) := by
  refine (dats m 0 c).arrAt_eq_of_covers 9 _ (by decide +kernel) fun t _ y => ?_
  blk_simp
  rw [after0_9]
  refine (result_at m c t y).trans ?_
  blk_ext [idx t]

end Cert.FfnSampleIdeal.Block
-- ==== Proof.FfnRef.lean ====
/-
  The reference's last feed-forward sub-layer, part by part: each row of a part is the token's.
-/
module

public import proofs.«01_k».proof.Proof.Gen.FfnPromptRefIdeal.Run
public import proofs.«01_k».proof.Proof.Ffn
public import Idealize.ShloMosaic.Lib.Pointwise

@[expose] public section

set_option maxRecDepth 16384

noncomputable section

namespace Cert.FfnPromptRefIdeal.Rows

open Cert.FfnPromptRefIdeal Cert.FfnPromptRefIdeal.Gen Cert.Ffn
open Idealize.ShloMosaic Idealize.ShloMosaic.TcCoe Idealize.SL.Sem

/-- An array of the tokens' rows. -/
abbrev Rows : Type := FVec Ideal S8192x1024 .f32

/-- A gain on each row. -/
def gains (g : FVec Ideal S1x1x1024 .f32) : Rows :=
  broadcastInDim S8192x1024 ![0, 1] bcast_S1x1024_S8192x1024_0_1 (broadcastInDim S1x1024 ![1] bcast_S1024_S1x1024_1 (shapeCast _ g shapeCasts_S1x1x1024_S1024))

/-- A part of each token's modulation. -/
def part (a : FVec Ideal S8192x1x1x1024 .f32) : Rows := shapeCast _ a shapeCasts_S8192x1x1x1024_S8192x1024

/-- The rows over their root mean squares, scaled. -/
def normed (x : Rows) (g : FVec Ideal S1x1x1024 .f32) : Rows :=
  mulf (mulf x (broadcastInDim S8192x1024 ![0, 1] bcast_S8192x1_S8192x1024_0_1 (Host.rsqrt (addf (Host.divf
    (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32)))))) (gains g)

/-- The rows and a gated norm of a product. -/
def after (k : BitVec 32) (x o : Rows) (a : FVec Ideal S8192x1x1x1024 .f32) (g : FVec Ideal S1x1x1024 .f32) : Rows :=
  addf x (mulf (mulf (broadcastInDim S8192x1024 ![] bcast_S_S8192x1024 (constant S_ .f32 k)) (part a)) (normed o g))

/-- The mixer's product. -/
def mixed (u : FVec Ideal S8192x1024 .bf16) (w : FVec Ideal S1024x1024 .f32) : Rows :=
  Host.dotGeneral dot_S8192x1024_S1024x1024_S8192x1024_1_0_0_1_n_n none (extf .f32 u bitsLt_bf16_f32) w

/-- What enters the feed-forward part. -/
def before (x : Rows) (a b : FVec Ideal S8192x1x1x1024 .f32) (g : FVec Ideal S1x1x1024 .f32) : Rows :=
  addf (mulf (normed x g) (addf (broadcastInDim S8192x1024 ![] bcast_S_S8192x1024 (constant S_ .f32 0x3F800000#32)) (part b))) (part a)

/-- The hidden rows. -/
def inner (h : Rows) (w : FVec Ideal S1024x5632 .f32) : FVec Ideal S8192x5632 .f32 := Host.dotGeneral dot_S8192x1024_S1024x5632_S8192x5632_1_0_0_1_n_n none h w
def active (p : FVec Ideal S8192x5632 .f32) : FVec Ideal S8192x2816 .f32 :=
  mulf (mulf (extractStridedSlice S8192x2816 ![0, 0] p slices_S8192x5632_S8192x2816_0_0)
    (Host.divf (broadcastInDim S8192x2816 ![] bcast_S_S8192x2816 (constant S_ .f32 0x3F800000#32))
      (addf (broadcastInDim S8192x2816 ![] bcast_S_S8192x2816 (constant S_ .f32 0x3F800000#32)) (Host.exp (Host.negf (extractStridedSlice S8192x2816 ![0, 0] p slices_S8192x5632_S8192x2816_0_0))))))
    (extractStridedSlice S8192x2816 ![0, 2816] p slices_S8192x5632_S8192x2816_0_2816)
def outer (a : FVec Ideal S8192x2816 .f32) (w : FVec Ideal S2816x1024 .f32) : Rows := Host.dotGeneral dot_S8192x2816_S2816x1024_S8192x1024_1_0_0_1_n_n none a w

variable (r : Fin 8192) (j : Fin 1024)

theorem gains_at (g : FVec Ideal S1x1x1024 .f32) : gains g (ix2 r j) = g (ix3 0 0 j) := by
  pointwise [gains]

theorem part_at (a : FVec Ideal S8192x1x1x1024 .f32) : part a (ix2 r j) = a (ix4 r 0 0 j) := by
  pointwise [part]

theorem normed_at (x : Rows) (g : FVec Ideal S1x1x1024 .f32) : normed x g (ix2 r j) = norm (fun l => x (ix2 r l)) (fun l => g (ix3 0 0 l)) j := by
  pointwise [normed, gains_at]
  rfl

theorem after_at (k : BitVec 32) (x o : Rows) (a : FVec Ideal S8192x1x1x1024 .f32) (g : FVec Ideal S1x1x1024 .f32) : after k x o a g (ix2 r j)
    = x (ix2 r j) + Ideal.ofBits .f32 k * a (ix4 r 0 0 j) * norm (fun l => o (ix2 r l)) (fun l => g (ix3 0 0 l)) j := by
  pointwise [after, normed_at, part_at]

theorem mixed_at (u : FVec Ideal S8192x1024 .bf16) (w : FVec Ideal S1024x1024 .f32) : mixed u w (ix2 r j)
    = times (fun l => u (ix2 r l)) (fun k l => w (ix2 k l)) j := by
  pointwise [mixed]
  rfl

theorem before_at (x : Rows) (a b : FVec Ideal S8192x1x1x1024 .f32) (g : FVec Ideal S1x1x1024 .f32) : before x a b g (ix2 r j)
    = entering (fun l => a (ix4 r 0 0 l)) (fun l => b (ix4 r 0 0 l)) (fun l => x (ix2 r l)) (fun l => g (ix3 0 0 l)) j := by
  pointwise [before, normed_at, part_at]
  rfl

theorem inner_at (h : Rows) (w : FVec Ideal S1024x5632 .f32) (l : Fin 5632) : inner h w (ix2 r l) = times (fun k => h (ix2 r k)) (fun k l => w (ix2 k l)) l := by
  pointwise [inner]
  rfl

theorem active_at (h : Rows) (w : FVec Ideal S1024x5632 .f32) (k : Fin 2816) : active (inner h w) (ix2 r k) = Ffn.hidden (fun l => h (ix2 r l)) (fun k l => w (ix2 k l)) k := by
  pointwise [active, inner_at]
  rfl

theorem outer_at (a : FVec Ideal S8192x2816 .f32) (w : FVec Ideal S2816x1024 .f32) : outer a w (ix2 r j) = times (fun l => a (ix2 r l)) (fun k l => w (ix2 k l)) j := by
  pointwise [outer]
  rfl

variable (md : FVec Ideal S8192x3x3x1024 .f32) (g : FVec Ideal S3x2x1024 .f32)

/-- The rows behind the mixer's residual, each token with its row of the modulation `md`. -/
def mid (y : Rows) (u : FVec Ideal S8192x1024 .bf16) (w : FVec Ideal S1024x1024 .f32) : Rows :=
  after 0x3F800000#32 y (mixed u w) (extractStridedSlice S8192x1x1x1024 ![0, 1, 2, 0] md slices_S8192x3x3x1024_S8192x1x1x1024_0_1_2_0)
    (extractStridedSlice S1x1x1024 ![1, 1, 0] g slices_S3x2x1024_S1x1x1024_1_1_0)

/-- What enters the feed-forward part. -/
def inward (x : Rows) : Rows :=
  before x (extractStridedSlice S8192x1x1x1024 ![0, 2, 0, 0] md slices_S8192x3x3x1024_S8192x1x1x1024_0_2_0_0)
    (extractStridedSlice S8192x1x1x1024 ![0, 2, 1, 0] md slices_S8192x3x3x1024_S8192x1x1x1024_0_2_1_0)
    (extractStridedSlice S1x1x1024 ![2, 0, 0] g slices_S3x2x1024_S1x1x1024_2_0_0)

/-- What leaves it. -/
def onward (x o : Rows) : Rows :=
  after 0x3F000000#32 x o (extractStridedSlice S8192x1x1x1024 ![0, 2, 2, 0] md slices_S8192x3x3x1024_S8192x1x1x1024_0_2_2_0)
    (extractStridedSlice S1x1x1024 ![2, 1, 0] g slices_S3x2x1024_S1x1x1024_2_1_0)

/-- All of it. -/
def total (y : Rows) (u : FVec Ideal S8192x1024 .bf16) (w : FVec Ideal S1024x1024 .f32) (wi : FVec Ideal S1024x5632 .f32) (wo : FVec Ideal S2816x1024 .f32) : Rows :=
  onward md g (mid md g y u w) (outer (active (inner (inward md g (mid md g y u w)) wi)) wo)

theorem mid_at (y : Rows) (u : FVec Ideal S8192x1024 .bf16) (w : FVec Ideal S1024x1024 .f32) : mid md g y u w (ix2 r j)
    = mixer (fun l => y (ix2 r l)) (fun l => u (ix2 r l)) (fun k l => w (ix2 k l)) (fun l => md (ix4 r 1 2 l)) (fun l => g (ix3 1 1 l)) j := by
  pointwise [mid, after_at, mixed_at]
  rfl

theorem inward_at (x : Rows) : inward md g x (ix2 r j)
    = entering (fun l => md (ix4 r 2 0 l)) (fun l => md (ix4 r 2 1 l)) (fun l => x (ix2 r l)) (fun l => g (ix3 2 0 l)) j := by
  pointwise [inward, before_at]

theorem onward_at (x : Rows) (a : FVec Ideal S8192x2816 .f32) (wo : FVec Ideal S2816x1024 .f32) : onward md g x (outer a wo) (ix2 r j)
    = leaving (fun l => md (ix4 r 2 2 l)) (fun l => x (ix2 r l)) (fun k => a (ix2 r k)) (fun k l => wo (ix2 k l)) (fun l => g (ix3 2 1 l)) j := by
  pointwise [onward, after_at, outer_at]
  rfl

/-- A row of it is the token's result. -/
theorem total_at (y : Rows) (u : FVec Ideal S8192x1024 .bf16) (w : FVec Ideal S1024x1024 .f32) (wi : FVec Ideal S1024x5632 .f32) (wo : FVec Ideal S2816x1024 .f32) :
    total md g y u w wi wo (ix2 r j)
      = token (fun l => y (ix2 r l)) (fun l => u (ix2 r l)) (fun k l => w (ix2 k l)) (fun s l => md (ix4 r 1 s l)) (fun s l => md (ix4 r 2 s l))
          (fun s l => g (ix3 1 s l)) (fun s l => g (ix3 2 s l)) (fun k l => wi (ix2 k l)) (fun k l => wo (ix2 k l)) j := by
  unfold total
  rw [onward_at]
  simp only [mid_at, active_at, inward_at]
  rfl

/-- All of it, where token `r` has the modulation of row `n r`. -/
theorem total_eq (n : Fin 8192 → Fin 8) (mods : FVec Ideal S8x3x3x1024 .f32) (hn : ∀ r s k l, md (ix4 r s k l) = mods (ix4 (n r) s k l))
    (y : Rows) (u : FVec Ideal S8192x1024 .bf16) (w : FVec Ideal S1024x1024 .f32) (wi : FVec Ideal S1024x5632 .f32) (wo : FVec Ideal S2816x1024 .f32) :
    total md g y u w wi wo = result n y u w mods g wi wo := by
  funext i
  obtain ⟨r, j, rfl⟩ : ∃ r j, i = ix2 r j := ⟨i 0, i 1, by funext a; match a with | 0 => rfl | 1 => rfl⟩
  rw [total_at]
  simp only [hn]
  rfl

/-- The prompt's modulation of each token. -/
def tokens (mods : FVec Ideal S8x3x3x1024 .f32) : FVec Ideal S8192x3x3x1024 .f32 :=
  shapeCast _ (broadcastInDim S1x8192x3x3x1024 ![0, 1, 2, 3, 4] bcast_S1x1x3x3x1024_S1x8192x3x3x1024_0_1_2_3_4
    (broadcastInDim S1x1x3x3x1024 ![0, 2, 3, 4] bcast_S1x3x3x1024_S1x1x3x3x1024_0_2_3_4
      (extractStridedSlice S1x3x3x1024 ![0, 0, 0, 0] mods slices_S8x3x3x1024_S1x3x3x1024_0_0_0_0))) shapeCasts_S1x8192x3x3x1024_S8192x3x3x1024

theorem tokens_at (mods : FVec Ideal S8x3x3x1024 .f32) (r : Fin 8192) (s k : Fin 3) (l : Fin 1024) : tokens mods (ix4 r s k l) = mods (ix4 0 s k l) := by
  pointwise [tokens]

end Cert.FfnPromptRefIdeal.Rows
-- ==== Proof.FfnPromptRefValue.lean ====
/-
  The reference's result on the prompt's tokens.
-/
module

public import proofs.«01_k».proof.Proof.FfnRef

@[expose] public section

set_option maxRecDepth 16384

noncomputable section

namespace Cert.FfnPromptRefIdeal.Rows

open Cert.FfnPromptRefIdeal Cert.FfnPromptRefIdeal.Gen Cert.Ffn
open Idealize.ShloMosaic Idealize.ShloMosaic.TcCoe Idealize.SL.Sem

variable (m : (ℓ : Loc nD τ sig) → Buf (Elt Ideal) ℓ) (c : Dev nD)

/-- An argument array. -/
abbrev arg0 : FVec Ideal S8192x1024 .f32 := m ((c.tc : Thread nD τ).loc main_arg0)
abbrev arg1 : FVec Ideal S8192x1024 .bf16 := m ((c.tc : Thread nD τ).loc main_arg1)
abbrev arg2 : FVec Ideal S1024x1024 .f32 := m ((c.tc : Thread nD τ).loc main_arg2)
abbrev arg3 : FVec Ideal S8x3x3x1024 .f32 := m ((c.tc : Thread nD τ).loc main_arg3)
abbrev arg4 : FVec Ideal S3x2x1024 .f32 := m ((c.tc : Thread nD τ).loc main_arg4)
abbrev arg5 : FVec Ideal S1024x5632 .f32 := m ((c.tc : Thread nD τ).loc main_arg5)
abbrev arg6 : FVec Ideal S2816x1024 .f32 := m ((c.tc : Thread nD τ).loc main_arg6)

/-- The program's term, by its parts. -/
theorem parts : (Cert.FfnPromptRefIdeal.Value.res_main_v76 m c : FVec Ideal S8192x1024 .f32)
    = total (tokens (arg3 m c)) (arg4 m c) (arg0 m c) (arg1 m c) (arg2 m c) (arg5 m c) (arg6 m c) := by
  chain_rfl

/-- The program's result. -/
theorem value : (Cert.FfnPromptRefIdeal.Value.res_main_v76 m c : FVec Ideal S8192x1024 .f32)
    = result (fun _ => 0) (arg0 m c) (arg1 m c) (arg2 m c) (arg3 m c) (arg4 m c) (arg5 m c) (arg6 m c) :=
  (parts m c).trans (total_eq _ _ _ _ (fun r s k l => tokens_at _ r s k l) _ _ _ _ _)

end Cert.FfnPromptRefIdeal.Rows
-- ==== Proof.FfnSampleRefValue.lean ====
/-
  The reference's result on the samples' tokens.
-/
module

public import proofs.«01_k».proof.Proof.FfnRef
public import proofs.«01_k».proof.Proof.FfnSampleValue
public import proofs.«01_k».proof.Proof.Gen.FfnSampleRefIdeal.Run

@[expose] public section

set_option maxRecDepth 16384

noncomputable section

namespace Cert.FfnSampleRefIdeal.Rows

open Cert.FfnSampleRefIdeal Cert.FfnSampleRefIdeal.Gen Cert.Ffn
open Cert.FfnPromptRefIdeal.Rows (total total_eq)
open Cert.FfnSampleIdeal.Block (modRowOf)
open Idealize.ShloMosaic Idealize.ShloMosaic.TcCoe Idealize.SL.Sem

variable (m : (ℓ : Loc nD τ sig) → Buf (Elt Ideal) ℓ) (c : Dev nD)

/-- An argument array. -/
abbrev arg0 : FVec Ideal S8192x1024 .f32 := m ((c.tc : Thread nD τ).loc main_arg0)
abbrev arg1 : FVec Ideal S8192x1024 .bf16 := m ((c.tc : Thread nD τ).loc main_arg1)
abbrev arg2 : FVec Ideal S1024x1024 .f32 := m ((c.tc : Thread nD τ).loc main_arg2)
abbrev arg3 : FVec Ideal S8x3x3x1024 .f32 := m ((c.tc : Thread nD τ).loc main_arg3)
abbrev arg4 : FVec Ideal S3x2x1024 .f32 := m ((c.tc : Thread nD τ).loc main_arg4)
abbrev arg5 : FVec Ideal S1024x5632 .f32 := m ((c.tc : Thread nD τ).loc main_arg5)
abbrev arg6 : FVec Ideal S2816x1024 .f32 := m ((c.tc : Thread nD τ).loc main_arg6)

/-- The modulation of each token. -/
def tokens (mods : FVec Ideal S8x3x3x1024 .f32) : FVec Ideal S8192x3x3x1024 .f32 :=
  shapeCast _ (broadcastInDim S4x2048x3x3x1024 ![0, 1, 2, 3, 4] bcast_S4x1x3x3x1024_S4x2048x3x3x1024_0_1_2_3_4
    (broadcastInDim S4x1x3x3x1024 ![0, 2, 3, 4] bcast_S4x3x3x1024_S4x1x3x3x1024_0_2_3_4
      (extractStridedSlice S4x3x3x1024 ![1, 0, 0, 0] mods slices_S8x3x3x1024_S4x3x3x1024_1_0_0_0))) shapeCasts_S4x2048x3x3x1024_S8192x3x3x1024

theorem tokens_at (mods : FVec Ideal S8x3x3x1024 .f32) (r : Fin 8192) (s k : Fin 3) (l : Fin 1024) : tokens mods (ix4 r s k l) = mods (ix4 (modRowOf r) s k l) := by
  pointwise [tokens]
  rfl

/-- The program's term, by its parts. -/
theorem parts : (Cert.FfnSampleRefIdeal.Value.res_main_v76 m c : FVec Ideal S8192x1024 .f32)
    = total (tokens (arg3 m c)) (arg4 m c) (arg0 m c) (arg1 m c) (arg2 m c) (arg5 m c) (arg6 m c) := by
  chain_rfl

/-- The program's result. -/
theorem value : (Cert.FfnSampleRefIdeal.Value.res_main_v76 m c : FVec Ideal S8192x1024 .f32)
    = result modRowOf (arg0 m c) (arg1 m c) (arg2 m c) (arg3 m c) (arg4 m c) (arg5 m c) (arg6 m c) :=
  (parts m c).trans (total_eq _ _ _ _ (fun r s k l => tokens_at _ r s k l) _ _ _ _ _)

end Cert.FfnSampleRefIdeal.Rows
-- ==== Proof.FfnClaims.lean ====
/-
  The claims of the last feed-forward sub-layer, on the prompt's and on the samples' tokens.
-/
module

public import proofs.«01_k».proof.Defs
public import proofs.«01_k».proof.Proof.Gen.FfnPrompt
public import proofs.«01_k».proof.Proof.Gen.FfnSample
public import proofs.«01_k».proof.Proof.FfnPromptValue
public import proofs.«01_k».proof.Proof.FfnSampleValue
public import proofs.«01_k».proof.Proof.FfnPromptRefValue
public import proofs.«01_k».proof.Proof.FfnSampleRefValue
public import Idealize.ShloMosaic.Lib.Quiescent
public import Idealize.ShloMosaic.Lib.Claim

@[expose] public section

noncomputable section

namespace Cert.Proof

open Idealize.ShloMosaic Idealize.SL.Sem

/-- The kernel's frame on the prompt's tokens: its idealization has the same text, and its run is read at words. -/
theorem frame_ffn_prompt : Cert.quiescent_FfnPrompt (hFfnPrompt := Cert.FfnPrompt.Gen.facts) := fun m ρ _ =>
  Eq.mp (by chain_rfl) (Cert.FfnPromptIdeal.Gen.frame (F := Bits) m ρ)

/-- The same on the samples' tokens. -/
theorem frame_ffn_sample : Cert.quiescent_FfnSample (hFfnSample := Cert.FfnSample.Gen.facts) := fun m ρ _ =>
  Eq.mp (by chain_rfl) (Cert.FfnSampleIdeal.Gen.frame (F := Bits) m ρ)

/-- The reference's frames: it has no counters. -/
theorem frame_ffn_prompt_ref : Cert.quiescent_FfnPromptRefIdeal (hFfnPromptRefIdeal := Cert.FfnPromptRefIdeal.Gen.facts) := fun m ρ _ =>
  (θ_run _ _ _).mono (fun r h => ⟨fun c => (h c).2, sem_eq_zero_of_no_sems (by decide) r.2⟩) (Cert.FfnPromptRefIdeal.Value.run m ρ)

theorem frame_ffn_sample_ref : Cert.quiescent_FfnSampleRefIdeal (hFfnSampleRefIdeal := Cert.FfnSampleRefIdeal.Gen.facts) := fun m ρ _ =>
  (θ_run _ _ _).mono (fun r h => ⟨fun c => (h c).2, sem_eq_zero_of_no_sems (by decide) r.2⟩) (Cert.FfnSampleRefIdeal.Value.run m ρ)

/-- On the prompt's tokens the kernel and the reference end with the same rows. -/
theorem values_ffn_prompt : Cert.algebraic_FfnPromptIdeal_FfnPromptRefIdeal (hFfnPromptIdeal := Cert.FfnPromptIdeal.Gen.facts)
    (hFfnPromptRefIdeal := Cert.FfnPromptRefIdeal.Gen.facts) := by
  intro m g m' g' _ he
  refine ⟨_, Cert.FfnPromptIdeal.Value.run_blocks m g, (θ_run _ _ _).mono (fun r h c => ⟨(h c).1.trans ?_, (h c).2⟩) (Cert.FfnPromptRefIdeal.Value.run m' g')⟩
  obtain ⟨e0, e1, e2, e3, e4, e5, e6⟩ := he c
  have a0 : Cert.FfnPromptRefIdeal.Rows.arg0 m' c = Cert.FfnPromptIdeal.Block.arg0 m c := e0
  have a1 : Cert.FfnPromptRefIdeal.Rows.arg1 m' c = Cert.FfnPromptIdeal.Block.arg1 m c := e1
  have a2 : Cert.FfnPromptRefIdeal.Rows.arg2 m' c = Cert.FfnPromptIdeal.Block.arg2 m c := e2
  have a3 : Cert.FfnPromptRefIdeal.Rows.arg3 m' c = Cert.FfnPromptIdeal.Block.arg3 m c := e3
  have a4 : Cert.FfnPromptRefIdeal.Rows.arg4 m' c = Cert.FfnPromptIdeal.Block.arg4 m c := e4
  have a5 : Cert.FfnPromptRefIdeal.Rows.arg5 m' c = Cert.FfnPromptIdeal.Block.arg5 m c := e5
  have a6 : Cert.FfnPromptRefIdeal.Rows.arg6 m' c = Cert.FfnPromptIdeal.Block.arg6 m c := e6
  refine (Cert.FfnPromptRefIdeal.Rows.value m' c).trans (Eq.trans ?_ (Cert.FfnPromptIdeal.Block.final m c).symm)
  rw [a0, a1, a2, a3, a4, a5, a6]

/-- On the samples' tokens they do too. -/
theorem values_ffn_sample : Cert.algebraic_FfnSampleIdeal_FfnSampleRefIdeal (hFfnSampleIdeal := Cert.FfnSampleIdeal.Gen.facts)
    (hFfnSampleRefIdeal := Cert.FfnSampleRefIdeal.Gen.facts) := by
  intro m g m' g' _ he
  refine ⟨_, Cert.FfnSampleIdeal.Value.run_blocks m g, (θ_run _ _ _).mono (fun r h c => ⟨(h c).1.trans ?_, (h c).2⟩) (Cert.FfnSampleRefIdeal.Value.run m' g')⟩
  obtain ⟨e0, e1, e2, e3, e4, e5, e6⟩ := he c
  have a0 : Cert.FfnSampleRefIdeal.Rows.arg0 m' c = Cert.FfnSampleIdeal.Block.arg0 m c := e0
  have a1 : Cert.FfnSampleRefIdeal.Rows.arg1 m' c = Cert.FfnSampleIdeal.Block.arg1 m c := e1
  have a2 : Cert.FfnSampleRefIdeal.Rows.arg2 m' c = Cert.FfnSampleIdeal.Block.arg2 m c := e2
  have a3 : Cert.FfnSampleRefIdeal.Rows.arg3 m' c = Cert.FfnSampleIdeal.Block.arg3 m c := e3
  have a4 : Cert.FfnSampleRefIdeal.Rows.arg4 m' c = Cert.FfnSampleIdeal.Block.arg4 m c := e4
  have a5 : Cert.FfnSampleRefIdeal.Rows.arg5 m' c = Cert.FfnSampleIdeal.Block.arg5 m c := e5
  have a6 : Cert.FfnSampleRefIdeal.Rows.arg6 m' c = Cert.FfnSampleIdeal.Block.arg6 m c := e6
  refine (Cert.FfnSampleRefIdeal.Rows.value m' c).trans (Eq.trans ?_ (Cert.FfnSampleIdeal.Block.final m c).symm)
  rw [a0, a1, a2, a3, a4, a5, a6]

end Cert.Proof

end
-- ==== Proof.First.lean ====
/-
  The first feed-forward sub-layer of one token: what both programs compute of a row.
-/
module

public import proofs.«01_k».proof.Proof.Ffn

@[expose] public section

noncomputable section

namespace Cert.Ffn

open Idealize.ShloMosaic

/-- A token's row behind the first sub-layer: `b` the modulation (shift, scale, gate), `q` the gains (before, after). -/
def firstRow (x : Row) (b : Fin 3 → Row) (q : Fin 2 → Row) (wi : Fin 1024 → Fin 5632 → EReal) (wo : Fin 2816 → Fin 1024 → EReal) : Row :=
  leaving (b 2) x (hidden (entering (b 0) (b 1) x (q 0)) wi) wo (q 1)

/-- The array of such rows, on the prompt's tokens. -/
def firstRows (y : (⟨2, ![8192, 1024]⟩ : Shape).Idx → EReal) (mods : (⟨4, ![8, 3, 3, 1024]⟩ : Shape).Idx → EReal) (g : (⟨3, ![3, 2, 1024]⟩ : Shape).Idx → EReal)
    (wi : (⟨2, ![1024, 5632]⟩ : Shape).Idx → EReal) (wo : (⟨2, ![2816, 1024]⟩ : Shape).Idx → EReal) : (⟨2, ![8192, 1024]⟩ : Shape).Idx → EReal := fun i =>
  firstRow (fun l => y (ix2 (i 0) l)) (fun s l => mods (ix4 0 0 s l)) (fun s l => g (ix3 0 s l)) (fun k l => wi (ix2 k l)) (fun k l => wo (ix2 k l)) (i 1)

/-- The weights of the next sub-layer, taken out of those of all layers. -/
def nextWeights (w : (⟨4, ![4, 2, 1024, 5632]⟩ : Shape).Idx → EReal) : (⟨2, ![1024, 5632]⟩ : Shape).Idx → EReal := fun i => w (ix4 0 1 (i 0) (i 1))

end Cert.Ffn

end
-- ==== Proof.FirstValue.lean ====
/-
  The first feed-forward sub-layer: the kernel's two arrays at the end of a run on the prompt's tokens.
-/
module

public import proofs.«01_k».proof.Proof.Gen.FfnFirstIdeal.Value
public import proofs.«01_k».proof.Proof.First
public import Idealize.ShloMosaic.Lib.Pipeline.ValueKit

@[expose] public section

set_option maxRecDepth 16384

noncomputable section

namespace Cert.FfnFirstIdeal.Block

open Cert.FfnFirstIdeal Cert.FfnFirstIdeal.Gen Cert.Ffn
open Idealize.ShloMosaic Idealize.ShloMosaic.TcCoe Idealize.SL.Sem
open Idealize.ShloMosaic.Pipeline (Dat)

/-- The rows that enter the feed-forward part. -/
theorem entering_at (b : FVec Ideal S1x3x1024 .f32) (x : FVec Ideal S256x1024 .f32) (g : FVec Ideal S1x1024 .f32)
    (r : Fin 256) (j : Fin 1024) : k0_pay7 (F := Ideal) b x g (ix2 r j)
      = entering (fun l => b (ix3 0 0 l)) (fun l => b (ix3 0 1 l)) (fun l => x (ix2 r l)) (fun l => g (ix2 0 l)) j := by
  pointwise [k0_pay7, k0_pay5, k0_pay4, k0_pay3]
  rfl

/-- The rows that leave it. -/
theorem leaving_at (b : FVec Ideal S1x3x1024 .f32) (x : FVec Ideal S256x1024 .f32) (h : FVec Ideal S256x1024 .bf16) (w1 w2 : FVec Ideal S1024x2816 .bf16)
    (wo : FVec Ideal S2816x1024 .bf16) (g : FVec Ideal S1x1024 .f32) (w : Fin 1024 → Fin 5632 → EReal)
    (h1 : ∀ k (l : Fin 2816), w1 (ix2 k l) = w k ⟨l.val, by omega⟩) (h2 : ∀ k (l : Fin 2816), w2 (ix2 k l) = w k ⟨2816 + l.val, by omega⟩)
    (r : Fin 256) (j : Fin 1024) : k0_pay9 (F := Ideal) (k0_pay6 b) x h (k0_pay8 w1) w2 wo g (ix2 r j)
      = leaving (fun l => b (ix3 0 2 l)) (fun l => x (ix2 r l)) (hidden (fun l => h (ix2 r l)) w) (fun k l => wo (ix2 k l)) (fun l => g (ix2 0 l)) j := by
  pointwise [k0_pay9, k0_pay8, k0_pay6, k0_pay3]
  simp only [h1, h2]
  rfl

/-- The weights that are passed on. -/
theorem passed_at (w : FVec Ideal S1x1x128x5632 .f32) (r : Fin 128) (j : Fin 5632) : k0_pay2 (F := Ideal) w (ix2 r j) = w (ix4 0 0 r j) := by
  pointwise [k0_pay2]

variable (x0 : Vec Ideal S1024x1024 .f32) (x1 : Vec Ideal S1x3x1024 .f32) (x2 : Vec Ideal S2x1024 .f32) (x3 : Vec Ideal S1024x5632 .bf16) (x4 : Vec Ideal S2816x1024 .bf16)
  (x5 : Vec Ideal S1x1x128x5632 .f32)

/-- Rows `o` to `o + 255` of a block. -/
abbrev group (o : ℕ) (inb : ∀ a, (![o, 0] : Fin 2 → ℕ) a + S256x1024.size a ≤ S1024x1024.size a) : Rect S1024x1024 := Rect.unit (s := S1024x1024) ![o, 0] S256x1024.size inb

/-- The result of a row of the block. -/
def resultAt (y : S1024x1024.Idx) : EReal :=
  firstRow (fun l => x0 (ix2 (y 0) l)) (fun s l => x1 (ix3 0 s l)) (fun s l => x2 (ix2 s l)) (fun k l => x3 (ix2 k l)) (fun k l => x4 (ix2 k l)) (y 1)

/-- What the body stores in the group of rows that starts at `o`. -/
def groupOf (o : ℕ) (inb : ∀ a, (![o, 0] : Fin 2 → ℕ) a + S256x1024.size a ≤ S1024x1024.size a) : FVec Ideal S256x1024 .f32 :=
  k0_pay9 (k0_pay6 (View.ld x1 r0_2)) (View.ld x0 (group o inb)) (k0_pay7 (View.ld x1 r0_2) (View.ld x0 (group o inb)) (View.ld x2 r0_5))
    (k0_pay8 (View.ld x3 r0_6)) (View.ld x3 r0_7) (View.ld x4 r0_8) (View.ld x2 r0_9)

/-- The block as four groups of rows. -/
theorem out6_groups : out0_6 x0 x1 x2 x3 x4 x5 = View.canon
    [⟨group 768 inb_S1024x1024_S256x1024_768_0, groupOf x0 x1 x2 x3 x4 768 inb_S1024x1024_S256x1024_768_0⟩,
     ⟨group 512 inb_S1024x1024_S256x1024_512_0, groupOf x0 x1 x2 x3 x4 512 inb_S1024x1024_S256x1024_512_0⟩,
     ⟨group 256 inb_S1024x1024_S256x1024_256_0, groupOf x0 x1 x2 x3 x4 256 inb_S1024x1024_S256x1024_256_0⟩,
     ⟨group 0 inb_S1024x1024_S256x1024_0_0, groupOf x0 x1 x2 x3 x4 0 inb_S1024x1024_S256x1024_0_0⟩] := by
  chain_rfl

/-- A row of a group is a row of the block. -/
theorem ld_group {e : EltTy} (X : Vec Ideal S1024x1024 e) (o : ℕ) (inb : ∀ a, (![o, 0] : Fin 2 → ℕ) a + S256x1024.size a ≤ S1024x1024.size a) (r : Fin 256) (j l : Fin 1024) :
    View.ld X (group o inb) (ix2 r l) = X (ix2 ((group o inb).emb (ix2 r j) 0) l) := by
  refine congrArg X (funext fun a => Fin.ext ?_)
  match a with
  | 0 => rfl
  | 1 => exact (Rect.idx_unit_val (s := S1024x1024) ![o, 0] S256x1024.size inb (ix2 r l) 1).trans (Nat.zero_add l.val)

/-- A row of a pair of gains. -/
theorem ld_first (X : Vec Ideal S2x1024 .f32) (l : Fin 1024) : View.ld X r0_5 (ix2 0 l) = X (ix2 0 l) :=
  View.ld_unit_apply_of X _ _ _ _ _ fun a => by match a with | 0 => rfl | 1 => exact (Nat.zero_add _).symm

theorem ld_second (X : Vec Ideal S2x1024 .f32) (l : Fin 1024) : View.ld X r0_9 (ix2 0 l) = X (ix2 1 l) :=
  View.ld_unit_apply_of X _ _ _ _ _ fun a => by match a with | 0 => rfl | 1 => exact (Nat.zero_add _).symm

/-- A read of a whole array. -/
theorem ld_mod (X : Vec Ideal S1x3x1024 .f32) (s : Fin 3) (l : Fin 1024) : View.ld X r0_2 (ix3 0 s l) = X (ix3 0 s l) :=
  View.ld_unit_apply_of X _ _ _ _ _ fun a => by match a with | 0 => rfl | 1 => exact (Nat.zero_add _).symm | 2 => exact (Nat.zero_add _).symm

theorem ld_back (X : Vec Ideal S2816x1024 .bf16) (k : Fin 2816) (l : Fin 1024) : View.ld X r0_8 (ix2 k l) = X (ix2 k l) :=
  View.ld_unit_apply_of X _ _ _ _ _ fun a => by match a with | 0 => exact (Nat.zero_add _).symm | 1 => exact (Nat.zero_add _).symm

/-- The two halves of the weights. -/
theorem ld_left (X : Vec Ideal S1024x5632 .bf16) (k : Fin 1024) (l : Fin 2816) : View.ld X r0_6 (ix2 k l) = X (ix2 k ⟨l.val, by omega⟩) :=
  View.ld_unit_apply_of X _ _ _ _ _ fun a => by match a with | 0 => exact (Nat.zero_add _).symm | 1 => exact (Nat.zero_add _).symm

theorem ld_right (X : Vec Ideal S1024x5632 .bf16) (k : Fin 1024) (l : Fin 2816) : View.ld X r0_7 (ix2 k l) = X (ix2 k ⟨2816 + l.val, by omega⟩) :=
  View.ld_unit_apply_of X _ _ _ _ _ fun a => by match a with | 0 => exact (Nat.zero_add _).symm | 1 => rfl

/-- A group's rows are the results of the rows of the block. -/
theorem group_at (o : ℕ) (inb : ∀ a, (![o, 0] : Fin 2 → ℕ) a + S256x1024.size a ≤ S1024x1024.size a) (y : S256x1024.Idx) :
    groupOf x0 x1 x2 x3 x4 o inb y = resultAt x0 x1 x2 x3 x4 ((group o inb).emb y) := by
  obtain ⟨r, j, rfl⟩ : ∃ r j, y = ix2 r j := ⟨y 0, y 1, by funext a; match a with | 0 => rfl | 1 => rfl⟩
  have col : (group o inb).emb (ix2 r j) 1 = j := Fin.ext ((Rect.idx_unit_val (s := S1024x1024) ![o, 0] S256x1024.size inb (ix2 r j) 1).trans (Nat.zero_add j.val))
  unfold groupOf resultAt
  rw [leaving_at _ _ _ _ _ _ _ (fun k l => x3 (ix2 k l)) (ld_left x3) (ld_right x3), col]
  simp only [entering_at, ld_group x0 o inb r j]
  have h0 : (fun l => View.ld x1 r0_2 (ix3 0 0 l)) = fun l => x1 (ix3 0 0 l) := funext (ld_mod x1 0)
  have h1 : (fun l => View.ld x1 r0_2 (ix3 0 1 l)) = fun l => x1 (ix3 0 1 l) := funext (ld_mod x1 1)
  have h2 : (fun l => View.ld x1 r0_2 (ix3 0 2 l)) = fun l => x1 (ix3 0 2 l) := funext (ld_mod x1 2)
  have h3 : (fun l => View.ld x2 r0_5 (ix2 0 l)) = fun l => x2 (ix2 0 l) := funext (ld_first x2)
  have h4 : (fun l => View.ld x2 r0_9 (ix2 0 l)) = fun l => x2 (ix2 1 l) := funext (ld_second x2)
  have h5 : (fun k l => View.ld x4 r0_8 (ix2 k l)) = fun k l => x4 (ix2 k l) := funext fun k => funext (ld_back x4 k)
  rw [h0, h1, h2, h3, h4, h5]
  rfl

/-- What a grid point leaves in its block. -/
theorem out6_at (y : S1024x1024.Idx) : out0_6 x0 x1 x2 x3 x4 x5 y = resultAt x0 x1 x2 x3 x4 y := by
  rw [out6_groups]
  refine View.canon_eq_of_allAt _ y _ (cover0_6 _ _ _ _ y) fun p hp x hx => ?_
  simp only [List.mem_cons, List.not_mem_nil, or_false] at hp
  rcases hp with rfl | rfl | rfl | rfl <;> exact (group_at x0 x1 x2 x3 x4 _ _ x).trans (congrArg _ hx)

/-- The part of the weights that a grid point passes on. -/
theorem out7_at (y : S128x5632.Idx) : out0_7 x0 x1 x2 x3 x4 x5 y = x5 (ix4 0 0 (y 0) (y 1)) := by
  have e : out0_7 x0 x1 x2 x3 x4 x5 = View.canon [⟨r0_1, k0_pay2 (View.ld x5 r0_0)⟩] := rfl
  rw [e]
  refine View.canon_eq_of_allAt _ y _ (cover0_7 _ y) fun p hp x hx => ?_
  simp only [List.mem_cons, List.not_mem_nil, or_false] at hp
  subst hp
  obtain ⟨r, j, rfl⟩ : ∃ r j, x = ix2 r j := ⟨x 0, x 1, by funext a; match a with | 0 => rfl | 1 => rfl⟩
  have row : r0_1.emb (ix2 r j) 0 = r := Fin.ext ((Rect.idx_unit_val (s := S128x5632) ![0, 0] S128x5632.size _ (ix2 r j) 0).trans (Nat.zero_add r.val))
  have col : r0_1.emb (ix2 r j) 1 = j := Fin.ext ((Rect.idx_unit_val (s := S128x5632) ![0, 0] S128x5632.size _ (ix2 r j) 1).trans (Nat.zero_add j.val))
  subst hx
  refine (passed_at _ r j).trans ?_
  rw [row, col]
  exact View.ld_unit_apply_of x5 _ _ _ _ _ fun a => by
    match a with | 0 => rfl | 1 => rfl | 2 => exact (Nat.zero_add _).symm | 3 => exact (Nat.zero_add _).symm

variable (m : (ℓ : Loc nD τ sig) → Buf (Elt Ideal) ℓ)

/-- Where each point's blocks lie. -/
theorem idx : ∀ t : Fin cfg0.N, t.val < 8 ∧ win0_0.index t = ![t.val, 0] ∧ win0_1.index t = ![0, 0, 0] ∧ win0_2.index t = ![0, 0]
    ∧ win0_3.index t = ![0, 0] ∧ win0_4.index t = ![0, 0] ∧ win0_5.index t = ![0, 1, t.val, 0] ∧ win0_6.index t = ![t.val, 0] ∧ win0_7.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8x3x3x1024 .f32 := m ((c : Thread nD τ).loc main_arg1)
abbrev arg2 : FVec Ideal S3x2x1024 .f32 := m ((c : Thread nD τ).loc main_arg2)
abbrev arg3 : FVec Ideal S1024x5632 .f32 := m ((c : Thread nD τ).loc main_arg3)
abbrev arg4 : FVec Ideal S2816x1024 .f32 := m ((c : Thread nD τ).loc main_arg4)
abbrev arg5 : FVec Ideal S4x2x1024x5632 .f32 := m ((c : Thread nD τ).loc main_arg5)

variable (t : Fin cfg0.N)

theorem lt_eight : t.val < 8 := (idx t).1

theorem blk0 (r l : Fin 1024) : (iblk m c 0 t : Vec Ideal S1024x1024 .f32) (ix2 r l) = arg0 m c (ix2 ⟨1024 * t.val + r.val, by have := lt_eight t; omega⟩ l) := by
  blk_ext [iblk, V, idx t]
theorem blk1 (s : Fin 3) (l : Fin 1024) : (iblk m c 1 t : Vec Ideal S1x3x1024 .f32) (ix3 0 s l) = arg1 m c (ix4 0 0 s l) := by
  blk_point [iblk, V, idx t]
theorem blk2 (s : Fin 2) (l : Fin 1024) : (iblk m c 2 t : Vec Ideal S2x1024 .f32) (ix2 s l) = arg2 m c (ix3 0 s l) := by
  blk_point [iblk, V, idx t]
theorem blk3 (k : Fin 1024) (l : Fin 5632) : (iblk m c 3 t : Vec Ideal S1024x5632 .bf16) (ix2 k l) = arg3 m c (ix2 k l) := by
  blk_point [iblk, V, idx t]
theorem blk4 (k : Fin 2816) (l : Fin 1024) : (iblk m c 4 t : Vec Ideal S2816x1024 .bf16) (ix2 k l) = arg4 m c (ix2 k l) := by
  blk_point [iblk, V, idx t]
theorem blk5 (k : Fin 128) (l : Fin 5632) : (iblk m c 5 t : Vec Ideal S1x1x128x5632 .f32) (ix4 0 0 k l) = arg5 m c (ix4 0 1 ⟨128 * t.val + k.val, by have := lt_eight t; omega⟩ l) := by
  blk_ext [iblk, V, idx t]

/-- What a point writes. -/
theorem result_at (y : S1024x1024.Idx) :
    resultAt (iblk m c 0 t) (iblk m c 1 t) (iblk m c 2 t) (iblk m c 3 t) (iblk m c 4 t) y
      = firstRows (arg0 m c) (arg1 m c) (arg2 m c) (arg3 m c) (arg4 m c)
          (ix2 ⟨1024 * t.val + (y 0).val, by have := lt_eight t; have : (y 0).val < 1024 := (y 0).isLt; omega⟩ (y 1)) := by
  unfold resultAt
  simp only [blk1, blk2, blk3, blk4]
  have h0 : (fun l => (iblk m c 0 t : Vec Ideal S1024x1024 .f32) (ix2 (y 0) l)) = _ := funext (blk0 m c t (y 0))
  rw [h0]
  rfl

/-- The rows at the end. -/
theorem final6 : (dats m 0 c).arrAt 6 (cfgs 0).N = firstRows (arg0 m c) (arg1 m c) (arg2 m c) (arg3 m c) (arg4 m c) := by
  refine (dats m 0 c).arrAt_eq_of_covers 6 _ (by decide +kernel) fun t _ y => ?_
  blk_simp
  rw [after0_6]
  refine (out6_at _ _ _ _ _ _ y).trans ((result_at m c t y).trans ?_)
  blk_ext [idx t]

/-- The weights at the end. -/
theorem final7 : (dats m 0 c).arrAt 7 (cfgs 0).N = nextWeights (arg5 m c) := by
  refine (dats m 0 c).arrAt_eq_of_covers 7 _ (by decide +kernel) fun t _ y => ?_
  blk_simp
  rw [after0_7]
  refine (out7_at _ _ _ _ _ _ y).trans ((blk5 m c t (y 0) (y 1)).trans ?_)
  refine Eq.trans (b := nextWeights (arg5 m c) (ix2 ⟨128 * t.val + (y 0).val, by have := lt_eight t; have : (y 0).val < 128 := (y 0).isLt; omega⟩ (y 1))) rfl ?_
  blk_ext [idx t]

end Cert.FfnFirstIdeal.Block

end
-- ==== Proof.Proj.lean ====
/-
  The projections that feed a token mixer: what both programs compute of a row, on the prompt's tokens.
-/
module

public import proofs.«01_k».proof.Proof.Ffn

@[expose] public section

noncomputable section

namespace Cert.Proj

open Idealize.ShloMosaic Cert.Ffn

/-- An array of the tokens' rows. -/
abbrev Rows : Type := (⟨2, ![8192, 1024]⟩ : Shape).Idx → EReal

/-- The 1024 columns of `w` from `p`. -/
def cut {n : ℕ} (w : Fin 1024 → Fin n → EReal) (p : ℕ) (h : p + 1024 ≤ n) : Fin 1024 → Fin 1024 → EReal := fun k l => w k ⟨p + l.val, by omega⟩

variable (y : Rows) (mods : (⟨4, ![8, 3, 3, 1024]⟩ : Shape).Idx → EReal) (g : (⟨3, ![3, 2, 1024]⟩ : Shape).Idx → EReal)

/-- What enters the mixer: the norm of token `r`'s row, scaled and shifted. -/
def inputRow (r : Fin 8192) : Row :=
  entering (fun l => mods (ix4 0 1 0 l)) (fun l => mods (ix4 0 1 1 l)) (fun l => y (ix2 r l)) (fun l => g (ix3 1 0 l))

/-- The product of the rows with the 1024 columns of `w` from `p`. -/
def projected {n : ℕ} (w : (⟨2, ![1024, n]⟩ : Shape).Idx → EReal) (p : ℕ) (h : p + 1024 ≤ n) : Rows := fun i =>
  times (inputRow y mods g (i 0)) (cut (fun k l => w (ix2 k l)) p h) (i 1)

/-- Two such products, multiplied. -/
def paired {n : ℕ} (w : (⟨2, ![1024, n]⟩ : Shape).Idx → EReal) (p q : ℕ) (h : p + 1024 ≤ n) (h' : q + 1024 ≤ n) : Rows := fun i =>
  projected y mods g w p h i * projected y mods g w q h' i

/-- A row plus a bias, times the logistic function of a second one plus a bias. -/
def gated (h : Row) (w : Fin 1024 → Fin 2048 → EReal) (b : Fin 2048 → EReal) : Row := fun j =>
  (times h (cut w 0 (by omega)) j + b ⟨0 + j.val, by omega⟩) * Ideal.logistic (times h (cut w 1024 (by omega)) j + b ⟨1024 + j.val, by omega⟩)

/-- The gated rows. -/
def gatedRows (w : (⟨2, ![1024, 2048]⟩ : Shape).Idx → EReal) (b : (⟨1, ![2048]⟩ : Shape).Idx → EReal) : Rows := fun i =>
  gated (inputRow y mods g (i 0)) (fun k l => w (ix2 k l)) (fun l => b (ix1 l)) (i 1)

end Cert.Proj

end
-- ==== Proof.ProjAttnValue.lean ====
/-
  The attention's projection: the three arrays at the end of a run on the prompt's tokens.
-/
module

public import proofs.«01_k».proof.Proof.Gen.ProjAttnIdeal.Value
public import proofs.«01_k».proof.Proof.Proj
public import Idealize.ShloMosaic.Lib.Pipeline.ValueKit

@[expose] public section

set_option maxRecDepth 16384

noncomputable section

namespace Cert.ProjAttnIdeal.Block

open Cert.ProjAttnIdeal Cert.ProjAttnIdeal.Gen Cert.Ffn Cert.Proj
open Idealize.ShloMosaic Idealize.ShloMosaic.TcCoe Idealize.SL.Sem
open Idealize.ShloMosaic.Pipeline (Dat)

/-- The rows' products with a group of columns. -/
theorem product_at (a : FVec Ideal S1x3x1024 .f32) (x : FVec Ideal S256x1024 .f32) (g : FVec Ideal S1x1024 .f32) (w : FVec Ideal S1024x1024 .bf16)
    (r : Fin 256) (j : Fin 1024) : k0_pay6 (F := Ideal) a x g w (ix2 r j)
      = times (entering (fun l => a (ix3 0 0 l)) (fun l => a (ix3 0 1 l)) (fun l => x (ix2 r l)) (fun l => g (ix2 0 l))) (fun k l => w (ix2 k l)) j := by
  pointwise [k0_pay6, k0_pay5, k0_pay4, k0_pay3, k0_pay2]
  rfl

variable (x0 : Vec Ideal S512x1024 .f32) (x1 : Vec Ideal S1x3x1024 .f32) (x2 : Vec Ideal S2x1024 .f32) (x3 : Vec Ideal S1024x3072 .bf16)

/-- Rows `o` to `o + 255` of a block. -/
abbrev group (o : ℕ) (inb : ∀ a, (![o, 0] : Fin 2 → ℕ) a + S256x1024.size a ≤ S512x1024.size a) : Rect S512x1024 := Rect.unit (s := S512x1024) ![o, 0] S256x1024.size inb

/-- Columns `p` to `p + 1023` of the weights. -/
abbrev columns (p : ℕ) (inb : ∀ a, (![0, p] : Fin 2 → ℕ) a + S1024x1024.size a ≤ S1024x3072.size a) : Rect S1024x3072 := Rect.unit (s := S1024x3072) ![0, p] S1024x1024.size inb

/-- The product of a row of the block. -/
def resultAt (p : ℕ) (h : p + 1024 ≤ 3072) (y : S512x1024.Idx) : EReal :=
  times (entering (fun l => x1 (ix3 0 0 l)) (fun l => x1 (ix3 0 1 l)) (fun l => x0 (ix2 (y 0) l)) (fun l => x2 (ix2 0 l))) (cut (fun k l => x3 (ix2 k l)) p h) (y 1)

/-- What the body stores in the group of rows that starts at `o`. -/
def groupOf (p : ℕ) (inp : ∀ a, (![0, p] : Fin 2 → ℕ) a + S1024x1024.size a ≤ S1024x3072.size a)
    (o : ℕ) (inb : ∀ a, (![o, 0] : Fin 2 → ℕ) a + S256x1024.size a ≤ S512x1024.size a) : FVec Ideal S256x1024 .f32 :=
  k0_pay6 (View.ld x1 r0_0) (View.ld x0 (group o inb)) (View.ld x2 r0_2) (View.ld x3 (columns p inp))

/-- The blocks as two groups of rows. -/
theorem out4_groups : out0_4 x0 x1 x2 x3 = View.canon
    [⟨group 256 inb_S512x1024_S256x1024_256_0, groupOf x0 x1 x2 x3 0 inb_S1024x3072_S1024x1024_0_0 256 inb_S512x1024_S256x1024_256_0⟩,
     ⟨group 0 inb_S512x1024_S256x1024_0_0, groupOf x0 x1 x2 x3 0 inb_S1024x3072_S1024x1024_0_0 0 inb_S512x1024_S256x1024_0_0⟩] := by
  chain_rfl
theorem out5_groups : out0_5 x0 x1 x2 x3 = View.canon
    [⟨group 256 inb_S512x1024_S256x1024_256_0, groupOf x0 x1 x2 x3 1024 inb_S1024x3072_S1024x1024_0_1024 256 inb_S512x1024_S256x1024_256_0⟩,
     ⟨group 0 inb_S512x1024_S256x1024_0_0, groupOf x0 x1 x2 x3 1024 inb_S1024x3072_S1024x1024_0_1024 0 inb_S512x1024_S256x1024_0_0⟩] := by
  chain_rfl
theorem out6_groups : out0_6 x0 x1 x2 x3 = View.canon
    [⟨group 256 inb_S512x1024_S256x1024_256_0, groupOf x0 x1 x2 x3 2048 inb_S1024x3072_S1024x1024_0_2048 256 inb_S512x1024_S256x1024_256_0⟩,
     ⟨group 0 inb_S512x1024_S256x1024_0_0, groupOf x0 x1 x2 x3 2048 inb_S1024x3072_S1024x1024_0_2048 0 inb_S512x1024_S256x1024_0_0⟩] := by
  chain_rfl

/-- A row of a group is a row of the block. -/
theorem ld_group (X : Vec Ideal S512x1024 .f32) (o : ℕ) (inb : ∀ a, (![o, 0] : Fin 2 → ℕ) a + S256x1024.size a ≤ S512x1024.size a) (r : Fin 256) (j l : Fin 1024) :
    View.ld X (group o inb) (ix2 r l) = X (ix2 ((group o inb).emb (ix2 r j) 0) l) := by
  refine congrArg X (funext fun a => Fin.ext ?_)
  match a with
  | 0 => rfl
  | 1 => exact (Rect.idx_unit_val (s := S512x1024) ![o, 0] S256x1024.size inb (ix2 r l) 1).trans (Nat.zero_add l.val)

/-- The first gain of the pair. -/
theorem ld_first (X : Vec Ideal S2x1024 .f32) (l : Fin 1024) : View.ld X r0_2 (ix2 0 l) = X (ix2 0 l) :=
  View.ld_unit_apply_of X _ _ _ _ _ fun a => by match a with | 0 => rfl | 1 => exact (Nat.zero_add _).symm

/-- A read of the whole modulation. -/
theorem ld_mod (X : Vec Ideal S1x3x1024 .f32) (s : Fin 3) (l : Fin 1024) : View.ld X r0_0 (ix3 0 s l) = X (ix3 0 s l) :=
  View.ld_unit_apply_of X _ _ _ _ _ fun a => by match a with | 0 => rfl | 1 => exact (Nat.zero_add _).symm | 2 => exact (Nat.zero_add _).symm

/-- A read of a group of columns. -/
theorem ld_columns (X : Vec Ideal S1024x3072 .bf16) (p : ℕ) (inp : ∀ a, (![0, p] : Fin 2 → ℕ) a + S1024x1024.size a ≤ S1024x3072.size a) (h : p + 1024 ≤ 3072)
    (k l : Fin 1024) : View.ld X (columns p inp) (ix2 k l) = cut (fun k l => X (ix2 k l)) p h k l :=
  View.ld_unit_apply_of X _ _ _ _ _ fun a => by match a with | 0 => exact (Nat.zero_add _).symm | 1 => rfl

/-- A group's rows are the products of the rows of the block. -/
theorem group_at (p : ℕ) (inp : ∀ a, (![0, p] : Fin 2 → ℕ) a + S1024x1024.size a ≤ S1024x3072.size a) (h : p + 1024 ≤ 3072)
    (o : ℕ) (inb : ∀ a, (![o, 0] : Fin 2 → ℕ) a + S256x1024.size a ≤ S512x1024.size a) (y : S256x1024.Idx) :
    groupOf x0 x1 x2 x3 p inp o inb y = resultAt x0 x1 x2 x3 p h ((group o inb).emb y) := by
  obtain ⟨r, j, rfl⟩ : ∃ r j, y = ix2 r j := ⟨y 0, y 1, by funext a; match a with | 0 => rfl | 1 => rfl⟩
  have col : (group o inb).emb (ix2 r j) 1 = j := Fin.ext ((Rect.idx_unit_val (s := S512x1024) ![o, 0] S256x1024.size inb (ix2 r j) 1).trans (Nat.zero_add j.val))
  unfold groupOf resultAt
  rw [product_at, col]
  have h0 : (fun l => View.ld x1 r0_0 (ix3 0 0 l)) = fun l => x1 (ix3 0 0 l) := funext (ld_mod x1 0)
  have h1 : (fun l => View.ld x1 r0_0 (ix3 0 1 l)) = fun l => x1 (ix3 0 1 l) := funext (ld_mod x1 1)
  have h2 : (fun l => View.ld x0 (group o inb) (ix2 r l)) = _ := funext (ld_group x0 o inb r j)
  have h3 : (fun l => View.ld x2 r0_2 (ix2 0 l)) = fun l => x2 (ix2 0 l) := funext (ld_first x2)
  have h4 : (fun k l => View.ld x3 (columns p inp) (ix2 k l)) = cut (fun k l => x3 (ix2 k l)) p h := funext fun k => funext (ld_columns x3 p inp h k)
  rw [h0, h1, h2, h3, h4]

/-- What a grid point leaves in its blocks. -/
theorem out4_at (y : S512x1024.Idx) : out0_4 x0 x1 x2 x3 y = resultAt x0 x1 x2 x3 0 (by omega) y := by
  rw [out4_groups]
  refine View.canon_eq_of_allAt _ y _ (cover0_4 _ _ y) fun p hp x hx => ?_
  simp only [List.mem_cons, List.not_mem_nil, or_false] at hp
  rcases hp with rfl | rfl <;> exact (group_at x0 x1 x2 x3 _ _ _ _ _ x).trans (congrArg _ hx)
theorem out5_at (y : S512x1024.Idx) : out0_5 x0 x1 x2 x3 y = resultAt x0 x1 x2 x3 1024 (by omega) y := by
  rw [out5_groups]
  refine View.canon_eq_of_allAt _ y _ (cover0_5 _ _ y) fun p hp x hx => ?_
  simp only [List.mem_cons, List.not_mem_nil, or_false] at hp
  rcases hp with rfl | rfl <;> exact (group_at x0 x1 x2 x3 _ _ _ _ _ x).trans (congrArg _ hx)
theorem out6_at (y : S512x1024.Idx) : out0_6 x0 x1 x2 x3 y = resultAt x0 x1 x2 x3 2048 (by omega) y := by
  rw [out6_groups]
  refine View.canon_eq_of_allAt _ y _ (cover0_6 _ _ y) fun p hp x hx => ?_
  simp only [List.mem_cons, List.not_mem_nil, or_false] at hp
  rcases hp with rfl | rfl <;> exact (group_at x0 x1 x2 x3 _ _ _ _ _ x).trans (congrArg _ hx)

variable (m : (ℓ : Loc nD τ sig) → Buf (Elt Ideal) ℓ)

/-- Where each point's blocks lie. -/
theorem idx : ∀ t : Fin cfg0.N, t.val < 16 ∧ win0_0.index t = ![t.val, 0] ∧ win0_1.index t = ![0, 0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8x3x3x1024 .f32 := m ((c : Thread nD τ).loc main_arg1)
abbrev arg2 : FVec Ideal S3x2x1024 .f32 := m ((c : Thread nD τ).loc main_arg2)
abbrev arg3 : FVec Ideal S1024x3072 .f32 := m ((c : Thread nD τ).loc main_arg3)

variable (t : Fin cfg0.N)

theorem lt_sixteen : t.val < 16 := (idx t).1

theorem blk0 (r : Fin 512) (l : Fin 1024) : (iblk m c 0 t : Vec Ideal S512x1024 .f32) (ix2 r l) = arg0 m c (ix2 ⟨512 * t.val + r.val, by have := lt_sixteen t; omega⟩ l) := by
  blk_ext [iblk, V, idx t]
theorem blk1 (s : Fin 3) (l : Fin 1024) : (iblk m c 1 t : Vec Ideal S1x3x1024 .f32) (ix3 0 s l) = arg1 m c (ix4 0 1 s l) := by
  blk_point [iblk, V, idx t]
theorem blk2 (s : Fin 2) (l : Fin 1024) : (iblk m c 2 t : Vec Ideal S2x1024 .f32) (ix2 s l) = arg2 m c (ix3 1 s l) := by
  blk_point [iblk, V, idx t]
theorem blk3 (k : Fin 1024) (l : Fin 3072) : (iblk m c 3 t : Vec Ideal S1024x3072 .bf16) (ix2 k l) = arg3 m c (ix2 k l) := by
  blk_point [iblk, V, idx t]

/-- What a point writes. -/
theorem result_at (p : ℕ) (h : p + 1024 ≤ 3072) (y : S512x1024.Idx) :
    resultAt (iblk m c 0 t) (iblk m c 1 t) (iblk m c 2 t) (iblk m c 3 t) p h y
      = projected (arg0 m c) (arg1 m c) (arg2 m c) (arg3 m c) p h
          (ix2 ⟨512 * t.val + (y 0).val, by have := lt_sixteen t; have : (y 0).val < 512 := (y 0).isLt; omega⟩ (y 1)) := by
  unfold resultAt
  simp only [blk1, blk2, blk3]
  have h0 : (fun l => (iblk m c 0 t : Vec Ideal S512x1024 .f32) (ix2 (y 0) l)) = _ := funext (blk0 m c t (y 0))
  rw [h0]
  rfl

/-- The result arrays at the end. -/
theorem final4 : (dats m 0 c).arrAt 4 (cfgs 0).N = projected (arg0 m c) (arg1 m c) (arg2 m c) (arg3 m c) 0 (by omega) := by
  refine (dats m 0 c).arrAt_eq_of_covers 4 _ (by decide +kernel) fun t _ y => ?_
  blk_simp
  rw [after0_4]
  refine (out4_at _ _ _ _ y).trans ((result_at m c t 0 (by omega) y).trans ?_)
  blk_ext [idx t]
theorem final5 : (dats m 0 c).arrAt 5 (cfgs 0).N = projected (arg0 m c) (arg1 m c) (arg2 m c) (arg3 m c) 1024 (by omega) := by
  refine (dats m 0 c).arrAt_eq_of_covers 5 _ (by decide +kernel) fun t _ y => ?_
  blk_simp
  rw [after0_5]
  refine (out5_at _ _ _ _ y).trans ((result_at m c t 1024 (by omega) y).trans ?_)
  blk_ext [idx t]
theorem final6 : (dats m 0 c).arrAt 6 (cfgs 0).N = projected (arg0 m c) (arg1 m c) (arg2 m c) (arg3 m c) 2048 (by omega) := by
  refine (dats m 0 c).arrAt_eq_of_covers 6 _ (by decide +kernel) fun t _ y => ?_
  blk_simp
  rw [after0_6]
  refine (out6_at _ _ _ _ y).trans ((result_at m c t 2048 (by omega) y).trans ?_)
  blk_ext [idx t]

end Cert.ProjAttnIdeal.Block

end
-- ==== Proof.ProjGluValue.lean ====
/-
  The wide convolution's gated projection: the array at the end of a run on the prompt's tokens.
-/
module

public import proofs.«01_k».proof.Proof.Gen.ProjGluIdeal.Value
public import proofs.«01_k».proof.Proof.Proj
public import Idealize.ShloMosaic.Lib.Pipeline.ValueKit

@[expose] public section

set_option maxRecDepth 16384

noncomputable section

namespace Cert.ProjGluIdeal.Block

open Cert.ProjGluIdeal Cert.ProjGluIdeal.Gen Cert.Ffn Cert.Proj
open Idealize.ShloMosaic Idealize.ShloMosaic.TcCoe Idealize.SL.Sem
open Idealize.ShloMosaic.Pipeline (Dat)

/-- The gated rows. -/
theorem gated_at (a : FVec Ideal S1x3x1024 .f32) (x : FVec Ideal S256x1024 .f32) (g : FVec Ideal S1x1024 .f32) (u v : FVec Ideal S1024x1024 .bf16) (b d : FVec Ideal S1x1024 .f32)
    (w : Fin 1024 → Fin 2048 → EReal) (e : Fin 2048 → EReal) (hu : ∀ k l, u (ix2 k l) = cut w 0 (by omega) k l) (hv : ∀ k l, v (ix2 k l) = cut w 1024 (by omega) k l)
    (hb : ∀ l : Fin 1024, b (ix2 0 l) = e ⟨0 + l.val, by omega⟩) (hd : ∀ l : Fin 1024, d (ix2 0 l) = e ⟨1024 + l.val, by omega⟩)
    (r : Fin 256) (j : Fin 1024) : k0_pay9 (F := Ideal) (k0_pay6 a x g u b) (k0_pay7 a x g v) (k0_pay8 d) (ix2 r j)
      = gated (entering (fun l => a (ix3 0 0 l)) (fun l => a (ix3 0 1 l)) (fun l => x (ix2 r l)) (fun l => g (ix2 0 l))) w e j := by
  pointwise [k0_pay9, k0_pay8, k0_pay7, k0_pay6, k0_pay5, k0_pay4, k0_pay3, k0_pay2]
  simp only [hu, hv, hb, hd]
  rfl

variable (x0 : Vec Ideal S512x1024 .f32) (x1 : Vec Ideal S1x3x1024 .f32) (x2 : Vec Ideal S2x1024 .f32) (x3 : Vec Ideal S1024x2048 .bf16) (x4 : Vec Ideal S1x2048 .f32)

/-- Rows `o` to `o + 255` of a block. -/
abbrev group (o : ℕ) (inb : ∀ a, (![o, 0] : Fin 2 → ℕ) a + S256x1024.size a ≤ S512x1024.size a) : Rect S512x1024 := Rect.unit (s := S512x1024) ![o, 0] S256x1024.size inb

/-- Columns `p` to `p + 1023` of the weights. -/
abbrev columns (p : ℕ) (inb : ∀ a, (![0, p] : Fin 2 → ℕ) a + S1024x1024.size a ≤ S1024x2048.size a) : Rect S1024x2048 := Rect.unit (s := S1024x2048) ![0, p] S1024x1024.size inb

/-- The result of a row of the block. -/
def resultAt (y : S512x1024.Idx) : EReal :=
  gated (entering (fun l => x1 (ix3 0 0 l)) (fun l => x1 (ix3 0 1 l)) (fun l => x0 (ix2 (y 0) l)) (fun l => x2 (ix2 0 l))) (fun k l => x3 (ix2 k l)) (fun l => x4 (ix2 0 l)) (y 1)

/-- What the body stores in the group of rows that starts at `o`. -/
def groupOf (o : ℕ) (inb : ∀ a, (![o, 0] : Fin 2 → ℕ) a + S256x1024.size a ≤ S512x1024.size a) : FVec Ideal S256x1024 .f32 :=
  k0_pay9 (k0_pay6 (View.ld x1 r0_0) (View.ld x0 (group o inb)) (View.ld x2 r0_2) (View.ld x3 (columns 0 inb_S1024x2048_S1024x1024_0_0)) (View.ld x4 r0_4))
    (k0_pay7 (View.ld x1 r0_0) (View.ld x0 (group o inb)) (View.ld x2 r0_2) (View.ld x3 (columns 1024 inb_S1024x2048_S1024x1024_0_1024))) (k0_pay8 (View.ld x4 r0_6))

/-- The block as two groups of rows. -/
theorem out5_groups : out0_5 x0 x1 x2 x3 x4 = View.canon
    [⟨group 256 inb_S512x1024_S256x1024_256_0, groupOf x0 x1 x2 x3 x4 256 inb_S512x1024_S256x1024_256_0⟩,
     ⟨group 0 inb_S512x1024_S256x1024_0_0, groupOf x0 x1 x2 x3 x4 0 inb_S512x1024_S256x1024_0_0⟩] := by
  chain_rfl

/-- A row of a group is a row of the block. -/
theorem ld_group (X : Vec Ideal S512x1024 .f32) (o : ℕ) (inb : ∀ a, (![o, 0] : Fin 2 → ℕ) a + S256x1024.size a ≤ S512x1024.size a) (r : Fin 256) (j l : Fin 1024) :
    View.ld X (group o inb) (ix2 r l) = X (ix2 ((group o inb).emb (ix2 r j) 0) l) := by
  refine congrArg X (funext fun a => Fin.ext ?_)
  match a with
  | 0 => rfl
  | 1 => exact (Rect.idx_unit_val (s := S512x1024) ![o, 0] S256x1024.size inb (ix2 r l) 1).trans (Nat.zero_add l.val)

/-- The first gain of the pair. -/
theorem ld_first (X : Vec Ideal S2x1024 .f32) (l : Fin 1024) : View.ld X r0_2 (ix2 0 l) = X (ix2 0 l) :=
  View.ld_unit_apply_of X _ _ _ _ _ fun a => by match a with | 0 => rfl | 1 => exact (Nat.zero_add _).symm

/-- A read of the whole modulation. -/
theorem ld_mod (X : Vec Ideal S1x3x1024 .f32) (s : Fin 3) (l : Fin 1024) : View.ld X r0_0 (ix3 0 s l) = X (ix3 0 s l) :=
  View.ld_unit_apply_of X _ _ _ _ _ fun a => by match a with | 0 => rfl | 1 => exact (Nat.zero_add _).symm | 2 => exact (Nat.zero_add _).symm

/-- A read of a group of columns. -/
theorem ld_columns (X : Vec Ideal S1024x2048 .bf16) (p : ℕ) (inp : ∀ a, (![0, p] : Fin 2 → ℕ) a + S1024x1024.size a ≤ S1024x2048.size a) (h : p + 1024 ≤ 2048)
    (k l : Fin 1024) : View.ld X (columns p inp) (ix2 k l) = cut (fun k l => X (ix2 k l)) p h k l :=
  View.ld_unit_apply_of X _ _ _ _ _ fun a => by match a with | 0 => exact (Nat.zero_add _).symm | 1 => rfl

/-- The two halves of the bias. -/
theorem ld_bias_left (X : Vec Ideal S1x2048 .f32) (l : Fin 1024) : View.ld X r0_4 (ix2 0 l) = X (ix2 0 ⟨0 + l.val, by omega⟩) :=
  View.ld_unit_apply_of X _ _ _ _ _ fun a => by match a with | 0 => rfl | 1 => rfl
theorem ld_bias_right (X : Vec Ideal S1x2048 .f32) (l : Fin 1024) : View.ld X r0_6 (ix2 0 l) = X (ix2 0 ⟨1024 + l.val, by omega⟩) :=
  View.ld_unit_apply_of X _ _ _ _ _ fun a => by match a with | 0 => rfl | 1 => rfl

/-- A group's rows are the results of the rows of the block. -/
theorem group_at (o : ℕ) (inb : ∀ a, (![o, 0] : Fin 2 → ℕ) a + S256x1024.size a ≤ S512x1024.size a) (y : S256x1024.Idx) :
    groupOf x0 x1 x2 x3 x4 o inb y = resultAt x0 x1 x2 x3 x4 ((group o inb).emb y) := by
  obtain ⟨r, j, rfl⟩ : ∃ r j, y = ix2 r j := ⟨y 0, y 1, by funext a; match a with | 0 => rfl | 1 => rfl⟩
  have col : (group o inb).emb (ix2 r j) 1 = j := Fin.ext ((Rect.idx_unit_val (s := S512x1024) ![o, 0] S256x1024.size inb (ix2 r j) 1).trans (Nat.zero_add j.val))
  unfold groupOf resultAt
  rw [gated_at _ _ _ _ _ _ _ (fun k l => x3 (ix2 k l)) (fun l => x4 (ix2 0 l)) (ld_columns x3 0 _ (by omega)) (ld_columns x3 1024 _ (by omega))
    (ld_bias_left x4) (ld_bias_right x4), col]
  have h0 : (fun l => View.ld x1 r0_0 (ix3 0 0 l)) = fun l => x1 (ix3 0 0 l) := funext (ld_mod x1 0)
  have h1 : (fun l => View.ld x1 r0_0 (ix3 0 1 l)) = fun l => x1 (ix3 0 1 l) := funext (ld_mod x1 1)
  have h2 : (fun l => View.ld x0 (group o inb) (ix2 r l)) = _ := funext (ld_group x0 o inb r j)
  have h3 : (fun l => View.ld x2 r0_2 (ix2 0 l)) = fun l => x2 (ix2 0 l) := funext (ld_first x2)
  rw [h0, h1, h2, h3]

/-- What a grid point leaves in its block. -/
theorem out5_at (y : S512x1024.Idx) : out0_5 x0 x1 x2 x3 x4 y = resultAt x0 x1 x2 x3 x4 y := by
  rw [out5_groups]
  refine View.canon_eq_of_allAt _ y _ (cover0_5 _ _ y) fun p hp x hx => ?_
  simp only [List.mem_cons, List.not_mem_nil, or_false] at hp
  rcases hp with rfl | rfl <;> exact (group_at x0 x1 x2 x3 x4 _ _ x).trans (congrArg _ hx)

variable (m : (ℓ : Loc nD τ sig) → Buf (Elt Ideal) ℓ)

/-- Where each point's blocks lie. -/
theorem idx : ∀ t : Fin cfg0.N, t.val < 16 ∧ win0_0.index t = ![t.val, 0] ∧ win0_1.index t = ![0, 0, 0] ∧ win0_2.index t = ![0, 0]
    ∧ win0_3.index t = ![0, 0] ∧ win0_4.index t = ![0, 0] ∧ win0_5.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8x3x3x1024 .f32 := m ((c : Thread nD τ).loc main_arg1)
abbrev arg2 : FVec Ideal S3x2x1024 .f32 := m ((c : Thread nD τ).loc main_arg2)
abbrev arg3 : FVec Ideal S1024x2048 .f32 := m ((c : Thread nD τ).loc main_arg3)
abbrev arg4 : FVec Ideal S2048 .f32 := m ((c : Thread nD τ).loc main_arg4)

variable (t : Fin cfg0.N)

theorem lt_sixteen : t.val < 16 := (idx t).1

theorem blk0 (r : Fin 512) (l : Fin 1024) : (iblk m c 0 t : Vec Ideal S512x1024 .f32) (ix2 r l) = arg0 m c (ix2 ⟨512 * t.val + r.val, by have := lt_sixteen t; omega⟩ l) := by
  blk_ext [iblk, V, idx t]
theorem blk1 (s : Fin 3) (l : Fin 1024) : (iblk m c 1 t : Vec Ideal S1x3x1024 .f32) (ix3 0 s l) = arg1 m c (ix4 0 1 s l) := by
  blk_point [iblk, V, idx t]
theorem blk2 (s : Fin 2) (l : Fin 1024) : (iblk m c 2 t : Vec Ideal S2x1024 .f32) (ix2 s l) = arg2 m c (ix3 1 s l) := by
  blk_point [iblk, V, idx t]
theorem blk3 (k : Fin 1024) (l : Fin 2048) : (iblk m c 3 t : Vec Ideal S1024x2048 .bf16) (ix2 k l) = arg3 m c (ix2 k l) := by
  blk_point [iblk, V, idx t]

theorem blk4 (l : Fin 2048) : (iblk m c 4 t : Vec Ideal S1x2048 .f32) (ix2 0 l) = arg4 m c (ix1 l) := by
  blk_point [iblk, V, idx t]

/-- What a point writes. -/
theorem result_at (y : S512x1024.Idx) :
    resultAt (iblk m c 0 t) (iblk m c 1 t) (iblk m c 2 t) (iblk m c 3 t) (iblk m c 4 t) y
      = gatedRows (arg0 m c) (arg1 m c) (arg2 m c) (arg3 m c) (arg4 m c)
          (ix2 ⟨512 * t.val + (y 0).val, by have := lt_sixteen t; have : (y 0).val < 512 := (y 0).isLt; omega⟩ (y 1)) := by
  unfold resultAt
  simp only [blk1, blk2, blk3, blk4]
  have h0 : (fun l => (iblk m c 0 t : Vec Ideal S512x1024 .f32) (ix2 (y 0) l)) = _ := funext (blk0 m c t (y 0))
  rw [h0]
  rfl

/-- The result array at the end. -/
theorem final5 : (dats m 0 c).arrAt 5 (cfgs 0).N = gatedRows (arg0 m c) (arg1 m c) (arg2 m c) (arg3 m c) (arg4 m c) := by
  refine (dats m 0 c).arrAt_eq_of_covers 5 _ (by decide +kernel) fun t _ y => ?_
  blk_simp
  rw [after0_5]
  refine (out5_at _ _ _ _ _ y).trans ((result_at m c t y).trans ?_)
  blk_ext [idx t]

end Cert.ProjGluIdeal.Block

end
-- ==== Proof.ProjPairValue.lean ====
/-
  The short convolution's projection: the gate and the product, as arrays at the end of a run on the prompt's tokens.
-/
module

public import proofs.«01_k».proof.Proof.Gen.ProjPairIdeal.Value
public import proofs.«01_k».proof.Proof.Proj
public import Idealize.ShloMosaic.Lib.Pipeline.ValueKit

@[expose] public section

set_option maxRecDepth 16384

noncomputable section

namespace Cert.ProjPairIdeal.Block

open Cert.ProjPairIdeal Cert.ProjPairIdeal.Gen Cert.Ffn Cert.Proj
open Idealize.ShloMosaic Idealize.ShloMosaic.TcCoe Idealize.SL.Sem
open Idealize.ShloMosaic.Pipeline (Dat)

/-- The rows' products with a group of columns. -/
theorem product_at (a : FVec Ideal S1x3x1024 .f32) (x : FVec Ideal S256x1024 .f32) (g : FVec Ideal S1x1024 .f32) (w : FVec Ideal S1024x1024 .bf16)
    (r : Fin 256) (j : Fin 1024) : k0_pay5 (F := Ideal) a x g w (ix2 r j)
      = times (entering (fun l => a (ix3 0 0 l)) (fun l => a (ix3 0 1 l)) (fun l => x (ix2 r l)) (fun l => g (ix2 0 l))) (fun k l => w (ix2 k l)) j := by
  pointwise [k0_pay5, k0_pay4, k0_pay3, k0_pay2, k0_pay1]
  rfl

variable (x0 : Vec Ideal S512x1024 .f32) (x1 : Vec Ideal S1x3x1024 .f32) (x2 : Vec Ideal S2x1024 .f32) (x3 : Vec Ideal S1024x3072 .bf16)

/-- Rows `o` to `o + 255` of a block. -/
abbrev group (o : ℕ) (inb : ∀ a, (![o, 0] : Fin 2 → ℕ) a + S256x1024.size a ≤ S512x1024.size a) : Rect S512x1024 := Rect.unit (s := S512x1024) ![o, 0] S256x1024.size inb

/-- Columns `p` to `p + 1023` of the weights. -/
abbrev columns (p : ℕ) (inb : ∀ a, (![0, p] : Fin 2 → ℕ) a + S1024x1024.size a ≤ S1024x3072.size a) : Rect S1024x3072 := Rect.unit (s := S1024x3072) ![0, p] S1024x1024.size inb

/-- The product of a row of the block. -/
def resultAt (p : ℕ) (h : p + 1024 ≤ 3072) (y : S512x1024.Idx) : EReal :=
  times (entering (fun l => x1 (ix3 0 0 l)) (fun l => x1 (ix3 0 1 l)) (fun l => x0 (ix2 (y 0) l)) (fun l => x2 (ix2 0 l))) (cut (fun k l => x3 (ix2 k l)) p h) (y 1)

/-- What the body stores in the group of rows that starts at `o`. -/
def groupOf (p : ℕ) (inp : ∀ a, (![0, p] : Fin 2 → ℕ) a + S1024x1024.size a ≤ S1024x3072.size a)
    (o : ℕ) (inb : ∀ a, (![o, 0] : Fin 2 → ℕ) a + S256x1024.size a ≤ S512x1024.size a) : FVec Ideal S256x1024 .f32 :=
  k0_pay5 (View.ld x1 r0_0) (View.ld x0 (group o inb)) (View.ld x2 r0_2) (View.ld x3 (columns p inp))

/-- The blocks as two groups of rows. -/
theorem out4_groups : out0_4 x0 x1 x2 x3 = View.canon
    [⟨group 256 inb_S512x1024_S256x1024_256_0, groupOf x0 x1 x2 x3 0 inb_S1024x3072_S1024x1024_0_0 256 inb_S512x1024_S256x1024_256_0⟩,
     ⟨group 0 inb_S512x1024_S256x1024_0_0, groupOf x0 x1 x2 x3 0 inb_S1024x3072_S1024x1024_0_0 0 inb_S512x1024_S256x1024_0_0⟩] := by
  chain_rfl
theorem out5_groups : out0_5 x0 x1 x2 x3 = View.canon
    [⟨group 256 inb_S512x1024_S256x1024_256_0, mulf (groupOf x0 x1 x2 x3 1024 inb_S1024x3072_S1024x1024_0_1024 256 inb_S512x1024_S256x1024_256_0)
        (groupOf x0 x1 x2 x3 2048 inb_S1024x3072_S1024x1024_0_2048 256 inb_S512x1024_S256x1024_256_0)⟩,
     ⟨group 0 inb_S512x1024_S256x1024_0_0, mulf (groupOf x0 x1 x2 x3 1024 inb_S1024x3072_S1024x1024_0_1024 0 inb_S512x1024_S256x1024_0_0)
        (groupOf x0 x1 x2 x3 2048 inb_S1024x3072_S1024x1024_0_2048 0 inb_S512x1024_S256x1024_0_0)⟩] := by
  chain_rfl

/-- A row of a group is a row of the block. -/
theorem ld_group (X : Vec Ideal S512x1024 .f32) (o : ℕ) (inb : ∀ a, (![o, 0] : Fin 2 → ℕ) a + S256x1024.size a ≤ S512x1024.size a) (r : Fin 256) (j l : Fin 1024) :
    View.ld X (group o inb) (ix2 r l) = X (ix2 ((group o inb).emb (ix2 r j) 0) l) := by
  refine congrArg X (funext fun a => Fin.ext ?_)
  match a with
  | 0 => rfl
  | 1 => exact (Rect.idx_unit_val (s := S512x1024) ![o, 0] S256x1024.size inb (ix2 r l) 1).trans (Nat.zero_add l.val)

/-- The first gain of the pair. -/
theorem ld_first (X : Vec Ideal S2x1024 .f32) (l : Fin 1024) : View.ld X r0_2 (ix2 0 l) = X (ix2 0 l) :=
  View.ld_unit_apply_of X _ _ _ _ _ fun a => by match a with | 0 => rfl | 1 => exact (Nat.zero_add _).symm

/-- A read of the whole modulation. -/
theorem ld_mod (X : Vec Ideal S1x3x1024 .f32) (s : Fin 3) (l : Fin 1024) : View.ld X r0_0 (ix3 0 s l) = X (ix3 0 s l) :=
  View.ld_unit_apply_of X _ _ _ _ _ fun a => by match a with | 0 => rfl | 1 => exact (Nat.zero_add _).symm | 2 => exact (Nat.zero_add _).symm

/-- A read of a group of columns. -/
theorem ld_columns (X : Vec Ideal S1024x3072 .bf16) (p : ℕ) (inp : ∀ a, (![0, p] : Fin 2 → ℕ) a + S1024x1024.size a ≤ S1024x3072.size a) (h : p + 1024 ≤ 3072)
    (k l : Fin 1024) : View.ld X (columns p inp) (ix2 k l) = cut (fun k l => X (ix2 k l)) p h k l :=
  View.ld_unit_apply_of X _ _ _ _ _ fun a => by match a with | 0 => exact (Nat.zero_add _).symm | 1 => rfl

/-- A group's rows are the products of the rows of the block. -/
theorem group_at (p : ℕ) (inp : ∀ a, (![0, p] : Fin 2 → ℕ) a + S1024x1024.size a ≤ S1024x3072.size a) (h : p + 1024 ≤ 3072)
    (o : ℕ) (inb : ∀ a, (![o, 0] : Fin 2 → ℕ) a + S256x1024.size a ≤ S512x1024.size a) (y : S256x1024.Idx) :
    groupOf x0 x1 x2 x3 p inp o inb y = resultAt x0 x1 x2 x3 p h ((group o inb).emb y) := by
  obtain ⟨r, j, rfl⟩ : ∃ r j, y = ix2 r j := ⟨y 0, y 1, by funext a; match a with | 0 => rfl | 1 => rfl⟩
  have col : (group o inb).emb (ix2 r j) 1 = j := Fin.ext ((Rect.idx_unit_val (s := S512x1024) ![o, 0] S256x1024.size inb (ix2 r j) 1).trans (Nat.zero_add j.val))
  unfold groupOf resultAt
  rw [product_at, col]
  have h0 : (fun l => View.ld x1 r0_0 (ix3 0 0 l)) = fun l => x1 (ix3 0 0 l) := funext (ld_mod x1 0)
  have h1 : (fun l => View.ld x1 r0_0 (ix3 0 1 l)) = fun l => x1 (ix3 0 1 l) := funext (ld_mod x1 1)
  have h2 : (fun l => View.ld x0 (group o inb) (ix2 r l)) = _ := funext (ld_group x0 o inb r j)
  have h3 : (fun l => View.ld x2 r0_2 (ix2 0 l)) = fun l => x2 (ix2 0 l) := funext (ld_first x2)
  have h4 : (fun k l => View.ld x3 (columns p inp) (ix2 k l)) = cut (fun k l => x3 (ix2 k l)) p h := funext fun k => funext (ld_columns x3 p inp h k)
  rw [h0, h1, h2, h3, h4]

/-- What a grid point leaves in its blocks. -/
theorem out4_at (y : S512x1024.Idx) : out0_4 x0 x1 x2 x3 y = resultAt x0 x1 x2 x3 0 (by omega) y := by
  rw [out4_groups]
  refine View.canon_eq_of_allAt _ y _ (cover0_4 _ _ y) fun p hp x hx => ?_
  simp only [List.mem_cons, List.not_mem_nil, or_false] at hp
  rcases hp with rfl | rfl <;> exact (group_at x0 x1 x2 x3 _ _ _ _ _ x).trans (congrArg _ hx)
theorem pair_at (o : ℕ) (inb : ∀ a, (![o, 0] : Fin 2 → ℕ) a + S256x1024.size a ≤ S512x1024.size a) (y : S256x1024.Idx) :
    mulf (groupOf x0 x1 x2 x3 1024 inb_S1024x3072_S1024x1024_0_1024 o inb) (groupOf x0 x1 x2 x3 2048 inb_S1024x3072_S1024x1024_0_2048 o inb) y
      = resultAt x0 x1 x2 x3 1024 (by omega) ((group o inb).emb y) * resultAt x0 x1 x2 x3 2048 (by omega) ((group o inb).emb y) :=
  congrArg₂ (fun a b : EReal => a * b) (group_at x0 x1 x2 x3 1024 _ (by omega) o inb y) (group_at x0 x1 x2 x3 2048 _ (by omega) o inb y)
theorem out5_at (y : S512x1024.Idx) : out0_5 x0 x1 x2 x3 y = resultAt x0 x1 x2 x3 1024 (by omega) y * resultAt x0 x1 x2 x3 2048 (by omega) y := by
  rw [out5_groups]
  refine View.canon_eq_of_allAt _ y _ (cover0_5 _ _ y) fun p hp x hx => ?_
  simp only [List.mem_cons, List.not_mem_nil, or_false] at hp
  rcases hp with rfl | rfl <;> exact (pair_at x0 x1 x2 x3 _ _ x).trans (congrArg (fun y => resultAt x0 x1 x2 x3 1024 (by omega) y * resultAt x0 x1 x2 x3 2048 (by omega) y) hx)

variable (m : (ℓ : Loc nD τ sig) → Buf (Elt Ideal) ℓ)

/-- Where each point's blocks lie. -/
theorem idx : ∀ t : Fin cfg0.N, t.val < 16 ∧ win0_0.index t = ![t.val, 0] ∧ win0_1.index t = ![0, 0, 0] ∧ win0_2.index t = ![0, 0]
    ∧ win0_3.index t = ![0, 0] ∧ win0_4.index t = ![t.val, 0] ∧ win0_5.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8x3x3x1024 .f32 := m ((c : Thread nD τ).loc main_arg1)
abbrev arg2 : FVec Ideal S3x2x1024 .f32 := m ((c : Thread nD τ).loc main_arg2)
abbrev arg3 : FVec Ideal S1024x3072 .f32 := m ((c : Thread nD τ).loc main_arg3)

variable (t : Fin cfg0.N)

theorem lt_sixteen : t.val < 16 := (idx t).1

theorem blk0 (r : Fin 512) (l : Fin 1024) : (iblk m c 0 t : Vec Ideal S512x1024 .f32) (ix2 r l) = arg0 m c (ix2 ⟨512 * t.val + r.val, by have := lt_sixteen t; omega⟩ l) := by
  blk_ext [iblk, V, idx t]
theorem blk1 (s : Fin 3) (l : Fin 1024) : (iblk m c 1 t : Vec Ideal S1x3x1024 .f32) (ix3 0 s l) = arg1 m c (ix4 0 1 s l) := by
  blk_point [iblk, V, idx t]
theorem blk2 (s : Fin 2) (l : Fin 1024) : (iblk m c 2 t : Vec Ideal S2x1024 .f32) (ix2 s l) = arg2 m c (ix3 1 s l) := by
  blk_point [iblk, V, idx t]
theorem blk3 (k : Fin 1024) (l : Fin 3072) : (iblk m c 3 t : Vec Ideal S1024x3072 .bf16) (ix2 k l) = arg3 m c (ix2 k l) := by
  blk_point [iblk, V, idx t]

/-- What a point writes. -/
theorem result_at (p : ℕ) (h : p + 1024 ≤ 3072) (y : S512x1024.Idx) :
    resultAt (iblk m c 0 t) (iblk m c 1 t) (iblk m c 2 t) (iblk m c 3 t) p h y
      = projected (arg0 m c) (arg1 m c) (arg2 m c) (arg3 m c) p h
          (ix2 ⟨512 * t.val + (y 0).val, by have := lt_sixteen t; have : (y 0).val < 512 := (y 0).isLt; omega⟩ (y 1)) := by
  unfold resultAt
  simp only [blk1, blk2, blk3]
  have h0 : (fun l => (iblk m c 0 t : Vec Ideal S512x1024 .f32) (ix2 (y 0) l)) = _ := funext (blk0 m c t (y 0))
  rw [h0]
  rfl

/-- The result arrays at the end. -/
theorem final4 : (dats m 0 c).arrAt 4 (cfgs 0).N = projected (arg0 m c) (arg1 m c) (arg2 m c) (arg3 m c) 0 (by omega) := by
  refine (dats m 0 c).arrAt_eq_of_covers 4 _ (by decide +kernel) fun t _ y => ?_
  blk_simp
  rw [after0_4]
  refine (out4_at _ _ _ _ y).trans ((result_at m c t 0 (by omega) y).trans ?_)
  blk_ext [idx t]
theorem final5 : (dats m 0 c).arrAt 5 (cfgs 0).N = paired (arg0 m c) (arg1 m c) (arg2 m c) (arg3 m c) 1024 2048 (by omega) (by omega) := by
  refine (dats m 0 c).arrAt_eq_of_covers 5 _ (by decide +kernel) fun t _ y => ?_
  blk_simp
  rw [after0_5]
  refine (out5_at _ _ _ _ y).trans ((congrArg₂ (fun a b : EReal => a * b) (result_at m c t 1024 (by omega) y) (result_at m c t 2048 (by omega) y)).trans ?_)
  refine Eq.trans (b := paired (arg0 m c) (arg1 m c) (arg2 m c) (arg3 m c) 1024 2048 (by omega) (by omega)
    (ix2 ⟨512 * t.val + (y 0).val, by have := lt_sixteen t; have : (y 0).val < 512 := (y 0).isLt; omega⟩ (y 1))) rfl ?_
  blk_ext [idx t]

end Cert.ProjPairIdeal.Block

end
-- ==== Proof.FirstRef.lean ====
/-
  The reference's first feed-forward sub-layer on the prompt's tokens.
-/
module

public import proofs.«01_k».proof.Proof.Gen.FfnFirstRefIdeal.Run
public import proofs.«01_k».proof.Proof.FfnRef
public import proofs.«01_k».proof.Proof.First

@[expose] public section

set_option maxRecDepth 16384

noncomputable section

namespace Cert.FfnFirstRefIdeal.Rows

open Cert.FfnFirstRefIdeal Cert.FfnFirstRefIdeal.Gen Cert.Ffn
open Cert.FfnPromptRefIdeal.Rows (before before_at tokens tokens_at after after_at inner active active_at outer outer_at)
open Idealize.ShloMosaic Idealize.ShloMosaic.TcCoe Idealize.SL.Sem

variable (y : FVec Ideal S8192x1024 .f32) (mods : FVec Ideal S8x3x3x1024 .f32) (g : FVec Ideal S3x2x1024 .f32) (r : Fin 8192) (j : Fin 1024)

/-- What enters the sub-layer. -/
def inward : FVec Ideal S8192x1024 .f32 :=
  before y (extractStridedSlice S8192x1x1x1024 ![0, 0, 0, 0] (tokens mods) slices_S8192x3x3x1024_S8192x1x1x1024_0_0_0_0)
    (extractStridedSlice S8192x1x1x1024 ![0, 0, 1, 0] (tokens mods) slices_S8192x3x3x1024_S8192x1x1x1024_0_0_1_0)
    (extractStridedSlice S1x1x1024 ![0, 0, 0] g slices_S3x2x1024_S1x1x1024_0_0_0)

/-- What leaves it. -/
def onward (o : FVec Ideal S8192x1024 .f32) : FVec Ideal S8192x1024 .f32 :=
  after 0x3F000000#32 y o (extractStridedSlice S8192x1x1x1024 ![0, 0, 2, 0] (tokens mods) slices_S8192x3x3x1024_S8192x1x1x1024_0_0_2_0)
    (extractStridedSlice S1x1x1024 ![0, 1, 0] g slices_S3x2x1024_S1x1x1024_0_1_0)

theorem inward_at : inward y mods g (ix2 r j)
    = entering (fun l => mods (ix4 0 0 0 l)) (fun l => mods (ix4 0 0 1 l)) (fun l => y (ix2 r l)) (fun l => g (ix3 0 0 l)) j := by
  pointwise [inward, before_at, tokens_at]

theorem onward_at (a : FVec Ideal S8192x2816 .f32) (wo : FVec Ideal S2816x1024 .f32) : onward y mods g (outer a wo) (ix2 r j)
    = leaving (fun l => mods (ix4 0 0 2 l)) (fun l => y (ix2 r l)) (fun k => a (ix2 r k)) (fun k l => wo (ix2 k l)) (fun l => g (ix3 0 1 l)) j := by
  pointwise [onward, after_at, outer_at, tokens_at]
  rfl

/-- All of it. -/
theorem total_eq (wi : FVec Ideal S1024x5632 .f32) (wo : FVec Ideal S2816x1024 .f32) :
    onward y mods g (outer (active (inner (inward y mods g) wi)) wo) = firstRows y mods g wi wo := by
  funext i
  obtain ⟨r, j, rfl⟩ : ∃ r j, i = ix2 r j := ⟨i 0, i 1, by funext a; match a with | 0 => rfl | 1 => rfl⟩
  rw [onward_at]
  simp only [active_at, inward_at]
  rfl

/-- The weights that are passed on. -/
theorem passed (w : FVec Ideal S4x2x1024x5632 .f32) :
    (truncf .bf16 (shapeCast S1024x5632 (extractStridedSlice S1x1x1024x5632 ![0, 1, 0, 0] w slices_S4x2x1024x5632_S1x1x1024x5632_0_1_0_0) shapeCasts_S1x1x1024x5632_S1024x5632)
      bitsLt_bf16_f32 : FVec Ideal S1024x5632 .bf16) = nextWeights w := by
  funext i
  obtain ⟨r, j, rfl⟩ : ∃ r j, i = ix2 r j := ⟨i 0, i 1, by funext a; match a with | 0 => rfl | 1 => rfl⟩
  pointwise []
  rfl

variable (m : (ℓ : Loc nD τ sig) → Buf (Elt Ideal) ℓ) (c : Dev nD)

/-- An argument array. -/
abbrev arg0 : FVec Ideal S8192x1024 .f32 := m ((c.tc : Thread nD τ).loc main_arg0)
abbrev arg1 : FVec Ideal S8x3x3x1024 .f32 := m ((c.tc : Thread nD τ).loc main_arg1)
abbrev arg2 : FVec Ideal S3x2x1024 .f32 := m ((c.tc : Thread nD τ).loc main_arg2)
abbrev arg3 : FVec Ideal S1024x5632 .f32 := m ((c.tc : Thread nD τ).loc main_arg3)
abbrev arg4 : FVec Ideal S2816x1024 .f32 := m ((c.tc : Thread nD τ).loc main_arg4)
abbrev arg5 : FVec Ideal S4x2x1024x5632 .f32 := m ((c.tc : Thread nD τ).loc main_arg5)

/-- The program's term, by its parts. -/
theorem parts : (Cert.FfnFirstRefIdeal.Value.res_main_v53 m c : FVec Ideal S8192x1024 .f32)
    = onward (arg0 m c) (arg1 m c) (arg2 m c) (outer (active (inner (inward (arg0 m c) (arg1 m c) (arg2 m c)) (arg3 m c))) (arg4 m c)) := by
  chain_rfl

/-- The program's rows. -/
theorem value : (Cert.FfnFirstRefIdeal.Value.res_main_v53 m c : FVec Ideal S8192x1024 .f32)
    = firstRows (arg0 m c) (arg1 m c) (arg2 m c) (arg3 m c) (arg4 m c) :=
  (parts m c).trans (total_eq _ _ _ _ _)

end Cert.FfnFirstRefIdeal.Rows

end
-- ==== Proof.ProjRef.lean ====
/-
  The reference's rows that enter a token mixer, and their projections.
-/
module

public import proofs.«01_k».proof.Proof.Gen.ProjAttnRefIdeal.Run
public import proofs.«01_k».proof.Proof.Gen.ProjGluRefIdeal.Run
public import proofs.«01_k».proof.Proof.Gen.ProjPairRefIdeal.Run
public import proofs.«01_k».proof.Proof.FfnRef
public import proofs.«01_k».proof.Proof.Proj

@[expose] public section

set_option maxRecDepth 16384

noncomputable section

namespace Cert.ProjAttnRefIdeal.Rows

open Cert.ProjAttnRefIdeal Cert.ProjAttnRefIdeal.Gen Cert.Ffn Cert.Proj
open Cert.FfnPromptRefIdeal.Rows (before before_at tokens tokens_at)
open Idealize.ShloMosaic Idealize.ShloMosaic.TcCoe Idealize.SL.Sem

variable (y : FVec Ideal S8192x1024 .f32) (mods : FVec Ideal S8x3x3x1024 .f32) (g : FVec Ideal S3x2x1024 .f32) (r : Fin 8192) (j : Fin 1024)

/-- The rows that enter the mixer. -/
def input : FVec Ideal S8192x1024 .f32 :=
  before y (extractStridedSlice S8192x1x1x1024 ![0, 1, 0, 0] (tokens mods) slices_S8192x3x3x1024_S8192x1x1x1024_0_1_0_0)
    (extractStridedSlice S8192x1x1x1024 ![0, 1, 1, 0] (tokens mods) slices_S8192x3x3x1024_S8192x1x1x1024_0_1_1_0)
    (extractStridedSlice S1x1x1024 ![1, 0, 0] g slices_S3x2x1024_S1x1x1024_1_0_0)

theorem input_at : input y mods g (ix2 r j) = inputRow y mods g r j := by
  pointwise [input, before_at, tokens_at]
  rfl

/-- Their product with the weights of three parts. -/
def threefold (h : FVec Ideal S8192x1024 .f32) (w : FVec Ideal S1024x3072 .f32) : FVec Ideal S8192x3072 .f32 :=
  Host.dotGeneral dot_S8192x1024_S1024x3072_S8192x3072_1_0_0_1_n_n none h w

/-- One of the parts. -/
def third (p : ℕ) (hs : Shape.Slices S8192x3072 ![0, p] S8192x1024) (a : FVec Ideal S8192x3072 .f32) : FVec Ideal S8192x1024 .f32 :=
  extractStridedSlice S8192x1024 ![0, p] a hs

theorem threefold_at (h : FVec Ideal S8192x1024 .f32) (w : FVec Ideal S1024x3072 .f32) (l : Fin 3072) :
    threefold h w (ix2 r l) = times (fun k => h (ix2 r k)) (fun k l => w (ix2 k l)) l := by
  pointwise [threefold]
  rfl

theorem third_at (p : ℕ) (hs : Shape.Slices S8192x3072 ![0, p] S8192x1024) (h : p + 1024 ≤ 3072) (a : FVec Ideal S8192x3072 .f32) :
    third p hs a (ix2 r j) = a (ix2 r ⟨p + j.val, by omega⟩) := by
  refine congrArg a (funext fun b => Fin.ext ?_)
  match b with
  | 0 => exact Nat.zero_add _
  | 1 => rfl

/-- A part is the product with its columns. -/
theorem third_eq (p : ℕ) (hs : Shape.Slices S8192x3072 ![0, p] S8192x1024) (h : p + 1024 ≤ 3072) (w : FVec Ideal S1024x3072 .f32) :
    third p hs (threefold (input y mods g) w) = projected y mods g w p h := by
  funext i
  obtain ⟨r, j, rfl⟩ : ∃ r j, i = ix2 r j := ⟨i 0, i 1, by funext a; match a with | 0 => rfl | 1 => rfl⟩
  rw [third_at r j p hs h, threefold_at]
  have e : (fun k => input y mods g (ix2 r k)) = inputRow y mods g r := funext (input_at y mods g r)
  rw [e]
  rfl

variable (m : (ℓ : Loc nD τ sig) → Buf (Elt Ideal) ℓ) (c : Dev nD)

/-- An argument array. -/
abbrev arg0 : FVec Ideal S8192x1024 .f32 := m ((c.tc : Thread nD τ).loc main_arg0)
abbrev arg1 : FVec Ideal S8x3x3x1024 .f32 := m ((c.tc : Thread nD τ).loc main_arg1)
abbrev arg2 : FVec Ideal S3x2x1024 .f32 := m ((c.tc : Thread nD τ).loc main_arg2)
abbrev arg3 : FVec Ideal S1024x3072 .f32 := m ((c.tc : Thread nD τ).loc main_arg3)

end Cert.ProjAttnRefIdeal.Rows

namespace Cert.ProjPairRefIdeal.Rows

open Cert.ProjPairRefIdeal Cert.ProjPairRefIdeal.Gen Cert.Proj
open Cert.ProjAttnRefIdeal.Rows (input third threefold third_eq)
open Idealize.ShloMosaic Idealize.ShloMosaic.TcCoe Idealize.SL.Sem

variable (m : (ℓ : Loc nD τ sig) → Buf (Elt Ideal) ℓ) (c : Dev nD)

/-- An argument array. -/
abbrev arg0 : FVec Ideal S8192x1024 .f32 := m ((c.tc : Thread nD τ).loc main_arg0)
abbrev arg1 : FVec Ideal S8x3x3x1024 .f32 := m ((c.tc : Thread nD τ).loc main_arg1)
abbrev arg2 : FVec Ideal S3x2x1024 .f32 := m ((c.tc : Thread nD τ).loc main_arg2)
abbrev arg3 : FVec Ideal S1024x3072 .f32 := m ((c.tc : Thread nD τ).loc main_arg3)

/-- The product of the other two parts. -/
theorem product : (Cert.ProjPairRefIdeal.Value.res_main_v31 m c : FVec Ideal S8192x1024 .f32)
    = mulf (third 1024 slices_S8192x3072_S8192x1024_0_1024 (threefold (input (arg0 m c) (arg1 m c) (arg2 m c)) (arg3 m c)))
        (third 2048 slices_S8192x3072_S8192x1024_0_2048 (threefold (input (arg0 m c) (arg1 m c) (arg2 m c)) (arg3 m c))) := by
  chain_rfl

theorem value : (Cert.ProjPairRefIdeal.Value.res_main_v31 m c : FVec Ideal S8192x1024 .f32)
    = paired (arg0 m c) (arg1 m c) (arg2 m c) (arg3 m c) 1024 2048 (by omega) (by omega) :=
  (product m c).trans (by rw [third_eq _ _ _ 1024 _ (by omega), third_eq _ _ _ 2048 _ (by omega)]; rfl)

end Cert.ProjPairRefIdeal.Rows

namespace Cert.ProjGluRefIdeal.Rows

open Cert.ProjGluRefIdeal Cert.ProjGluRefIdeal.Gen Cert.Ffn Cert.Proj
open Cert.ProjAttnRefIdeal.Rows (input input_at)
open Idealize.ShloMosaic Idealize.ShloMosaic.TcCoe Idealize.SL.Sem

/-- The rows' product with the weights, plus the bias. -/
def biased (h : FVec Ideal S8192x1024 .f32) (w : FVec Ideal S1024x2048 .f32) (b : FVec Ideal S2048 .f32) : FVec Ideal S8192x2048 .f32 :=
  addf (Host.dotGeneral dot_S8192x1024_S1024x2048_S8192x2048_1_0_0_1_n_n none h w)
    (broadcastInDim S8192x2048 ![0, 1] bcast_S1x2048_S8192x2048_0_1 (broadcastInDim S1x2048 ![1] bcast_S2048_S1x2048_1 b))

/-- Its first half times the logistic function of its second. -/
def glu (a : FVec Ideal S8192x2048 .f32) : FVec Ideal S8192x1024 .f32 :=
  mulf (extractStridedSlice S8192x1024 ![0, 0] a slices_S8192x2048_S8192x1024_0_0)
    (Host.divf (broadcastInDim S8192x1024 ![] bcast_S_S8192x1024 (constant S_ .f32 0x3F800000#32))
      (addf (broadcastInDim S8192x1024 ![] bcast_S_S8192x1024 (constant S_ .f32 0x3F800000#32))
        (Host.exp (Host.negf (extractStridedSlice S8192x1024 ![0, 1024] a slices_S8192x2048_S8192x1024_0_1024)))))

variable (r : Fin 8192) (j : Fin 1024)

theorem biased_at (h : FVec Ideal S8192x1024 .f32) (w : FVec Ideal S1024x2048 .f32) (b : FVec Ideal S2048 .f32) (l : Fin 2048) :
    biased h w b (ix2 r l) = times (fun k => h (ix2 r k)) (fun k l => w (ix2 k l)) l + b (ix1 l) := by
  pointwise [biased]
  rfl

theorem glu_at (a : FVec Ideal S8192x2048 .f32) : glu a (ix2 r j)
    = a (ix2 r ⟨0 + j.val, by omega⟩) * Ideal.logistic (a (ix2 r ⟨1024 + j.val, by omega⟩)) := by
  have e : (⟨0 + j.val, by omega⟩ : Fin 2048) = ⟨j.val, by omega⟩ := Fin.ext (Nat.zero_add _)
  rw [e]
  pointwise [glu]
  rfl

theorem glu_eq (y : FVec Ideal S8192x1024 .f32) (mods : FVec Ideal S8x3x3x1024 .f32) (g : FVec Ideal S3x2x1024 .f32) (w : FVec Ideal S1024x2048 .f32) (b : FVec Ideal S2048 .f32) :
    glu (biased (input y mods g) w b) = gatedRows y mods g w b := by
  funext i
  obtain ⟨r, j, rfl⟩ : ∃ r j, i = ix2 r j := ⟨i 0, i 1, by funext a; match a with | 0 => rfl | 1 => rfl⟩
  have e : (fun k => input y mods g (ix2 r k)) = inputRow y mods g r := funext (input_at y mods g r)
  rw [glu_at, biased_at, biased_at, e]
  rfl

variable (m : (ℓ : Loc nD τ sig) → Buf (Elt Ideal) ℓ) (c : Dev nD)

/-- An argument array. -/
abbrev arg0 : FVec Ideal S8192x1024 .f32 := m ((c.tc : Thread nD τ).loc main_arg0)
abbrev arg1 : FVec Ideal S8x3x3x1024 .f32 := m ((c.tc : Thread nD τ).loc main_arg1)
abbrev arg2 : FVec Ideal S3x2x1024 .f32 := m ((c.tc : Thread nD τ).loc main_arg2)
abbrev arg3 : FVec Ideal S1024x2048 .f32 := m ((c.tc : Thread nD τ).loc main_arg3)
abbrev arg4 : FVec Ideal S2048 .f32 := m ((c.tc : Thread nD τ).loc main_arg4)

theorem parts : (Cert.ProjGluRefIdeal.Value.res_main_v39 m c : FVec Ideal S8192x1024 .f32)
    = glu (biased (input (arg0 m c) (arg1 m c) (arg2 m c)) (arg3 m c) (arg4 m c)) := by
  chain_rfl

theorem value : (Cert.ProjGluRefIdeal.Value.res_main_v39 m c : FVec Ideal S8192x1024 .f32)
    = gatedRows (arg0 m c) (arg1 m c) (arg2 m c) (arg3 m c) (arg4 m c) :=
  (parts m c).trans (glu_eq _ _ _ _ _)

end Cert.ProjGluRefIdeal.Rows

end
-- ==== Proof.ProjClaims.lean ====
/-
  The claims of the first feed-forward sub-layer and of the projections that feed a token mixer.
-/
module

public import proofs.«01_k».proof.Defs
public import proofs.«01_k».proof.Proof.Gen.FfnFirst
public import proofs.«01_k».proof.Proof.FirstValue
public import proofs.«01_k».proof.Proof.Gen.ProjAttn
public import proofs.«01_k».proof.Proof.ProjAttnValue
public import proofs.«01_k».proof.Proof.Gen.ProjGlu
public import proofs.«01_k».proof.Proof.ProjGluValue
public import proofs.«01_k».proof.Proof.Gen.ProjPair
public import proofs.«01_k».proof.Proof.ProjPairValue
public import proofs.«01_k».proof.Proof.FirstRef
public import proofs.«01_k».proof.Proof.ProjRef
public import Idealize.ShloMosaic.Lib.Quiescent
public import Idealize.ShloMosaic.Lib.Claim

@[expose] public section

noncomputable section

namespace Cert.Proof

open Idealize.ShloMosaic Idealize.SL.Sem

/-- A frame of the kernel: its idealization has the same text, and its run is read at words. -/
theorem frame_first : Cert.quiescent_FfnFirst (hFfnFirst := Cert.FfnFirst.Gen.facts) := fun m ρ _ =>
  Eq.mp (by chain_rfl) (Cert.FfnFirstIdeal.Gen.frame (F := Bits) m ρ)

/-- The reference's frame: it has no counters. -/
theorem frame_first_ref : Cert.quiescent_FfnFirstRefIdeal (hFfnFirstRefIdeal := Cert.FfnFirstRefIdeal.Gen.facts) := fun m ρ _ =>
  (θ_run _ _ _).mono (fun r h => ⟨fun c => (h c).2.2, sem_eq_zero_of_no_sems (by decide) r.2⟩) (Cert.FfnFirstRefIdeal.Value.run m ρ)

/-- The kernel and the reference end with the same values: after the first feed-forward sub-layer the rows, and the weights passed on, are equal. -/
theorem values_first : Cert.algebraic_FfnFirstIdeal_FfnFirstRefIdeal (hFfnFirstIdeal := Cert.FfnFirstIdeal.Gen.facts)
    (hFfnFirstRefIdeal := Cert.FfnFirstRefIdeal.Gen.facts) := by
  intro m g m' g' _ he
  have run := Cert.FfnFirstRefIdeal.Value.run m' g'
  refine ⟨_, _, Cert.FfnFirstIdeal.Value.run_blocks m g, (θ_run _ _ _).mono (fun r h c => ?_) run⟩
  obtain ⟨e0, e1, e2, e3, e4, e5⟩ := he c
  have a0 : Cert.FfnFirstRefIdeal.Rows.arg0 m' c = Cert.FfnFirstIdeal.Block.arg0 m c := e0
  have a1 : Cert.FfnFirstRefIdeal.Rows.arg1 m' c = Cert.FfnFirstIdeal.Block.arg1 m c := e1
  have a2 : Cert.FfnFirstRefIdeal.Rows.arg2 m' c = Cert.FfnFirstIdeal.Block.arg2 m c := e2
  have a3 : Cert.FfnFirstRefIdeal.Rows.arg3 m' c = Cert.FfnFirstIdeal.Block.arg3 m c := e3
  have a4 : Cert.FfnFirstRefIdeal.Rows.arg4 m' c = Cert.FfnFirstIdeal.Block.arg4 m c := e4
  have a5 : Cert.FfnFirstRefIdeal.Rows.arg5 m' c = Cert.FfnFirstIdeal.Block.arg5 m c := e5
  refine ⟨(h c).1.trans ?_, (h c).2.1.trans ?_, (h c).2.2⟩
  · refine Eq.trans (Cert.FfnFirstRefIdeal.Rows.value m' c) (Eq.trans ?_ (Cert.FfnFirstIdeal.Block.final6 m c).symm)
    rw [a0, a1, a2, a3, a4]
  · refine Eq.trans (Cert.FfnFirstRefIdeal.Rows.passed (Cert.FfnFirstRefIdeal.Rows.arg5 m' c)) (Eq.trans ?_ (Cert.FfnFirstIdeal.Block.final7 m c).symm)
    rw [a5]

/-- A frame of the kernel: its idealization has the same text, and its run is read at words. -/
theorem frame_attn : Cert.quiescent_ProjAttn (hProjAttn := Cert.ProjAttn.Gen.facts) := fun m ρ _ =>
  Eq.mp (by chain_rfl) (Cert.ProjAttnIdeal.Gen.frame (F := Bits) m ρ)

/-- The reference's frame: it has no counters. -/
theorem frame_attn_ref : Cert.quiescent_ProjAttnRefIdeal (hProjAttnRefIdeal := Cert.ProjAttnRefIdeal.Gen.facts) := fun m ρ _ =>
  (θ_run _ _ _).mono (fun r h => ⟨fun c => (h c).2.2.2, sem_eq_zero_of_no_sems (by decide) r.2⟩) (Cert.ProjAttnRefIdeal.Value.run m ρ)

/-- The kernel and the reference end with the same values: the attention's three projections are equal. -/
theorem values_attn : Cert.algebraic_ProjAttnIdeal_ProjAttnRefIdeal (hProjAttnIdeal := Cert.ProjAttnIdeal.Gen.facts)
    (hProjAttnRefIdeal := Cert.ProjAttnRefIdeal.Gen.facts) := by
  intro m g m' g' _ he
  have run := Cert.ProjAttnRefIdeal.Value.run m' g'
  refine ⟨_, _, _, Cert.ProjAttnIdeal.Value.run_blocks m g, (θ_run _ _ _).mono (fun r h c => ?_) run⟩
  obtain ⟨e0, e1, e2, e3⟩ := he c
  have a0 : Cert.ProjAttnRefIdeal.Rows.arg0 m' c = Cert.ProjAttnIdeal.Block.arg0 m c := e0
  have a1 : Cert.ProjAttnRefIdeal.Rows.arg1 m' c = Cert.ProjAttnIdeal.Block.arg1 m c := e1
  have a2 : Cert.ProjAttnRefIdeal.Rows.arg2 m' c = Cert.ProjAttnIdeal.Block.arg2 m c := e2
  have a3 : Cert.ProjAttnRefIdeal.Rows.arg3 m' c = Cert.ProjAttnIdeal.Block.arg3 m c := e3
  refine ⟨(h c).1.trans ?_, (h c).2.1.trans ?_, (h c).2.2.1.trans ?_, (h c).2.2.2⟩
  · refine Eq.trans (Cert.ProjAttnRefIdeal.Rows.third_eq (Cert.ProjAttnRefIdeal.Rows.arg0 m' c) (Cert.ProjAttnRefIdeal.Rows.arg1 m' c) (Cert.ProjAttnRefIdeal.Rows.arg2 m' c) 0 Cert.ProjAttnRefIdeal.Gen.facts.slices_S8192x3072_S8192x1024_0_0 (by omega) (Cert.ProjAttnRefIdeal.Rows.arg3 m' c)) (Eq.trans ?_ (Cert.ProjAttnIdeal.Block.final4 m c).symm)
    rw [a0, a1, a2, a3]
  · refine Eq.trans (Cert.ProjAttnRefIdeal.Rows.third_eq (Cert.ProjAttnRefIdeal.Rows.arg0 m' c) (Cert.ProjAttnRefIdeal.Rows.arg1 m' c) (Cert.ProjAttnRefIdeal.Rows.arg2 m' c) 1024 Cert.ProjAttnRefIdeal.Gen.facts.slices_S8192x3072_S8192x1024_0_1024 (by omega) (Cert.ProjAttnRefIdeal.Rows.arg3 m' c)) (Eq.trans ?_ (Cert.ProjAttnIdeal.Block.final5 m c).symm)
    rw [a0, a1, a2, a3]
  · refine Eq.trans (Cert.ProjAttnRefIdeal.Rows.third_eq (Cert.ProjAttnRefIdeal.Rows.arg0 m' c) (Cert.ProjAttnRefIdeal.Rows.arg1 m' c) (Cert.ProjAttnRefIdeal.Rows.arg2 m' c) 2048 Cert.ProjAttnRefIdeal.Gen.facts.slices_S8192x3072_S8192x1024_0_2048 (by omega) (Cert.ProjAttnRefIdeal.Rows.arg3 m' c)) (Eq.trans ?_ (Cert.ProjAttnIdeal.Block.final6 m c).symm)
    rw [a0, a1, a2, a3]

/-- A frame of the kernel: its idealization has the same text, and its run is read at words. -/
theorem frame_glu : Cert.quiescent_ProjGlu (hProjGlu := Cert.ProjGlu.Gen.facts) := fun m ρ _ =>
  Eq.mp (by chain_rfl) (Cert.ProjGluIdeal.Gen.frame (F := Bits) m ρ)

/-- The reference's frame: it has no counters. -/
theorem frame_glu_ref : Cert.quiescent_ProjGluRefIdeal (hProjGluRefIdeal := Cert.ProjGluRefIdeal.Gen.facts) := fun m ρ _ =>
  (θ_run _ _ _).mono (fun r h => ⟨fun c => (h c).2, sem_eq_zero_of_no_sems (by decide) r.2⟩) (Cert.ProjGluRefIdeal.Value.run m ρ)

/-- The kernel and the reference end with the same values: the wide convolution's gated rows are equal. -/
theorem values_glu : Cert.algebraic_ProjGluIdeal_ProjGluRefIdeal (hProjGluIdeal := Cert.ProjGluIdeal.Gen.facts)
    (hProjGluRefIdeal := Cert.ProjGluRefIdeal.Gen.facts) := by
  intro m g m' g' _ he
  have run := Cert.ProjGluRefIdeal.Value.run m' g'
  refine ⟨_, Cert.ProjGluIdeal.Value.run_blocks m g, (θ_run _ _ _).mono (fun r h c => ?_) run⟩
  obtain ⟨e0, e1, e2, e3, e4⟩ := he c
  have a0 : Cert.ProjGluRefIdeal.Rows.arg0 m' c = Cert.ProjGluIdeal.Block.arg0 m c := e0
  have a1 : Cert.ProjGluRefIdeal.Rows.arg1 m' c = Cert.ProjGluIdeal.Block.arg1 m c := e1
  have a2 : Cert.ProjGluRefIdeal.Rows.arg2 m' c = Cert.ProjGluIdeal.Block.arg2 m c := e2
  have a3 : Cert.ProjGluRefIdeal.Rows.arg3 m' c = Cert.ProjGluIdeal.Block.arg3 m c := e3
  have a4 : Cert.ProjGluRefIdeal.Rows.arg4 m' c = Cert.ProjGluIdeal.Block.arg4 m c := e4
  refine ⟨(h c).1.trans ?_, (h c).2⟩
  · refine Eq.trans (Cert.ProjGluRefIdeal.Rows.value m' c) (Eq.trans ?_ (Cert.ProjGluIdeal.Block.final5 m c).symm)
    rw [a0, a1, a2, a3, a4]

/-- A frame of the kernel: its idealization has the same text, and its run is read at words. -/
theorem frame_pair : Cert.quiescent_ProjPair (hProjPair := Cert.ProjPair.Gen.facts) := fun m ρ _ =>
  Eq.mp (by chain_rfl) (Cert.ProjPairIdeal.Gen.frame (F := Bits) m ρ)

/-- The reference's frame: it has no counters. -/
theorem frame_pair_ref : Cert.quiescent_ProjPairRefIdeal (hProjPairRefIdeal := Cert.ProjPairRefIdeal.Gen.facts) := fun m ρ _ =>
  (θ_run _ _ _).mono (fun r h => ⟨fun c => (h c).2.2, sem_eq_zero_of_no_sems (by decide) r.2⟩) (Cert.ProjPairRefIdeal.Value.run m ρ)

/-- The kernel and the reference end with the same values: the short convolution's gate and product are equal. -/
theorem values_pair : Cert.algebraic_ProjPairIdeal_ProjPairRefIdeal (hProjPairIdeal := Cert.ProjPairIdeal.Gen.facts)
    (hProjPairRefIdeal := Cert.ProjPairRefIdeal.Gen.facts) := by
  intro m g m' g' _ he
  have run := Cert.ProjPairRefIdeal.Value.run m' g'
  refine ⟨_, _, Cert.ProjPairIdeal.Value.run_blocks m g, (θ_run _ _ _).mono (fun r h c => ?_) run⟩
  obtain ⟨e0, e1, e2, e3⟩ := he c
  have a0 : Cert.ProjPairRefIdeal.Rows.arg0 m' c = Cert.ProjPairIdeal.Block.arg0 m c := e0
  have a1 : Cert.ProjPairRefIdeal.Rows.arg1 m' c = Cert.ProjPairIdeal.Block.arg1 m c := e1
  have a2 : Cert.ProjPairRefIdeal.Rows.arg2 m' c = Cert.ProjPairIdeal.Block.arg2 m c := e2
  have a3 : Cert.ProjPairRefIdeal.Rows.arg3 m' c = Cert.ProjPairIdeal.Block.arg3 m c := e3
  refine ⟨(h c).1.trans ?_, (h c).2.1.trans ?_, (h c).2.2⟩
  · refine Eq.trans (Cert.ProjAttnRefIdeal.Rows.third_eq (Cert.ProjPairRefIdeal.Rows.arg0 m' c) (Cert.ProjPairRefIdeal.Rows.arg1 m' c) (Cert.ProjPairRefIdeal.Rows.arg2 m' c) 0 Cert.ProjPairRefIdeal.Gen.facts.slices_S8192x3072_S8192x1024_0_0 (by omega) (Cert.ProjPairRefIdeal.Rows.arg3 m' c)) (Eq.trans ?_ (Cert.ProjPairIdeal.Block.final4 m c).symm)
    rw [a0, a1, a2, a3]
  · refine Eq.trans (Cert.ProjPairRefIdeal.Rows.value m' c) (Eq.trans ?_ (Cert.ProjPairIdeal.Block.final5 m c).symm)
    rw [a0, a1, a2, a3]

end Cert.Proof

end
-- ==== Proof.Words.lean ====
/-
  The words the kernel sorts its rows by, checked for all rows: the bits of a row number, the level at which two row numbers part,
  and the comparisons of row numbers.
-/
module

public import proofs.«01_k».proof.Proof.Chunks

@[expose] public section

set_option maxRecDepth 16384

noncomputable section

namespace Cert.KernelIdeal.Hgrn

open Idealize.ShloMosaic

/-- Whether row `r` has bit `n`. -/
def bit (n : Fin 7) (r : Fin 128) : Bool := (r.val / 2 ^ n.val) % 2 = 1

theorem bit_iff : ∀ (n : Fin 7) (r : Fin 128), (IntOp.andi (BitVec.ofNat 32 r.val) (BitVec.ofNat 32 (2 ^ n.val)) ≠ 0#32) = (bit n r = true) := by
  have h : ∀ (n : Fin 7) (r : Fin 128), (IntOp.andi (BitVec.ofNat 32 r.val) (BitVec.ofNat 32 (2 ^ n.val)) ≠ 0#32) ↔ (bit n r = true) := by
    decide +kernel
  exact fun n r => propext (h n r)

/-- Two rows are parted at level `n`: they lie in one block of `2 ^ (n + 1)` rows and `t` in its second half, `s` in its first. -/
def Parted (n : Fin 7) (t s : Fin 128) : Prop := t.val / 2 ^ (n.val + 1) = s.val / 2 ^ (n.val + 1) ∧ bit n t = true ∧ bit n s = false

instance (n : Fin 7) (t s : Fin 128) : Decidable (Parted n t s) := by unfold Parted; infer_instance

/-- The level word of a pair of rows. -/
def word (t s : Fin 128) : BitVec 32 :=
  IntOp.subi (31#32) (IntOp.ctlz (IntOp.xori (BitVec.ofNat 32 t.val) (BitVec.ofNat 32 s.val)))

/-- Every pair of rows: equal and at level −1, or parted one way or the other at the level the word names. -/
theorem word_cases : ∀ t s : Fin 128, (t = s ∧ word t s = 4294967295#32)
    ∨ (s < t ∧ ∃ n : Fin 7, word t s = BitVec.ofNat 32 n.val ∧ Parted n t s) ∨ (t < s ∧ ∃ n : Fin 7, word t s = BitVec.ofNat 32 n.val ∧ Parted n s t) := by
  decide +kernel

theorem le_word : ∀ t s : Fin 128, (IntOp.cmpi .sle (BitVec.ofNat 32 s.val) (BitVec.ofNat 32 t.val)) = if s ≤ t then 1#1 else 0#1 := by
  decide +kernel
theorem ge_word : ∀ t s : Fin 128, (IntOp.cmpi .sge (BitVec.ofNat 32 s.val) (BitVec.ofNat 32 t.val)) = if t ≤ s then 1#1 else 0#1 := by
  decide +kernel

/-- The number in a group of eight of the rows from `c` on. -/
theorem from2 : ∀ r : Fin 8, IntOp.cmpi .sge (BitVec.ofNat 32 r.val) (2#32) = if 2 ≤ r.val then 1#1 else 0#1 := by decide +kernel
theorem from4 : ∀ r : Fin 8, IntOp.cmpi .sge (BitVec.ofNat 32 r.val) (4#32) = if 4 ≤ r.val then 1#1 else 0#1 := by decide +kernel
theorem from6 : ∀ r : Fin 8, IntOp.cmpi .sge (BitVec.ofNat 32 r.val) (6#32) = if 6 ≤ r.val then 1#1 else 0#1 := by decide +kernel

end Cert.KernelIdeal.Hgrn
-- ==== Proof.Recur.lean ====
/-
  The gated linear recurrence over the reals, by chunks: the state after `n` steps and the output of step `t` in closed form, and
  what one chunk of `C` steps makes of them.
-/
module

public import Idealize.ShloMosaic.Lib.Pointwise

@[expose] public section

noncomputable section

namespace Cert.Recur

open Finset

variable {K V : Type} [Fintype K]

/-- The log gates of the first `n` steps, added up. -/
def acc (lf : ℕ → K → ℝ) (n : ℕ) (d : K) : ℝ := ∑ u ∈ range n, lf u d

/-- The state after `n` steps from nought: each step's outer product, decayed by the gates after it. -/
def state (k : ℕ → K → ℝ) (v : ℕ → V → ℝ) (lf : ℕ → K → ℝ) (n : ℕ) (d : K) (e : V) : ℝ :=
  ∑ s ∈ range n, k s d * Real.exp (acc lf n d - acc lf (s + 1) d) * v s e

/-- The output of step `t`: the query read against the state after it. -/
def out (q k : ℕ → K → ℝ) (v : ℕ → V → ℝ) (lf : ℕ → K → ℝ) (t : ℕ) (e : V) : ℝ :=
  ∑ d, q t d * state k v lf (t + 1) d e

/-! ## One chunk -/

variable {C : ℕ}

/-- A chunk's running sums of its log gates. -/
def locB (lf : Fin C → K → ℝ) (t : Fin C) (d : K) : ℝ := ∑ r, if r ≤ t then lf r d else 0

/-- A chunk's score of row `t` for row `s`. -/
def locA (q k lf : Fin C → K → ℝ) (t s : Fin C) : ℝ :=
  if s ≤ t then ∑ d, q t d * k s d * Real.exp (locB lf t d - locB lf s d) else 0

/-- A chunk's output from the state before it. -/
def locO (q k : Fin C → K → ℝ) (v : Fin C → V → ℝ) (lf : Fin C → K → ℝ) (S : K → V → ℝ) (t : Fin C) (e : V) : ℝ :=
  (∑ d, q t d * Real.exp (locB lf t d) * S d e) + ∑ s, locA q k lf t s * v s e

/-- The state a chunk hands on. -/
def locS (k : Fin C → K → ℝ) (v : Fin C → V → ℝ) (lf : Fin C → K → ℝ) (S : K → V → ℝ) (d : K) (e : V) : ℝ :=
  S d e * Real.exp (∑ r, lf r d) + ∑ s, v s e * (k s d * Real.exp ((∑ r, lf r d) - locB lf s d))

/-- A sum over the rows up to `t`. -/
theorem sum_upto (f : ℕ → ℝ) (t : Fin C) : (∑ s : Fin C, if s ≤ t then f s else 0) = ∑ s ∈ range (t.val + 1), f s := by
  have h : (∑ s : Fin C, if s ≤ t then f s else 0) = ∑ s : Fin C, (fun n : ℕ => if n ≤ t.val then f n else 0) s.val := rfl
  rw [h, Fin.sum_univ_eq_sum_range (fun n : ℕ => if n ≤ t.val then f n else 0) C, ← sum_filter]
  refine sum_congr (Finset.ext fun n => ?_) fun _ _ => rfl
  have := t.isLt
  simp only [mem_filter, mem_range]
  omega

variable {q k lf : ℕ → K → ℝ} {v : ℕ → V → ℝ} {a : ℕ}

theorem acc_add (n m : ℕ) (d : K) : acc lf (n + m) d = acc lf n d + ∑ r ∈ range m, lf (n + r) d := sum_range_add _ _ _

/-- The running sums of the chunk that starts at step `a`. -/
theorem locB_eq {LF : Fin C → K → ℝ} (hl : ∀ r, LF r = lf (a + r.val)) (t : Fin C) (d : K) :
    locB LF t d = acc lf (a + t.val + 1) d - acc lf a d := by
  unfold locB
  simp only [hl]
  rw [sum_upto (fun n => lf (a + n) d) t, Nat.add_assoc, acc_add]
  ring

/-- The whole gate of the chunk that starts at step `a`. -/
theorem whole_eq {LF : Fin C → K → ℝ} (hl : ∀ r, LF r = lf (a + r.val)) (d : K) : (∑ r, LF r d) = acc lf (a + C) d - acc lf a d := by
  simp only [hl]
  rw [Fin.sum_univ_eq_sum_range (fun n => lf (a + n) d) C, acc_add]
  ring

/-- The state after `a + m` steps from that after `a`. -/
theorem state_add (m : ℕ) (d : K) (e : V) : state k v lf (a + m) d e
    = state k v lf a d e * Real.exp (acc lf (a + m) d - acc lf a d)
      + ∑ s ∈ range m, k (a + s) d * Real.exp (acc lf (a + m) d - acc lf (a + s + 1) d) * v (a + s) e := by
  unfold state
  rw [sum_range_add, sum_mul]
  refine congrArg₂ (· + ·) (sum_congr rfl fun s _ => ?_) rfl
  rw [show acc lf (a + m) d - acc lf (s + 1) d = (acc lf a d - acc lf (s + 1) d) + (acc lf (a + m) d - acc lf a d) by ring, Real.exp_add]
  ring

/-- A chunk takes the state before it to the state after it. -/
theorem locS_eq {Kc LF : Fin C → K → ℝ} {Vc : Fin C → V → ℝ} (hk : ∀ r, Kc r = k (a + r.val)) (hv : ∀ r, Vc r = v (a + r.val))
    (hl : ∀ r, LF r = lf (a + r.val)) (d : K) (e : V) :
    locS Kc Vc LF (state k v lf a) d e = state k v lf (a + C) d e := by
  unfold locS
  simp only [whole_eq hl, locB_eq hl, hk, hv]
  rw [state_add, Fin.sum_univ_eq_sum_range (fun n => v (a + n) e * (k (a + n) d * Real.exp (acc lf (a + C) d - acc lf a d - (acc lf (a + n + 1) d - acc lf a d)))) C]
  refine congrArg₂ (· + ·) rfl (sum_congr rfl fun s _ => ?_)
  rw [show acc lf (a + C) d - acc lf a d - (acc lf (a + s + 1) d - acc lf a d) = acc lf (a + C) d - acc lf (a + s + 1) d by ring]
  ring

/-- A chunk's output of its row `t` is the output of step `a + t`. -/
theorem locO_eq {Qc Kc LF : Fin C → K → ℝ} {Vc : Fin C → V → ℝ} (hq : ∀ r, Qc r = q (a + r.val)) (hk : ∀ r, Kc r = k (a + r.val))
    (hv : ∀ r, Vc r = v (a + r.val)) (hl : ∀ r, LF r = lf (a + r.val)) (t : Fin C) (e : V) :
    locO Qc Kc Vc LF (state k v lf a) t e = out q k v lf (a + t.val) e := by
  unfold locO locA out
  simp only [locB_eq hl, hq, hk, hv, ite_mul, zero_mul]
  rw [sum_upto (fun n => (∑ d, q (a + t.val) d * k (a + n) d
      * Real.exp (acc lf (a + t.val + 1) d - acc lf a d - (acc lf (a + n + 1) d - acc lf a d))) * v (a + n) e) t]
  simp only [sum_mul]
  rw [sum_comm, ← sum_add_distrib]
  refine sum_congr rfl fun d _ => ?_
  rw [Nat.add_assoc, state_add (t.val + 1), mul_add, mul_sum]
  refine congrArg₂ (· + ·) (by ring) (sum_congr rfl fun s _ => ?_)
  rw [show acc lf (a + (t.val + 1)) d - acc lf a d - (acc lf (a + s + 1) d - acc lf a d) = acc lf (a + (t.val + 1)) d - acc lf (a + s + 1) d by ring]
  ring

/-- Before the first step the state is nought. -/
theorem state_zero (d : K) (e : V) : state k v lf 0 d e = 0 := by simp [state]

/-- A sum of reals, read among the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-! ## A head's sequences -/

/-- Batch `B`, head `h` of an array of 256-row batches and 128-column heads, by steps. -/
def seqF (A : ℕ → ℕ → ℝ) (B h n : ℕ) (d : Fin 128) : ℝ := A (256 * B + n % 256) (128 * h + d.val)

/-- The same, the last step first. -/
def seqB (A : ℕ → ℕ → ℝ) (B h n : ℕ) (d : Fin 128) : ℝ := A (256 * B + (255 - n % 256)) (128 * h + d.val)

/-- What the recurrence reads: queries, forward log gates and keys, backward log gates and keys, values. -/
structure Arrays where
  q : ℕ → ℕ → ℝ
  lf : ℕ → ℕ → ℝ
  kf : ℕ → ℕ → ℝ
  lb : ℕ → ℕ → ℝ
  kb : ℕ → ℕ → ℝ
  v : ℕ → ℕ → ℝ

variable (A : Arrays) (B h : ℕ)

/-- The forward state of batch `B`, head `h` after `n` steps. -/
def stateF (n : ℕ) (d e : Fin 128) : ℝ := state (seqF A.kf B h) (seqF A.v B h) (seqF A.lf B h) n d e
/-- The backward state after `n` steps from the end. -/
def stateB (n : ℕ) (d e : Fin 128) : ℝ := state (seqB A.kb B h) (seqB A.v B h) (seqB A.lb B h) n d e
/-- The forward output of step `t`. -/
def outF (t : ℕ) (e : Fin 128) : ℝ := out (seqF A.q B h) (seqF A.kf B h) (seqF A.v B h) (seqF A.lf B h) t e
/-- The backward output of step `t` from the end. -/
def outB (t : ℕ) (e : Fin 128) : ℝ := out (seqB A.q B h) (seqB A.kb B h) (seqB A.v B h) (seqB A.lb B h) t e

open Idealize.ShloMosaic in
/-- A row of outputs scaled by its root mean square and by `w`, then by the gate `g` passed through the logistic. -/
def mixOf (o : Fin 128 → EReal) (w g : EReal) (e : Fin 128) : EReal :=
  o e * Ideal.rsqrt (Ideal.div (∑ l, o l * o l) (Ideal.ofBits .f32 0x43000000#32) + Ideal.ofBits .f32 0x358637BD#32) * w * (g * Ideal.logistic g)

/-- The mixed value of step `r`, value `e`. -/
def mixAt (r : ℕ) (w g : EReal) (e : Fin 128) : EReal :=
  mixOf (fun l => ((outF A B h r l : ℝ) : EReal) + ((outB A B h (255 - r) l : ℝ) : EReal)) w g e

/-! ## The two results as functions of the argument arrays -/

open Idealize.ShloMosaic

/-- An argument array's entries as reals. -/
def rl (a : (⟨2, ![8192, 1024]⟩ : Shape).Idx → EReal) (r c : ℕ) : ℝ := if h : r < 8192 ∧ c < 1024 then (a (ix2 ⟨r, h.1⟩ ⟨c, h.2⟩)).toReal else 0

/-- Every entry of an array is a real number. -/
def Finite' (a : (⟨2, ![8192, 1024]⟩ : Shape).Idx → EReal) : Prop := ∀ j, a j ≠ ⊤ ∧ a j ≠ ⊥

theorem rl_eq {a : (⟨2, ![8192, 1024]⟩ : Shape).Idx → EReal} (ha : Finite' a) (r : Fin 8192) (c : Fin 1024) : a (ix2 r c) = ((rl a r.val c.val : ℝ) : EReal) := by
  unfold rl
  rw [dif_pos ⟨r.isLt, c.isLt⟩]
  exact (EReal.coe_toReal (ha _).1 (ha _).2).symm

/-- The recurrence's arrays from the arguments. -/
def arrays (a0 a1 a2 a3 a4 a5 : (⟨2, ![8192, 1024]⟩ : Shape).Idx → EReal) : Arrays := ⟨rl a0, rl a1, rl a2, rl a3, rl a4, rl a5⟩

/-- The mixed values. -/
def mixed (a0 a1 a2 a3 a4 a5 a6 : (⟨2, ![8192, 1024]⟩ : Shape).Idx → EReal) (a7 : (⟨1, ![128]⟩ : Shape).Idx → EReal) :
    (⟨2, ![8192, 1024]⟩ : Shape).Idx → EReal := fun j =>
  mixAt (arrays a0 a1 a2 a3 a4 a5) ((j 0).val / 256) ((j 1).val / 128) ((j 0).val % 256)
    (a7 (ix1 ⟨(j 1).val % 128, Nat.mod_lt _ (by omega)⟩)) (a6 j) ⟨(j 1).val % 128, Nat.mod_lt _ (by omega)⟩

/-- The final states. -/
def finals (a0 a1 a2 a3 a4 a5 : (⟨2, ![8192, 1024]⟩ : Shape).Idx → EReal) : (⟨5, ![32, 2, 8, 128, 128]⟩ : Shape).Idx → EReal := fun j =>
  if (j 1).val = 0 then ((stateF (arrays a0 a1 a2 a3 a4 a5) (j 0).val (j 2).val 256 (j 3) (j 4) : ℝ) : EReal)
  else ((stateB (arrays a0 a1 a2 a3 a4 a5) (j 0).val (j 2).val 256 (j 3) (j 4) : ℝ) : EReal)

end Cert.Recur
-- ==== Proof.Levels.lean ====
/-
  What the kernel's constant matrices and boundary rows are, entry by entry: the triangle of ones, the level of a pair of rows, the
  sign of a row at a level, and the row a level takes its boundary from.
-/
module

public import proofs.«01_k».proof.Proof.Words
public import proofs.«01_k».proof.Proof.Recur

@[expose] public section

set_option maxRecDepth 16384

noncomputable section

namespace Cert.KernelIdeal.Hgrn

open Cert.KernelIdeal Cert.KernelIdeal.Gen
open Idealize.ShloMosaic Idealize.ShloMosaic.TcCoe

/-- The first entry of the pattern −1 at the extended reals. -/
theorem ofBits_neg_one : Ideal.ofBits .f32 0xBF800000#32 = ((-1 : ℝ) : EReal) := by
  simp [Ideal.ofBits, Ideal.ieee, -EReal.coe_mul, -EReal.coe_neg]; norm_num

/-! ## Signs -/

/-- The signs of a level: forward. -/
def sF : Fin 7 → FVec Ideal S128x128 .f32 := ![side 1#32, side 2#32, side 4#32, side 8#32, side 16#32, side 32#32, side 64#32]
/-- The signs of a level: backward. -/
def sG : Fin 7 → FVec Ideal S128x128 .f32 := ![oside 1#32, oside 2#32, oside 4#32, oside 8#32, oside 16#32, oside 32#32, oside 64#32]

theorem sel_ne {α : Type} (x y : BitVec 32) (a b : α) : Scalar.select (IntOp.cmpi .ne x y) a b = if x ≠ y then a else b := by
  unfold Scalar.select IntOp.cmpi
  by_cases h : x = y
  · subst h; simp
  · have hb : (x != y) = true := bne_iff_ne.mpr h
    simp [h, hb]

theorem sel_eq {α : Type} (x y : BitVec 32) (a b : α) : Scalar.select (IntOp.cmpi .eq x y) a b = if x = y then a else b := by
  unfold Scalar.select IntOp.cmpi
  by_cases h : x = y
  · subst h; simp
  · have hb : (x == y) = false := beq_eq_false_iff_ne.mpr h
    simp [h, hb]

/-- A sign as its test reads: +1 where the row has a bit of `n`. -/
theorem side_at (n : BitVec 32) (r d : Fin 128) : side (F := Ideal) n (ix2 r d)
    = if IntOp.andi (BitVec.ofNat 32 r.val) n ≠ 0#32 then ((1 : ℝ) : EReal) else ((-1 : ℝ) : EReal) := by
  pointwise [side, rowIx]
  rw [ofBits_neg_one]
  rw [sel_ne]
  rfl

theorem oside_at (n : BitVec 32) (r d : Fin 128) : oside (F := Ideal) n (ix2 r d)
    = if IntOp.andi (BitVec.ofNat 32 r.val) n ≠ 0#32 then ((-1 : ℝ) : EReal) else ((1 : ℝ) : EReal) := by
  unfold oside
  pointwise
  rw [side_at]
  split <;> norm_num

theorem sF_eq (n : Fin 7) : sF n = side (BitVec.ofNat 32 (2 ^ n.val)) := by fin_cases n <;> rfl
theorem sG_eq (n : Fin 7) : sG n = oside (BitVec.ofNat 32 (2 ^ n.val)) := by fin_cases n <;> rfl

/-- A forward level's sign: +1 on the rows with the level's bit, −1 on the others. -/
theorem sF_at (n : Fin 7) (r d : Fin 128) : sF n (ix2 r d) = if bit n r then ((1 : ℝ) : EReal) else ((-1 : ℝ) : EReal) := by
  rw [sF_eq, side_at]; simp only [bit_iff]

/-- A backward level's sign: the other one. -/
theorem sG_at (n : Fin 7) (r d : Fin 128) : sG n (ix2 r d) = if bit n r then ((-1 : ℝ) : EReal) else ((1 : ℝ) : EReal) := by
  rw [sG_eq, oside_at]; simp only [bit_iff]

/-! ## Levels -/

/-- The forward level of a pair. -/
theorem fwd_lv (t s : Fin 128) : (fwd (F := Ideal)).lv (ix2 t s) = if s ≤ t then word t s else 4294967294#32 := by
  pointwise [fwd, levels, parted, rowIx, colIx]
  rw [le_word]
  split <;> rfl

/-- The backward level of a pair. -/
theorem bwd_lv (t s : Fin 128) : (bwd (F := Ideal)).lv (ix2 t s) = if t ≤ s then word t s else 4294967294#32 := by
  pointwise [bwd, levels, parted, rowIx, colIx]
  rw [ge_word]
  split <;> rfl

/-- The forward triangle. -/
theorem fwd_tri (t s : Fin 128) : (fwd (F := Ideal)).tri (ix2 t s) = if s ≤ t then ((1 : ℝ) : EReal) else ((0 : ℝ) : EReal) := by
  pointwise [fwd, ones, rowIx, colIx]
  rw [le_word]
  split <;> rfl

/-- The backward triangle. -/
theorem bwd_tri (t s : Fin 128) : (bwd (F := Ideal)).tri (ix2 t s) = if t ≤ s then ((1 : ℝ) : EReal) else ((0 : ℝ) : EReal) := by
  pointwise [bwd, ones, rowIx, colIx]
  rw [ge_word]
  split <;> rfl

/-! ## Boundary rows -/

/-- `B` repeats over each block of `2 ^ (n + 1)` rows one of the block's rows. -/
def Bound (n : Fin 7) (B : FVec Ideal S128x128 .f32 → FVec Ideal S128x128 .f32) : Prop :=
  ∃ ρ : Fin 128 → Fin 128, (∀ t s : Fin 128, t.val / 2 ^ (n.val + 1) = s.val / 2 ^ (n.val + 1) → ρ t = ρ s)
    ∧ ∀ b (r d : Fin 128), B b (ix2 r d) = b (ix2 (ρ r) d)

/-- The boundaries of a level: forward. -/
def bF : Fin 7 → FVec Ideal S128x128 .f32 → FVec Ideal S128x128 .f32 := ![fB0, fB1, fB2, fB3, fB4, fB5, fB6]
/-- The boundaries of a level: backward. -/
def bG : Fin 7 → FVec Ideal S128x128 .f32 → FVec Ideal S128x128 .f32 := ![gB0, gB1, gB2, gB3, gB4, gB5, gB6]

/-- Row `off` of the block of `w` rows that `r` lies in. -/
def rowIn (w off : ℕ) (h : 0 < w ∧ w ∣ 128 ∧ off < w) (r : Fin 128) : Fin 128 :=
  ⟨r.val / w * w + off, by
    obtain ⟨h0, ⟨c, hc⟩, ho⟩ := h
    have hr : r.val / w < c := Nat.div_lt_of_lt_mul (hc ▸ r.isLt)
    calc r.val / w * w + off < r.val / w * w + w := by omega
      _ = (r.val / w + 1) * w := by ring
      _ ≤ c * w := Nat.mul_le_mul_right _ hr
      _ = 128 := by rw [hc, mul_comm]⟩

theorem rowIn_congr {w off : ℕ} {h : 0 < w ∧ w ∣ 128 ∧ off < w} {t s : Fin 128} (e : t.val / w = s.val / w) : rowIn w off h t = rowIn w off h s :=
  Fin.ext (by simp only [rowIn, e])

theorem sel_if {α : Type} (p : Prop) [Decidable p] (x y : α) : Scalar.select (if p then 1#1 else 0#1) x y = if p then x else y := by
  split <;> rfl

/-- A row of every group of eight, read in group `g`. -/
theorem row8_at (k : ℕ) (hk : k < 8) (hs) (b : FVec Ideal S128x128 .f32) (g : Fin 16) (r : Fin 8) (d : Fin 128) :
    row8 k hs b (ix3 g r d) = b (ix2 ⟨g.val * 8 + k, by omega⟩ d) := by
  pointwise [row8, rowOf]

/-- Which row of `b` a vector of groups of eight holds at `(g, r)`. -/
def Picks (b : FVec Ideal S128x128 .f32) (x : FVec Ideal S16x8x128 .f32) (k : Fin 8 → ℕ) (hk : ∀ r, k r < 8) : Prop :=
  ∀ (g : Fin 16) (r : Fin 8) (d : Fin 128), x (ix3 g r d) = b (ix2 ⟨g.val * 8 + k r, by have := hk r; omega⟩ d)

theorem from8_picks {b x y k l hk hl} (c : BitVec 32) (n : ℕ) (hc : ∀ r : Fin 8, IntOp.cmpi .sge (BitVec.ofNat 32 r.val) c = if n ≤ r.val then 1#1 else 0#1)
    (hx : Picks b x k hk) (hy : Picks b y l hl) :
    Picks b (from8 c x y) (fun r => if n ≤ r.val then k r else l r) (fun r => by split; exacts [hk r, hl r]) := by
  intro g r d
  pointwise [from8]
  rw [hc, sel_if, hx, hy]
  by_cases h : n ≤ r.val <;> simp only [h, if_true, if_false]

/-- A vector of groups of eight laid out as a table. -/
theorem picks_table {b x k hk} (h : Picks b x k hk) (r d : Fin 128) : shapeCast S128x128 x shapeCasts_S16x8x128_S128x128 (ix2 r d)
    = b (ix2 ⟨r.val / 8 * 8 + k ⟨r.val % 8, Nat.mod_lt _ (by omega)⟩, by have := hk ⟨r.val % 8, Nat.mod_lt _ (by omega)⟩; omega⟩ d) := by
  pointwise
  exact h _ _ _

theorem pairs_bound (o : ℕ) (ho : o < 2) {r0 r1 r2 r3 : FVec Ideal S128x128 .f32 → FVec Ideal S16x8x128 .f32}
    (h0 : ∀ b, Picks b (r0 b) (fun _ => o) (fun _ => by omega)) (h1 : ∀ b, Picks b (r1 b) (fun _ => 2 + o) (fun _ => by omega))
    (h2 : ∀ b, Picks b (r2 b) (fun _ => 4 + o) (fun _ => by omega)) (h3 : ∀ b, Picks b (r3 b) (fun _ => 6 + o) (fun _ => by omega)) :
    Bound 0 fun b => pairs (r0 b) (r1 b) (r2 b) (r3 b) := by
  refine ⟨rowIn 2 o ⟨by omega, by omega, ho⟩, fun t s e => rowIn_congr e, fun b r d => ?_⟩
  refine (picks_table (from8_picks _ 6 from6 (h3 b) (from8_picks _ 4 from4 (h2 b) (from8_picks _ 2 from2 (h1 b) (h0 b)))) r d).trans ?_
  refine congrArg b ((ix2_inj ..).2 ⟨Fin.ext ?_, rfl⟩)
  simp only [rowIn]
  split_ifs <;> omega

theorem quads_bound (o : ℕ) (ho : o < 4) {r0 r1 : FVec Ideal S128x128 .f32 → FVec Ideal S16x8x128 .f32}
    (h0 : ∀ b, Picks b (r0 b) (fun _ => o) (fun _ => by omega)) (h1 : ∀ b, Picks b (r1 b) (fun _ => 4 + o) (fun _ => by omega)) :
    Bound 1 fun b => quads (r0 b) (r1 b) := by
  refine ⟨rowIn 4 o ⟨by omega, by omega, ho⟩, fun t s e => rowIn_congr e, fun b r d => ?_⟩
  refine (picks_table (from8_picks _ 4 from4 (h1 b) (h0 b)) r d).trans ?_
  refine congrArg b ((ix2_inj ..).2 ⟨Fin.ext ?_, rfl⟩)
  simp only [rowIn]
  split_ifs <;> omega

/-- One row of every group of eight picks that row. -/
theorem picks8 (k : ℕ) (hk : k < 8) (hs) (b : FVec Ideal S128x128 .f32) : Picks b (row8 k hs b) (fun _ => k) (fun _ => hk) :=
  row8_at k hk hs b

/-- Every forward level's boundary. -/
theorem bF_bound : ∀ n : Fin 7, Bound n (bF n)
  | 0 => pairs_bound 0 (by omega) (picks8 0 (by omega) _) (picks8 2 (by omega) _) (picks8 4 (by omega) _) (picks8 6 (by omega) _)
  | 1 => quads_bound 1 (by omega) (picks8 1 (by omega) _) (picks8 5 (by omega) _)
  | 2 => ⟨rowIn 8 3 (by omega), fun t s e => rowIn_congr e, fun b r d => by show fB2 b _ = _; pointwise [fB2, row8, rowOf]; rfl⟩
  | 3 => ⟨rowIn 16 7 (by omega), fun t s e => rowIn_congr e, fun b r d => by show fB3 b _ = _; pointwise [fB3, rowOf]; rfl⟩
  | 4 => ⟨rowIn 32 15 (by omega), fun t s e => rowIn_congr e, fun b r d => by show fB4 b _ = _; pointwise [fB4, rowOf]; rfl⟩
  | 5 => ⟨rowIn 64 31 (by omega), fun t s e => rowIn_congr e, fun b r d => by show fB5 b _ = _; pointwise [fB5, rowOf]; rfl⟩
  | 6 => ⟨fun _ => 63, fun _ _ _ => rfl, fun b r d => by show fB6 b _ = _; pointwise [fB6, rowOf]⟩

/-- Every backward level's boundary. -/
theorem bG_bound : ∀ n : Fin 7, Bound n (bG n)
  | 0 => pairs_bound 1 (by omega) (picks8 1 (by omega) _) (picks8 3 (by omega) _) (picks8 5 (by omega) _) (picks8 7 (by omega) _)
  | 1 => quads_bound 2 (by omega) (picks8 2 (by omega) _) (picks8 6 (by omega) _)
  | 2 => ⟨rowIn 8 4 (by omega), fun t s e => rowIn_congr e, fun b r d => by show gB2 b _ = _; pointwise [gB2, row8, rowOf]; rfl⟩
  | 3 => ⟨rowIn 16 8 (by omega), fun t s e => rowIn_congr e, fun b r d => by show gB3 b _ = _; pointwise [gB3, rowOf]; rfl⟩
  | 4 => ⟨rowIn 32 16 (by omega), fun t s e => rowIn_congr e, fun b r d => by show gB4 b _ = _; pointwise [gB4, rowOf]; rfl⟩
  | 5 => ⟨rowIn 64 32 (by omega), fun t s e => rowIn_congr e, fun b r d => by show gB5 b _ = _; pointwise [gB5, rowOf]; rfl⟩
  | 6 => ⟨fun _ => 64, fun _ _ _ => rfl, fun b r d => by show gB6 b _ = _; pointwise [gB6, rowOf]⟩

end Cert.KernelIdeal.Hgrn
-- ==== Proof.Meaning.lean ====
/-
  One chunk of the kernel over the reals: on finite operands its output and the state it hands on are those of the recurrence's
  chunk, in the forward direction row by row and in the backward direction with the rows counted from the end.
-/
module

public import proofs.«01_k».proof.Proof.Levels

@[expose] public section

set_option maxRecDepth 16384

noncomputable section

namespace Cert.KernelIdeal.Hgrn

open Cert.KernelIdeal Cert.KernelIdeal.Gen Cert.Recur
open Idealize.ShloMosaic Idealize.ShloMosaic.TcCoe

/-- A table of reals. -/
abbrev Tab : Type := Fin 128 → Fin 128 → ℝ

/-- A table of reals as a single-precision table at the extended reals. -/
def up (x : Tab) : FVec Ideal S128x128 .f32 := fun j => ((x (j 0) (j 1) : ℝ) : EReal)

theorem up_at (x : Tab) (r d : Fin 128) : up x (ix2 r d) = ((x r d : ℝ) : EReal) := rfl

theorem up_ext {y : FVec Ideal S128x128 .f32} {x : Tab} (h : ∀ r d : Fin 128, y (ix2 r d) = ((x r d : ℝ) : EReal)) : y = up x := by
  funext j
  idx_vars j
  exact h _ _

/-- A direction: which rows a row sees. -/
def sums' (sees : Fin 128 → Fin 128 → Prop) [∀ t s, Decidable (sees t s)] (lf : Tab) : Tab := fun t d => ∑ s, if sees t s then lf s d else 0

theorem sums_up (sees : Fin 128 → Fin 128 → Prop) [∀ t s, Decidable (sees t s)] (tri : FVec Ideal S128x128 .bf16)
    (h : ∀ t s : Fin 128, tri (ix2 t s) = if sees t s then ((1 : ℝ) : EReal) else ((0 : ℝ) : EReal)) (lf : Tab) : sums tri (up lf) = up (sums' sees lf) := by
  have hz : ∀ r : ℝ, (r : EReal) - (r : EReal) = ((0 : ℝ) : EReal) := fun r => by rw [← EReal.coe_sub, sub_self]
  have hr : rest (up lf) = up (fun _ _ => 0) := up_ext fun r d => by
    pointwise [rest, rnd]; rw [up_at, hz]
  have hr2 : rest (up fun _ _ => 0) = up (fun _ _ => 0) := up_ext fun r d => by
    pointwise [rest, rnd]; rw [up_at, hz]
  refine up_ext fun t d => ?_
  unfold sums
  rw [hr, hr2]
  pointwise [mm, rnd]
  simp only [h, up_at, sums']
  have h1 : ∀ s : Fin 128, (if sees t s then ((1 : ℝ) : EReal) else ((0 : ℝ) : EReal)) * ((lf s d : ℝ) : EReal) = (((if sees t s then lf s d else 0) : ℝ) : EReal) := fun s => by
    split <;> simp
  have h0 : ∀ s : Fin 128, (if sees t s then ((1 : ℝ) : EReal) else ((0 : ℝ) : EReal)) * ((0 : ℝ) : EReal) = 0 := fun s => by
    split <;> simp
  simp only [h1, h0, Finset.sum_const_zero, add_zero, ← coe_sum]

/-- A level's scores where the two rows are parted the way the direction sees. -/
theorem gram_at (m B : FVec Ideal S128x128 .f32) (b q k : Tab) (t s : Fin 128) (ht : ∀ d, m (ix2 t d) = ((1 : ℝ) : EReal))
    (hs : ∀ d, m (ix2 s d) = ((-1 : ℝ) : EReal)) (β : Fin 128 → ℝ) (hBt : ∀ d, B (ix2 t d) = ((β d : ℝ) : EReal)) (hBs : ∀ d, B (ix2 s d) = ((β d : ℝ) : EReal)) :
    gram m B (up b) (up q) (up k) (ix2 t s) = ((∑ d, q t d * k s d * Real.exp (b t d - b s d) : ℝ) : EReal) := by
  pointwise [gram, mmT, zed, rnd]
  simp only [ht, hs, hBt, hBs, up_at]
  have p1 : (0 : EReal) < ((1 : ℝ) : EReal) := by norm_num
  have n1 : ¬ (0 : EReal) < ((-1 : ℝ) : EReal) := by norm_num
  simp only [p1, n1, if_true, if_false, ← EReal.coe_sub, ← EReal.coe_mul, Ideal.exp_coe]
  rw [coe_sum]
  refine Finset.sum_congr rfl fun d _ => ?_
  refine congrArg _ ?_
  rw [show b t d - b s d = (b t d - β d) * 1 + (b s d - β d) * (-1) by ring, Real.exp_add]
  ring

/-- The diagonal. -/
theorem diag_at (lv : IVec S128x128 32) (q k : Tab) (t s : Fin 128) : diag lv (up q) (up k) (ix2 t s)
    = if lv (ix2 t s) = 4294967295#32 then ((∑ d, q t d * k t d : ℝ) : EReal) else ((0 : ℝ) : EReal) := by
  pointwise [diag]
  rw [sel_eq]
  simp only [up_at, ← EReal.coe_mul, ← coe_sum]
  rfl

/-- Where the level is `n` the scores are those of level `n`. -/
theorem score_level (lv : IVec S128x128 32) (q k : FVec Ideal S128x128 .f32) (g : Fin 7 → FVec Ideal S128x128 .f32) (t s : Fin 128) (n : Fin 7)
    (h : lv (ix2 t s) = BitVec.ofNat 32 n.val) : score lv q k (g 0) (g 1) (g 2) (g 3) (g 4) (g 5) (g 6) (ix2 t s) = g n (ix2 t s) := by
  pointwise [score, at']
  rw [h]
  fin_cases n <;> rfl

/-- Where the level is none of the seven the scores are the diagonal's. -/
theorem score_diag (lv : IVec S128x128 32) (q k : FVec Ideal S128x128 .f32) (g : Fin 7 → FVec Ideal S128x128 .f32) (t s : Fin 128)
    (h : lv (ix2 t s) = 4294967295#32 ∨ lv (ix2 t s) = 4294967294#32) :
    score lv q k (g 0) (g 1) (g 2) (g 3) (g 4) (g 5) (g 6) (ix2 t s) = diag lv q k (ix2 t s) := by
  unfold score at'
  generalize diag lv q k = D
  pointwise
  rcases h with h | h <;> rw [h] <;> rfl

/-- The scores of a chunk in a direction that sees the rows parted as `sgn` says. -/
theorem score_up (sees : Fin 128 → Fin 128 → Prop) [∀ t s, Decidable (sees t s)] (lv : IVec S128x128 32) (m : Fin 7 → FVec Ideal S128x128 .f32)
    (B : Fin 7 → FVec Ideal S128x128 .f32 → FVec Ideal S128x128 .f32) (hB : ∀ n, Bound n (B n))
    (hlv : ∀ t s : Fin 128, (t = s ∧ sees t s ∧ lv (ix2 t s) = 4294967295#32) ∨ (¬ sees t s ∧ lv (ix2 t s) = 4294967294#32)
      ∨ ∃ n : Fin 7, sees t s ∧ lv (ix2 t s) = BitVec.ofNat 32 n.val ∧ t.val / 2 ^ (n.val + 1) = s.val / 2 ^ (n.val + 1)
        ∧ (∀ d : Fin 128, m n (ix2 t d) = ((1 : ℝ) : EReal)) ∧ ∀ d : Fin 128, m n (ix2 s d) = ((-1 : ℝ) : EReal)) (b q k : Tab) :
    score lv (up q) (up k) (gram (m 0) (B 0 (up b)) (up b) (up q) (up k)) (gram (m 1) (B 1 (up b)) (up b) (up q) (up k)) (gram (m 2) (B 2 (up b)) (up b) (up q) (up k))
      (gram (m 3) (B 3 (up b)) (up b) (up q) (up k)) (gram (m 4) (B 4 (up b)) (up b) (up q) (up k)) (gram (m 5) (B 5 (up b)) (up b) (up q) (up k)) (gram (m 6) (B 6 (up b)) (up b) (up q) (up k))
      = up (fun t s => if sees t s then ∑ d, q t d * k s d * Real.exp (b t d - b s d) else 0) := by
  refine up_ext fun t s => ?_
  rcases hlv t s with ⟨rfl, hse, h⟩ | ⟨hse, h⟩ | ⟨n, hse, h, hb, ht, hs⟩
  · refine (score_diag lv _ _ (fun n => gram (m n) (B n (up b)) (up b) (up q) (up k)) t t (.inl h)).trans ?_
    rw [diag_at, if_pos h, if_pos hse]
    simp
  · refine (score_diag lv _ _ (fun n => gram (m n) (B n (up b)) (up b) (up q) (up k)) t s (.inr h)).trans ?_
    rw [diag_at, if_neg (by rw [h]; decide), if_neg hse]
  · refine (score_level lv _ _ (fun n => gram (m n) (B n (up b)) (up b) (up q) (up k)) t s n h).trans ?_
    obtain ⟨ρ, hρ, hr⟩ := hB n
    rw [if_pos hse]
    exact gram_at (m n) _ b q k t s ht hs (fun d => b (ρ t) d) (fun d => (hr _ _ _).trans (up_at ..)) (fun d => by rw [hρ t s hb]; exact (hr _ _ _).trans (up_at ..))

theorem fwd_levels (t s : Fin 128) : (t = s ∧ s ≤ t ∧ (fwd (F := Ideal)).lv (ix2 t s) = 4294967295#32) ∨ (¬ s ≤ t ∧ (fwd (F := Ideal)).lv (ix2 t s) = 4294967294#32)
      ∨ ∃ n : Fin 7, s ≤ t ∧ (fwd (F := Ideal)).lv (ix2 t s) = BitVec.ofNat 32 n.val ∧ t.val / 2 ^ (n.val + 1) = s.val / 2 ^ (n.val + 1)
        ∧ (∀ d : Fin 128, sF n (ix2 t d) = ((1 : ℝ) : EReal)) ∧ ∀ d : Fin 128, sF n (ix2 s d) = ((-1 : ℝ) : EReal) := by
  rcases word_cases t s with ⟨h, hw⟩ | ⟨hlt, n, hw, he, h1, h2⟩ | ⟨hlt, -⟩
  · exact .inl ⟨h, h.ge, by rw [fwd_lv, if_pos h.ge, hw]⟩
  · exact .inr (.inr ⟨n, hlt.le, by rw [fwd_lv, if_pos hlt.le, hw], he, fun d => by rw [sF_at, h1]; rfl, fun d => by rw [sF_at, h2]; rfl⟩)
  · exact .inr (.inl ⟨not_le.mpr hlt, by rw [fwd_lv, if_neg (not_le.mpr hlt)]⟩)

theorem bwd_levels (t s : Fin 128) : (t = s ∧ t ≤ s ∧ (bwd (F := Ideal)).lv (ix2 t s) = 4294967295#32) ∨ (¬ t ≤ s ∧ (bwd (F := Ideal)).lv (ix2 t s) = 4294967294#32)
      ∨ ∃ n : Fin 7, t ≤ s ∧ (bwd (F := Ideal)).lv (ix2 t s) = BitVec.ofNat 32 n.val ∧ t.val / 2 ^ (n.val + 1) = s.val / 2 ^ (n.val + 1)
        ∧ (∀ d : Fin 128, sG n (ix2 t d) = ((1 : ℝ) : EReal)) ∧ ∀ d : Fin 128, sG n (ix2 s d) = ((-1 : ℝ) : EReal) := by
  rcases word_cases t s with ⟨h, hw⟩ | ⟨hlt, -⟩ | ⟨hlt, n, hw, he, h1, h2⟩
  · exact .inl ⟨h, h.le, by rw [bwd_lv, if_pos h.le, hw]⟩
  · exact .inr (.inl ⟨not_le.mpr hlt, by rw [bwd_lv, if_neg (not_le.mpr hlt)]⟩)
  · exact .inr (.inr ⟨n, hlt.le, by rw [bwd_lv, if_pos hlt.le, hw], he.symm, fun d => by rw [sG_at, h2]; rfl, fun d => by rw [sG_at, h1]; rfl⟩)

/-- A chunk's output from its scores. -/
theorem outOf_up (b q v st sc : Tab) : same (outOf (up b) (up q) (up v) (plane (up st)) (up sc))
    = up (fun t e => (∑ d, q t d * Real.exp (b t d) * st e d) + ∑ s, sc t s * v s e) := by
  refine up_ext fun t e => ?_
  pointwise [same, outOf, fromState, plane, mm, mmT, rnd]
  simp only [up_at, Ideal.exp_coe, ← EReal.coe_mul, ← coe_sum, ← EReal.coe_add]

/-- The state a chunk hands on, from its running sums and their last row. -/
theorem handOn_up (b k v st : Tab) (bl : FVec Ideal S1x128 .f32) (w : Fin 128 → ℝ) (hw : ∀ d : Fin 128, bl (ix2 0 d) = ((w d : ℝ) : EReal)) :
    handOn (up b) bl (up k) (up v) (plane (up st)) = up (fun e d => st e d * Real.exp (w d) + ∑ s, v s e * (k s d * Real.exp (w d - b s d))) := by
  refine up_ext fun e d => ?_
  pointwise [handOn, plane, mm, rnd]
  simp only [up_at, hw, Ideal.exp_coe, ← EReal.coe_mul, ← EReal.coe_sub, ← coe_sum, ← EReal.coe_add]

/-! ## The four functions of a chunk -/

/-- A forward chunk's output. -/
theorem fO_up (q k v lf st : Tab) : fO fwd (up q) (up k) (up v) (up lf) (up st) = up (fun t e => locO q k v lf (fun d e => st e d) t e) := by
  unfold fO fOut
  rw [sums_up (fun t s => s ≤ t) _ fwd_tri]
  refine (congrArg (fun x => same (outOf (up _) (up q) (up v) (plane (up st)) x))
    (score_up (fun t s => s ≤ t) _ sF bF bF_bound fwd_levels (sums' (fun t s => s ≤ t) lf) q k)).trans ?_
  rw [outOf_up]
  rfl

/-- A forward chunk's state handed on. -/
theorem fS_up (k v lf st : Tab) : fS fwd (up k) (up v) (up lf) (up st) = up (fun e d => locS k v lf (fun d e => st e d) d e) := by
  unfold fS fState
  rw [sums_up (fun t s => s ≤ t) _ fwd_tri]
  refine (handOn_up _ k v st _ (fun d => ∑ r, lf r d) fun d => ?_).trans rfl
  pointwise [lastRow]
  refine (up_at _ 127 d).trans (congrArg _ (Finset.sum_congr rfl fun s _ => if_pos (Fin.le_last s)))

/-- The rows counted from the end. -/
def flip (x : Tab) : Tab := fun r => x r.rev

theorem sum_rev (f : Fin 128 → ℝ) : (∑ s : Fin 128, f s.rev) = ∑ s, f s := Equiv.sum_comp Fin.revPerm f

theorem sums_rev (lf : Tab) (t d : Fin 128) : sums' (fun t s => t ≤ s) lf t d = locB (flip lf) t.rev d := by
  unfold sums' locB flip
  refine (sum_rev _).symm.trans (Finset.sum_congr rfl fun s _ => ?_)
  simp only [Fin.le_rev_iff]

/-- A backward chunk's output. -/
theorem gO_up (q k v lf st : Tab) : gO bwd (up q) (up k) (up v) (up lf) (up st)
    = up (fun t e => locO (flip q) (flip k) (flip v) (flip lf) (fun d e => st e d) t.rev e) := by
  unfold gO gOut
  rw [sums_up (fun t s => t ≤ s) _ bwd_tri]
  refine (congrArg (fun x => same (outOf (up _) (up q) (up v) (plane (up st)) x))
    (score_up (fun t s => t ≤ s) _ sG bG bG_bound bwd_levels (sums' (fun t s => t ≤ s) lf) q k)).trans ?_
  rw [outOf_up]
  congr 1
  funext t e
  unfold locO locA
  refine congrArg₂ (· + ·) (Finset.sum_congr rfl fun d _ => ?_) ?_
  · rw [sums_rev]; simp only [flip, Fin.rev_rev]
  · refine (sum_rev _).symm.trans (Finset.sum_congr rfl fun s _ => ?_)
    simp only [Fin.le_rev_iff, sums_rev, flip, Fin.rev_rev]

/-- A backward chunk's state handed on. -/
theorem gS_up (k v lf st : Tab) : gS bwd (up k) (up v) (up lf) (up st)
    = up (fun e d => locS (flip k) (flip v) (flip lf) (fun d e => st e d) d e) := by
  unfold gS gState
  rw [sums_up (fun t s => t ≤ s) _ bwd_tri]
  refine (handOn_up _ k v st _ (fun d => ∑ r, lf r d) fun d => ?_).trans ?_
  · pointwise [firstRow]
    refine (up_at _ 0 d).trans (congrArg _ (Finset.sum_congr rfl fun s _ => if_pos (Fin.zero_le s)))
  congr 1
  funext e d
  unfold locS
  have hw : (∑ r, flip lf r d) = ∑ r, lf r d := sum_rev (fun r => lf r d)
  rw [hw]
  refine congrArg₂ (· + ·) rfl ((sum_rev _).symm.trans (Finset.sum_congr rfl fun s _ => ?_))
  simp only [sums_rev, flip, Fin.rev_rev]

end Cert.KernelIdeal.Hgrn
-- ==== Proof.Block.lean ====
/-
  The two blocks a grid point of the kernel writes, over the reals: the mixed values and the final states of the recurrence.
-/
module

public import proofs.«01_k».proof.Proof.Meaning

@[expose] public section

set_option maxRecDepth 16384

noncomputable section

namespace Cert.KernelIdeal.Hgrn

open Cert.KernelIdeal Cert.KernelIdeal.Gen Cert.Recur
open Idealize.ShloMosaic Idealize.ShloMosaic.TcCoe

/-- A block holds the rows of batch `B` and the four heads from `4 * H` on of the array `A`. -/
def Reads (x : Vec Ideal S256x512 .f32) (A : ℕ → ℕ → ℝ) (B H : ℕ) : Prop :=
  ∀ (r : Fin 256) (c : Fin 512), x (ix2 r c) = ((A (256 * B + r.val) (512 * H + c.val) : ℝ) : EReal)

variable {x : Vec Ideal S256x512 .f32} {A : ℕ → ℕ → ℝ} {B H : ℕ}

/-- A chunk of a head of a block. -/
theorem slab_up (hx : Reads x A B H) (a : ℕ) (h : Fin 4) : slab x a h = up (fun t d => seqF A B (4 * H + h.val) (128 * a + t.val) d) := by
  refine up_ext fun t d => (hx _ _).trans ?_
  unfold seqF
  refine congrArg Real.toEReal (congrArg₂ A rfl ?_)
  show 512 * H + (128 * h.val + d.val) = 128 * (4 * H + h.val) + d.val
  omega

/-- The rows of a chunk counted from the end are the steps from the end. -/
theorem slab_flip (A : ℕ → ℕ → ℝ) (B h n : ℕ) (hn : n < 2) (r : Fin 128) :
    flip (fun t d => seqF A B h (128 * (1 - n) + t.val) d) r = seqB A B h (128 * n + r.val) := by
  funext d
  unfold flip seqF seqB
  refine congrArg₂ A ?_ rfl
  have := r.isLt
  simp only [Fin.val_rev]
  omega

variable {x2 x3 x4 x5 x6 x7 : Vec Ideal S256x512 .f32} {D : Arrays}

/-- The forward state before chunk `n`. -/
theorem stF_up (h3 : Reads x3 D.lf B H) (h4 : Reads x4 D.kf B H) (h7 : Reads x7 D.v B H) (h : Fin 4) :
    ∀ n, stF fwd x3 x4 x7 h n = up (fun e d => stateF D B (4 * H + h.val) (128 * n) d e)
  | 0 => up_ext fun e d => by
    pointwise [stF, zero128]
    exact (congrArg Real.toEReal (state_zero d e)).symm
  | n + 1 => by
    rw [stF, stF_up h3 h4 h7 h n, slab_up h3, slab_up h4, slab_up h7, fS_up]
    refine congrArg up (funext fun e => funext fun d => ?_)
    exact locS_eq (a := 128 * n) (fun _ => rfl) (fun _ => rfl) (fun _ => rfl) d e

/-- The backward state after `n` chunks. -/
theorem stB_up (h5 : Reads x5 D.lb B H) (h6 : Reads x6 D.kb B H) (h7 : Reads x7 D.v B H) (h : Fin 4) :
    ∀ n, n ≤ 2 → stB bwd x5 x6 x7 h n = up (fun e d => stateB D B (4 * H + h.val) (128 * n) d e)
  | 0, _ => up_ext fun e d => by
    pointwise [stB, zero128]
    exact (congrArg Real.toEReal (state_zero d e)).symm
  | n + 1, hn => by
    rw [stB, stB_up h5 h6 h7 h n (by omega), slab_up h5, slab_up h6, slab_up h7, gS_up]
    refine congrArg up (funext fun e => funext fun d => ?_)
    exact locS_eq (a := 128 * n) (fun r => slab_flip _ _ _ n (by omega) r) (fun r => slab_flip _ _ _ n (by omega) r) (fun r => slab_flip _ _ _ n (by omega) r) d e

/-- The forward output of chunk `n`. -/
theorem ouF_up (h2 : Reads x2 D.q B H) (h3 : Reads x3 D.lf B H) (h4 : Reads x4 D.kf B H) (h7 : Reads x7 D.v B H) (h : Fin 4) (n : ℕ) :
    ouF fwd x2 x3 x4 x7 h n = up (fun t e => outF D B (4 * H + h.val) (128 * n + t.val) e) := by
  rw [ouF, stF_up h3 h4 h7, slab_up h2, slab_up h3, slab_up h4, slab_up h7, fO_up]
  refine congrArg up (funext fun t => funext fun e => ?_)
  exact locO_eq (a := 128 * n) (fun _ => rfl) (fun _ => rfl) (fun _ => rfl) (fun _ => rfl) t e

/-- The backward output of chunk `1 − n`. -/
theorem ouB_up (h2 : Reads x2 D.q B H) (h5 : Reads x5 D.lb B H) (h6 : Reads x6 D.kb B H) (h7 : Reads x7 D.v B H) (h : Fin 4) (n : ℕ) (hn : n < 2) :
    ouB bwd x2 x5 x6 x7 h n = up (fun t e => outB D B (4 * H + h.val) (128 * n + t.rev.val) e) := by
  rw [ouB, stB_up h5 h6 h7 h n hn.le, slab_up h2, slab_up h5, slab_up h6, slab_up h7, gO_up]
  refine congrArg up (funext fun t => funext fun e => ?_)
  exact locO_eq (a := 128 * n) (fun r => slab_flip _ _ _ n hn r) (fun r => slab_flip _ _ _ n hn r) (fun r => slab_flip _ _ _ n hn r) (fun r => slab_flip _ _ _ n hn r) t.rev e

/-- Two chunks one above the other, read at a row. -/
theorem stack_at (y z : Tab) (w : ℕ → Fin 128 → ℝ) (hy : ∀ t : Fin 128, y t = w t.val) (hz : ∀ t : Fin 128, z t = w (128 + t.val)) (r : Fin 256) (e : Fin 128) :
    stack (up y) (up z) (ix2 r e) = ((w r.val e : ℝ) : EReal) := by
  have hr := r.isLt
  unfold stack
  show (if r.val < 128 then ((y ⟨r.val % 128, _⟩ e : ℝ) : EReal) else ((z ⟨r.val % 128, _⟩ e : ℝ) : EReal)) = _
  split
  · next h => rw [hy]; exact congrArg (fun n => ((w n e : ℝ) : EReal)) (Nat.mod_eq_of_lt h)
  · next h => rw [hz]; exact congrArg (fun n => ((w n e : ℝ) : EReal)) (show 128 + r.val % 128 = r.val by omega)

/-- What a row of a head of the block of mixed values holds, from the two stacks. -/
theorem pay_at (x y : FVec Ideal S256x128 .f32) (w : FVec Ideal S1x128 .f32) (g : FVec Ideal S256x128 .f32) (r : Fin 256) (e : Fin 128) :
    k0_pay348 (F := Ideal) x y w g (ix2 r e) = mixOf (fun l => (x (ix2 r l) : EReal) + (y (ix2 r l) : EReal)) (w (ix2 0 e)) (g (ix2 r e)) e := by
  pointwise [k0_pay348]
  rfl

/-- The block of mixed values. -/
theorem G10_at (h2 : Reads x2 D.q B H) (h3 : Reads x3 D.lf B H) (h4 : Reads x4 D.kf B H) (h5 : Reads x5 D.lb B H) (h6 : Reads x6 D.kb B H) (h7 : Reads x7 D.v B H)
    (x8 : Vec Ideal S256x512 .f32) (x9 : Vec Ideal S1x128 .f32) (r : Fin 256) (h : Fin 4) (e : Fin 128) (c : Fin 512) (hc : c.val = 128 * h.val + e.val) :
    G10 x2 x3 x4 x5 x6 x7 x8 x9 (ix2 r c) = mixAt D B (4 * H + h.val) r.val (x9 (ix2 0 e)) (x8 (ix2 r c)) e := by
  have eh : (⟨c.val / 128, by omega⟩ : Fin 4) = h := Fin.ext (by show c.val / 128 = h.val; omega)
  have ee : (⟨c.val % 128, by omega⟩ : Fin 128) = e := Fin.ext (by show c.val % 128 = e.val; omega)
  show headOut x2 x3 x4 x5 x6 x7 x8 x9 ⟨c.val / 128, _⟩ (ix2 r ⟨c.val % 128, _⟩) = _
  rw [eh, ee]
  unfold headOut
  rw [pay_at, ouF_up h2 h3 h4 h7, ouF_up h2 h3 h4 h7, ouB_up h2 h5 h6 h7 h 0 (by omega), ouB_up h2 h5 h6 h7 h 1 (by omega)]
  unfold mixAt
  refine congrArg₂ (fun o g => mixOf o (x9 (ix2 0 e)) g e) (funext fun l => ?_) ?_
  · refine congrArg₂ (· + ·) (stack_at _ _ (outF D B (4 * H + h.val)) (fun t => ?_) (fun t => ?_) r l)
      (stack_at _ _ (fun n => outB D B (4 * H + h.val) (255 - n)) (fun t => ?_) (fun t => ?_) r l)
    · funext e; rw [Nat.mul_zero, Nat.zero_add]
    · rfl
    · funext e; exact congrArg (fun n => outB D B (4 * H + h.val) n e) (by simp only [Fin.val_rev]; omega)
    · funext e; exact congrArg (fun n => outB D B (4 * H + h.val) n e) (by simp only [Fin.val_rev]; omega)
  · exact congrArg x8 ((ix2_inj ..).2 ⟨rfl, Fin.ext hc.symm⟩)

/-- The block of final states: the forward direction. -/
theorem G11_fwd (h3 : Reads x3 D.lf B H) (h4 : Reads x4 D.kf B H) (h7 : Reads x7 D.v B H) (x5 x6 : Vec Ideal S256x512 .f32) (h : Fin 4) (d e : Fin 128) :
    G11 x3 x4 x5 x6 x7 (ix5 0 0 h d e) = ((stateF D B (4 * H + h.val) 256 d e : ℝ) : EReal) := by
  show stF fwd x3 x4 x7 h 2 (ix2 e d) = _
  rw [stF_up h3 h4 h7]
  rfl

/-- The block of final states: the backward direction. -/
theorem G11_bwd (h5 : Reads x5 D.lb B H) (h6 : Reads x6 D.kb B H) (h7 : Reads x7 D.v B H) (x3 x4 : Vec Ideal S256x512 .f32) (h : Fin 4) (d e : Fin 128) :
    G11 x3 x4 x5 x6 x7 (ix5 0 1 h d e) = ((stateB D B (4 * H + h.val) 256 d e : ℝ) : EReal) := by
  show stB bwd x5 x6 x7 h 2 (ix2 e d) = _
  rw [stB_up h5 h6 h7 h 2 le_rfl]
  rfl

end Cert.KernelIdeal.Hgrn
-- ==== Proof.Value.lean ====
/-
  The kernel's two result arrays at the end of a run on finite operands: the mixed values and the final states of the recurrence.
-/
module

public import proofs.«01_k».proof.Proof.Block
public import proofs.«01_k».proof.Proof.Run
public import Idealize.ShloMosaic.Lib.Pipeline.ValueKit
public import Idealize.ShloMosaic.Lib.Claim

@[expose] public section

set_option maxRecDepth 16384

noncomputable section

namespace Cert.KernelIdeal.Hgrn

open Cert.KernelIdeal Cert.KernelIdeal.Gen Cert.Recur
open Idealize.ShloMosaic Idealize.ShloMosaic.TcCoe Idealize.SL.Sem
open Idealize.ShloMosaic.Pipeline (Dat)

variable (m : (ℓ : Loc nD τ sig) → Buf (Elt Ideal) ℓ)

/-- Where each point's blocks lie. -/
theorem idx : ∀ t : Fin cfg0.N, t.val / 2 < 32 ∧ win0_0.index t = ![t.val / 2, t.val % 2] ∧ win0_1.index t = ![t.val / 2, t.val % 2]
    ∧ win0_2.index t = ![t.val / 2, t.val % 2] ∧ win0_3.index t = ![t.val / 2, t.val % 2] ∧ win0_4.index t = ![t.val / 2, t.val % 2]
    ∧ win0_5.index t = ![t.val / 2, t.val % 2] ∧ win0_6.index t = ![t.val / 2, t.val % 2] ∧ win0_7.index t = ![0, 0]
    ∧ win0_8.index t = ![t.val / 2, t.val % 2] ∧ win0_9.index t = ![t.val / 2, 0, t.val % 2, 0, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8192x1024 .f32 := m ((c : Thread nD τ).loc main_arg1)
abbrev arg2 : FVec Ideal S8192x1024 .f32 := m ((c : Thread nD τ).loc main_arg2)
abbrev arg3 : FVec Ideal S8192x1024 .f32 := m ((c : Thread nD τ).loc main_arg3)
abbrev arg4 : FVec Ideal S8192x1024 .f32 := m ((c : Thread nD τ).loc main_arg4)
abbrev arg5 : FVec Ideal S8192x1024 .f32 := m ((c : Thread nD τ).loc main_arg5)
abbrev arg6 : FVec Ideal S8192x1024 .f32 := m ((c : Thread nD τ).loc main_arg6)
abbrev arg7 : FVec Ideal S128 .f32 := m ((c : Thread nD τ).loc main_arg7)

/-- The six arrays the recurrence reads hold real numbers. -/
structure Ok : Prop where
  h0 : Finite' (arg0 m c)
  h1 : Finite' (arg1 m c)
  h2 : Finite' (arg2 m c)
  h3 : Finite' (arg3 m c)
  h4 : Finite' (arg4 m c)
  h5 : Finite' (arg5 m c)

/-- The recurrence's arrays. -/
abbrev D : Arrays := arrays (arg0 m c) (arg1 m c) (arg2 m c) (arg3 m c) (arg4 m c) (arg5 m c)

/-- A block of a table, where the block is the window's part of the table. -/
theorem reads_of {x : Vec Ideal S256x512 .f32} {a : FVec Ideal S8192x1024 .f32} (ha : Finite' a) {B H : ℕ} (hB : B < 32) (hH : H < 2)
    (hx : ∀ (r : Fin 256) (k : Fin 512), x (ix2 r k) = a (ix2 ⟨256 * B + r.val, by omega⟩ ⟨512 * H + k.val, by omega⟩)) : Reads x (rl a) B H :=
  fun r k => (hx r k).trans (rl_eq ha _ _)

variable (t : Fin cfg0.N)

theorem lt_half : t.val / 2 < 32 := (idx t).1
theorem lt_two : t.val % 2 < 2 := Nat.mod_lt _ (by omega)

theorem blk0 (r : Fin 256) (k : Fin 512) : (iblk m c 0 t : Vec Ideal S256x512 .f32) (ix2 r k) = arg0 m c (ix2 ⟨256 * (t.val / 2) + r.val, by have := lt_half t; omega⟩ ⟨512 * (t.val % 2) + k.val, by omega⟩) := by
  blk_ext [iblk, V, idx t]
theorem blk1 (r : Fin 256) (k : Fin 512) : (iblk m c 1 t : Vec Ideal S256x512 .f32) (ix2 r k) = arg1 m c (ix2 ⟨256 * (t.val / 2) + r.val, by have := lt_half t; omega⟩ ⟨512 * (t.val % 2) + k.val, by omega⟩) := by
  blk_ext [iblk, V, idx t]
theorem blk2 (r : Fin 256) (k : Fin 512) : (iblk m c 2 t : Vec Ideal S256x512 .f32) (ix2 r k) = arg2 m c (ix2 ⟨256 * (t.val / 2) + r.val, by have := lt_half t; omega⟩ ⟨512 * (t.val % 2) + k.val, by omega⟩) := by
  blk_ext [iblk, V, idx t]
theorem blk3 (r : Fin 256) (k : Fin 512) : (iblk m c 3 t : Vec Ideal S256x512 .f32) (ix2 r k) = arg3 m c (ix2 ⟨256 * (t.val / 2) + r.val, by have := lt_half t; omega⟩ ⟨512 * (t.val % 2) + k.val, by omega⟩) := by
  blk_ext [iblk, V, idx t]
theorem blk4 (r : Fin 256) (k : Fin 512) : (iblk m c 4 t : Vec Ideal S256x512 .f32) (ix2 r k) = arg4 m c (ix2 ⟨256 * (t.val / 2) + r.val, by have := lt_half t; omega⟩ ⟨512 * (t.val % 2) + k.val, by omega⟩) := by
  blk_ext [iblk, V, idx t]
theorem blk5 (r : Fin 256) (k : Fin 512) : (iblk m c 5 t : Vec Ideal S256x512 .f32) (ix2 r k) = arg5 m c (ix2 ⟨256 * (t.val / 2) + r.val, by have := lt_half t; omega⟩ ⟨512 * (t.val % 2) + k.val, by omega⟩) := by
  blk_ext [iblk, V, idx t]
theorem blk6 (r : Fin 256) (k : Fin 512) : (iblk m c 6 t : Vec Ideal S256x512 .f32) (ix2 r k) = arg6 m c (ix2 ⟨256 * (t.val / 2) + r.val, by have := lt_half t; omega⟩ ⟨512 * (t.val % 2) + k.val, by omega⟩) := by
  blk_ext [iblk, V, idx t]
theorem blk7 (e : Fin 128) : (iblk m c 7 t : Vec Ideal S1x128 .f32) (ix2 0 e) = arg7 m c (ix1 e) := by
  blk_point [iblk, V, idx t]

variable {m c}

/-- What a point writes of the mixed values. -/
theorem mixed_at (ok : Ok m c) (y : S256x512.Idx) : mixedAt m c t y
    = mixed (arg0 m c) (arg1 m c) (arg2 m c) (arg3 m c) (arg4 m c) (arg5 m c) (arg6 m c) (arg7 m c)
        (ix2 ⟨256 * (t.val / 2) + (y 0).val, by have := lt_half t; have := lt0 y; omega⟩ ⟨512 * (t.val % 2) + (y 1).val, by have := lt1 y; omega⟩) := by
  idx_vars y
  unfold mixedAt
  rw [G10_at (D := D m c) (reads_of ok.h0 (lt_half t) (lt_two t) (blk0 m c t)) (reads_of ok.h1 (lt_half t) (lt_two t) (blk1 m c t)) (reads_of ok.h2 (lt_half t) (lt_two t) (blk2 m c t))
    (reads_of ok.h3 (lt_half t) (lt_two t) (blk3 m c t)) (reads_of ok.h4 (lt_half t) (lt_two t) (blk4 m c t)) (reads_of ok.h5 (lt_half t) (lt_two t) (blk5 m c t))
    (iblk m c 6 t) (iblk m c 7 t) y0 ⟨y1.val / 128, by omega⟩ ⟨y1.val % 128, by omega⟩ y1 (by show y1.val = 128 * (y1.val / 128) + y1.val % 128; omega)]
  rw [blk6, blk7]
  unfold mixed
  show mixAt (D m c) (t.val / 2) (4 * (t.val % 2) + y1.val / 128) y0.val (arg7 m c (ix1 ⟨y1.val % 128, _⟩)) _ ⟨y1.val % 128, _⟩
    = mixAt (D m c) ((256 * (t.val / 2) + y0.val) / 256) ((512 * (t.val % 2) + y1.val) / 128) ((256 * (t.val / 2) + y0.val) % 256)
      (arg7 m c (ix1 ⟨(512 * (t.val % 2) + y1.val) % 128, _⟩)) _ ⟨(512 * (t.val % 2) + y1.val) % 128, _⟩
  have e1 : (256 * (t.val / 2) + y0.val) / 256 = t.val / 2 := by omega
  have e2 : (512 * (t.val % 2) + y1.val) / 128 = 4 * (t.val % 2) + y1.val / 128 := by omega
  have e3 : (256 * (t.val / 2) + y0.val) % 256 = y0.val := by omega
  have e4 : (⟨(512 * (t.val % 2) + y1.val) % 128, Nat.mod_lt _ (by omega)⟩ : Fin 128) = ⟨y1.val % 128, Nat.mod_lt _ (by omega)⟩ := Fin.ext (by show (512 * (t.val % 2) + y1.val) % 128 = y1.val % 128; omega)
  rw [e1, e2, e3, e4]

/-- What a point writes of the final states. -/
theorem finals_at (ok : Ok m c) (y : S1x2x4x128x128.Idx) : statesAt m c t y
    = finals (arg0 m c) (arg1 m c) (arg2 m c) (arg3 m c) (arg4 m c) (arg5 m c)
        (ix5 ⟨t.val / 2, lt_half t⟩ (y 1) ⟨4 * (t.val % 2) + (y 2).val, by have : (y 2).val < 4 := (y 2).isLt; omega⟩ (y 3) (y 4)) := by
  idx_vars y
  unfold statesAt
  have h1 := reads_of ok.h1 (lt_half t) (lt_two t) (blk1 m c t)
  have h2 := reads_of ok.h2 (lt_half t) (lt_two t) (blk2 m c t)
  have h3 := reads_of ok.h3 (lt_half t) (lt_two t) (blk3 m c t)
  have h4 := reads_of ok.h4 (lt_half t) (lt_two t) (blk4 m c t)
  have h5 := reads_of ok.h5 (lt_half t) (lt_two t) (blk5 m c t)
  obtain rfl : y0 = 0 := Subsingleton.elim _ _
  fin_cases y1
  · exact G11_fwd (D := D m c) h1 h2 h5 (iblk m c 3 t) (iblk m c 4 t) y2 y3 y4
  · exact G11_bwd (D := D m c) h3 h4 h5 (iblk m c 1 t) (iblk m c 2 t) y2 y3 y4

/-- The array of mixed values at the end. -/
theorem final8 (ok : Ok m c) : (dats m 0 c).arrAt 8 (cfgs 0).N
    = mixed (arg0 m c) (arg1 m c) (arg2 m c) (arg3 m c) (arg4 m c) (arg5 m c) (arg6 m c) (arg7 m c) := by
  refine (dats m 0 c).arrAt_eq_of_covers 8 _ (by decide +kernel) fun t _ y => ?_
  blk_simp
  rw [after_8]
  refine (mixed_at t ok y).trans ?_
  blk_ext [idx t]

/-- The array of final states at the end. -/
theorem final9 (ok : Ok m c) : (dats m 0 c).arrAt 9 (cfgs 0).N
    = finals (arg0 m c) (arg1 m c) (arg2 m c) (arg3 m c) (arg4 m c) (arg5 m c) := by
  refine (dats m 0 c).arrAt_eq_of_covers 9 _ (by decide +kernel) fun t _ y => ?_
  blk_simp
  rw [after_9]
  refine (finals_at t ok y).trans ?_
  blk_ext [idx t]

end Cert.KernelIdeal.Hgrn
-- ==== Proof.AttnHead.lean ====
/-
  What a grid point of the attention stores: eight heads, each the same function of its own columns.
-/
module

public import proofs.«01_k».proof.Proof.Gen.AttentionIdeal.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.AttentionIdeal.Block

open Cert.AttentionIdeal Cert.AttentionIdeal.Gen
open Idealize.ShloMosaic Idealize.ShloMosaic.TcCoe Idealize.SL.Sem
open Idealize.ShloMosaic.Pipeline (Dat)

/-- A head's stored block, of its columns of the queries, the keys and the values, the learned vectors and the gain. -/
def head (q k v : FVec Ideal S256x128 .f32) (p : FVec Ideal S4x64 .f32) (g : FVec Ideal S1x128 .f32) : FVec Ideal S256x128 .bf16 :=
  k0_pay43 (F := Ideal) (k0_pay20 p) (k0_pay31 (k0_pay30 (k0_pay22 q) (k0_pay2 (F := Ideal) k))) (k0_pay33 (k0_pay26 (k0_pay23 q) (k0_pay2 (F := Ideal) k)))
    (k0_pay39 (k0_pay29 (k0_pay22 q) (k0_pay2 (F := Ideal) k)) (k0_pay3 (F := Ideal) v))
    (k0_pay40 (k0_pay32 (k0_pay26 (k0_pay23 q) (k0_pay2 (F := Ideal) k))) (k0_pay3 (F := Ideal) v)) g

/-- The columns of a head. -/
abbrev lanes (o : ℕ) (inb : ∀ a, (![0, o] : Fin 2 → ℕ) a + S256x128.size a ≤ S256x1024.size a) : Rect S256x1024 := Rect.unit (s := S256x1024) ![0, o] S256x128.size inb

variable (x0 x1 x2 : Vec Ideal S256x1024 .f32) (x3 : Vec Ideal S4x64 .f32) (x4 : Vec Ideal S1x128 .f32)

/-- The head whose columns start at `o`. -/
def headOf (o : ℕ) (inb : ∀ a, (![0, o] : Fin 2 → ℕ) a + S256x128.size a ≤ S256x1024.size a) : FVec Ideal S256x128 .bf16 :=
  head (View.ld x0 (lanes o inb)) (View.ld x1 (lanes o inb)) (View.ld x2 (lanes o inb)) x3 x4

/-- The eight heads. -/
def heads : List (View.Piece (Elt Ideal) S256x1024 .bf16) :=
    [⟨lanes 896 inb_S256x1024_S256x128_0_896, headOf x0 x1 x2 x3 x4 896 inb_S256x1024_S256x128_0_896⟩,
     ⟨lanes 768 inb_S256x1024_S256x128_0_768, headOf x0 x1 x2 x3 x4 768 inb_S256x1024_S256x128_0_768⟩,
     ⟨lanes 640 inb_S256x1024_S256x128_0_640, headOf x0 x1 x2 x3 x4 640 inb_S256x1024_S256x128_0_640⟩,
     ⟨lanes 512 inb_S256x1024_S256x128_0_512, headOf x0 x1 x2 x3 x4 512 inb_S256x1024_S256x128_0_512⟩,
     ⟨lanes 384 inb_S256x1024_S256x128_0_384, headOf x0 x1 x2 x3 x4 384 inb_S256x1024_S256x128_0_384⟩,
     ⟨lanes 256 inb_S256x1024_S256x128_0_256, headOf x0 x1 x2 x3 x4 256 inb_S256x1024_S256x128_0_256⟩,
     ⟨lanes 128 inb_S256x1024_S256x128_0_128, headOf x0 x1 x2 x3 x4 128 inb_S256x1024_S256x128_0_128⟩,
     ⟨lanes 0 inb_S256x1024_S256x128_0_0, headOf x0 x1 x2 x3 x4 0 inb_S256x1024_S256x128_0_0⟩]

variable (m : (ℓ : Loc nD τ sig) → Buf (Elt Ideal) ℓ) (c : Dev nD) (t : Fin cfg0.N)

/-- The block as eight heads. -/
theorem out_heads : outsAt0 m c t = View.canon (heads (iblk m c 0 t) (iblk m c 1 t) (iblk m c 2 t) (iblk m c 3 t) (iblk m c 4 t)) := by
  generalize hR : View.canon (heads (iblk m c 0 t) (iblk m c 1 t) (iblk m c 2 t) (iblk m c 3 t) (iblk m c 4 t)) = R
  unfold outsAt0
  frame_open
  simp (disch := decide) only [↓ View.readCov_skip, ↓ View.readCov_cons_toLoadRect, ↓ View.readCov_fill]
  frame_out
  rw [← hR]
  chain_rfl

end Cert.AttentionIdeal.Block

end
-- ==== Proof.Attn.lean ====
/-
  Differential attention: what both programs compute of a row, for one head.
-/
module

public import proofs.«01_k».proof.Proof.Recur
public import Idealize.ShloMosaic.Lib.Pointwise

@[expose] public section

noncomputable section

namespace Cert.Attn

open Idealize.ShloMosaic Cert.Recur

/-- A real number among the extended ones. -/
def IsReal (x : EReal) : Prop := ∃ r : ℝ, x = (r : EReal)

theorem isReal_of {x : EReal} (h : x ≠ ⊤ ∧ x ≠ ⊥) : IsReal x := ⟨x.toReal, (EReal.coe_toReal h.1 h.2).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.exp {x : EReal} (hx : IsReal x) : IsReal (Ideal.exp x) := by
  obtain ⟨a, rfl⟩ := hx; exact ⟨Real.exp a, Ideal.exp_coe a⟩

/-- Real entries are the coercions of real numbers. -/
theorem lifts {ι : Type} {s : ι → EReal} (h : ∀ i, IsReal (s i)) : ∃ r : ι → ℝ, s = fun i => (r i : EReal) :=
  ⟨fun i => (h i).choose, funext fun i => (h i).choose_spec⟩

theorem IsReal.sum {ι : Type} [Fintype ι] {s : ι → EReal} (h : ∀ i, IsReal (s i)) : IsReal (∑ i, s i) := by
  obtain ⟨r, rfl⟩ := lifts h
  exact ⟨∑ i, r i, (coe_sum _ _).symm⟩

/-- The largest entry of a row. -/
def Largest {ι : Type} (s : ι → EReal) (m : EReal) : Prop := (∀ i, s i ≤ m) ∧ ∃ i, s i = m

theorem Largest.unique {ι : Type} {s : ι → EReal} {m n : EReal} (h : Largest s m) (h' : Largest s n) : m = n := by
  obtain ⟨i, e⟩ := h.2
  obtain ⟨j, f⟩ := h'.2
  exact le_antisymm (e ▸ h'.1 i) (f ▸ h.1 j)

/-- The fold of `max` from minus infinity is the largest entry. -/
theorem largest_fold {n : ℕ} (s : Fin (n + 1) → EReal) : Largest s (Finset.univ.fold max (Ideal.ofBits .f32 0xFF800000#32) s) := by
  have low : Ideal.ofBits .f32 0xFF800000#32 = (⊥ : EReal) := by simp [Ideal.ofBits, Ideal.ieee]
  rw [low]
  have bound : ∀ i, s i ≤ Finset.univ.fold max ⊥ s := fun i => (Finset.le_fold_max _).2 (.inr ⟨i, Finset.mem_univ _, le_rfl⟩)
  refine ⟨bound, ?_⟩
  rcases (Finset.le_fold_max _).1 (le_refl (Finset.univ.fold max (⊥ : EReal) s)) with h | ⟨i, -, h⟩
  · exact ⟨0, le_antisymm (bound 0) (h.trans bot_le)⟩
  · exact ⟨i, le_antisymm (bound i) h⟩

/-- The largest score. -/
def top (s : Fin 256 → EReal) : EReal := Finset.univ.fold max (Ideal.ofBits .f32 0xFF800000#32) s

theorem top_largest (s : Fin 256 → EReal) : Largest s (top s) := largest_fold (n := 255) s

/-- The keys in the four nested groups of the kernel's sums. -/
def nest : Fin 8 × Fin 2 × Fin 4 × Fin 4 ≃ Fin 256 where
  toFun x := ⟨x.2.2.2.val * 64 + (x.2.2.1.val * 16 + (x.2.1.val * 8 + x.1.val)), by omega⟩
  invFun i := (⟨i.val % 8, by omega⟩, ⟨i.val / 8 % 2, by omega⟩, ⟨i.val / 16 % 4, by omega⟩, ⟨i.val / 64, by omega⟩)
  left_inv x := by
    obtain ⟨a, b, c, d⟩ := x
    simp only [Prod.mk.injEq]
    refine ⟨Fin.ext ?_, Fin.ext ?_, Fin.ext ?_, Fin.ext ?_⟩ <;> simp only <;> omega
  right_inv i := Fin.ext (by simp only; omega)

/-- The largest score, as the kernel takes it: in four nested groups. -/
def shift (s : Fin 256 → EReal) : EReal :=
  (Finset.univ : Finset (Fin 8)).fold max (Ideal.ofBits .f32 0xFF800000#32) fun a =>
    (Finset.univ : Finset (Fin 2)).fold max (Ideal.ofBits .f32 0xFF800000#32) fun b =>
      (Finset.univ : Finset (Fin 4)).fold max (Ideal.ofBits .f32 0xFF800000#32) fun c =>
        (Finset.univ : Finset (Fin 4)).fold max (Ideal.ofBits .f32 0xFF800000#32) fun d =>
          s ⟨d.val * 64 + (c.val * 16 + (b.val * 8 + a.val)), by omega⟩

/-- The largest of the groups' largest entries is the largest entry. -/
theorem Largest.groups {ι κ : Type} {f : ι → κ → EReal} {each : ι → EReal} (h : ∀ a, Largest (f a) (each a)) {m : EReal} (hm : Largest each m) :
    Largest (fun x : ι × κ => f x.1 x.2) m := by
  constructor
  · intro x
    exact ((h x.1).1 x.2).trans (hm.1 x.1)
  · obtain ⟨a, ea⟩ := hm.2
    obtain ⟨b, eb⟩ := (h a).2
    exact ⟨(a, b), eb.trans ea⟩

/-- The kernel's nested groups find the largest score. -/
theorem shift_largest (s : Fin 256 → EReal) : Largest s (shift s) := by
  have all : Largest (fun x : Fin 8 × Fin 2 × Fin 4 × Fin 4 => s ⟨x.2.2.2.val * 64 + (x.2.2.1.val * 16 + (x.2.1.val * 8 + x.1.val)), by omega⟩) (shift s) :=
    Largest.groups (f := fun (a : Fin 8) (x : Fin 2 × Fin 4 × Fin 4) => s ⟨x.2.2.val * 64 + (x.2.1.val * 16 + (x.1.val * 8 + a.val)), by omega⟩)
      (fun a => Largest.groups (f := fun (b : Fin 2) (x : Fin 4 × Fin 4) => s ⟨x.2.val * 64 + (x.1.val * 16 + (b.val * 8 + a.val)), by omega⟩)
        (fun b => Largest.groups (f := fun (c : Fin 4) (d : Fin 4) => s ⟨d.val * 64 + (c.val * 16 + (b.val * 8 + a.val)), by omega⟩)
          (fun c => largest_fold (n := 3) _) (largest_fold (n := 3) _)) (largest_fold (n := 1) _)) (largest_fold (n := 7) _)
  constructor
  · intro i
    have e := all.1 (nest.symm i)
    have at_i : nest (nest.symm i) = i := nest.apply_symm_apply i
    exact (le_of_eq (congrArg s at_i.symm)).trans e
  · obtain ⟨x, e⟩ := all.2
    exact ⟨_, e⟩

/-- The scale of the scores and the constant of the factor are real. -/
theorem scale_real : ∃ r : ℝ, 0 ≤ r ∧ Ideal.ofBits .f32 0x3E000000#32 = (r : EReal) := by
  refine ⟨1 / 8, by norm_num, ?_⟩
  simp [Ideal.ofBits, Ideal.ieee, ← EReal.coe_mul]
  norm_num
theorem least_real : IsReal (Ideal.ofBits .f32 0x3E4CCCCD#32) := by simp [IsReal, Ideal.ofBits, Ideal.ieee, ← EReal.coe_mul]

/-- The score of a query and a key. -/
def score (x y : Fin 64 → EReal) : EReal := (∑ d, x d * y d) * Ideal.ofBits .f32 0x3E000000#32

/-- A score's share of the exponentials. -/
def share (s : Fin 256 → EReal) (j : Fin 256) : EReal := Ideal.div (Ideal.exp (s j - top s)) (∑ i, Ideal.exp (s i - top s))

theorem share_of {s : Fin 256 → EReal} {m : EReal} (h : m = top s) (j : Fin 256) : Ideal.div (Ideal.exp (s j - m)) (∑ i, Ideal.exp (s i - m)) = share s j := by
  subst h
  rfl

/-- The factor of the second half's weights. -/
def factor (p : Fin 4 → Fin 64 → EReal) : EReal :=
  Ideal.exp (∑ d, p 0 d * p 1 d) - Ideal.exp (∑ d, p 2 d * p 3 d) + Ideal.ofBits .f32 0x3E4CCCCD#32

theorem factor_real {p : Fin 4 → Fin 64 → EReal} (h : ∀ i d, IsReal (p i d)) : IsReal (factor p) :=
  (((IsReal.sum fun d => (h 0 d).mul (h 1 d)).exp).sub ((IsReal.sum fun d => (h 2 d).mul (h 3 d)).exp)).add least_real

/-- The values weighed by the difference of the two softmaxes. -/
def mix (s s' : Fin 256 → EReal) (l : EReal) (v : Fin 256 → EReal) : EReal := ∑ j, v j * (share s j - l * share s' j)

/-- The norm of a head's row, with its gain and the fixed factor. -/
def normed (o g : Fin 128 → EReal) (e : Fin 128) : EReal :=
  o e * Ideal.rsqrt (Ideal.div (∑ l, o l * o l) (Ideal.ofBits .f32 0x43000000#32) + Ideal.ofBits .f32 0x358637BD#32) * g e
    * Ideal.ofBits .f32 0x3F4CCCCD#32

/-- A head's row: the queries of its two halves, their keys, the values, the learned vectors and the gain. -/
def headRow (q : Fin 2 → Fin 64 → EReal) (k : Fin 2 → Fin 256 → Fin 64 → EReal) (v : Fin 256 → Fin 128 → EReal) (p : Fin 4 → Fin 64 → EReal)
    (g : Fin 128 → EReal) : Fin 128 → EReal :=
  normed (fun e => mix (fun s => score (q 0) (k 0 s)) (fun s => score (q 1) (k 1 s)) (factor p) (fun s => v s e)) g

/-- The exponentials of a row of scores without its largest one: nought where that one is infinite, and else real numbers of a positive sum. -/
def Exps (x : Fin 256 → EReal) : Prop := (∀ j, x j = 0) ∨ ∃ r : Fin 256 → ℝ, (∀ j, x j = r j) ∧ 0 < ∑ i, r i

theorem exps_of {s : Fin 256 → EReal} {m : EReal} (h : Largest s m) : Exps fun j => Ideal.exp (s j - m) := by
  induction m using EReal.rec with
  | bot => exact .inl fun j => by simp only [le_bot_iff.1 (h.1 j), EReal.bot_sub]; rfl
  | top => exact .inl fun j => by simp only [EReal.sub_top]; rfl
  | coe a =>
    right
    have each : ∀ j, ∃ r : ℝ, 0 ≤ r ∧ Ideal.exp (s j - a) = r ∧ (s j = a → 0 < r) := by
      intro j
      have le := h.1 j
      generalize s j = x at le
      induction x using EReal.rec with
      | bot => exact ⟨0, le_rfl, by rw [EReal.bot_sub]; rfl, fun e => absurd e (by simp)⟩
      | top => exact absurd le (by simp)
      | coe b => exact ⟨Real.exp (b - a), (Real.exp_pos _).le, by rw [← EReal.coe_sub, Ideal.exp_coe], fun _ => Real.exp_pos _⟩
    choose r nonneg val pos using each
    obtain ⟨i, e⟩ := h.2
    exact ⟨r, val, Finset.sum_pos' (fun j _ => nonneg j) ⟨i, Finset.mem_univ _, pos i e⟩⟩

theorem div_zero_zero : Ideal.div 0 0 = (⊥ : EReal) := by simp [Ideal.div]

/-- The exponentials' shares: all junk, or real weights, by which the division after a sum is the division before it. -/
theorem Exps.shares {x : Fin 256 → EReal} (h : Exps x) :
    ((∀ j, Ideal.div (x j) (∑ i, x i) = ⊥) ∧ ∀ v : Fin 256 → EReal, Ideal.div (∑ j, v j * x j) (∑ i, x i) = ⊥)
      ∨ ∃ w : Fin 256 → ℝ, (∀ j, Ideal.div (x j) (∑ i, x i) = w j) ∧ ∀ u : Fin 256 → ℝ, Ideal.div (∑ j, (u j : EReal) * x j) (∑ i, x i) = ((∑ j, u j * w j : ℝ) : EReal) := by
  rcases h with h | ⟨r, h, pos⟩
  · left
    simp only [h, mul_zero, Finset.sum_const_zero, div_zero_zero, implies_true, and_self]
  · right
    refine ⟨fun j => r j * (1 / ∑ i, r i), fun j => ?_, fun u => ?_⟩
    · simp only [h, ← coe_sum]
      rw [Ideal.div_coe pos.ne', ← EReal.coe_mul]
    · simp only [h, ← coe_sum, ← EReal.coe_mul]
      rw [Ideal.div_coe pos.ne', ← EReal.coe_mul]
      refine congrArg _ ?_
      rw [Finset.sum_mul]
      exact Finset.sum_congr rfl fun j _ => by ring

/-- Infinite or nought. -/
def Extreme (x : EReal) : Prop := x = ⊤ ∨ x = ⊥ ∨ x = 0

theorem Extreme.add {x y : EReal} (hx : Extreme x) (hy : Extreme y) : Extreme (x + y) := by
  rcases hx with rfl | rfl | rfl <;> rcases hy with rfl | rfl | rfl <;> simp [Extreme]

theorem Extreme.sum {ι : Type} [Fintype ι] {x : ι → EReal} (h : ∀ i, Extreme (x i)) : Extreme (∑ i, x i) := by
  classical
  have all : ∀ S : Finset ι, Extreme (∑ i ∈ S, x i) := fun S => by
    induction S using Finset.induction with
    | empty => exact .inr (.inr rfl)
    | insert i S hi ih => rw [Finset.sum_insert hi]; exact (h i).add ih
  exact all _

theorem Extreme.real_mul (u : ℝ) {x : EReal} (h : x = ⊤ ∨ x = ⊥) : Extreme ((u : EReal) * x) := by
  rcases lt_trichotomy u 0 with n | rfl | p <;> rcases h with rfl | rfl
  · exact .inr (.inl (EReal.coe_mul_top_of_neg n))
  · exact .inl (EReal.coe_mul_bot_of_neg n)
  · exact .inr (.inr (by simp))
  · exact .inr (.inr (by simp))
  · exact .inl (EReal.coe_mul_top_of_pos p)
  · exact .inr (.inl (EReal.coe_mul_bot_of_pos p))

/-- The norm of a row of infinite or nought entries is nought. -/
theorem normed_extreme {o : Fin 128 → EReal} (h : ∀ e, Extreme (o e)) (g : Fin 128 → EReal) (e : Fin 128) : normed o g e = 0 := by
  have inf : o e * o e = ⊤ → normed o g e = 0 := by
    intro sq
    have nonneg : ∀ l, 0 ≤ o l * o l := fun l => by rcases h l with x | x | x <;> rw [x] <;> simp
    have total : ∑ l, o l * o l = ⊤ := top_le_iff.1 (sq ▸ Finset.single_le_sum (f := fun l => o l * o l) (fun l _ => nonneg l) (Finset.mem_univ e))
    have count : Ideal.ofBits .f32 0x43000000#32 = ((128 : ℝ) : EReal) := by
      simp [Ideal.ofBits, Ideal.ieee, ← EReal.coe_mul]
      norm_num
    obtain ⟨eps, small⟩ : IsReal (Ideal.ofBits .f32 0x358637BD#32) := by simp [IsReal, Ideal.ofBits, Ideal.ieee, ← EReal.coe_mul]
    have mean : Ideal.div (⊤ : EReal) ((128 : ℝ) : EReal) = ⊤ := by
      rw [Ideal.div_coe (by norm_num)]
      exact EReal.top_mul_coe_of_pos (by norm_num)
    have root : Ideal.rsqrt (⊤ : EReal) = 0 := rfl
    unfold normed
    rw [total, count, mean, small, EReal.top_add_coe, root, mul_zero, zero_mul, zero_mul]
  rcases h e with x | x | x
  · exact inf (by rw [x]; simp)
  · exact inf (by rw [x]; simp)
  · unfold normed; rw [x]; simp only [zero_mul]

/-- The difference of the two halves' quotients and the sum under the difference of their shares have the same norm: they are equal, or infinite and nought. -/
theorem normed_eq {s s' : Fin 256 → EReal} {m m' : EReal} (hm : Largest s m) (hm' : Largest s' m') {l : EReal} (hl : IsReal l) {v : Fin 256 → Fin 128 → EReal}
    (hv : ∀ j e, IsReal (v j e)) (g : Fin 128 → EReal) (e : Fin 128) :
    normed (fun e => Ideal.div (∑ j, v j e * Ideal.exp (s j - m)) (∑ i, Ideal.exp (s i - m)) - l * Ideal.div (∑ j, v j e * Ideal.exp (s' j - m')) (∑ i, Ideal.exp (s' i - m'))) g e
      = normed (fun e => mix s s' l (fun j => v j e)) g e := by
  obtain rfl := hm.unique (top_largest s)
  obtain rfl := hm'.unique (top_largest s')
  obtain ⟨u, hu⟩ : ∃ u : Fin 256 → Fin 128 → ℝ, ∀ j e, v j e = u j e := ⟨fun j e => (hv j e).choose, fun j e => (hv j e).choose_spec⟩
  obtain ⟨a, rfl⟩ := hl
  unfold mix share
  simp only [hu]
  rcases (exps_of (top_largest s)).shares with ⟨d, q⟩ | ⟨w, d, q⟩
  · rw [normed_extreme, normed_extreme]
    · exact fun e => Extreme.sum fun j => by rw [d, EReal.bot_sub]; exact Extreme.real_mul _ (.inr rfl)
    · exact fun e => .inr (.inl (by rw [q fun j => (u j e : EReal), EReal.bot_sub]))
  · rcases (exps_of (top_largest s')).shares with ⟨d', q'⟩ | ⟨w', d', q'⟩
    · rcases lt_trichotomy a 0 with n | rfl | p
      · rw [normed_extreme, normed_extreme]
        · exact fun e => Extreme.sum fun j => by
            rw [d', EReal.coe_mul_bot_of_neg n, EReal.sub_top]; exact Extreme.real_mul _ (.inr rfl)
        · exact fun e => .inr (.inl (by rw [q' fun j => (u j e : EReal), EReal.coe_mul_bot_of_neg n, EReal.sub_top]))
      · refine congrArg (fun o => normed o g e) (funext fun e => ?_)
        simp only [d, q fun j => u j e, EReal.coe_zero, zero_mul, sub_zero, ← EReal.coe_mul, ← coe_sum]
      · rw [normed_extreme, normed_extreme]
        · exact fun e => Extreme.sum fun j => by
            rw [d, d', EReal.coe_mul_bot_of_pos p, EReal.coe_sub_bot]; exact Extreme.real_mul _ (.inl rfl)
        · exact fun e => .inl (by rw [q fun j => u j e, q' fun j => (u j e : EReal), EReal.coe_mul_bot_of_pos p, EReal.coe_sub_bot])
    · refine congrArg (fun o => normed o g e) (funext fun e => ?_)
      simp only [d, d', q fun j => u j e, q' fun j => u j e, ← EReal.coe_sub, ← coe_sum, ← EReal.coe_mul]
      refine congrArg _ ?_
      rw [Finset.mul_sum, ← Finset.sum_sub_distrib]
      exact Finset.sum_congr rfl fun j _ => by ring

/-- A product with a real number that is not negative goes into a sum. -/
theorem sum_scale {ι : Type} [Fintype ι] (f : ι → EReal) {r : ℝ} (h : 0 ≤ r) : (∑ i, f i) * (r : EReal) = ∑ i, f i * (r : EReal) := by
  classical
  have all : ∀ S : Finset ι, (∑ i ∈ S, f i) * (r : EReal) = ∑ i ∈ S, f i * (r : EReal) := fun S => by
    induction S using Finset.induction with
    | empty => simp
    | insert i S hi ih =>
      rw [Finset.sum_insert hi, Finset.sum_insert hi, EReal.right_distrib_of_nonneg_of_ne_top (EReal.coe_nonneg.2 h) (EReal.coe_ne_top r), ih]
  exact all _

/-- A sum in nested groups is the sum over the keys. -/
theorem sum_nest (f : Fin 256 → EReal) : (∑ a : Fin 8, ∑ b : Fin 2, ∑ c : Fin 4, ∑ d : Fin 4,
    f ⟨d.val * 64 + (c.val * 16 + (b.val * 8 + a.val)), by omega⟩) = ∑ i, f i := by
  rw [← Equiv.sum_comp nest f]
  simp only [Fintype.sum_prod_type]
  rfl

/-- The products of the first 64 lanes. -/
theorem first_lanes (k q : Fin 128 → EReal) (c : EReal) (hc : ∃ r : ℝ, 0 ≤ r ∧ c = (r : EReal)) :
    (∑ x : Fin 128, Scalar.select (IntOp.cmpi .slt (BitVec.ofNat 32 x.val) 64#32) (k x * (q x * c)) 0)
      = (∑ d : Fin 64, q ⟨d.val, by omega⟩ * k ⟨d.val, by omega⟩) * c := by
  have low : ∀ x : Fin 64, IntOp.cmpi .slt (BitVec.ofNat 32 x.val) 64#32 = 1#1 := by decide
  have high : ∀ x : Fin 64, IntOp.cmpi .slt (BitVec.ofNat 32 (64 + x.val)) 64#32 = 0#1 := by decide
  refine (Fin.sum_univ_add (a := 64) (b := 64) _).trans ?_
  simp only [Fin.val_castAdd, Fin.val_natAdd, low, high]
  obtain ⟨c, pos, rfl⟩ := hc
  simp only [Scalar.select, if_true, if_false, Finset.sum_const_zero, add_zero, BitVec.reduceEq, reduceIte]
  rw [sum_scale _ pos]
  exact Finset.sum_congr rfl fun d _ => by
    have e : (Fin.castAdd 64 d : Fin 128) = ⟨d.val, by omega⟩ := rfl
    rw [e, ← mul_assoc, mul_comm (k _) (q _)]

/-- The products of the last 64 lanes. -/
theorem last_lanes (k q : Fin 128 → EReal) (c : EReal) (hc : ∃ r : ℝ, 0 ≤ r ∧ c = (r : EReal)) :
    (∑ x : Fin 128, Scalar.select (IntOp.cmpi .sge (BitVec.ofNat 32 x.val) 64#32) (k x * (q x * c)) 0)
      = (∑ d : Fin 64, q ⟨64 + d.val, by omega⟩ * k ⟨64 + d.val, by omega⟩) * c := by
  have low : ∀ x : Fin 64, IntOp.cmpi .sge (BitVec.ofNat 32 x.val) 64#32 = 0#1 := by decide
  have high : ∀ x : Fin 64, IntOp.cmpi .sge (BitVec.ofNat 32 (64 + x.val)) 64#32 = 1#1 := by decide
  refine (Fin.sum_univ_add (a := 64) (b := 64) _).trans ?_
  simp only [Fin.val_castAdd, Fin.val_natAdd, low, high]
  obtain ⟨c, pos, rfl⟩ := hc
  simp only [Scalar.select, if_true, if_false, Finset.sum_const_zero, zero_add, BitVec.reduceEq, reduceIte]
  rw [sum_scale _ pos]
  exact Finset.sum_congr rfl fun d _ => by
    have e : (Fin.natAdd 64 d : Fin 128) = ⟨64 + d.val, by omega⟩ := rfl
    rw [e, ← mul_assoc, mul_comm (k _) (q _)]

/-- An array of the tokens' rows. -/
abbrev Rows : Type := (⟨2, ![8192, 1024]⟩ : Shape).Idx → EReal

variable (q k v : Rows) (p : (⟨2, ![4, 64]⟩ : Shape).Idx → EReal) (g : (⟨1, ![128]⟩ : Shape).Idx → EReal)

/-- Column `j` of row `r` of the result: the row attends to the 256 rows of its own sequence, in the head of the column. -/
def attendedAt (r : Fin 8192) (j : Fin 1024) : EReal :=
  headRow (fun z d => q (ix2 r ⟨j.val / 128 * 128 + z.val * 64 + d.val, by omega⟩))
    (fun z s d => k (ix2 ⟨r.val / 256 * 256 + s.val, by omega⟩ ⟨j.val / 128 * 128 + z.val * 64 + d.val, by omega⟩))
    (fun s e => v (ix2 ⟨r.val / 256 * 256 + s.val, by omega⟩ ⟨j.val / 128 * 128 + e.val, by omega⟩))
    (fun i d => p (ix2 i d)) (fun e => g (ix1 e)) ⟨j.val % 128, by omega⟩

/-- The attention's result. -/
def attended : Rows := fun y => attendedAt q k v p g (y 0) (y 1)

end Cert.Attn

end
-- ==== Proof.AttnValue.lean ====
/-
  The attention kernel's result array at the end of a run.
-/
module

public import proofs.«01_k».proof.Proof.AttnHead
public import proofs.«01_k».proof.Proof.Attn

@[expose] public section

set_option maxRecDepth 16384

noncomputable section

namespace Cert.AttentionIdeal.Block

open Cert.AttentionIdeal Cert.AttentionIdeal.Gen
open Cert.Attn (IsReal Largest score scale_real mix normed_eq headRow attended attendedAt shift shift_largest sum_nest first_lanes last_lanes factor_real)
open Idealize.ShloMosaic Idealize.ShloMosaic.TcCoe Idealize.ShloMosaic.Tactic Idealize.SL.Sem
open Idealize.ShloMosaic.Pipeline (Dat)

section Head

variable {q k v : FVec Ideal S256x128 .f32} {p : FVec Ideal S4x64 .f32} {g : FVec Ideal S1x128 .f32}

theorem factor_at : k0_pay20 (F := Ideal) p (ix2 0 0) = Cert.Attn.factor (fun i d => p (ix2 i d)) := by
  pointwise [k0_pay20]
  rfl

/-- The scores of the first half, as the kernel computes them: over all lanes, with the queries' other lanes nought. -/
def firsts (q k : FVec Ideal S256x128 .f32) (s t : Fin 256) : EReal := score (fun d => q (ix2 t ⟨d.val, by omega⟩)) (fun d => k (ix2 s ⟨d.val, by omega⟩))

/-- The scores of the second half. -/
def lasts (q k : FVec Ideal S256x128 .f32) (s t : Fin 256) : EReal := score (fun d => q (ix2 t ⟨64 + d.val, by omega⟩)) (fun d => k (ix2 s ⟨64 + d.val, by omega⟩))

variable (hv : ∀ j, IsReal (v j)) (hp : ∀ j, IsReal (p j))

theorem second_at (s t : Fin 256) : k0_pay26 (F := Ideal) (k0_pay23 q) (k0_pay2 (F := Ideal) k) (ix2 s t) = lasts q k s t := by
  pointwise [k0_pay26, k0_pay23, k0_pay21, k0_pay2]
  exact last_lanes (fun d => k (ix2 s d)) (fun d => q (ix2 t d)) _ scale_real

/-- What the first half's scores are shifted by. -/
theorem first_exps (t : Fin 256) : ∃ m, Largest (fun s => firsts q k s t) m ∧ ∀ s, k0_pay29 (F := Ideal) (k0_pay22 q) (k0_pay2 (F := Ideal) k) (ix2 s t) = Ideal.exp (firsts q k s t - m) := by
  have each : ∀ s, (∑ x : Fin 128, Scalar.select (IntOp.cmpi .slt (BitVec.ofNat 32 x.val) 64#32) (k (ix2 s x) * (q (ix2 t x) * Ideal.ofBits .f32 0x3E000000#32)) 0)
      = firsts q k s t := fun s => first_lanes (fun d => k (ix2 s d)) (fun d => q (ix2 t d)) _ scale_real
  refine ⟨shift fun s => firsts q k s t, shift_largest _, fun s => ?_⟩
  pointwise [k0_pay29, k0_pay22, k0_pay21, k0_pay2]
  simp only [each]
  rfl

/-- What the second half's scores are shifted by. -/
theorem second_exps (t : Fin 256) : ∃ m, Largest (fun s => lasts q k s t) m ∧ ∀ s, k0_pay32 (F := Ideal) (k0_pay26 (F := Ideal) (k0_pay23 q) (k0_pay2 (F := Ideal) k)) (ix2 s t) = Ideal.exp (lasts q k s t - m) := by
  refine ⟨shift fun s => lasts q k s t, shift_largest _, fun s => ?_⟩
  pointwise [k0_pay32]
  simp only [second_at]
  rfl

theorem first_sum (a : FVec Ideal S256x128 .bf16) (b : FVec Ideal S1x256x128 .bf16) (t : Fin 256) :
    k0_pay31 (F := Ideal) (k0_pay30 a b) (ix2 0 t) = ∑ s, k0_pay29 (F := Ideal) a b (ix2 s t) := by
  pointwise [k0_pay31, k0_pay30]
  exact sum_nest fun s => k0_pay29 (F := Ideal) a b (ix2 s t)

theorem second_sum (x : FVec Ideal S256x256 .f32) (t : Fin 256) : k0_pay33 (F := Ideal) x (ix2 0 t) = ∑ s, k0_pay32 (F := Ideal) x (ix2 s t) := by
  pointwise [k0_pay33]
  exact sum_nest fun s => k0_pay32 (F := Ideal) x (ix2 s t)

theorem first_values (x : FVec Ideal S256x256 .f32) (e : Fin 128) (t : Fin 256) :
    k0_pay39 (F := Ideal) x (k0_pay3 (F := Ideal) v) (ix2 e t) = ∑ s, v (ix2 s e) * x (ix2 s t) := by
  pointwise [k0_pay39, k0_pay3]

theorem second_values (x : FVec Ideal S256x256 .f32) (e : Fin 128) (t : Fin 256) :
    k0_pay40 (F := Ideal) x (k0_pay3 (F := Ideal) v) (ix2 e t) = ∑ s, v (ix2 s e) * x (ix2 s t) := by
  pointwise [k0_pay40, k0_pay3]

theorem normed_at (v18 : FVec Ideal S1x1 .f32) (v77 v96 : FVec Ideal S1x256 .f32) (v138 v142 : FVec Ideal S128x256 .f32) (v163 : FVec Ideal S1x128 .f32)
    (t : Fin 256) (e : Fin 128) : k0_pay43 (F := Ideal) v18 v77 v96 v138 v142 v163 (ix2 t e)
      = Cert.Attn.normed (fun e => Ideal.div (v138 (ix2 e t)) (v77 (ix2 0 t)) - v18 (ix2 0 0) * Ideal.div (v142 (ix2 e t)) (v96 (ix2 0 t)))
          (fun e => v163 (ix2 0 e)) e := by
  pointwise [k0_pay43]
  rfl

include hv hp

/-- A head's block is the attention's rows. -/
theorem head_at (t : Fin 256) (e : Fin 128) : head q k v p g (ix2 t e)
    = headRow (fun z d => q (ix2 t ⟨z.val * 64 + d.val, by omega⟩)) (fun z s d => k (ix2 s ⟨z.val * 64 + d.val, by omega⟩)) (fun s e => v (ix2 s e))
        (fun i d => p (ix2 i d)) (fun e => g (ix2 0 e)) e := by
  unfold head
  rw [normed_at]
  obtain ⟨m, hm, each⟩ := first_exps (q := q) (k := k) t
  obtain ⟨m', hm', each'⟩ := second_exps (q := q) (k := k) t
  simp only [first_values, first_sum, second_values, second_sum, each, each', factor_at]
  refine (normed_eq hm hm' (factor_real fun i d => hp _) (v := fun s e => v (ix2 s e)) (fun s e => hv _) _ e).trans ?_
  have f0 : ∀ d : Fin 64, (⟨(0 : Fin 2).val * 64 + d.val, by have := d.isLt; show 0 * 64 + d.val < 128; omega⟩ : Fin 128) = ⟨d.val, by omega⟩ :=
    fun d => Fin.ext (by show 0 * 64 + d.val = d.val; omega)
  have f1 : ∀ d : Fin 64, (⟨(1 : Fin 2).val * 64 + d.val, by have := d.isLt; show 1 * 64 + d.val < 128; omega⟩ : Fin 128) = ⟨64 + d.val, by omega⟩ :=
    fun d => Fin.ext (by show 1 * 64 + d.val = 64 + d.val; omega)
  unfold headRow firsts lasts
  simp only [f0, f1]

end Head

variable (x0 x1 x2 : Vec Ideal S256x1024 .f32) (x3 : Vec Ideal S4x64 .f32) (x4 : Vec Ideal S1x128 .f32)

/-- Column `j` of row `r` of a block of the attention's result. -/
def resultRow (r : Fin 256) (j : Fin 1024) : EReal :=
  headRow (fun z d => x0 (ix2 r ⟨j.val / 128 * 128 + z.val * 64 + d.val, by omega⟩))
    (fun z s d => x1 (ix2 s ⟨j.val / 128 * 128 + z.val * 64 + d.val, by omega⟩)) (fun s e => x2 (ix2 s ⟨j.val / 128 * 128 + e.val, by omega⟩))
    (fun i d => x3 (ix2 i d)) (fun e => x4 (ix2 0 e)) ⟨j.val % 128, by omega⟩

/-- The eight heads are the whole block. -/
theorem heads_cover (y : S256x1024.Idx) : ∃ pc ∈ heads x0 x1 x2 x3 x4, y ∈ pc.1.set :=
  View.cover_of_tiledL (heads x0 x1 x2 x3 x4) S256x128.size (by sl_kernel_rfl) y

/-- A read of a head's columns. -/
theorem ld_lanes (X : Vec Ideal S256x1024 .f32) (o : ℕ) (inb : ∀ a, (![0, o] : Fin 2 → ℕ) a + S256x128.size a ≤ S256x1024.size a) (h : o + 128 ≤ 1024)
    (r : Fin 256) (l : Fin 128) : View.ld X (lanes o inb) (ix2 r l) = X (ix2 r ⟨o + l.val, by omega⟩) :=
  View.ld_unit_apply_of X _ _ _ _ _ fun a => by match a with | 0 => exact (Nat.zero_add _).symm | 1 => rfl

variable {x0 x1 x2 x3 x4}

/-- A head's block is its columns of the result. -/
theorem headOf_at (h2 : ∀ j, IsReal (x2 j)) (h3 : ∀ j, IsReal (x3 j)) (n o : ℕ) (hn : n < 8) (ho : o = n * 128)
    (inb : ∀ a, (![0, o] : Fin 2 → ℕ) a + S256x128.size a ≤ S256x1024.size a) (y : S256x128.Idx) :
    headOf x0 x1 x2 x3 x4 o inb y = resultRow x0 x1 x2 x3 x4 ((lanes o inb).emb y 0) ((lanes o inb).emb y 1) := by
  obtain ⟨r, e, rfl⟩ : ∃ r e, y = ix2 r e := ⟨y 0, y 1, by funext a; match a with | 0 => rfl | 1 => rfl⟩
  have row : (lanes o inb).emb (ix2 r e) 0 = r := Fin.ext ((Rect.idx_unit_val (s := S256x1024) ![0, o] S256x128.size inb (ix2 r e) 0).trans (Nat.zero_add r.val))
  have col : (lanes o inb).emb (ix2 r e) 1 = (⟨o + e.val, by omega⟩ : Fin 1024) := Fin.ext (Rect.idx_unit_val (s := S256x1024) ![0, o] S256x128.size inb (ix2 r e) 1)
  have div : (o + e.val) / 128 * 128 = o := by omega
  have mod : (⟨(o + e.val) % 128, by omega⟩ : Fin 128) = e := Fin.ext (by simp only; omega)
  rw [row, col]
  unfold resultRow
  refine (head_at (q := View.ld x0 (lanes o inb)) (k := View.ld x1 (lanes o inb)) (v := View.ld x2 (lanes o inb)) (fun j => h2 _) h3 r e).trans ?_
  have e0 : (fun (z : Fin 2) (d : Fin 64) => View.ld x0 (lanes o inb) (ix2 r ⟨z.val * 64 + d.val, by omega⟩)) = fun z d => x0 (ix2 r ⟨o + (z.val * 64 + d.val), by omega⟩) :=
    funext fun z => funext fun d => ld_lanes x0 o inb (by omega) r _
  have e1 : (fun (z : Fin 2) (s : Fin 256) (d : Fin 64) => View.ld x1 (lanes o inb) (ix2 s ⟨z.val * 64 + d.val, by omega⟩)) = fun z s d => x1 (ix2 s ⟨o + (z.val * 64 + d.val), by omega⟩) :=
    funext fun z => funext fun s => funext fun d => ld_lanes x1 o inb (by omega) s _
  have e2 : (fun (s : Fin 256) (l : Fin 128) => View.ld x2 (lanes o inb) (ix2 s l)) = fun s l => x2 (ix2 s ⟨o + l.val, by omega⟩) :=
    funext fun s => funext fun l => ld_lanes x2 o inb (by omega) s l
  simp only [div, mod, Nat.add_assoc]
  exact congr (congr (congr (congrArg headRow e0) e1) e2 |> fun h => congrArg (fun f => f (fun i d => x3 (ix2 i d)) (fun e => x4 (ix2 0 e))) h) rfl

variable (m : (ℓ : Loc nD τ sig) → Buf (Elt Ideal) ℓ)

/-- Where each point's blocks lie. -/
theorem idx : ∀ t : Fin cfg0.N, t.val < 32 ∧ win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

variable (c : Dev nD)

/-- An argument array. -/
abbrev arg0 : FVec Ideal S8192x1024 .f32 := m ((c : Thread nD τ).loc main_arg0)
abbrev arg1 : FVec Ideal S8192x1024 .f32 := m ((c : Thread nD τ).loc main_arg1)
abbrev arg2 : FVec Ideal S8192x1024 .f32 := m ((c : Thread nD τ).loc main_arg2)
abbrev arg3 : FVec Ideal S4x64 .f32 := m ((c : Thread nD τ).loc main_arg3)
abbrev arg4 : FVec Ideal S128 .f32 := m ((c : Thread nD τ).loc main_arg4)

variable (t : Fin cfg0.N)

theorem lt_32 : t.val < 32 := (idx t).1

theorem blk0 (r : Fin 256) (l : Fin 1024) : (iblk m c 0 t : Vec Ideal S256x1024 .f32) (ix2 r l) = arg0 m c (ix2 ⟨256 * t.val + r.val, by have := lt_32 t; omega⟩ l) := by
  blk_ext [iblk, V, idx t]
theorem blk1 (r : Fin 256) (l : Fin 1024) : (iblk m c 1 t : Vec Ideal S256x1024 .f32) (ix2 r l) = arg1 m c (ix2 ⟨256 * t.val + r.val, by have := lt_32 t; omega⟩ l) := by
  blk_ext [iblk, V, idx t]
theorem blk2 (r : Fin 256) (l : Fin 1024) : (iblk m c 2 t : Vec Ideal S256x1024 .f32) (ix2 r l) = arg2 m c (ix2 ⟨256 * t.val + r.val, by have := lt_32 t; omega⟩ l) := by
  blk_ext [iblk, V, idx t]
theorem blk3 (i : Fin 4) (l : Fin 64) : (iblk m c 3 t : Vec Ideal S4x64 .f32) (ix2 i l) = arg3 m c (ix2 i l) := by
  blk_point [iblk, V, idx t]
theorem blk4 (l : Fin 128) : (iblk m c 4 t : Vec Ideal S1x128 .f32) (ix2 0 l) = arg4 m c (ix1 l) := by
  blk_point [iblk, V, idx t]

/-- The values and the vectors of the factor are real numbers. -/
structure Ok : Prop where
  h2 : ∀ j, IsReal (arg2 m c j)
  h3 : ∀ j, IsReal (arg3 m c j)

variable {m c} (ok : Ok m c)
include ok

/-- What a point leaves in its block. -/
theorem out_at (y : S256x1024.Idx) : outsAt0 m c t y = resultRow (iblk m c 0 t) (iblk m c 1 t) (iblk m c 2 t) (iblk m c 3 t) (iblk m c 4 t) (y 0) (y 1) := by
  have two : ∀ y : S256x1024.Idx, ∃ r l, y = ix2 r l := fun y => ⟨y 0, y 1, by funext a; match a with | 0 => rfl | 1 => rfl⟩
  have h2 : ∀ j, IsReal ((iblk m c 2 t : Vec Ideal S256x1024 .f32) j) := fun j => by obtain ⟨r, l, rfl⟩ := two j; rw [blk2]; exact ok.h2 _
  have h3 : ∀ j, IsReal ((iblk m c 3 t : Vec Ideal S4x64 .f32) j) := fun j => by
    obtain ⟨r, l, rfl⟩ : ∃ r l, j = ix2 r l := ⟨j 0, j 1, by funext a; match a with | 0 => rfl | 1 => rfl⟩
    rw [blk3]; exact ok.h3 _
  rw [out_heads]
  refine View.canon_eq_of_allAt _ y _ (heads_cover _ _ _ _ _ y) fun p hp x hx => ?_
  simp only [heads, List.mem_cons, List.not_mem_nil, or_false] at hp
  rcases hp with rfl | rfl | rfl | rfl | rfl | rfl | rfl | rfl
  · exact (headOf_at h2 h3 7 _ (by omega) rfl _ x).trans (by rw [hx])
  · exact (headOf_at h2 h3 6 _ (by omega) rfl _ x).trans (by rw [hx])
  · exact (headOf_at h2 h3 5 _ (by omega) rfl _ x).trans (by rw [hx])
  · exact (headOf_at h2 h3 4 _ (by omega) rfl _ x).trans (by rw [hx])
  · exact (headOf_at h2 h3 3 _ (by omega) rfl _ x).trans (by rw [hx])
  · exact (headOf_at h2 h3 2 _ (by omega) rfl _ x).trans (by rw [hx])
  · exact (headOf_at h2 h3 1 _ (by omega) rfl _ x).trans (by rw [hx])
  · exact (headOf_at h2 h3 0 _ (by omega) rfl _ x).trans (by rw [hx])

omit ok in
/-- A block's rows are rows of the result. -/
theorem result_at (y : S256x1024.Idx) : resultRow (iblk m c 0 t) (iblk m c 1 t) (iblk m c 2 t) (iblk m c 3 t) (iblk m c 4 t) (y 0) (y 1)
    = attended (arg0 m c) (arg1 m c) (arg2 m c) (arg3 m c) (arg4 m c)
        (ix2 ⟨256 * t.val + (y 0).val, by have := lt_32 t; have : (y 0).val < 256 := (y 0).isLt; omega⟩ (y 1)) := by
  obtain ⟨r, j, rfl⟩ : ∃ r j, y = ix2 r j := ⟨y 0, y 1, by funext a; match a with | 0 => rfl | 1 => rfl⟩
  have base : (256 * t.val + r.val) / 256 * 256 = 256 * t.val := by omega
  have lt := lt_32 t
  show resultRow _ _ _ _ _ r j = attendedAt _ _ _ _ _ ⟨256 * t.val + r.val, by omega⟩ j
  unfold resultRow attendedAt
  simp only [blk0, blk1, blk2, blk3, blk4, base]

/-- The result array at the end. -/
theorem final : (dats m 0 c).arrAt 5 (cfgs 0).N = attended (arg0 m c) (arg1 m c) (arg2 m c) (arg3 m c) (arg4 m c) := by
  refine (dats m 0 c).arrAt_eq_of_covers 5 _ (by decide +kernel) fun t _ y => ?_
  blk_simp
  rw [after0_5]
  refine (out_at t ok y).trans ((result_at t y).trans ?_)
  blk_ext [idx t]

end Cert.AttentionIdeal.Block

end
-- ==== Proof.AttnRef.lean ====
/-
  The reference's differential attention, in named steps.
-/
module

public import proofs.«01_k».proof.Proof.Gen.AttentionRefIdeal.Run
public import proofs.«01_k».proof.Proof.Attn
public import Idealize.ShloMosaic.Lib.KernelVsHost

@[expose] public section

set_option maxRecDepth 16384

noncomputable section

namespace Cert.AttentionRefIdeal.Rows

open Cert.AttentionRefIdeal Cert.AttentionRefIdeal.Gen
open Cert.Attn (Rows top share share_of score mix headRow attended)
open Idealize.ShloMosaic Idealize.ShloMosaic.TcCoe Idealize.SL.Sem

/-- The scores of both halves. -/
def scores (q k : FVec Ideal S8192x1024 .f32) : FVec Ideal S32x8x2x256x256 .f32 :=
  mulf (Host.dotGeneral dot_S32x256x8x2x64_S32x256x8x2x64_S32x8x2x256x256_4_4_1_1_023_023 none (shapeCast _ q shapeCasts_S8192x1024_S32x256x8x2x64) (shapeCast _ k shapeCasts_S8192x1024_S32x256x8x2x64)) (broadcastInDim S32x8x2x256x256 ![] bcast_S_S32x8x2x256x256 (constant S_ .f32 0x3E000000#32))

/-- The largest score of each row. -/
def tops (s : FVec Ideal S32x8x2x256x256 .f32) : FVec Ideal S32x8x2x256 .f32 :=
  Host.reduce FloatOps.maximumf s (constant S_ .f32 0xFF800000#32) reducesTo_S32x8x2x256x256_S32x8x2x256_d4 h_S_

/-- Values that are no less than minus infinity. -/
def capped (t : FVec Ideal S32x8x2x256 .f32) : FVec Ideal S32x8x2x256 .f32 :=
  maximumf (broadcastInDim S32x8x2x256 ![] bcast_S_S32x8x2x256 (constant S_ .f32 0xFF800000#32)) t

/-- The exponentials of scores, after a value of the row is subtracted. -/
def exps (s : FVec Ideal S32x8x2x256x256 .f32) (t : FVec Ideal S32x8x2x256 .f32) : FVec Ideal S32x8x2x256x256 .f32 :=
  Host.exp (subf s (broadcastInDim S32x8x2x256x256 ![0, 1, 2, 3, 4] bcast_S32x8x2x256x1_S32x8x2x256x256_0_1_2_3_4 (broadcastInDim S32x8x2x256x1 ![0, 1, 2, 3] bcast_S32x8x2x256_S32x8x2x256x1_0_1_2_3 t)))

/-- Exponentials over their row's sum. -/
def shares (e : FVec Ideal S32x8x2x256x256 .f32) : FVec Ideal S32x8x2x256x256 .f32 :=
  Host.divf e (broadcastInDim S32x8x2x256x256 ![0, 1, 2, 3, 4] bcast_S32x8x2x256x1_S32x8x2x256x256_0_1_2_3_4 (broadcastInDim S32x8x2x256x1 ![0, 1, 2, 3] bcast_S32x8x2x256_S32x8x2x256x1_0_1_2_3 (Host.reduceAdd e (constant S_ .f32 0x00000000#32) reducesTo_S32x8x2x256x256_S32x8x2x256_d4 h_S_)))

/-- The factor of the second half. -/
def factor (p : FVec Ideal S4x64 .f32) : FVec Ideal S_ .f32 :=
  addf (subf (Host.exp (Host.reduceAdd (mulf (shapeCast _ (extractStridedSlice S1x64 ![0, 0] p slices_S4x64_S1x64_0_0) shapeCasts_S1x64_S64) (shapeCast _ (extractStridedSlice S1x64 ![1, 0] p slices_S4x64_S1x64_1_0) shapeCasts_S1x64_S64)) (constant S_ .f32 0x00000000#32) reducesTo_S64_S_d0 h_S_)) (Host.exp (Host.reduceAdd (mulf (shapeCast _ (extractStridedSlice S1x64 ![2, 0] p slices_S4x64_S1x64_2_0) shapeCasts_S1x64_S64) (shapeCast _ (extractStridedSlice S1x64 ![3, 0] p slices_S4x64_S1x64_3_0) shapeCasts_S1x64_S64)) (constant S_ .f32 0x00000000#32) reducesTo_S64_S_d0 h_S_))) (constant S_ .f32 0x3E4CCCCD#32)

/-- The values, weighed by the difference of the halves. -/
def weighed (v : FVec Ideal S8192x1024 .f32) (w : FVec Ideal S32x8x2x256x256 .f32) (l : FVec Ideal S_ .f32) : FVec Ideal S32x256x8x128 .f32 :=
  transpose S32x256x8x128 [0, 3, 1, 2] (Host.dotGeneral dot_S32x256x8x128_S32x8x256x256_S32x8x128x256_1_3_3_2_02_01 none (shapeCast _ v shapeCasts_S8192x1024_S32x256x8x128) (subf (shapeCast _ (extractStridedSlice S32x8x1x256x256 ![0, 0, 0, 0, 0] w slices_S32x8x2x256x256_S32x8x1x256x256_0_0_0_0_0) shapeCasts_S32x8x1x256x256_S32x8x256x256) (mulf (broadcastInDim S32x8x256x256 ![] bcast_S_S32x8x256x256 l) (shapeCast _ (extractStridedSlice S32x8x1x256x256 ![0, 0, 1, 0, 0] w slices_S32x8x2x256x256_S32x8x1x256x256_0_0_1_0_0) shapeCasts_S32x8x1x256x256_S32x8x256x256)))) transposes_S32x8x128x256_S32x256x8x128_0_3_1_2

/-- The norm of each head, with its gain and the fixed factor. -/
def normed (g : FVec Ideal S128 .f32) (o : FVec Ideal S32x256x8x128 .f32) : FVec Ideal S8192x1024 .bf16 :=
  truncf .bf16 (shapeCast _ (mulf (mulf (mulf o (broadcastInDim S32x256x8x128 ![0, 1, 2, 3] bcast_S32x256x8x1_S32x256x8x128_0_1_2_3 (Host.rsqrt (addf (Host.divf (broadcastInDim S32x256x8x1 ![0, 1, 2] bcast_S32x256x8_S32x256x8x1_0_1_2 (Host.reduceAdd (mulf o o) (constant S_ .f32 0x00000000#32) reducesTo_S32x256x8x128_S32x256x8_d3 h_S_)) (broadcastInDim S32x256x8x1 ![] bcast_S_S32x256x8x1 (constant S_ .f32 0x43000000#32))) (broadcastInDim S32x256x8x1 ![] bcast_S_S32x256x8x1 (constant S_ .f32 0x358637BD#32)))))) (broadcastInDim S32x256x8x128 ![0, 1, 2, 3] bcast_S1x1x1x128_S32x256x8x128_0_1_2_3 (broadcastInDim S1x1x1x128 ![3] bcast_S128_S1x1x1x128_3 g))) (broadcastInDim S32x256x8x128 ![] bcast_S_S32x256x8x128 (constant S_ .f32 0x3F4CCCCD#32))) shapeCasts_S32x256x8x128_S8192x1024) bitsLt_bf16_f32

/-- The reference's result in these steps. -/
theorem res_eq (m : (ℓ : Loc nD τ sig) → Buf (Elt Ideal) ℓ) (c : Dev nD) : Value.res_out0 m c
    = normed (m ((c.tc : Thread nD τ).loc main_arg4))
        (weighed (m ((c.tc : Thread nD τ).loc main_arg2))
          (shares (exps (scores (m ((c.tc : Thread nD τ).loc main_arg0)) (m ((c.tc : Thread nD τ).loc main_arg1)))
            (capped (tops (scores (m ((c.tc : Thread nD τ).loc main_arg0)) (m ((c.tc : Thread nD τ).loc main_arg1)))))))
          (factor (m ((c.tc : Thread nD τ).loc main_arg3)))) := by
  unfold Value.res_out0 Value.res_main_v58
  rfl

variable (q k v : FVec Ideal S8192x1024 .f32) (p : FVec Ideal S4x64 .f32) (g : FVec Ideal S128 .f32)

theorem scores_at (b : Fin 32) (h : Fin 8) (z : Fin 2) (t s : Fin 256) : scores q k (ix5 b h z t s)
    = score (fun d => q (ix2 ⟨b.val * 256 + t.val, by omega⟩ ⟨h.val * 128 + z.val * 64 + d.val, by omega⟩))
        (fun d => k (ix2 ⟨b.val * 256 + s.val, by omega⟩ ⟨h.val * 128 + z.val * 64 + d.val, by omega⟩)) := by
  pointwise [scores]
  rfl

/-- The top of a row is its largest score. -/
theorem tops_at (x : FVec Ideal S32x8x2x256x256 .f32) (b : Fin 32) (h : Fin 8) (z : Fin 2) (t : Fin 256) : tops x (ix4 b h z t) = top fun s => x (ix5 b h z t s) := by
  unfold tops
  have red : S32x8x2x256x256.Reduces [4] S32x8x2x256 := by decide
  have e := congrFun (hostReduce_maximumf_eq_multiReduction x 0xFF800000#32 reducesTo_S32x8x2x256x256_S32x8x2x256_d4 h_S_ red (.inl rfl) rfl) (ix4 b h z t)
  have e' := Ideal.multiReduction_maximumf_single (a := (4 : Fin S32x8x2x256x256.rank)) x 0xFF800000#32 red (.inl rfl) rfl (ix4 b h z t)
  refine (e.trans e').trans ?_
  have lift : x ∘ red.lift (ix4 b h z t) = fun s : Fin 256 => x (ix5 b h z t s) := funext fun s => congrArg x (by
    funext a; match a with | 0 => rfl | 1 => rfl | 2 => rfl | 3 => rfl | 4 => rfl)
  exact congrArg (fun f => Finset.univ.fold max (Ideal.ofBits .f32 0xFF800000#32) f) lift

theorem capped_at (t : FVec Ideal S32x8x2x256 .f32) (j : S32x8x2x256.Idx) : capped t j = max (Ideal.ofBits .f32 0xFF800000#32) (t j) := rfl

theorem exps_at (x : FVec Ideal S32x8x2x256x256 .f32) (c : FVec Ideal S32x8x2x256 .f32) (b : Fin 32) (h : Fin 8) (z : Fin 2) (t s : Fin 256) :
    exps x c (ix5 b h z t s) = Ideal.exp (x (ix5 b h z t s) - c (ix4 b h z t)) := by
  pointwise [exps]
theorem shares_at (x : FVec Ideal S32x8x2x256x256 .f32) (b : Fin 32) (h : Fin 8) (z : Fin 2) (t s : Fin 256) :
    shares x (ix5 b h z t s) = Ideal.div (x (ix5 b h z t s)) (∑ i, x (ix5 b h z t i)) := by
  pointwise [shares]

theorem capped_tops_at (x : FVec Ideal S32x8x2x256x256 .f32) (b : Fin 32) (h : Fin 8) (z : Fin 2) (t : Fin 256) :
    capped (tops x) (ix4 b h z t) = top fun s => x (ix5 b h z t s) := by
  have low : Ideal.ofBits .f32 0xFF800000#32 = (⊥ : EReal) := by simp [Ideal.ofBits, Ideal.ieee]
  rw [capped_at, low, max_eq_right bot_le]
  exact tops_at x b h z t

/-- The shares of the scores. -/
theorem softmax_at (x : FVec Ideal S32x8x2x256x256 .f32) (b : Fin 32) (h : Fin 8) (z : Fin 2) (t s : Fin 256) :
    shares (exps x (capped (tops x))) (ix5 b h z t s) = share (fun s => x (ix5 b h z t s)) s := by
  rw [shares_at]
  simp only [exps_at]
  exact share_of (s := fun s => x (ix5 b h z t s)) (capped_tops_at x b h z t) s

theorem factor_at (j : S_.Idx) : factor p j = Cert.Attn.factor (fun i d => p (ix2 i d)) := by
  pointwise [factor]
  rfl

theorem weighed_at (w : FVec Ideal S32x8x2x256x256 .f32) (l : FVec Ideal S_ .f32) {f : EReal} (hl : ∀ j, l j = f) (b : Fin 32) (h : Fin 8) (t : Fin 256)
    (e : Fin 128) : weighed v w l (ix4 b t h e)
      = ∑ s : Fin 256, v (ix2 ⟨b.val * 256 + s.val, by omega⟩ ⟨h.val * 128 + e.val, by omega⟩) * (w (ix5 b h 0 t s) - f * w (ix5 b h 1 t s)) := by
  pointwise [weighed, hl]

theorem normed_at (o : FVec Ideal S32x256x8x128 .f32) (r : Fin 8192) (j : Fin 1024) : normed g o (ix2 r j)
    = Cert.Attn.normed (fun e => o (ix4 ⟨r.val / 256, by omega⟩ ⟨r.val % 256, by omega⟩ ⟨j.val / 128, by omega⟩ e)) (fun e => g (ix1 e)) ⟨j.val % 128, by omega⟩ := by
  pointwise [normed]
  rfl

/-- The reference's steps give the attention's result. -/
theorem steps_eq : normed g (weighed v (shares (exps (scores q k) (capped (tops (scores q k))))) (factor p)) = attended q k v p g := by
  funext y
  obtain ⟨r, j, rfl⟩ : ∃ r j, y = ix2 r j := ⟨y 0, y 1, by funext a; match a with | 0 => rfl | 1 => rfl⟩
  rw [normed_at]
  simp only [weighed_at v _ _ (factor_at p), softmax_at, scores_at]
  have row : (⟨r.val / 256 * 256 + r.val % 256, by omega⟩ : Fin 8192) = r := Fin.ext (by simp only; omega)
  simp only [row]
  rfl

end Cert.AttentionRefIdeal.Rows

end
-- ==== Proof.AttnClaims.lean ====
/-
  The claims of the prompt's differential attention.
-/
module

public import proofs.«01_k».proof.Defs
public import proofs.«01_k».proof.Proof.Gen.Attention
public import proofs.«01_k».proof.Proof.AttnValue
public import proofs.«01_k».proof.Proof.AttnRef
public import Idealize.ShloMosaic.Lib.Quiescent
public import Idealize.ShloMosaic.Lib.Claim

@[expose] public section

noncomputable section

namespace Cert.Proof

open Idealize.ShloMosaic Idealize.SL.Sem

/-- An extended real whose absolute value is below the top is a real number. -/
theorem real_of_below {x : EReal} (h : FloatOps.cmpf (F := Ideal) (φ := .f32) .olt (FloatOps.absf x) (Ideal.ofBits .f32 0x7F800000#32) = 1#1) : x ≠ ⊤ ∧ x ≠ ⊥ := by
  have top : Ideal.ofBits .f32 0x7F800000#32 = (⊤ : EReal) := by simp [Ideal.ofBits, Ideal.ieee]
  have lt : max x (-x) < (⊤ : EReal) := by
    by_contra no
    rw [top, Ideal.cmpf_def, Ideal.absf_def] at h
    simp [Ideal.cmp, no] at h
  constructor <;> rintro rfl <;> simp at lt

/-- The two shape relations of the attention's precondition. -/
theorem attention_pre_facts : Cert.Pre_attention_finite.Facts := ⟨by decide, by decide⟩

/-- A frame of the kernel: its idealization has the same text, and its run is read at words. -/
theorem frame_attention : Cert.quiescent_Attention (hAttention := Cert.Attention.Gen.facts) := fun m ρ _ =>
  Eq.mp (by chain_rfl) (Cert.AttentionIdeal.Gen.frame (F := Bits) m ρ)

/-- The reference's frame: it has no counters. -/
theorem frame_attention_ref : Cert.quiescent_AttentionRefIdeal (hAttentionRefIdeal := Cert.AttentionRefIdeal.Gen.facts) := fun m ρ _ =>
  (θ_run _ _ _).mono (fun r h => ⟨fun c => (h c).2, sem_eq_zero_of_no_sems (by decide) r.2⟩) (Cert.AttentionRefIdeal.Value.run m ρ)

/-- The precondition makes the two arrays real. -/
theorem attention_ok (m : (ℓ : Loc Cert.AttentionIdeal.nD Cert.AttentionIdeal.τ Cert.AttentionIdeal.sig) → Buf (Elt Ideal) ℓ)
    (h : Cert.Pre_AttentionIdeal_attention_finite (hPre_attention_finite := attention_pre_facts) m) (c : Dev Cert.AttentionIdeal.nD) : Cert.AttentionIdeal.Block.Ok m c := by
  obtain ⟨h2, h3⟩ := h c
  exact ⟨fun j => Cert.Attn.isReal_of (real_of_below (congrFun h2 j)), fun j => Cert.Attn.isReal_of (real_of_below (congrFun h3 j))⟩

/-- The kernel's run on real values and real vectors of the factor ends with the attention's rows. -/
theorem attention_values (m : (ℓ : Loc Cert.AttentionIdeal.nD Cert.AttentionIdeal.τ Cert.AttentionIdeal.sig) → Buf (Elt Ideal) ℓ) (g : Dev Cert.AttentionIdeal.nD → PrngReg)
    (ok : ∀ c, Cert.AttentionIdeal.Block.Ok m c) : θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
      r.2.mem ((c.tc : Thread Cert.AttentionIdeal.nD Cert.AttentionIdeal.τ).loc Cert.AttentionIdeal.main_v1) = Cert.Attn.attended (Cert.AttentionIdeal.Block.arg0 m c) (Cert.AttentionIdeal.Block.arg1 m c) (Cert.AttentionIdeal.Block.arg2 m c) (Cert.AttentionIdeal.Block.arg3 m c) (Cert.AttentionIdeal.Block.arg4 m c)) :=
  (θ_run _ _ _).mono (fun r h c => ((h c).1 5).trans (Cert.AttentionIdeal.Block.final (ok c))) (Cert.AttentionIdeal.Gen.run_main m g)

/-- On real values and real vectors of the factor the kernel and the reference end with the same rows. -/
theorem values_attention : Cert.algebraic_AttentionIdeal_AttentionRefIdeal_pre_attention_finite (hAttentionIdeal := Cert.AttentionIdeal.Gen.facts)
    (hAttentionRefIdeal := Cert.AttentionRefIdeal.Gen.facts) (hPre_attention_finite := attention_pre_facts) := by
  intro m g m' g' hp he
  have ok := attention_ok m hp
  refine ⟨_, (θ_run _ _ _).mono (fun r h c => ⟨h.1 c, h.2.1 c⟩) (θ_run_and (attention_values m g ok) (Cert.AttentionIdeal.Gen.frame m g)),
    (θ_run _ _ _).mono (fun r h c => ?_) (Cert.AttentionRefIdeal.Value.run m' g')⟩
  obtain ⟨e0, e1, e2, e3, e4⟩ := he c
  refine ⟨(h c).1.trans ((Cert.AttentionRefIdeal.Rows.res_eq m' c).trans ?_), (h c).2⟩
  rw [e0, e1, e2, e3, e4]
  exact Cert.AttentionRefIdeal.Rows.steps_eq _ _ _ _ _

end Cert.Proof

end
-- ==== Proof.RefOps.lean ====
module

public import proofs.«01_k».proof.Proof.Gen.ReferenceIdeal
public import Idealize.ShloMosaic.Lib.Pipeline.RegionsLoop
public import Idealize.ShloMosaic.Lib.Pipeline.RegionsOwned
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 16384

noncomputable section

/-! The reference's operations as lists: before its first loop, between its two loops and after the second; and each loop's
condition and body. A called function's operations stand in its call's place. -/

namespace Cert.ReferenceIdeal.Scan

open Idealize.ShloMosaic Idealize.ShloMosaic.TcCoe Idealize.SL.Sem
open Cert.ReferenceIdeal Cert.ReferenceIdeal.Gen

variable {F : FTy → Type} [FloatOps F]

/-- @main up to its first loop. -/
abbrev preOps : List (HloOp τ sig (Elt F)) :=
  [ StableHlo.reshape main_arg0 main_v0 (rfl : (.f32 : EltTy) = .f32) shapeCasts_S8192x1024_S32x256x8x128,
    StableHlo.reshape main_arg1 main_v1 (rfl : (.f32 : EltTy) = .f32) shapeCasts_S8192x1024_S32x256x8x128,
    StableHlo.reshape main_arg2 main_v2 (rfl : (.f32 : EltTy) = .f32) shapeCasts_S8192x1024_S32x256x8x128,
    StableHlo.reshape main_arg3 main_v3 (rfl : (.f32 : EltTy) = .f32) shapeCasts_S8192x1024_S32x256x8x128,
    StableHlo.reshape main_arg4 main_v4 (rfl : (.f32 : EltTy) = .f32) shapeCasts_S8192x1024_S32x256x8x128,
    StableHlo.reshape main_arg5 main_v5 (rfl : (.f32 : EltTy) = .f32) shapeCasts_S8192x1024_S32x256x8x128,
    StableHlo.nullary main_cst (constant S_ .f32 0x00000000#32),
    StableHlo.unary main_cst main_v6 (broadcastInDim S32x8x128x128 ![] bcast_S_S32x8x128x128 : (⟨S_, .f32⟩ : BufTy).Contents (Elt F) → (⟨S32x8x128x128, .f32⟩ : BufTy).Contents (Elt F)),
    StableHlo.nullary main_c (constantI S_ 1 1#1),
    StableHlo.unary main_c main_v7 (broadcastInDim S32x32 ![] bcast_S_S32x32 : (⟨S_, .i1⟩ : BufTy).Contents (Elt F) → (⟨S32x32, .i1⟩ : BufTy).Contents (Elt F)),
    StableHlo.nullary main_call0_v0 ((iotaInDim S32x32 32 0) : (⟨S32x32, .i32⟩ : BufTy).Contents (Elt F)),
    StableHlo.nullary main_call0_c ((constantI S_ 32 0#32) : (⟨S_, .i32⟩ : BufTy).Contents (Elt F)),
    StableHlo.unary main_call0_c main_call0_v1 ((broadcastInDim S32x32 ![] bcast_S_S32x32) : (⟨S_, .i32⟩ : BufTy).Contents (Elt F) → (⟨S32x32, .i32⟩ : BufTy).Contents (Elt F)),
    StableHlo.binary main_call0_v0 main_call0_v1 main_call0_v2 (addi : (⟨S32x32, .i32⟩ : BufTy).Contents (Elt F) → (⟨S32x32, .i32⟩ : BufTy).Contents (Elt F) → (⟨S32x32, .i32⟩ : BufTy).Contents (Elt F)),
    StableHlo.nullary main_call0_v3 ((iotaInDim S32x32 32 1) : (⟨S32x32, .i32⟩ : BufTy).Contents (Elt F)),
    StableHlo.binary main_call0_v2 main_call0_v3 main_call0_v4 ((cmpi .sge) : (⟨S32x32, .i32⟩ : BufTy).Contents (Elt F) → (⟨S32x32, .i32⟩ : BufTy).Contents (Elt F) → (⟨S32x32, .i1⟩ : BufTy).Contents (Elt F)),
    StableHlo.nullary main_call0_c_0 ((constantI S_ 1 0#1) : (⟨S_, .i1⟩ : BufTy).Contents (Elt F)),
    StableHlo.unary main_call0_c_0 main_call0_v5 ((broadcastInDim S32x32 ![] bcast_S_S32x32) : (⟨S_, .i1⟩ : BufTy).Contents (Elt F) → (⟨S32x32, .i1⟩ : BufTy).Contents (Elt F)),
    StableHlo.ternary main_call0_v4 main_v7 main_call0_v5 main_v8 (select : (⟨S32x32, .i1⟩ : BufTy).Contents (Elt F) → (⟨S32x32, .i1⟩ : BufTy).Contents (Elt F) → (⟨S32x32, .i1⟩ : BufTy).Contents (Elt F) → (⟨S32x32, .i1⟩ : BufTy).Contents (Elt F)),
    StableHlo.unary main_v8 main_v9 (broadcastInDim S32x32x1x1 ![0, 1] bcast_S32x32_S32x32x1x1_0_1 : (⟨S32x32, .i1⟩ : BufTy).Contents (Elt F) → (⟨S32x32x1x1, .i1⟩ : BufTy).Contents (Elt F)),
    StableHlo.reshape main_v0 main_v10 (rfl : (.f32 : EltTy) = .f32) shapeCasts_S32x256x8x128_S32x8x32x8x128,
    StableHlo.unary main_v10 main_v11 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.reshape main_v2 main_v12 (rfl : (.f32 : EltTy) = .f32) shapeCasts_S32x256x8x128_S32x8x32x8x128,
    StableHlo.unary main_v12 main_v13 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.reshape main_v5 main_v14 (rfl : (.f32 : EltTy) = .f32) shapeCasts_S32x256x8x128_S32x8x32x8x128,
    StableHlo.unary main_v14 main_v15 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.reshape main_v1 main_v16 (rfl : (.f32 : EltTy) = .f32) shapeCasts_S32x256x8x128_S32x8x32x8x128,
    StableHlo.unary main_v16 main_v17 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.nullary main_cst_0 (constant S_ .f32 0x00000000#32),
    StableHlo.unary main_cst_0 main_v18 (broadcastInDim S8x32x32x8x128 ![] bcast_S_S8x32x32x8x128 : (⟨S_, .f32⟩ : BufTy).Contents (Elt F) → (⟨S8x32x32x8x128, .f32⟩ : BufTy).Contents (Elt F)),
    StableHlo.nullary main_c_1 (constantI S_ 32 0#32),
    StableHlo.unary main_v11 main_v19_0 id,
    StableHlo.unary main_v13 main_v19_1 id,
    StableHlo.unary main_v15 main_v19_2 id,
    StableHlo.unary main_v17 main_v19_3 id,
    StableHlo.unary main_v9 main_v19_4 id,
    StableHlo.unary main_c_1 main_v19_5 id,
    StableHlo.unary main_v6 main_v19_6 id,
    StableHlo.unary main_v18 main_v19_7 id ]
/-- What the operations of `preOps` write, in order. -/
abbrev preOpsW : List (Ref sig .tc) :=
  [main_v0, main_v1, main_v2, main_v3, main_v4, main_v5, main_cst, main_v6, main_c, main_v7, main_call0_v0, main_call0_c, main_call0_v1, main_call0_v2, main_call0_v3, main_call0_v4, main_call0_c_0, main_call0_v5, main_v8, main_v9, main_v10, main_v11, main_v12, main_v13, main_v14, main_v15, main_v16, main_v17, main_cst_0, main_v18, main_c_1, main_v19_0, main_v19_1, main_v19_2, main_v19_3, main_v19_4, main_v19_5, main_v19_6, main_v19_7]
theorem preOps_writes : (preOps : List (HloOp τ sig (Elt F))).Forall fun op => op.writes ⊆ (preOpsW.map (Proc.devRef (τ := τ) .tc)).toFinset :=
  StableHlo.forall_writes_sub_of_map rfl
theorem preOps_sub : (preOps : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- @main between its two loops. -/
abbrev midOps : List (HloOp τ sig (Elt F)) :=
  [ StableHlo.unary main_v19_7 main_v20 ((transpose S32x8x32x8x128 [1, 0, 2, 3, 4] · transposes_S8x32x32x8x128_S32x8x32x8x128_1_0_2_3_4) : (⟨S8x32x32x8x128, .f32⟩ : BufTy).Contents (Elt F) → (⟨S32x8x32x8x128, .f32⟩ : BufTy).Contents (Elt F)),
    StableHlo.reshape main_v20 main_v21 (rfl : (.f32 : EltTy) = .f32) shapeCasts_S32x8x32x8x128_S32x256x8x128,
    StableHlo.unary main_v0 main_v22 ((Host.reverse [1]) : (⟨S32x256x8x128, .f32⟩ : BufTy).Contents (Elt F) → (⟨S32x256x8x128, .f32⟩ : BufTy).Contents (Elt F)),
    StableHlo.unary main_v4 main_v23 ((Host.reverse [1]) : (⟨S32x256x8x128, .f32⟩ : BufTy).Contents (Elt F) → (⟨S32x256x8x128, .f32⟩ : BufTy).Contents (Elt F)),
    StableHlo.unary main_v5 main_v24 ((Host.reverse [1]) : (⟨S32x256x8x128, .f32⟩ : BufTy).Contents (Elt F) → (⟨S32x256x8x128, .f32⟩ : BufTy).Contents (Elt F)),
    StableHlo.unary main_v3 main_v25 ((Host.reverse [1]) : (⟨S32x256x8x128, .f32⟩ : BufTy).Contents (Elt F) → (⟨S32x256x8x128, .f32⟩ : BufTy).Contents (Elt F)),
    StableHlo.nullary main_c_2 (constantI S_ 1 1#1),
    StableHlo.unary main_c_2 main_v26 (broadcastInDim S32x32 ![] bcast_S_S32x32 : (⟨S_, .i1⟩ : BufTy).Contents (Elt F) → (⟨S32x32, .i1⟩ : BufTy).Contents (Elt F)),
    StableHlo.nullary main_call12_v0 ((iotaInDim S32x32 32 0) : (⟨S32x32, .i32⟩ : BufTy).Contents (Elt F)),
    StableHlo.nullary main_call12_c ((constantI S_ 32 0#32) : (⟨S_, .i32⟩ : BufTy).Contents (Elt F)),
    StableHlo.unary main_call12_c main_call12_v1 ((broadcastInDim S32x32 ![] bcast_S_S32x32) : (⟨S_, .i32⟩ : BufTy).Contents (Elt F) → (⟨S32x32, .i32⟩ : BufTy).Contents (Elt F)),
    StableHlo.binary main_call12_v0 main_call12_v1 main_call12_v2 (addi : (⟨S32x32, .i32⟩ : BufTy).Contents (Elt F) → (⟨S32x32, .i32⟩ : BufTy).Contents (Elt F) → (⟨S32x32, .i32⟩ : BufTy).Contents (Elt F)),
    StableHlo.nullary main_call12_v3 ((iotaInDim S32x32 32 1) : (⟨S32x32, .i32⟩ : BufTy).Contents (Elt F)),
    StableHlo.binary main_call12_v2 main_call12_v3 main_call12_v4 ((cmpi .sge) : (⟨S32x32, .i32⟩ : BufTy).Contents (Elt F) → (⟨S32x32, .i32⟩ : BufTy).Contents (Elt F) → (⟨S32x32, .i1⟩ : BufTy).Contents (Elt F)),
    StableHlo.nullary main_call12_c_0 ((constantI S_ 1 0#1) : (⟨S_, .i1⟩ : BufTy).Contents (Elt F)),
    StableHlo.unary main_call12_c_0 main_call12_v5 ((broadcastInDim S32x32 ![] bcast_S_S32x32) : (⟨S_, .i1⟩ : BufTy).Contents (Elt F) → (⟨S32x32, .i1⟩ : BufTy).Contents (Elt F)),
    StableHlo.ternary main_call12_v4 main_v26 main_call12_v5 main_v27 (select : (⟨S32x32, .i1⟩ : BufTy).Contents (Elt F) → (⟨S32x32, .i1⟩ : BufTy).Contents (Elt F) → (⟨S32x32, .i1⟩ : BufTy).Contents (Elt F) → (⟨S32x32, .i1⟩ : BufTy).Contents (Elt F)),
    StableHlo.unary main_v27 main_v28 (broadcastInDim S32x32x1x1 ![0, 1] bcast_S32x32_S32x32x1x1_0_1 : (⟨S32x32, .i1⟩ : BufTy).Contents (Elt F) → (⟨S32x32x1x1, .i1⟩ : BufTy).Contents (Elt F)),
    StableHlo.reshape main_v22 main_v29 (rfl : (.f32 : EltTy) = .f32) shapeCasts_S32x256x8x128_S32x8x32x8x128,
    StableHlo.unary main_v29 main_v30 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.reshape main_v23 main_v31 (rfl : (.f32 : EltTy) = .f32) shapeCasts_S32x256x8x128_S32x8x32x8x128,
    StableHlo.unary main_v31 main_v32 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.reshape main_v24 main_v33 (rfl : (.f32 : EltTy) = .f32) shapeCasts_S32x256x8x128_S32x8x32x8x128,
    StableHlo.unary main_v33 main_v34 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.reshape main_v25 main_v35 (rfl : (.f32 : EltTy) = .f32) shapeCasts_S32x256x8x128_S32x8x32x8x128,
    StableHlo.unary main_v35 main_v36 ((transpose S8x32x32x8x128 [1, 0, 2, 3, 4] · transposes_S32x8x32x8x128_S8x32x32x8x128_1_0_2_3_4) : (⟨S32x8x32x8x128, .f32⟩ : BufTy).Contents (Elt F) → (⟨S8x32x32x8x128, .f32⟩ : BufTy).Contents (Elt F)),
    StableHlo.nullary main_cst_3 (constant S_ .f32 0x00000000#32),
    StableHlo.unary main_cst_3 main_v37 (broadcastInDim S8x32x32x8x128 ![] bcast_S_S8x32x32x8x128 : (⟨S_, .f32⟩ : BufTy).Contents (Elt F) → (⟨S8x32x32x8x128, .f32⟩ : BufTy).Contents (Elt F)),
    StableHlo.nullary main_c_4 (constantI S_ 32 0#32),
    StableHlo.unary main_v30 main_v38_0 id,
    StableHlo.unary main_v32 main_v38_1 id,
    StableHlo.unary main_v34 main_v38_2 id,
    StableHlo.unary main_v36 main_v38_3 id,
    StableHlo.unary main_v28 main_v38_4 id,
    StableHlo.unary main_c_4 main_v38_5 id,
    StableHlo.unary main_v6 main_v38_6 id,
    StableHlo.unary main_v37 main_v38_7 id ]
/-- What the operations of `midOps` write, in order. -/
abbrev midOpsW : List (Ref sig .tc) :=
  [main_v20, main_v21, main_v22, main_v23, main_v24, main_v25, main_c_2, main_v26, main_call12_v0, main_call12_c, main_call12_v1, main_call12_v2, main_call12_v3, main_call12_v4, main_call12_c_0, main_call12_v5, main_v27, main_v28, main_v29, main_v30, main_v31, main_v32, main_v33, main_v34, main_v35, main_v36, main_cst_3, main_v37, main_c_4, main_v38_0, main_v38_1, main_v38_2, main_v38_3, main_v38_4, main_v38_5, main_v38_6, main_v38_7]
theorem midOps_writes : (midOps : List (HloOp τ sig (Elt F))).Forall fun op => op.writes ⊆ (midOpsW.map (Proc.devRef (τ := τ) .tc)).toFinset :=
  StableHlo.forall_writes_sub_of_map rfl
theorem midOps_sub : (midOps : List (HloOp τ sig (Elt F))).Forall fun op => op.bufs ⊆ StableHlo.tcRefs τ sig :=
  ⟨StableHlo.unary_bufs_sub .., StableHlo.reshape_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- @main after its second loop. -/
abbrev postOps : List (HloOp τ sig (Elt F)) :=
  [ StableHlo.unary main_v38_7 main_v39 ((transpose S32x8x32x8x128 [1, 0, 2, 3, 4] · transposes_S8x32x32x8x128_S32x8x32x8x128_1_0_2_3_4) : (⟨S8x32x32x8x128, .f32⟩ : BufTy).Contents (Elt F) → (⟨S32x8x32x8x128, .f32⟩ : BufTy).Contents (Elt F)),
    StableHlo.reshape main_v39 main_v40 (rfl : (.f32 : EltTy) = .f32) shapeCasts_S32x8x32x8x128_S32x256x8x128,
    StableHlo.unary main_v40 main_v41 ((Host.reverse [1]) : (⟨S32x256x8x128, .f32⟩ : BufTy).Contents (Elt F) → (⟨S32x256x8x128, .f32⟩ : BufTy).Contents (Elt F)),
    StableHlo.binary main_v21 main_v41 main_v42 (addf : (⟨S32x256x8x128, .f32⟩ : BufTy).Contents (Elt F) → (⟨S32x256x8x128, .f32⟩ : BufTy).Contents (Elt F) → (⟨S32x256x8x128, .f32⟩ : BufTy).Contents (Elt F)),
    StableHlo.binary main_v42 main_v42 main_v43 (mulf : (⟨S32x256x8x128, .f32⟩ : BufTy).Contents (Elt F) → (⟨S32x256x8x128, .f32⟩ : BufTy).Contents (Elt F) → (⟨S32x256x8x128, .f32⟩ : BufTy).Contents (Elt F)),
    StableHlo.nullary main_cst_5 (constant S_ .f32 0x00000000#32),
    StableHlo.binary main_v43 main_cst_5 main_v44 ((fun x v => Host.reduceAdd x v reducesTo_S32x256x8x128_S32x256x8_d3 h_S_) : (⟨S32x256x8x128, .f32⟩ : BufTy).Contents (Elt F) → (⟨S_, .f32⟩ : BufTy).Contents (Elt F) → (⟨S32x256x8, .f32⟩ : BufTy).Contents (Elt F)),
    StableHlo.unary main_v44 main_v45 (broadcastInDim S32x256x8x1 ![0, 1, 2] bcast_S32x256x8_S32x256x8x1_0_1_2 : (⟨S32x256x8, .f32⟩ : BufTy).Contents (Elt F) → (⟨S32x256x8x1, .f32⟩ : BufTy).Contents (Elt F)),
    StableHlo.nullary main_cst_6 (constant S_ .f32 0x43000000#32),
    StableHlo.unary main_cst_6 main_v46 (broadcastInDim S32x256x8x1 ![] bcast_S_S32x256x8x1 : (⟨S_, .f32⟩ : BufTy).Contents (Elt F) → (⟨S32x256x8x1, .f32⟩ : BufTy).Contents (Elt F)),
    StableHlo.binary main_v45 main_v46 main_v47 (Host.divf : (⟨S32x256x8x1, .f32⟩ : BufTy).Contents (Elt F) → (⟨S32x256x8x1, .f32⟩ : BufTy).Contents (Elt F) → (⟨S32x256x8x1, .f32⟩ : BufTy).Contents (Elt F)),
    StableHlo.nullary main_cst_7 (constant S_ .f32 0x358637BD#32),
    StableHlo.unary main_cst_7 main_v48 (broadcastInDim S32x256x8x1 ![] bcast_S_S32x256x8x1 : (⟨S_, .f32⟩ : BufTy).Contents (Elt F) → (⟨S32x256x8x1, .f32⟩ : BufTy).Contents (Elt F)),
    StableHlo.binary main_v47 main_v48 main_v49 (addf : (⟨S32x256x8x1, .f32⟩ : BufTy).Contents (Elt F) → (⟨S32x256x8x1, .f32⟩ : BufTy).Contents (Elt F) → (⟨S32x256x8x1, .f32⟩ : BufTy).Contents (Elt F)),
    StableHlo.unary main_v49 main_v50 (Host.rsqrt : (⟨S32x256x8x1, .f32⟩ : BufTy).Contents (Elt F) → (⟨S32x256x8x1, .f32⟩ : BufTy).Contents (Elt F)),
    StableHlo.unary main_v50 main_v51 (broadcastInDim S32x256x8x128 ![0, 1, 2, 3] bcast_S32x256x8x1_S32x256x8x128_0_1_2_3 : (⟨S32x256x8x1, .f32⟩ : BufTy).Contents (Elt F) → (⟨S32x256x8x128, .f32⟩ : BufTy).Contents (Elt F)),
    StableHlo.binary main_v42 main_v51 main_v52 (mulf : (⟨S32x256x8x128, .f32⟩ : BufTy).Contents (Elt F) → (⟨S32x256x8x128, .f32⟩ : BufTy).Contents (Elt F) → (⟨S32x256x8x128, .f32⟩ : BufTy).Contents (Elt F)),
    StableHlo.unary main_arg7 main_v53 (broadcastInDim S1x1x1x128 ![3] bcast_S128_S1x1x1x128_3 : (⟨S128, .f32⟩ : BufTy).Contents (Elt F) → (⟨S1x1x1x128, .f32⟩ : BufTy).Contents (Elt F)),
    StableHlo.unary main_v53 main_v54 (broadcastInDim S32x256x8x128 ![0, 1, 2, 3] bcast_S1x1x1x128_S32x256x8x128_0_1_2_3 : (⟨S1x1x1x128, .f32⟩ : BufTy).Contents (Elt F) → (⟨S32x256x8x128, .f32⟩ : BufTy).Contents (Elt F)),
    StableHlo.binary main_v52 main_v54 main_v55 (mulf : (⟨S32x256x8x128, .f32⟩ : BufTy).Contents (Elt F) → (⟨S32x256x8x128, .f32⟩ : BufTy).Contents (Elt F) → (⟨S32x256x8x128, .f32⟩ : BufTy).Contents (Elt F)),
    StableHlo.reshape main_arg6 main_v56 (rfl : (.f32 : EltTy) = .f32) shapeCasts_S8192x1024_S32x256x8x128,
    StableHlo.unary main_v56 main_call21_v0 (Host.negf : (⟨S32x256x8x128, .f32⟩ : BufTy).Contents (Elt F) → (⟨S32x256x8x128, .f32⟩ : BufTy).Contents (Elt F)),
    StableHlo.unary main_call21_v0 main_call21_v1 (Host.exp : (⟨S32x256x8x128, .f32⟩ : BufTy).Contents (Elt F) → (⟨S32x256x8x128, .f32⟩ : BufTy).Contents (Elt F)),
    StableHlo.nullary main_call21_cst ((constant S_ .f32 0x3F800000#32) : (⟨S_, .f32⟩ : BufTy).Contents (Elt F)),
    StableHlo.unary main_call21_cst main_call21_v2 ((broadcastInDim S32x256x8x128 ![] bcast_S_S32x256x8x128) : (⟨S_, .f32⟩ : BufTy).Contents (Elt F) → (⟨S32x256x8x128, .f32⟩ : BufTy).Contents (Elt F)),
    StableHlo.binary main_call21_v2 main_call21_v1 main_call21_v3 (addf : (⟨S32x256x8x128, .f32⟩ : BufTy).Contents (Elt F) → (⟨S32x256x8x128, .f32⟩ : BufTy).Contents (Elt F) → (⟨S32x256x8x128, .f32⟩ : BufTy).Contents (Elt F)),
    StableHlo.nullary main_call21_cst_0 ((constant S_ .f32 0x3F800000#32) : (⟨S_, .f32⟩ : BufTy).Contents (Elt F)),
    StableHlo.unary main_call21_cst_0 main_call21_v4 ((broadcastInDim S32x256x8x128 ![] bcast_S_S32x256x8x128) : (⟨S_, .f32⟩ : BufTy).Contents (Elt F) → (⟨S32x256x8x128, .f32⟩ : BufTy).Contents (Elt F)),
    StableHlo.binary main_call21_v4 main_call21_v3 main_call21_v5 (Host.divf : (⟨S32x256x8x128, .f32⟩ : BufTy).Contents (Elt F) → (⟨S32x256x8x128, .f32⟩ : BufTy).Contents (Elt F) → (⟨S32x256x8x128, .f32⟩ : BufTy).Contents (Elt F)),
    StableHlo.binary main_v56 main_call21_v5 main_v57 (mulf : (⟨S32x256x8x128, .f32⟩ : BufTy).Contents (Elt F) → (⟨S32x256x8x128, .f32⟩ : BufTy).Contents (Elt F) → (⟨S32x256x8x128, .f32⟩ : BufTy).Contents (Elt F)),
    StableHlo.binary main_v55 main_v57 main_v58 (mulf : (⟨S32x256x8x128, .f32⟩ : BufTy).Contents (Elt F) → (⟨S32x256x8x128, .f32⟩ : BufTy).Contents (Elt F) → (⟨S32x256x8x128, .f32⟩ : BufTy).Contents (Elt F)),
    StableHlo.unary main_v58 main_v59 ((truncf .bf16 · bitsLt_bf16_f32) : (⟨S32x256x8x128, .f32⟩ : BufTy).Contents (Elt F) → (⟨S32x256x8x128, .bf16⟩ : BufTy).Contents (Elt F)),
    StableHlo.reshape main_v59 main_v60 (rfl : (.bf16 : EltTy) = .bf16) shapeCasts_S32x256x8x128_S8192x1024,
    StableHlo.unary main_v19_6 main_v61 (broadcastInDim S32x1x8x128x128 ![0, 2, 3, 4] bcast_S32x8x128x128_S32x1x8x128x128_0_2_3_4 : (⟨S32x8x128x128, .f32⟩ : BufTy).Contents (Elt F) → (⟨S32x1x8x128x128, .f32⟩ : BufTy).Contents (Elt F)),
    StableHlo.unary main_v38_6 main_v62 (broadcastInDim S32x1x8x128x128 ![0, 2, 3, 4] bcast_S32x8x128x128_S32x1x8x128x128_0_2_3_4 : (⟨S32x8x128x128, .f32⟩ : BufTy).Contents (Elt F) → (⟨S32x1x8x128x128, .f32⟩ : BufTy).Contents (Elt F)),
    StableHlo.binary main_v61 main_v62 main_v63 ((fun a b => concatenate S32x2x8x128x128 1 [⟨S32x1x8x128x128, a⟩, ⟨S32x1x8x128x128, b⟩] concatenates_S32x1x8x128x128_S32x1x8x128x128_S32x2x8x128x128_d1) : (⟨S32x1x8x128x128, .f32⟩ : BufTy).Contents (Elt F) → (⟨S32x1x8x128x128, .f32⟩ : BufTy).Contents (Elt F) → (⟨S32x2x8x128x128, .f32⟩ : BufTy).Contents (Elt F)) ]
/-- What the operations of `postOps` write, in order. -/
abbrev postOpsW : List (Ref sig .tc) :=
  [main_v39, main_v40, main_v41, main_v42, main_v43, main_cst_5, main_v44, main_v45, main_cst_6, main_v46, main_v47, main_cst_7, main_v48, main_v49, main_v50, main_v51, main_v52, main_v53, main_v54, main_v55, main_v56, main_call21_v0, main_call21_v1, main_call21_cst, main_call21_v2, main_call21_v3, main_call21_cst_0, main_call21_v4, main_call21_v5, main_v57, main_v58, main_v59, main_v60, main_v61, main_v62, main_v63]
theorem postOps_writes : (postOps : List (HloOp τ sig (Elt F))).Forall fun op => op.writes ⊆ (postOpsW.map (Proc.devRef (τ := τ) .tc)).toFinset :=
  StableHlo.forall_writes_sub_of_map rfl
theorem postOps_sub : (postOps : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.reshape_bufs_sub .., StableHlo.unary_bufs_sub .., StableHlo.unary_bufs_sub .., StableHlo.binary_bufs_sub ..⟩

/-- The first loop's condition. -/
abbrev condOps0 : List (HloOp τ sig (Elt F)) :=
  [ StableHlo.nullary main_while0c_c_15 (constantI S_ 32 8#32),
    StableHlo.binary main_v19_5 main_while0c_c_15 main_while0c_v64 (cmpi .slt : (⟨S_, .i32⟩ : BufTy).Contents (Elt F) → (⟨S_, .i32⟩ : BufTy).Contents (Elt F) → (⟨S_, .i1⟩ : BufTy).Contents (Elt F)) ]
/-- What the operations of `condOps0` write, in order. -/
abbrev condOps0W : List (Ref sig .tc) :=
  [main_while0c_c_15, main_while0c_v64]
theorem condOps0_writes : (condOps0 : List (HloOp τ sig (Elt F))).Forall fun op => op.writes ⊆ (condOps0W.map (Proc.devRef (τ := τ) .tc)).toFinset :=
  StableHlo.forall_writes_sub_of_map rfl
theorem condOps0_sub : (condOps0 : List (HloOp τ sig (Elt F))).Forall fun op => op.bufs ⊆ StableHlo.tcRefs τ sig :=
  ⟨StableHlo.nullary_bufs_sub .., StableHlo.binary_bufs_sub ..⟩

/-- The first loop's body. -/
abbrev bodyOps0 : List (HloOp τ sig (Elt F)) :=
  [ StableHlo.nullary main_while0b_call1_c ((constantI S_ 32 0#32) : (⟨S_, .i32⟩ : BufTy).Contents (Elt F)),
    StableHlo.nullary main_while0b_call1_c_0 ((constantI S_ 32 0#32) : (⟨S_, .i32⟩ : BufTy).Contents (Elt F)),
    StableHlo.nullary main_while0b_call1_c_1 ((constantI S_ 32 0#32) : (⟨S_, .i32⟩ : BufTy).Contents (Elt F)),
    StableHlo.nullary main_while0b_call1_c_2 ((constantI S_ 32 0#32) : (⟨S_, .i32⟩ : BufTy).Contents (Elt F)),
    StableHlo.TRef.unaryIndexed (.of main_v19_0 : StableHlo.TRef sig ⟨S8x32x32x8x128, .f32⟩) (![.of main_v19_5, .of main_while0b_call1_c, .of main_while0b_call1_c_0, .of main_while0b_call1_c_1, .of main_while0b_call1_c_2] : Fin 5 → StableHlo.TRef sig ⟨S_, .i32⟩) (.of main_while0b_call1_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while0b_call1_v0 main_while0b_v64 (rfl : (.f32 : EltTy) = .f32) shapeCasts_S1x32x32x8x128_S32x32x8x128,
    StableHlo.nullary main_while0b_call2_c ((constantI S_ 32 0#32) : (⟨S_, .i32⟩ : BufTy).Contents (Elt F)),
    StableHlo.nullary main_while0b_call2_c_0 ((constantI S_ 32 0#32) : (⟨S_, .i32⟩ : BufTy).Contents (Elt F)),
    StableHlo.nullary main_while0b_call2_c_1 ((constantI S_ 32 0#32) : (⟨S_, .i32⟩ : BufTy).Contents (Elt F)),
    StableHlo.nullary main_while0b_call2_c_2 ((constantI S_ 32 0#32) : (⟨S_, .i32⟩ : BufTy).Contents (Elt F)),
    StableHlo.TRef.unaryIndexed (.of main_v19_1 : StableHlo.TRef sig ⟨S8x32x32x8x128, .f32⟩) (![.of main_v19_5, .of main_while0b_call2_c, .of main_while0b_call2_c_0, .of main_while0b_call2_c_1, .of main_while0b_call2_c_2] : Fin 5 → StableHlo.TRef sig ⟨S_, .i32⟩) (.of main_while0b_call2_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while0b_call2_v0 main_while0b_v65 (rfl : (.f32 : EltTy) = .f32) shapeCasts_S1x32x32x8x128_S32x32x8x128,
    StableHlo.nullary main_while0b_call3_c ((constantI S_ 32 0#32) : (⟨S_, .i32⟩ : BufTy).Contents (Elt F)),
    StableHlo.nullary main_while0b_call3_c_0 ((constantI S_ 32 0#32) : (⟨S_, .i32⟩ : BufTy).Contents (Elt F)),
    StableHlo.nullary main_while0b_call3_c_1 ((constantI S_ 32 0#32) : (⟨S_, .i32⟩ : BufTy).Contents (Elt F)),
    StableHlo.nullary main_while0b_call3_c_2 ((constantI S_ 32 0#32) : (⟨S_, .i32⟩ : BufTy).Contents (Elt F)),
    StableHlo.TRef.unaryIndexed (.of main_v19_2 : StableHlo.TRef sig ⟨S8x32x32x8x128, .f32⟩) (![.of main_v19_5, .of main_while0b_call3_c, .of main_while0b_call3_c_0, .of main_while0b_call3_c_1, .of main_while0b_call3_c_2] : Fin 5 → StableHlo.TRef sig ⟨S_, .i32⟩) (.of main_while0b_call3_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while0b_call3_v0 main_while0b_v66 (rfl : (.f32 : EltTy) = .f32) shapeCasts_S1x32x32x8x128_S32x32x8x128,
    StableHlo.nullary main_while0b_call4_c ((constantI S_ 32 0#32) : (⟨S_, .i32⟩ : BufTy).Contents (Elt F)),
    StableHlo.nullary main_while0b_call4_c_0 ((constantI S_ 32 0#32) : (⟨S_, .i32⟩ : BufTy).Contents (Elt F)),
    StableHlo.nullary main_while0b_call4_c_1 ((constantI S_ 32 0#32) : (⟨S_, .i32⟩ : BufTy).Contents (Elt F)),
    StableHlo.nullary main_while0b_call4_c_2 ((constantI S_ 32 0#32) : (⟨S_, .i32⟩ : BufTy).Contents (Elt F)),
    StableHlo.TRef.unaryIndexed (.of main_v19_3 : StableHlo.TRef sig ⟨S8x32x32x8x128, .f32⟩) (![.of main_v19_5, .of main_while0b_call4_c, .of main_while0b_call4_c_0, .of main_while0b_call4_c_1, .of main_while0b_call4_c_2] : Fin 5 → StableHlo.TRef sig ⟨S_, .i32⟩) (.of main_while0b_call4_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while0b_call4_v0 main_while0b_v67 (rfl : (.f32 : EltTy) = .f32) shapeCasts_S1x32x32x8x128_S32x32x8x128,
    StableHlo.nullary main_while0b_call5_call0_cst ((constant S_ .f32 0x00000000#32) : (⟨S_, .f32⟩ : BufTy).Contents (Elt F)),
    StableHlo.unary main_while0b_call5_call0_cst main_while0b_call5_call0_v0 ((broadcastInDim S_ ![] bcast_S_S_) : (⟨S_, .f32⟩ : BufTy).Contents (Elt F) → (⟨S_, .f32⟩ : BufTy).Contents (Elt F)),
    StableHlo.binary main_while0b_v67 main_while0b_call5_call0_v0 main_while0b_v68 ((fun x v => Host.reduceWindowAdd ![1, 32, 1, 1] ![1, 1, 1, 1] ![0, 31, 0, 0] ![0, 0, 0, 0] x v reduceWindows_S32x32x8x128_S32x32x8x128_w1s1p0_0_w32s1p31_0_w1s1p0_0_w1s1p0_0 h_S_) : (⟨S32x32x8x128, .f32⟩ : BufTy).Contents (Elt F) → (⟨S_, .f32⟩ : BufTy).Contents (Elt F) → (⟨S32x32x8x128, .f32⟩ : BufTy).Contents (Elt F)),
    StableHlo.unary main_while0b_v68 main_while0b_v69 (broadcastInDim S32x32x1x8x128 ![0, 1, 3, 4] bcast_S32x32x8x128_S32x32x1x8x128_0_1_3_4 : (⟨S32x32x8x128, .f32⟩ : BufTy).Contents (Elt F) → (⟨S32x32x1x8x128, .f32⟩ : BufTy).Contents (Elt F)),
    StableHlo.unary main_while0b_v68 main_while0b_v70 (broadcastInDim S32x1x32x8x128 ![0, 2, 3, 4] bcast_S32x32x8x128_S32x1x32x8x128_0_2_3_4 : (⟨S32x32x8x128, .f32⟩ : BufTy).Contents (Elt F) → (⟨S32x1x32x8x128, .f32⟩ : BufTy).Contents (Elt F)),
    StableHlo.unary main_while0b_v69 main_while0b_v71 (broadcastInDim S32x32x32x8x128 ![0, 1, 2, 3, 4] bcast_S32x32x1x8x128_S32x32x32x8x128_0_1_2_3_4 : (⟨S32x32x1x8x128, .f32⟩ : BufTy).Contents (Elt F) → (⟨S32x32x32x8x128, .f32⟩ : BufTy).Contents (Elt F)),
    StableHlo.unary main_while0b_v70 main_while0b_v72 (broadcastInDim S32x32x32x8x128 ![0, 1, 2, 3, 4] bcast_S32x1x32x8x128_S32x32x32x8x128_0_1_2_3_4 : (⟨S32x1x32x8x128, .f32⟩ : BufTy).Contents (Elt F) → (⟨S32x32x32x8x128, .f32⟩ : BufTy).Contents (Elt F)),
    StableHlo.binary main_while0b_v71 main_while0b_v72 main_while0b_v73 (subf : (⟨S32x32x32x8x128, .f32⟩ : BufTy).Contents (Elt F) → (⟨S32x32x32x8x128, .f32⟩ : BufTy).Contents (Elt F) → (⟨S32x32x32x8x128, .f32⟩ : BufTy).Contents (Elt F)),
    StableHlo.nullary main_while0b_cst_15 (constant S_ .f32 0xFF800000#32),
    StableHlo.unary main_while0b_cst_15 main_while0b_call6_v0 (id : (⟨S_, .f32⟩ : BufTy).Contents (Elt F) → (⟨S_, .f32⟩ : BufTy).Contents (Elt F)),
    StableHlo.unary main_v19_4 main_while0b_call6_v1 ((broadcastInDim S32x32x32x8x128 ![1, 2, 3, 4] bcast_S32x32x1x1_S32x32x32x8x128_1_2_3_4) : (⟨S32x32x1x1, .i1⟩ : BufTy).Contents (Elt F) → (⟨S32x32x32x8x128, .i1⟩ : BufTy).Contents (Elt F)),
    StableHlo.unary main_while0b_call6_v0 main_while0b_call6_v2 ((broadcastInDim S32x32x32x8x128 ![] bcast_S_S32x32x32x8x128) : (⟨S_, .f32⟩ : BufTy).Contents (Elt F) → (⟨S32x32x32x8x128, .f32⟩ : BufTy).Contents (Elt F)),
    StableHlo.ternary main_while0b_call6_v1 main_while0b_v73 main_while0b_call6_v2 main_while0b_v74 (select : (⟨S32x32x32x8x128, .i1⟩ : BufTy).Contents (Elt F) → (⟨S32x32x32x8x128, .f32⟩ : BufTy).Contents (Elt F) → (⟨S32x32x32x8x128, .f32⟩ : BufTy).Contents (Elt F) → (⟨S32x32x32x8x128, .f32⟩ : BufTy).Contents (Elt F)),
    StableHlo.unary main_while0b_v74 main_while0b_v75 (Host.exp : (⟨S32x32x32x8x128, .f32⟩ : BufTy).Contents (Elt F) → (⟨S32x32x32x8x128, .f32⟩ : BufTy).Contents (Elt F)),
    StableHlo.unary main_while0b_v64 main_while0b_v76 (broadcastInDim S32x32x1x8x128 ![0, 1, 3, 4] bcast_S32x32x8x128_S32x32x1x8x128_0_1_3_4 : (⟨S32x32x8x128, .f32⟩ : BufTy).Contents (Elt F) → (⟨S32x32x1x8x128, .f32⟩ : BufTy).Contents (Elt F)),
    StableHlo.unary main_while0b_v65 main_while0b_v77 (broadcastInDim S32x1x32x8x128 ![0, 2, 3, 4] bcast_S32x32x8x128_S32x1x32x8x128_0_2_3_4 : (⟨S32x32x8x128, .f32⟩ : BufTy).Contents (Elt F) → (⟨S32x1x32x8x128, .f32⟩ : BufTy).Contents (Elt F)),
    StableHlo.unary main_while0b_v76 main_while0b_v78 (broadcastInDim S32x32x32x8x128 ![0, 1, 2, 3, 4] bcast_S32x32x1x8x128_S32x32x32x8x128_0_1_2_3_4 : (⟨S32x32x1x8x128, .f32⟩ : BufTy).Contents (Elt F) → (⟨S32x32x32x8x128, .f32⟩ : BufTy).Contents (Elt F)),
    StableHlo.unary main_while0b_v77 main_while0b_v79 (broadcastInDim S32x32x32x8x128 ![0, 1, 2, 3, 4] bcast_S32x1x32x8x128_S32x32x32x8x128_0_1_2_3_4 : (⟨S32x1x32x8x128, .f32⟩ : BufTy).Contents (Elt F) → (⟨S32x32x32x8x128, .f32⟩ : BufTy).Contents (Elt F)),
    StableHlo.binary main_while0b_v78 main_while0b_v79 main_while0b_v80 (mulf : (⟨S32x32x32x8x128, .f32⟩ : BufTy).Contents (Elt F) → (⟨S32x32x32x8x128, .f32⟩ : BufTy).Contents (Elt F) → (⟨S32x32x32x8x128, .f32⟩ : BufTy).Contents (Elt F)),
    StableHlo.binary main_while0b_v80 main_while0b_v75 main_while0b_v81 (mulf : (⟨S32x32x32x8x128, .f32⟩ : BufTy).Contents (Elt F) → (⟨S32x32x32x8x128, .f32⟩ : BufTy).Contents (Elt F) → (⟨S32x32x32x8x128, .f32⟩ : BufTy).Contents (Elt F)),
    StableHlo.nullary main_while0b_cst_16 (constant S_ .f32 0x00000000#32),
    StableHlo.binary main_while0b_v81 main_while0b_cst_16 main_while0b_v82 ((fun x v => Host.reduceAdd x v reducesTo_S32x32x32x8x128_S32x32x32x8_d4 h_S_) : (⟨S32x32x32x8x128, .f32⟩ : BufTy).Contents (Elt F) → (⟨S_, .f32⟩ : BufTy).Contents (Elt F) → (⟨S32x32x32x8, .f32⟩ : BufTy).Contents (Elt F)),
    StableHlo.binary main_while0b_v66 main_while0b_v82 main_while0b_v83 ((fun l r => Host.dotGeneral dot_S32x32x8x128_S32x32x32x8_S32x8x128x32_1_2_3_1_02_03 none l r) : (⟨S32x32x8x128, .f32⟩ : BufTy).Contents (Elt F) → (⟨S32x32x32x8, .f32⟩ : BufTy).Contents (Elt F) → (⟨S32x8x128x32, .f32⟩ : BufTy).Contents (Elt F)),
    StableHlo.unary main_while0b_v83 main_while0b_v84 ((transpose S32x32x8x128 [0, 3, 1, 2] · transposes_S32x8x128x32_S32x32x8x128_0_3_1_2) : (⟨S32x8x128x32, .f32⟩ : BufTy).Contents (Elt F) → (⟨S32x32x8x128, .f32⟩ : BufTy).Contents (Elt F)),
    StableHlo.unary main_while0b_v68 main_while0b_v85 (Host.exp : (⟨S32x32x8x128, .f32⟩ : BufTy).Contents (Elt F) → (⟨S32x32x8x128, .f32⟩ : BufTy).Contents (Elt F)),
    StableHlo.binary main_while0b_v64 main_while0b_v85 main_while0b_v86 (mulf : (⟨S32x32x8x128, .f32⟩ : BufTy).Contents (Elt F) → (⟨S32x32x8x128, .f32⟩ : BufTy).Contents (Elt F) → (⟨S32x32x8x128, .f32⟩ : BufTy).Contents (Elt F)),
    StableHlo.binary main_v19_6 main_while0b_v86 main_while0b_v87 ((fun l r => Host.dotGeneral dot_S32x8x128x128_S32x32x8x128_S32x8x128x32_2_3_3_1_01_02 none l r) : (⟨S32x8x128x128, .f32⟩ : BufTy).Contents (Elt F) → (⟨S32x32x8x128, .f32⟩ : BufTy).Contents (Elt F) → (⟨S32x8x128x32, .f32⟩ : BufTy).Contents (Elt F)),
    StableHlo.unary main_while0b_v87 main_while0b_v88 ((transpose S32x32x8x128 [0, 3, 1, 2] · transposes_S32x8x128x32_S32x32x8x128_0_3_1_2) : (⟨S32x8x128x32, .f32⟩ : BufTy).Contents (Elt F) → (⟨S32x32x8x128, .f32⟩ : BufTy).Contents (Elt F)),
    StableHlo.binary main_while0b_v84 main_while0b_v88 main_while0b_v89 (addf : (⟨S32x32x8x128, .f32⟩ : BufTy).Contents (Elt F) → (⟨S32x32x8x128, .f32⟩ : BufTy).Contents (Elt F) → (⟨S32x32x8x128, .f32⟩ : BufTy).Contents (Elt F)),
    StableHlo.unary main_while0b_v68 main_while0b_v90 ((extractStridedSlice S32x1x8x128 ![0, 31, 0, 0] · slices_S32x32x8x128_S32x1x8x128_0_31_0_0) : (⟨S32x32x8x128, .f32⟩ : BufTy).Contents (Elt F) → (⟨S32x1x8x128, .f32⟩ : BufTy).Contents (Elt F)),
    StableHlo.reshape main_while0b_v90 main_while0b_v91 (rfl : (.f32 : EltTy) = .f32) shapeCasts_S32x1x8x128_S32x8x128,
    StableHlo.unary main_while0b_v91 main_while0b_v92 (Host.exp : (⟨S32x8x128, .f32⟩ : BufTy).Contents (Elt F) → (⟨S32x8x128, .f32⟩ : BufTy).Contents (Elt F)),
    StableHlo.unary main_while0b_v92 main_while0b_v93 (broadcastInDim S32x8x128x1 ![0, 1, 2] bcast_S32x8x128_S32x8x128x1_0_1_2 : (⟨S32x8x128, .f32⟩ : BufTy).Contents (Elt F) → (⟨S32x8x128x1, .f32⟩ : BufTy).Contents (Elt F)),
    StableHlo.unary main_while0b_v93 main_while0b_v94 (broadcastInDim S32x8x128x128 ![0, 1, 2, 3] bcast_S32x8x128x1_S32x8x128x128_0_1_2_3 : (⟨S32x8x128x1, .f32⟩ : BufTy).Contents (Elt F) → (⟨S32x8x128x128, .f32⟩ : BufTy).Contents (Elt F)),
    StableHlo.binary main_while0b_v94 main_v19_6 main_while0b_v95 (mulf : (⟨S32x8x128x128, .f32⟩ : BufTy).Contents (Elt F) → (⟨S32x8x128x128, .f32⟩ : BufTy).Contents (Elt F) → (⟨S32x8x128x128, .f32⟩ : BufTy).Contents (Elt F)),
    StableHlo.unary main_while0b_v91 main_while0b_v96 (broadcastInDim S32x1x8x128 ![0, 2, 3] bcast_S32x8x128_S32x1x8x128_0_2_3 : (⟨S32x8x128, .f32⟩ : BufTy).Contents (Elt F) → (⟨S32x1x8x128, .f32⟩ : BufTy).Contents (Elt F)),
    StableHlo.unary main_while0b_v96 main_while0b_v97 (broadcastInDim S32x32x8x128 ![0, 1, 2, 3] bcast_S32x1x8x128_S32x32x8x128_0_1_2_3 : (⟨S32x1x8x128, .f32⟩ : BufTy).Contents (Elt F) → (⟨S32x32x8x128, .f32⟩ : BufTy).Contents (Elt F)),
    StableHlo.binary main_while0b_v97 main_while0b_v68 main_while0b_v98 (subf : (⟨S32x32x8x128, .f32⟩ : BufTy).Contents (Elt F) → (⟨S32x32x8x128, .f32⟩ : BufTy).Contents (Elt F) → (⟨S32x32x8x128, .f32⟩ : BufTy).Contents (Elt F)),
    StableHlo.unary main_while0b_v98 main_while0b_v99 (Host.exp : (⟨S32x32x8x128, .f32⟩ : BufTy).Contents (Elt F) → (⟨S32x32x8x128, .f32⟩ : BufTy).Contents (Elt F)),
    StableHlo.binary main_while0b_v65 main_while0b_v99 main_while0b_v100 (mulf : (⟨S32x32x8x128, .f32⟩ : BufTy).Contents (Elt F) → (⟨S32x32x8x128, .f32⟩ : BufTy).Contents (Elt F) → (⟨S32x32x8x128, .f32⟩ : BufTy).Contents (Elt F)),
    StableHlo.binary main_while0b_v100 main_while0b_v66 main_while0b_v101 ((fun l r => Host.dotGeneral dot_S32x32x8x128_S32x32x8x128_S32x8x128x128_1_1_3_3_02_02 none l r) : (⟨S32x32x8x128, .f32⟩ : BufTy).Contents (Elt F) → (⟨S32x32x8x128, .f32⟩ : BufTy).Contents (Elt F) → (⟨S32x8x128x128, .f32⟩ : BufTy).Contents (Elt F)),
    StableHlo.binary main_while0b_v95 main_while0b_v101 main_while0b_v102 (addf : (⟨S32x8x128x128, .f32⟩ : BufTy).Contents (Elt F) → (⟨S32x8x128x128, .f32⟩ : BufTy).Contents (Elt F) → (⟨S32x8x128x128, .f32⟩ : BufTy).Contents (Elt F)),
    StableHlo.unary main_while0b_v89 main_while0b_call7_v0 ((broadcastInDim S1x32x32x8x128 ![1, 2, 3, 4] bcast_S32x32x8x128_S1x32x32x8x128_1_2_3_4) : (⟨S32x32x8x128, .f32⟩ : BufTy).Contents (Elt F) → (⟨S1x32x32x8x128, .f32⟩ : BufTy).Contents (Elt F)),
    StableHlo.nullary main_while0b_call7_c ((constantI S_ 32 0#32) : (⟨S_, .i32⟩ : BufTy).Contents (Elt F)),
    StableHlo.nullary main_while0b_call7_c_0 ((constantI S_ 32 0#32) : (⟨S_, .i32⟩ : BufTy).Contents (Elt F)),
    StableHlo.nullary main_while0b_call7_c_1 ((constantI S_ 32 0#32) : (⟨S_, .i32⟩ : BufTy).Contents (Elt F)),
    StableHlo.nullary main_while0b_call7_c_2 ((constantI S_ 32 0#32) : (⟨S_, .i32⟩ : BufTy).Contents (Elt F)),
    StableHlo.TRef.binaryIndexed (.of main_v19_7 : StableHlo.TRef sig ⟨S8x32x32x8x128, .f32⟩) (.of main_while0b_call7_v0 : StableHlo.TRef sig ⟨S1x32x32x8x128, .f32⟩) (![.of main_v19_5, .of main_while0b_call7_c, .of main_while0b_call7_c_0, .of main_while0b_call7_c_1, .of main_while0b_call7_c_2] : Fin 5 → StableHlo.TRef sig ⟨S_, .i32⟩) (.of main_while0b_v103 : StableHlo.TRef sig ⟨S8x32x32x8x128, .f32⟩) (fun x u i => Host.dynamicUpdateSlice x u (fun k => (i k (Shape.Idx.first h_S_)).toInt) updateFits_S8x32x32x8x128_S1x32x32x8x128),
    StableHlo.nullary main_while0b_c_17 (constantI S_ 32 1#32),
    StableHlo.binary main_v19_5 main_while0b_c_17 main_while0b_v104 (addi : (⟨S_, .i32⟩ : BufTy).Contents (Elt F) → (⟨S_, .i32⟩ : BufTy).Contents (Elt F) → (⟨S_, .i32⟩ : BufTy).Contents (Elt F)),
    StableHlo.unary main_while0b_v104 main_v19_5 id,
    StableHlo.unary main_while0b_v102 main_v19_6 id,
    StableHlo.unary main_while0b_v103 main_v19_7 id ]
/-- What the operations of `bodyOps0` write, in order. -/
abbrev bodyOps0W : List (Ref sig .tc) :=
  [main_while0b_call1_c, main_while0b_call1_c_0, main_while0b_call1_c_1, main_while0b_call1_c_2, main_while0b_call1_v0, main_while0b_v64, main_while0b_call2_c, main_while0b_call2_c_0, main_while0b_call2_c_1, main_while0b_call2_c_2, main_while0b_call2_v0, main_while0b_v65, main_while0b_call3_c, main_while0b_call3_c_0, main_while0b_call3_c_1, main_while0b_call3_c_2, main_while0b_call3_v0, main_while0b_v66, main_while0b_call4_c, main_while0b_call4_c_0, main_while0b_call4_c_1, main_while0b_call4_c_2, main_while0b_call4_v0, main_while0b_v67, main_while0b_call5_call0_cst, main_while0b_call5_call0_v0, main_while0b_v68, main_while0b_v69, main_while0b_v70, main_while0b_v71, main_while0b_v72, main_while0b_v73, main_while0b_cst_15, main_while0b_call6_v0, main_while0b_call6_v1, main_while0b_call6_v2, main_while0b_v74, main_while0b_v75, main_while0b_v76, main_while0b_v77, main_while0b_v78, main_while0b_v79, main_while0b_v80, main_while0b_v81, main_while0b_cst_16, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95, main_while0b_v96, main_while0b_v97, main_while0b_v98, main_while0b_v99, main_while0b_v100, main_while0b_v101, main_while0b_v102, main_while0b_call7_v0, main_while0b_call7_c, main_while0b_call7_c_0, main_while0b_call7_c_1, main_while0b_call7_c_2, main_while0b_v103, main_while0b_c_17, main_while0b_v104, main_v19_5, main_v19_6, main_v19_7]
theorem bodyOps0_writes : (bodyOps0 : List (HloOp τ sig (Elt F))).Forall fun op => op.writes ⊆ (bodyOps0W.map (Proc.devRef (τ := τ) .tc)).toFinset :=
  StableHlo.forall_writes_sub_of_map rfl
theorem bodyOps0_sub : (bodyOps0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.nullary_bufs_sub .., StableHlo.nullary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

/-- The second loop's condition. -/
abbrev condOps1 : List (HloOp τ sig (Elt F)) :=
  [ StableHlo.nullary main_while1c_c_15 (constantI S_ 32 8#32),
    StableHlo.binary main_v38_5 main_while1c_c_15 main_while1c_v64 (cmpi .slt : (⟨S_, .i32⟩ : BufTy).Contents (Elt F) → (⟨S_, .i32⟩ : BufTy).Contents (Elt F) → (⟨S_, .i1⟩ : BufTy).Contents (Elt F)) ]
/-- What the operations of `condOps1` write, in order. -/
abbrev condOps1W : List (Ref sig .tc) :=
  [main_while1c_c_15, main_while1c_v64]
theorem condOps1_writes : (condOps1 : List (HloOp τ sig (Elt F))).Forall fun op => op.writes ⊆ (condOps1W.map (Proc.devRef (τ := τ) .tc)).toFinset :=
  StableHlo.forall_writes_sub_of_map rfl
theorem condOps1_sub : (condOps1 : List (HloOp τ sig (Elt F))).Forall fun op => op.bufs ⊆ StableHlo.tcRefs τ sig :=
  ⟨StableHlo.nullary_bufs_sub .., StableHlo.binary_bufs_sub ..⟩

/-- The second loop's body. -/
abbrev bodyOps1 : List (HloOp τ sig (Elt F)) :=
  [ StableHlo.nullary main_while1b_call13_c ((constantI S_ 32 0#32) : (⟨S_, .i32⟩ : BufTy).Contents (Elt F)),
    StableHlo.nullary main_while1b_call13_c_0 ((constantI S_ 32 0#32) : (⟨S_, .i32⟩ : BufTy).Contents (Elt F)),
    StableHlo.nullary main_while1b_call13_c_1 ((constantI S_ 32 0#32) : (⟨S_, .i32⟩ : BufTy).Contents (Elt F)),
    StableHlo.nullary main_while1b_call13_c_2 ((constantI S_ 32 0#32) : (⟨S_, .i32⟩ : BufTy).Contents (Elt F)),
    StableHlo.TRef.unaryIndexed (.of main_v38_0 : StableHlo.TRef sig ⟨S8x32x32x8x128, .f32⟩) (![.of main_v38_5, .of main_while1b_call13_c, .of main_while1b_call13_c_0, .of main_while1b_call13_c_1, .of main_while1b_call13_c_2] : Fin 5 → StableHlo.TRef sig ⟨S_, .i32⟩) (.of main_while1b_call13_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while1b_call13_v0 main_while1b_v64 (rfl : (.f32 : EltTy) = .f32) shapeCasts_S1x32x32x8x128_S32x32x8x128,
    StableHlo.nullary main_while1b_call14_c ((constantI S_ 32 0#32) : (⟨S_, .i32⟩ : BufTy).Contents (Elt F)),
    StableHlo.nullary main_while1b_call14_c_0 ((constantI S_ 32 0#32) : (⟨S_, .i32⟩ : BufTy).Contents (Elt F)),
    StableHlo.nullary main_while1b_call14_c_1 ((constantI S_ 32 0#32) : (⟨S_, .i32⟩ : BufTy).Contents (Elt F)),
    StableHlo.nullary main_while1b_call14_c_2 ((constantI S_ 32 0#32) : (⟨S_, .i32⟩ : BufTy).Contents (Elt F)),
    StableHlo.TRef.unaryIndexed (.of main_v38_1 : StableHlo.TRef sig ⟨S8x32x32x8x128, .f32⟩) (![.of main_v38_5, .of main_while1b_call14_c, .of main_while1b_call14_c_0, .of main_while1b_call14_c_1, .of main_while1b_call14_c_2] : Fin 5 → StableHlo.TRef sig ⟨S_, .i32⟩) (.of main_while1b_call14_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while1b_call14_v0 main_while1b_v65 (rfl : (.f32 : EltTy) = .f32) shapeCasts_S1x32x32x8x128_S32x32x8x128,
    StableHlo.nullary main_while1b_call15_c ((constantI S_ 32 0#32) : (⟨S_, .i32⟩ : BufTy).Contents (Elt F)),
    StableHlo.nullary main_while1b_call15_c_0 ((constantI S_ 32 0#32) : (⟨S_, .i32⟩ : BufTy).Contents (Elt F)),
    StableHlo.nullary main_while1b_call15_c_1 ((constantI S_ 32 0#32) : (⟨S_, .i32⟩ : BufTy).Contents (Elt F)),
    StableHlo.nullary main_while1b_call15_c_2 ((constantI S_ 32 0#32) : (⟨S_, .i32⟩ : BufTy).Contents (Elt F)),
    StableHlo.TRef.unaryIndexed (.of main_v38_2 : StableHlo.TRef sig ⟨S8x32x32x8x128, .f32⟩) (![.of main_v38_5, .of main_while1b_call15_c, .of main_while1b_call15_c_0, .of main_while1b_call15_c_1, .of main_while1b_call15_c_2] : Fin 5 → StableHlo.TRef sig ⟨S_, .i32⟩) (.of main_while1b_call15_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while1b_call15_v0 main_while1b_v66 (rfl : (.f32 : EltTy) = .f32) shapeCasts_S1x32x32x8x128_S32x32x8x128,
    StableHlo.nullary main_while1b_call16_c ((constantI S_ 32 0#32) : (⟨S_, .i32⟩ : BufTy).Contents (Elt F)),
    StableHlo.nullary main_while1b_call16_c_0 ((constantI S_ 32 0#32) : (⟨S_, .i32⟩ : BufTy).Contents (Elt F)),
    StableHlo.nullary main_while1b_call16_c_1 ((constantI S_ 32 0#32) : (⟨S_, .i32⟩ : BufTy).Contents (Elt F)),
    StableHlo.nullary main_while1b_call16_c_2 ((constantI S_ 32 0#32) : (⟨S_, .i32⟩ : BufTy).Contents (Elt F)),
    StableHlo.TRef.unaryIndexed (.of main_v38_3 : StableHlo.TRef sig ⟨S8x32x32x8x128, .f32⟩) (![.of main_v38_5, .of main_while1b_call16_c, .of main_while1b_call16_c_0, .of main_while1b_call16_c_1, .of main_while1b_call16_c_2] : Fin 5 → StableHlo.TRef sig ⟨S_, .i32⟩) (.of main_while1b_call16_v0 : StableHlo.TRef sig ⟨S1x32x32x8x128, .f32⟩) (fun x i => Host.dynamicSlice S1x32x32x8x128 x (fun k => (i k (Shape.Idx.first h_S_)).toInt) sliceFits_S8x32x32x8x128_S1x32x32x8x128),
    StableHlo.reshape main_while1b_call16_v0 main_while1b_v67 (rfl : (.f32 : EltTy) = .f32) shapeCasts_S1x32x32x8x128_S32x32x8x128,
    StableHlo.nullary main_while1b_call17_call0_cst ((constant S_ .f32 0x00000000#32) : (⟨S_, .f32⟩ : BufTy).Contents (Elt F)),
    StableHlo.unary main_while1b_call17_call0_cst main_while1b_call17_call0_v0 ((broadcastInDim S_ ![] bcast_S_S_) : (⟨S_, .f32⟩ : BufTy).Contents (Elt F) → (⟨S_, .f32⟩ : BufTy).Contents (Elt F)),
    StableHlo.binary main_while1b_v67 main_while1b_call17_call0_v0 main_while1b_v68 ((fun x v => Host.reduceWindowAdd ![1, 32, 1, 1] ![1, 1, 1, 1] ![0, 31, 0, 0] ![0, 0, 0, 0] x v reduceWindows_S32x32x8x128_S32x32x8x128_w1s1p0_0_w32s1p31_0_w1s1p0_0_w1s1p0_0 h_S_) : (⟨S32x32x8x128, .f32⟩ : BufTy).Contents (Elt F) → (⟨S_, .f32⟩ : BufTy).Contents (Elt F) → (⟨S32x32x8x128, .f32⟩ : BufTy).Contents (Elt F)),
    StableHlo.unary main_while1b_v68 main_while1b_v69 (broadcastInDim S32x32x1x8x128 ![0, 1, 3, 4] bcast_S32x32x8x128_S32x32x1x8x128_0_1_3_4 : (⟨S32x32x8x128, .f32⟩ : BufTy).Contents (Elt F) → (⟨S32x32x1x8x128, .f32⟩ : BufTy).Contents (Elt F)),
    StableHlo.unary main_while1b_v68 main_while1b_v70 (broadcastInDim S32x1x32x8x128 ![0, 2, 3, 4] bcast_S32x32x8x128_S32x1x32x8x128_0_2_3_4 : (⟨S32x32x8x128, .f32⟩ : BufTy).Contents (Elt F) → (⟨S32x1x32x8x128, .f32⟩ : BufTy).Contents (Elt F)),
    StableHlo.unary main_while1b_v69 main_while1b_v71 (broadcastInDim S32x32x32x8x128 ![0, 1, 2, 3, 4] bcast_S32x32x1x8x128_S32x32x32x8x128_0_1_2_3_4 : (⟨S32x32x1x8x128, .f32⟩ : BufTy).Contents (Elt F) → (⟨S32x32x32x8x128, .f32⟩ : BufTy).Contents (Elt F)),
    StableHlo.unary main_while1b_v70 main_while1b_v72 (broadcastInDim S32x32x32x8x128 ![0, 1, 2, 3, 4] bcast_S32x1x32x8x128_S32x32x32x8x128_0_1_2_3_4 : (⟨S32x1x32x8x128, .f32⟩ : BufTy).Contents (Elt F) → (⟨S32x32x32x8x128, .f32⟩ : BufTy).Contents (Elt F)),
    StableHlo.binary main_while1b_v71 main_while1b_v72 main_while1b_v73 (subf : (⟨S32x32x32x8x128, .f32⟩ : BufTy).Contents (Elt F) → (⟨S32x32x32x8x128, .f32⟩ : BufTy).Contents (Elt F) → (⟨S32x32x32x8x128, .f32⟩ : BufTy).Contents (Elt F)),
    StableHlo.nullary main_while1b_cst_15 (constant S_ .f32 0xFF800000#32),
    StableHlo.unary main_while1b_cst_15 main_while1b_call18_v0 (id : (⟨S_, .f32⟩ : BufTy).Contents (Elt F) → (⟨S_, .f32⟩ : BufTy).Contents (Elt F)),
    StableHlo.unary main_v38_4 main_while1b_call18_v1 ((broadcastInDim S32x32x32x8x128 ![1, 2, 3, 4] bcast_S32x32x1x1_S32x32x32x8x128_1_2_3_4) : (⟨S32x32x1x1, .i1⟩ : BufTy).Contents (Elt F) → (⟨S32x32x32x8x128, .i1⟩ : BufTy).Contents (Elt F)),
    StableHlo.unary main_while1b_call18_v0 main_while1b_call18_v2 ((broadcastInDim S32x32x32x8x128 ![] bcast_S_S32x32x32x8x128) : (⟨S_, .f32⟩ : BufTy).Contents (Elt F) → (⟨S32x32x32x8x128, .f32⟩ : BufTy).Contents (Elt F)),
    StableHlo.ternary main_while1b_call18_v1 main_while1b_v73 main_while1b_call18_v2 main_while1b_v74 (select : (⟨S32x32x32x8x128, .i1⟩ : BufTy).Contents (Elt F) → (⟨S32x32x32x8x128, .f32⟩ : BufTy).Contents (Elt F) → (⟨S32x32x32x8x128, .f32⟩ : BufTy).Contents (Elt F) → (⟨S32x32x32x8x128, .f32⟩ : BufTy).Contents (Elt F)),
    StableHlo.unary main_while1b_v74 main_while1b_v75 (Host.exp : (⟨S32x32x32x8x128, .f32⟩ : BufTy).Contents (Elt F) → (⟨S32x32x32x8x128, .f32⟩ : BufTy).Contents (Elt F)),
    StableHlo.unary main_while1b_v64 main_while1b_v76 (broadcastInDim S32x32x1x8x128 ![0, 1, 3, 4] bcast_S32x32x8x128_S32x32x1x8x128_0_1_3_4 : (⟨S32x32x8x128, .f32⟩ : BufTy).Contents (Elt F) → (⟨S32x32x1x8x128, .f32⟩ : BufTy).Contents (Elt F)),
    StableHlo.unary main_while1b_v65 main_while1b_v77 (broadcastInDim S32x1x32x8x128 ![0, 2, 3, 4] bcast_S32x32x8x128_S32x1x32x8x128_0_2_3_4 : (⟨S32x32x8x128, .f32⟩ : BufTy).Contents (Elt F) → (⟨S32x1x32x8x128, .f32⟩ : BufTy).Contents (Elt F)),
    StableHlo.unary main_while1b_v76 main_while1b_v78 (broadcastInDim S32x32x32x8x128 ![0, 1, 2, 3, 4] bcast_S32x32x1x8x128_S32x32x32x8x128_0_1_2_3_4 : (⟨S32x32x1x8x128, .f32⟩ : BufTy).Contents (Elt F) → (⟨S32x32x32x8x128, .f32⟩ : BufTy).Contents (Elt F)),
    StableHlo.unary main_while1b_v77 main_while1b_v79 (broadcastInDim S32x32x32x8x128 ![0, 1, 2, 3, 4] bcast_S32x1x32x8x128_S32x32x32x8x128_0_1_2_3_4 : (⟨S32x1x32x8x128, .f32⟩ : BufTy).Contents (Elt F) → (⟨S32x32x32x8x128, .f32⟩ : BufTy).Contents (Elt F)),
    StableHlo.binary main_while1b_v78 main_while1b_v79 main_while1b_v80 (mulf : (⟨S32x32x32x8x128, .f32⟩ : BufTy).Contents (Elt F) → (⟨S32x32x32x8x128, .f32⟩ : BufTy).Contents (Elt F) → (⟨S32x32x32x8x128, .f32⟩ : BufTy).Contents (Elt F)),
    StableHlo.binary main_while1b_v80 main_while1b_v75 main_while1b_v81 (mulf : (⟨S32x32x32x8x128, .f32⟩ : BufTy).Contents (Elt F) → (⟨S32x32x32x8x128, .f32⟩ : BufTy).Contents (Elt F) → (⟨S32x32x32x8x128, .f32⟩ : BufTy).Contents (Elt F)),
    StableHlo.nullary main_while1b_cst_16 (constant S_ .f32 0x00000000#32),
    StableHlo.binary main_while1b_v81 main_while1b_cst_16 main_while1b_v82 ((fun x v => Host.reduceAdd x v reducesTo_S32x32x32x8x128_S32x32x32x8_d4 h_S_) : (⟨S32x32x32x8x128, .f32⟩ : BufTy).Contents (Elt F) → (⟨S_, .f32⟩ : BufTy).Contents (Elt F) → (⟨S32x32x32x8, .f32⟩ : BufTy).Contents (Elt F)),
    StableHlo.binary main_while1b_v66 main_while1b_v82 main_while1b_v83 ((fun l r => Host.dotGeneral dot_S32x32x8x128_S32x32x32x8_S32x8x128x32_1_2_3_1_02_03 none l r) : (⟨S32x32x8x128, .f32⟩ : BufTy).Contents (Elt F) → (⟨S32x32x32x8, .f32⟩ : BufTy).Contents (Elt F) → (⟨S32x8x128x32, .f32⟩ : BufTy).Contents (Elt F)),
    StableHlo.unary main_while1b_v83 main_while1b_v84 ((transpose S32x32x8x128 [0, 3, 1, 2] · transposes_S32x8x128x32_S32x32x8x128_0_3_1_2) : (⟨S32x8x128x32, .f32⟩ : BufTy).Contents (Elt F) → (⟨S32x32x8x128, .f32⟩ : BufTy).Contents (Elt F)),
    StableHlo.unary main_while1b_v68 main_while1b_v85 (Host.exp : (⟨S32x32x8x128, .f32⟩ : BufTy).Contents (Elt F) → (⟨S32x32x8x128, .f32⟩ : BufTy).Contents (Elt F)),
    StableHlo.binary main_while1b_v64 main_while1b_v85 main_while1b_v86 (mulf : (⟨S32x32x8x128, .f32⟩ : BufTy).Contents (Elt F) → (⟨S32x32x8x128, .f32⟩ : BufTy).Contents (Elt F) → (⟨S32x32x8x128, .f32⟩ : BufTy).Contents (Elt F)),
    StableHlo.binary main_v38_6 main_while1b_v86 main_while1b_v87 ((fun l r => Host.dotGeneral dot_S32x8x128x128_S32x32x8x128_S32x8x128x32_2_3_3_1_01_02 none l r) : (⟨S32x8x128x128, .f32⟩ : BufTy).Contents (Elt F) → (⟨S32x32x8x128, .f32⟩ : BufTy).Contents (Elt F) → (⟨S32x8x128x32, .f32⟩ : BufTy).Contents (Elt F)),
    StableHlo.unary main_while1b_v87 main_while1b_v88 ((transpose S32x32x8x128 [0, 3, 1, 2] · transposes_S32x8x128x32_S32x32x8x128_0_3_1_2) : (⟨S32x8x128x32, .f32⟩ : BufTy).Contents (Elt F) → (⟨S32x32x8x128, .f32⟩ : BufTy).Contents (Elt F)),
    StableHlo.binary main_while1b_v84 main_while1b_v88 main_while1b_v89 (addf : (⟨S32x32x8x128, .f32⟩ : BufTy).Contents (Elt F) → (⟨S32x32x8x128, .f32⟩ : BufTy).Contents (Elt F) → (⟨S32x32x8x128, .f32⟩ : BufTy).Contents (Elt F)),
    StableHlo.unary main_while1b_v68 main_while1b_v90 ((extractStridedSlice S32x1x8x128 ![0, 31, 0, 0] · slices_S32x32x8x128_S32x1x8x128_0_31_0_0) : (⟨S32x32x8x128, .f32⟩ : BufTy).Contents (Elt F) → (⟨S32x1x8x128, .f32⟩ : BufTy).Contents (Elt F)),
    StableHlo.reshape main_while1b_v90 main_while1b_v91 (rfl : (.f32 : EltTy) = .f32) shapeCasts_S32x1x8x128_S32x8x128,
    StableHlo.unary main_while1b_v91 main_while1b_v92 (Host.exp : (⟨S32x8x128, .f32⟩ : BufTy).Contents (Elt F) → (⟨S32x8x128, .f32⟩ : BufTy).Contents (Elt F)),
    StableHlo.unary main_while1b_v92 main_while1b_v93 (broadcastInDim S32x8x128x1 ![0, 1, 2] bcast_S32x8x128_S32x8x128x1_0_1_2 : (⟨S32x8x128, .f32⟩ : BufTy).Contents (Elt F) → (⟨S32x8x128x1, .f32⟩ : BufTy).Contents (Elt F)),
    StableHlo.unary main_while1b_v93 main_while1b_v94 (broadcastInDim S32x8x128x128 ![0, 1, 2, 3] bcast_S32x8x128x1_S32x8x128x128_0_1_2_3 : (⟨S32x8x128x1, .f32⟩ : BufTy).Contents (Elt F) → (⟨S32x8x128x128, .f32⟩ : BufTy).Contents (Elt F)),
    StableHlo.binary main_while1b_v94 main_v38_6 main_while1b_v95 (mulf : (⟨S32x8x128x128, .f32⟩ : BufTy).Contents (Elt F) → (⟨S32x8x128x128, .f32⟩ : BufTy).Contents (Elt F) → (⟨S32x8x128x128, .f32⟩ : BufTy).Contents (Elt F)),
    StableHlo.unary main_while1b_v91 main_while1b_v96 (broadcastInDim S32x1x8x128 ![0, 2, 3] bcast_S32x8x128_S32x1x8x128_0_2_3 : (⟨S32x8x128, .f32⟩ : BufTy).Contents (Elt F) → (⟨S32x1x8x128, .f32⟩ : BufTy).Contents (Elt F)),
    StableHlo.unary main_while1b_v96 main_while1b_v97 (broadcastInDim S32x32x8x128 ![0, 1, 2, 3] bcast_S32x1x8x128_S32x32x8x128_0_1_2_3 : (⟨S32x1x8x128, .f32⟩ : BufTy).Contents (Elt F) → (⟨S32x32x8x128, .f32⟩ : BufTy).Contents (Elt F)),
    StableHlo.binary main_while1b_v97 main_while1b_v68 main_while1b_v98 (subf : (⟨S32x32x8x128, .f32⟩ : BufTy).Contents (Elt F) → (⟨S32x32x8x128, .f32⟩ : BufTy).Contents (Elt F) → (⟨S32x32x8x128, .f32⟩ : BufTy).Contents (Elt F)),
    StableHlo.unary main_while1b_v98 main_while1b_v99 (Host.exp : (⟨S32x32x8x128, .f32⟩ : BufTy).Contents (Elt F) → (⟨S32x32x8x128, .f32⟩ : BufTy).Contents (Elt F)),
    StableHlo.binary main_while1b_v65 main_while1b_v99 main_while1b_v100 (mulf : (⟨S32x32x8x128, .f32⟩ : BufTy).Contents (Elt F) → (⟨S32x32x8x128, .f32⟩ : BufTy).Contents (Elt F) → (⟨S32x32x8x128, .f32⟩ : BufTy).Contents (Elt F)),
    StableHlo.binary main_while1b_v100 main_while1b_v66 main_while1b_v101 ((fun l r => Host.dotGeneral dot_S32x32x8x128_S32x32x8x128_S32x8x128x128_1_1_3_3_02_02 none l r) : (⟨S32x32x8x128, .f32⟩ : BufTy).Contents (Elt F) → (⟨S32x32x8x128, .f32⟩ : BufTy).Contents (Elt F) → (⟨S32x8x128x128, .f32⟩ : BufTy).Contents (Elt F)),
    StableHlo.binary main_while1b_v95 main_while1b_v101 main_while1b_v102 (addf : (⟨S32x8x128x128, .f32⟩ : BufTy).Contents (Elt F) → (⟨S32x8x128x128, .f32⟩ : BufTy).Contents (Elt F) → (⟨S32x8x128x128, .f32⟩ : BufTy).Contents (Elt F)),
    StableHlo.unary main_while1b_v89 main_while1b_call19_v0 ((broadcastInDim S1x32x32x8x128 ![1, 2, 3, 4] bcast_S32x32x8x128_S1x32x32x8x128_1_2_3_4) : (⟨S32x32x8x128, .f32⟩ : BufTy).Contents (Elt F) → (⟨S1x32x32x8x128, .f32⟩ : BufTy).Contents (Elt F)),
    StableHlo.nullary main_while1b_call19_c ((constantI S_ 32 0#32) : (⟨S_, .i32⟩ : BufTy).Contents (Elt F)),
    StableHlo.nullary main_while1b_call19_c_0 ((constantI S_ 32 0#32) : (⟨S_, .i32⟩ : BufTy).Contents (Elt F)),
    StableHlo.nullary main_while1b_call19_c_1 ((constantI S_ 32 0#32) : (⟨S_, .i32⟩ : BufTy).Contents (Elt F)),
    StableHlo.nullary main_while1b_call19_c_2 ((constantI S_ 32 0#32) : (⟨S_, .i32⟩ : BufTy).Contents (Elt F)),
    StableHlo.TRef.binaryIndexed (.of main_v38_7 : StableHlo.TRef sig ⟨S8x32x32x8x128, .f32⟩) (.of main_while1b_call19_v0 : StableHlo.TRef sig ⟨S1x32x32x8x128, .f32⟩) (![.of main_v38_5, .of main_while1b_call19_c, .of main_while1b_call19_c_0, .of main_while1b_call19_c_1, .of main_while1b_call19_c_2] : Fin 5 → StableHlo.TRef sig ⟨S_, .i32⟩) (.of main_while1b_v103 : StableHlo.TRef sig ⟨S8x32x32x8x128, .f32⟩) (fun x u i => Host.dynamicUpdateSlice x u (fun k => (i k (Shape.Idx.first h_S_)).toInt) updateFits_S8x32x32x8x128_S1x32x32x8x128),
    StableHlo.nullary main_while1b_c_17 (constantI S_ 32 1#32),
    StableHlo.binary main_v38_5 main_while1b_c_17 main_while1b_v104 (addi : (⟨S_, .i32⟩ : BufTy).Contents (Elt F) → (⟨S_, .i32⟩ : BufTy).Contents (Elt F) → (⟨S_, .i32⟩ : BufTy).Contents (Elt F)),
    StableHlo.unary main_while1b_v104 main_v38_5 id,
    StableHlo.unary main_while1b_v102 main_v38_6 id,
    StableHlo.unary main_while1b_v103 main_v38_7 id ]
/-- What the operations of `bodyOps1` write, in order. -/
abbrev bodyOps1W : List (Ref sig .tc) :=
  [main_while1b_call13_c, main_while1b_call13_c_0, main_while1b_call13_c_1, main_while1b_call13_c_2, main_while1b_call13_v0, main_while1b_v64, main_while1b_call14_c, main_while1b_call14_c_0, main_while1b_call14_c_1, main_while1b_call14_c_2, main_while1b_call14_v0, main_while1b_v65, main_while1b_call15_c, main_while1b_call15_c_0, main_while1b_call15_c_1, main_while1b_call15_c_2, main_while1b_call15_v0, main_while1b_v66, main_while1b_call16_c, main_while1b_call16_c_0, main_while1b_call16_c_1, main_while1b_call16_c_2, main_while1b_call16_v0, main_while1b_v67, main_while1b_call17_call0_cst, main_while1b_call17_call0_v0, main_while1b_v68, main_while1b_v69, main_while1b_v70, main_while1b_v71, main_while1b_v72, main_while1b_v73, main_while1b_cst_15, main_while1b_call18_v0, main_while1b_call18_v1, main_while1b_call18_v2, main_while1b_v74, main_while1b_v75, main_while1b_v76, main_while1b_v77, main_while1b_v78, main_while1b_v79, main_while1b_v80, main_while1b_v81, main_while1b_cst_16, main_while1b_v82, main_while1b_v83, main_while1b_v84, main_while1b_v85, main_while1b_v86, main_while1b_v87, main_while1b_v88, main_while1b_v89, main_while1b_v90, main_while1b_v91, main_while1b_v92, main_while1b_v93, main_while1b_v94, main_while1b_v95, main_while1b_v96, main_while1b_v97, main_while1b_v98, main_while1b_v99, main_while1b_v100, main_while1b_v101, main_while1b_v102, main_while1b_call19_v0, main_while1b_call19_c, main_while1b_call19_c_0, main_while1b_call19_c_1, main_while1b_call19_c_2, main_while1b_v103, main_while1b_c_17, main_while1b_v104, main_v38_5, main_v38_6, main_v38_7]
theorem bodyOps1_writes : (bodyOps1 : List (HloOp τ sig (Elt F))).Forall fun op => op.writes ⊆ (bodyOps1W.map (Proc.devRef (τ := τ) .tc)).toFinset :=
  StableHlo.forall_writes_sub_of_map rfl
theorem bodyOps1_sub : (bodyOps1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.nullary_bufs_sub .., StableHlo.nullary_bufs_sub .., StableHlo.nullary_bufs_sub .., StableHlo.unaryIndexed_bufs_sub .., StableHlo.reshape_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.nullary_bufs_sub .., StableHlo.nullary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub ..⟩

/-- The first loop's body is its list, in order. -/
theorem body0_eq : main_while0_body (F := F) = Pipeline.chain ([bodyOps0].map fun ops => (StableHlo.seq ops : Prog _ PUnit)) := by
  chain_rfl

/-- The second loop's body is its list, in order. -/
theorem body1_eq : main_while1_body (F := F) = Pipeline.chain ([bodyOps1].map fun ops => (StableHlo.seq ops : Prog _ PUnit)) := by
  chain_rfl

/-- @main is the first list, the first loop, the second list, the second loop, the third list. -/
theorem main_eq (c : Dev nD) : main (F := F) c = Pipeline.chain [StableHlo.seq preOps, HostLoop.enter 0, StableHlo.seq midOps, HostLoop.enter 1, StableHlo.seq postOps] := by
  chain_rfl

end Cert.ReferenceIdeal.Scan

end
-- ==== Proof.RefRun.lean ====
module

public import proofs.«01_k».proof.Proof.RefOps

@[expose] public section

set_option maxRecDepth 16384

noncomputable section

/-! The reference's run: three straight stretches and two counted loops of eight trips. Every buffer's contents at the end are a
fold of the lists over the launch's contents, and no argument array is written. -/

namespace Cert.ReferenceIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg ucRefs sub_ucRefs)
open Cert.ReferenceIdeal Cert.ReferenceIdeal.Gen

variable {F : FTy → Type} [FloatOps F]

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev 𝒱₀ : Variants := Variants.none
abbrev L : GSem nD τ sig → Finset Unit := fun _ => ∅
abbrev lv : GSem nD τ sig → Unit → ℕ := fun _ _ => 0

/-- Beside its buffers a core carries that it owes nothing. -/
abbrev Rc (c : Dev nD) : sProp 𝕄 := iprop(∃ W, owes (c : Thread nD τ) (0 : CellTallies nD τ sig Unit) W)

variable (m : (ℓ : Loc nD τ sig) → Buf (Elt F) ℓ)

/-! ## Contents -/

/-- The buffers when the first loop is entered. -/
abbrev E0 : Dev nD → Valuation τ sig (Elt F) := fun c => afterL [preOps] (launchContents m c)
/-- The buffers before the `k`-th test of the first loop. -/
abbrev T0 (k : ℕ) (c : Dev nD) : Valuation τ sig (Elt F) := atTrip condOps0 [bodyOps0] (E0 m) k c
/-- The buffers after the first loop. -/
abbrev X0 : Dev nD → Valuation τ sig (Elt F) := fun c => after condOps0 (atTrip condOps0 [bodyOps0] (E0 m) 8 c)
/-- The buffers when the second loop is entered. -/
abbrev E1 : Dev nD → Valuation τ sig (Elt F) := fun c => afterL [midOps] (X0 m c)
/-- The buffers before the `k`-th test of the second loop. -/
abbrev T1 (k : ℕ) (c : Dev nD) : Valuation τ sig (Elt F) := atTrip condOps1 [bodyOps1] (E1 m) k c
/-- The buffers after the second loop. -/
abbrev X1 : Dev nD → Valuation τ sig (Elt F) := fun c => after condOps1 (atTrip condOps1 [bodyOps1] (E1 m) 8 c)
/-- The buffers at the end. -/
abbrev Fin' : Dev nD → Valuation τ sig (Elt F) := fun c => afterL [postOps] (X1 m c)

/-- A read `rd` that the condition leaves alone and that the body takes through `f` is, before the `k`-th test, `f` applied `k`
    times to what it was at the loop's entry. -/
theorem trips {α : Type} (condOps bodyOps : List (HloOp τ sig (Elt F))) (W : Dev nD → Valuation τ sig (Elt F)) (c : Dev nD)
    (rd : Valuation τ sig (Elt F) → α) (f : α → α) (hc : ∀ V, rd (after condOps V) = rd V) (hb : ∀ V, rd (after bodyOps V) = f (rd V)) :
    ∀ k, rd (atTrip condOps [bodyOps] W k c) = f^[k] (rd (W c))
  | 0 => rfl
  | k + 1 => by
    rw [atTrip_succ, afterL_cons, afterL_nil, hb, hc, trips condOps bodyOps W c rd f hc hb k, Function.iterate_succ_apply']

/-- The trip counter before the `k`-th test, for a loop that starts it at nought and adds one. -/
theorem counter (k : ℕ) : (fun x : (⟨S_, .i32⟩ : BufTy).Contents (Elt F) => addi x (constantI S_ 32 1#32))^[k] (fun _ => (0#32 : BitVec 32))
    = fun _ => Scf.iv 0#32 1#32 k := by
  induction k with
  | zero => simp only [Function.iterate_zero, id_eq, Scf.iv_zero]
  | succ k ih => rw [Function.iterate_succ_apply', ih, Scf.iv_succ]; rfl

/-- The first loop's counter before its `k`-th test. -/
theorem counter0 (c : Dev nD) (k : ℕ) : T0 m k c (Proc.devRef .tc main_v19_5) = fun _ => Scf.iv 0#32 1#32 k := by
  refine (trips condOps0 bodyOps0 (E0 m) c (fun V => V (Proc.devRef .tc main_v19_5)) (fun x => addi x (constantI S_ 32 1#32))
    (fun V => after_of_writes_sub condOps0 V condOps0_writes (by decide)) (fun V => ?_) k).trans ?_
  · after_reads_simp
    rfl
  · rw [show E0 m c (Proc.devRef .tc main_v19_5) = fun _ => (0#32 : BitVec 32) from by
      simp only [E0, afterL_cons, afterL_nil]; after_reads_simp; rfl]
    exact counter k

/-- The second loop's counter before its `k`-th test. -/
theorem counter1 (c : Dev nD) (k : ℕ) : T1 m k c (Proc.devRef .tc main_v38_5) = fun _ => Scf.iv 0#32 1#32 k := by
  refine (trips condOps1 bodyOps1 (E1 m) c (fun V => V (Proc.devRef .tc main_v38_5)) (fun x => addi x (constantI S_ 32 1#32))
    (fun V => after_of_writes_sub condOps1 V condOps1_writes (by decide)) (fun V => ?_) k).trans ?_
  · after_reads_simp
    rfl
  · rw [show E1 m c (Proc.devRef .tc main_v38_5) = fun _ => (0#32 : BitVec 32) from by
      simp only [E1, afterL_cons, afterL_nil]; after_reads_simp; rfl]
    exact counter k

/-! ## The loops' conditions -/

/-- The comparison of the counter with the bound says whether a trip is left. -/
theorem left_iff {k : ℕ} (hk : k ≤ 8) : Iff (IntOp.cmpi .slt (Scf.iv 0#32 1#32 k) (8#32) = 1#1) (k < 8) :=
  Scf.cmpi_slt_iv_ub_iff (lb := 0#32) (ub := 8#32) (st := 1#32) (by decide) (show k ≤ Scf.trips 0#32 8#32 1#32 from hk)

set_option backward.isDefEq.respectTransparency.types false in
/-- The first loop's condition: true exactly while fewer than eight trips have run. -/
theorem cond0 : LoopCond (pcfgs (F := F)) defs₀ 𝒱₀ loops Rc (main_while0_cond (F := F)) condOps0 [bodyOps0] (E0 m) 8 := by
  intro k hk c bd
  have hctr := counter0 m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v19_5 HostLoop.idx0)
        (HloOp.result _ (T0 m k c) main_while0c_c_15 HostLoop.idx0) = 1#1) (k < 8)
    rw [nullary_result_ne _ _ _ _ (by decide), nullary_result, hctr]
    exact left_iff hk
  isplitl [Hb]; · iexact Hb
  isplitl [Hh]; · rw [after_cons, after_cons, after_nil]; iexact Hh
  iexact HR

set_option backward.isDefEq.respectTransparency.types false in
/-- The second loop's condition: true exactly while fewer than eight trips have run. -/
theorem cond1 : LoopCond (pcfgs (F := F)) defs₀ 𝒱₀ loops Rc (main_while1_cond (F := F)) condOps1 [bodyOps1] (E1 m) 8 := by
  intro k hk c bd
  have hctr := counter1 m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v38_5 HostLoop.idx0)
        (HloOp.result _ (T1 m k c) main_while1c_c_15 HostLoop.idx0) = 1#1) (k < 8)
    rw [nullary_result_ne _ _ _ _ (by decide), nullary_result, hctr]
    exact left_iff hk
  isplitl [Hb]; · iexact Hb
  isplitl [Hh]; · rw [after_cons, after_cons, after_nil]; iexact Hh
  iexact HR

/-! ## The run -/

theorem pre_plain : Plain [preOps (F := F)] := Plain.cons preOps_sub Plain.nil
theorem mid_plain : Plain [midOps (F := F)] := Plain.cons midOps_sub Plain.nil
theorem post_plain : Plain [postOps (F := F)] := Plain.cons postOps_sub Plain.nil
theorem body0_plain : Plain [bodyOps0 (F := F)] := Plain.cons bodyOps0_sub Plain.nil
theorem body1_plain : Plain [bodyOps1 (F := F)] := Plain.cons bodyOps1_sub Plain.nil

abbrev Seg : Type 1 := CSeg (pcfgs (F := F)) adm defs₀ 𝒱₀ L lv loops tk

/-- The loops as segments. -/
abbrev loop0 : Seg (F := F) := loopSeg _ _ _ _ _ _ _ _ 0 main_while0_cond main_while0_body rfl condOps0 [bodyOps0] body0_plain body0_eq 8 (E0 m) Rc (cond0 m)
abbrev loop1 : Seg (F := F) := loopSeg _ _ _ _ _ _ _ _ 1 main_while1_cond main_while1_body rfl condOps1 [bodyOps1] body1_plain body1_eq 8 (E1 m) Rc (cond1 m)

/-- @main's five segments. -/
def segs : List (Seg (F := F)) :=
  segsOf _ _ _ _ _ _ _ _ Rc [preOps] pre_plain (launchContents m)
    ++ loop0 m :: (segsOf _ _ _ _ _ _ _ _ Rc [midOps] mid_plain (X0 m)
      ++ loop1 m :: segsOf _ _ _ _ _ _ _ _ Rc [postOps] post_plain (X1 m))

theorem segs_prog : (segs m).map CSeg.prog = [seq (preOps (F := F)), HostLoop.enter 0, seq midOps, HostLoop.enter 1, seq postOps] := by
  unfold segs
  rw [List.map_append, List.map_cons, List.map_append, List.map_cons, segsOf_prog, segsOf_prog, segsOf_prog]
  rfl

theorem segs_chain : CSeg.Chains (fun c => iprop(held (c : Thread nD τ) (ucRefs τ sig) (launchContents m c) ∗ Rc c)) (segs m)
    (fun c => iprop(iprop(held (c : Thread nD τ) (ucRefs τ sig) (Fin' m c)) ∗ ∃ W, owes (c : Thread nD τ) (0 : CellTallies nD τ sig Unit) W)) := by
  unfold segs
  exact CSeg.Chains.append (segsOf_chains _ _ _ _ _ _ _ _ Rc [preOps] pre_plain _)
    ⟨fun _ => .rfl, CSeg.Chains.append (segsOf_chains _ _ _ _ _ _ _ _ Rc [midOps] mid_plain _)
      ⟨fun _ => .rfl, segsOf_chains _ _ _ _ _ _ _ _ Rc [postOps] post_plain _⟩⟩

theorem cells_inj : Function.Injective (Pipeline.cellOf (nD := nD) (τ := τ) (Pipeline.pin (pcfgs (F := F)) adm)) := fun p _ _ => p.1.elim0

set_option backward.isDefEq.respectTransparency.types false in
/-- From any memory with the counters at zero every weakly fair execution of @main ends, with every unscoped buffer at the fold
    of the lists and the counters at zero. -/
theorem run_all (g : Dev nD → PrngReg) : θ_run defs (onTc (τ := τ) (main (F := F))) ⟨m, fun _ => 0, g⟩
    (fun r => (∀ (c : Dev nD), ∀ b ∈ ucRefs τ sig, r.2.mem (((c : Thread nD τ)).1, b) = Fin' m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cells_inj defs₀ 𝒱₀ L lv loops tk m g main (segs m)
    (fun c Q => by
      rw [main_eq c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rc c))
    (Tₙ := fun c => iprop(held (c : Thread nD τ) (ucRefs τ sig) (Fin' m c)))
    (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Fin' m c b)
    (hfin := fun c s' => by
      unfold held
      iintro ⟨Hh, HSI⟩
      ihave Hr := (pointsTo_read_all (ucRefs τ sig) (fun b => ((c : Dev nD), b)) (fun b => Fin' m c b) s') $$ [Hh HSI]
      · isplitl [Hh] <;> iassumption
      icases Hr with ⟨%h, HSI⟩
      imodintro
      isplitr; · ipureintro; exact h
      iexact HSI)
    (hQ := fun s h hs => ⟨h, sem_eq_zero hs fun c sm hsm => by
      have hl : ∀ sm : SemLoc sig, sm.isScoped .tc = false → False := by decide
      exact (hl sm hsm).elim⟩)

/-! ## The frame -/

abbrev argRefs : List (Ref sig .tc) := [main_arg0, main_arg1, main_arg2, main_arg3, main_arg4, main_arg5, main_arg6, main_arg7]

/-- What no list writes is at the end as it was at the launch. -/
theorem kept (c : Dev nD) (a : Ref sig .tc) (h : a ∉ preOpsW ++ condOps0W ++ bodyOps0W ++ midOpsW ++ condOps1W ++ bodyOps1W ++ postOpsW) :
    Fin' m c (Proc.devRef .tc a) = m ((c : Thread nD τ).loc a) := by
  simp only [List.mem_append, not_or] at h
  obtain ⟨⟨⟨⟨⟨⟨h1, h2⟩, h3⟩, h4⟩, h5⟩, h6⟩, h7⟩ := h
  have fix {condOps bodyOps : List (HloOp τ sig (Elt F))} (W : Dev nD → Valuation τ sig (Elt F))
      (hc : ∀ V, after condOps V (Proc.devRef .tc a) = V (Proc.devRef .tc a)) (hb : ∀ V, after bodyOps V (Proc.devRef .tc a) = V (Proc.devRef .tc a)) :
      after condOps (atTrip condOps [bodyOps] W 8 c) (Proc.devRef .tc a) = W c (Proc.devRef .tc a) := by
    rw [hc, trips condOps bodyOps W c (fun V => V (Proc.devRef .tc a)) id hc hb, Function.iterate_id, id_eq]
  exact (after_of_writes_sub postOps _ postOps_writes h7).trans
    ((fix (E1 m) (fun V => after_of_writes_sub condOps1 V condOps1_writes h5) (fun V => after_of_writes_sub bodyOps1 V bodyOps1_writes h6)).trans
    ((after_of_writes_sub midOps _ midOps_writes h4).trans
    ((fix (E0 m) (fun V => after_of_writes_sub condOps0 V condOps0_writes h2) (fun V => after_of_writes_sub bodyOps0 V bodyOps0_writes h3)).trans
    (after_of_writes_sub preOps _ preOps_writes h1))))

/-- A buffer at the end. -/
theorem run_at (g : Dev nD → PrngReg) : θ_run defs (onTc (τ := τ) (main (F := F))) ⟨m, fun _ => 0, g⟩
    (fun r => (∀ (c : Dev nD) (b : Ref sig .tc), (Proc.devRef .tc b : DevRef τ sig).isScoped = false → r.2.mem ((c.tc : Thread nD τ).loc b) = Fin' m c (Proc.devRef .tc b))
      ∧ r.2.sem = fun _ => 0) :=
  (θ_run defs _ _).mono (fun _ h => ⟨fun c b hb => h.1 c _ (devRef_mem_ucRefs b hb), h.2⟩) (run_all m g)

/-- THE FRAME: every run ends, the eight arguments kept and the counters at zero. -/
theorem args_kept (g : Dev nD → PrngReg) : θ_run defs (onTc (τ := τ) (main (F := F))) ⟨m, fun _ => 0, g⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) :=
  (θ_run defs _ _).mono (fun _ h => ⟨fun c => ⟨(h.1 c main_arg0 rfl).trans (kept m c main_arg0 (by decide)), (h.1 c main_arg1 rfl).trans (kept m c main_arg1 (by decide)), (h.1 c main_arg2 rfl).trans (kept m c main_arg2 (by decide)), (h.1 c main_arg3 rfl).trans (kept m c main_arg3 (by decide)), (h.1 c main_arg4 rfl).trans (kept m c main_arg4 (by decide)), (h.1 c main_arg5 rfl).trans (kept m c main_arg5 (by decide)), (h.1 c main_arg6 rfl).trans (kept m c main_arg6 (by decide)), (h.1 c main_arg7 rfl).trans (kept m c main_arg7 (by decide))⟩, h.2⟩) (run_at m g)

end Cert.ReferenceIdeal.Scan

end
-- ==== Proof.RefTrip.lean ====
/-
  What one trip of the reference's loop makes of the carried arrays, as functions shared by both loops.
-/
module

public import proofs.«01_k».proof.Proof.RefRun

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen

variable {F : FTy → Type} [FloatOps F]

/-- The starts of the chunk the counter names. -/
def starts (n : IVec S_ 32) : Fin 5 → Int := fun k =>
  ((![n, constantI S_ 32 0#32, constantI S_ 32 0#32, constantI S_ 32 0#32, constantI S_ 32 0#32] : Fin 5 → IVec S_ 32) k (Shape.Idx.first h_S_)).toInt

/-- The chunk of a carried array that the counter names. -/
def cut (x : FVec F S8x32x32x8x128 .f32) (n : IVec S_ 32) : FVec F S32x32x8x128 .f32 :=
  shapeCast S32x32x8x128 (Host.dynamicSlice S1x32x32x8x128 x (starts n) sliceFits_S8x32x32x8x128_S1x32x32x8x128) shapeCasts_S1x32x32x8x128_S32x32x8x128

/-- The running sums along a chunk's steps. -/
def sums (x : FVec F S32x32x8x128 .f32) : FVec F S32x32x8x128 .f32 :=
  Host.reduceWindowAdd ![1, 32, 1, 1] ![1, 1, 1, 1] ![0, 31, 0, 0] ![0, 0, 0, 0] x (broadcastInDim S_ ![] bcast_S_S_ (constant S_ .f32 0x00000000#32))
    reduceWindows_S32x32x8x128_S32x32x8x128_w1s1p0_0_w32s1p31_0_w1s1p0_0_w1s1p0_0 h_S_

/-- The decay from each step to each later one, nought to an earlier one. -/
def decay (b : FVec F S32x32x8x128 .f32) (w : IVec S32x32x1x1 1) : FVec F S32x32x32x8x128 .f32 :=
  Host.exp (select (broadcastInDim S32x32x32x8x128 ![1, 2, 3, 4] bcast_S32x32x1x1_S32x32x32x8x128_1_2_3_4 w)
    (subf (broadcastInDim S32x32x32x8x128 ![0, 1, 2, 3, 4] bcast_S32x32x1x8x128_S32x32x32x8x128_0_1_2_3_4 (broadcastInDim S32x32x1x8x128 ![0, 1, 3, 4] bcast_S32x32x8x128_S32x32x1x8x128_0_1_3_4 b))
      (broadcastInDim S32x32x32x8x128 ![0, 1, 2, 3, 4] bcast_S32x1x32x8x128_S32x32x32x8x128_0_1_2_3_4 (broadcastInDim S32x1x32x8x128 ![0, 2, 3, 4] bcast_S32x32x8x128_S32x1x32x8x128_0_2_3_4 b)))
    (broadcastInDim S32x32x32x8x128 ![] bcast_S_S32x32x32x8x128 (constant S_ .f32 0xFF800000#32)))

/-- The scores of a chunk. -/
def scores (q k b : FVec F S32x32x8x128 .f32) (w : IVec S32x32x1x1 1) : FVec F S32x32x32x8 .f32 :=
  Host.reduceAdd (mulf
    (mulf (broadcastInDim S32x32x32x8x128 ![0, 1, 2, 3, 4] bcast_S32x32x1x8x128_S32x32x32x8x128_0_1_2_3_4 (broadcastInDim S32x32x1x8x128 ![0, 1, 3, 4] bcast_S32x32x8x128_S32x32x1x8x128_0_1_3_4 q))
      (broadcastInDim S32x32x32x8x128 ![0, 1, 2, 3, 4] bcast_S32x1x32x8x128_S32x32x32x8x128_0_1_2_3_4 (broadcastInDim S32x1x32x8x128 ![0, 2, 3, 4] bcast_S32x32x8x128_S32x1x32x8x128_0_2_3_4 k)))
    (decay b w)) (constant S_ .f32 0x00000000#32) reducesTo_S32x32x32x8x128_S32x32x32x8_d4 h_S_

/-- The output of a chunk. -/
def chunkOut (q k v b : FVec F S32x32x8x128 .f32) (w : IVec S32x32x1x1 1) (S : FVec F S32x8x128x128 .f32) : FVec F S32x32x8x128 .f32 :=
  addf (transpose S32x32x8x128 [0, 3, 1, 2] (Host.dotGeneral dot_S32x32x8x128_S32x32x32x8_S32x8x128x32_1_2_3_1_02_03 none v (scores q k b w)) transposes_S32x8x128x32_S32x32x8x128_0_3_1_2)
    (transpose S32x32x8x128 [0, 3, 1, 2] (Host.dotGeneral dot_S32x8x128x128_S32x32x8x128_S32x8x128x32_2_3_3_1_01_02 none S (mulf q (Host.exp b))) transposes_S32x8x128x32_S32x32x8x128_0_3_1_2)

/-- The last running sum of a chunk. -/
def lastSum (b : FVec F S32x32x8x128 .f32) : FVec F S32x8x128 .f32 :=
  shapeCast S32x8x128 (extractStridedSlice S32x1x8x128 ![0, 31, 0, 0] b slices_S32x32x8x128_S32x1x8x128_0_31_0_0) shapeCasts_S32x1x8x128_S32x8x128

/-- The state after a chunk. -/
def nextState (k v b : FVec F S32x32x8x128 .f32) (S : FVec F S32x8x128x128 .f32) : FVec F S32x8x128x128 .f32 :=
  addf (mulf (broadcastInDim S32x8x128x128 ![0, 1, 2, 3] bcast_S32x8x128x1_S32x8x128x128_0_1_2_3 (broadcastInDim S32x8x128x1 ![0, 1, 2] bcast_S32x8x128_S32x8x128x1_0_1_2 (Host.exp (lastSum b)))) S)
    (Host.dotGeneral dot_S32x32x8x128_S32x32x8x128_S32x8x128x128_1_1_3_3_02_02 none
      (mulf k (Host.exp (subf (broadcastInDim S32x32x8x128 ![0, 1, 2, 3] bcast_S32x1x8x128_S32x32x8x128_0_1_2_3 (broadcastInDim S32x1x8x128 ![0, 2, 3] bcast_S32x8x128_S32x1x8x128_0_2_3 (lastSum b))) b))) v)

/-- The output array with a chunk put in its place. -/
def put (o : FVec F S8x32x32x8x128 .f32) (u : FVec F S32x32x8x128 .f32) (n : IVec S_ 32) : FVec F S8x32x32x8x128 .f32 :=
  Host.dynamicUpdateSlice o (broadcastInDim S1x32x32x8x128 ![1, 2, 3, 4] bcast_S32x32x8x128_S1x32x32x8x128_1_2_3_4 u) (starts n) updateFits_S8x32x32x8x128_S1x32x32x8x128

/-- What a loop carries. -/
structure Carry (F : FTy → Type) where
  q : FVec F S8x32x32x8x128 .f32
  k : FVec F S8x32x32x8x128 .f32
  v : FVec F S8x32x32x8x128 .f32
  l : FVec F S8x32x32x8x128 .f32
  w : IVec S32x32x1x1 1
  n : IVec S_ 32
  S : FVec F S32x8x128x128 .f32
  o : FVec F S8x32x32x8x128 .f32

/-- One trip. -/
def Carry.next (x : Carry F) : Carry F :=
  { x with
    n := addi x.n (constantI S_ 32 1#32)
    S := nextState (cut x.k x.n) (cut x.v x.n) (sums (cut x.l x.n)) x.S
    o := put x.o (chunkOut (cut x.q x.n) (cut x.k x.n) (cut x.v x.n) (sums (cut x.l x.n)) x.w x.S) x.n }

/-- What the first loop carries. -/
def carry0 (V : Valuation τ sig (Elt F)) : Carry F :=
  ⟨V (Proc.devRef .tc main_v19_0), V (Proc.devRef .tc main_v19_1), V (Proc.devRef .tc main_v19_2), V (Proc.devRef .tc main_v19_3), V (Proc.devRef .tc main_v19_4),
    V (Proc.devRef .tc main_v19_5), V (Proc.devRef .tc main_v19_6), V (Proc.devRef .tc main_v19_7)⟩
/-- What the second loop carries. -/
def carry1 (V : Valuation τ sig (Elt F)) : Carry F :=
  ⟨V (Proc.devRef .tc main_v38_0), V (Proc.devRef .tc main_v38_1), V (Proc.devRef .tc main_v38_2), V (Proc.devRef .tc main_v38_3), V (Proc.devRef .tc main_v38_4),
    V (Proc.devRef .tc main_v38_5), V (Proc.devRef .tc main_v38_6), V (Proc.devRef .tc main_v38_7)⟩

theorem carry_ext {x y : Carry F} (h0 : x.q = y.q) (h1 : x.k = y.k) (h2 : x.v = y.v) (h3 : x.l = y.l) (h4 : x.w = y.w) (h5 : x.n = y.n) (h6 : x.S = y.S) (h7 : x.o = y.o) : x = y := by
  cases x; cases y; simp only [Carry.mk.injEq]; exact ⟨h0, h1, h2, h3, h4, h5, h6, h7⟩

/-- A trip of the first loop takes what it carries one step on. -/
theorem body0_carry (V : Valuation τ sig (Elt F)) : carry0 (after bodyOps0 V) = (carry0 V).next := by
  have keep (a : Ref sig .tc) (h : a ∉ bodyOps0W) : after bodyOps0 V (Proc.devRef .tc a) = V (Proc.devRef .tc a) :=
    after_of_writes_sub bodyOps0 V bodyOps0_writes h
  refine carry_ext (keep main_v19_0 (by decide)) (keep main_v19_1 (by decide)) (keep main_v19_2 (by decide)) (keep main_v19_3 (by decide))
    (keep main_v19_4 (by decide)) ?_ ?_ ?_
  · unfold carry0; dsimp only; after_reads_simp; rfl
  · unfold carry0; dsimp only; after_reads_simp [unaryIndexed_result_read, binaryIndexed_result_read, indexContents_tref_cons, indexContents_tref_empty]; rfl
  · unfold carry0; dsimp only; after_reads_simp [unaryIndexed_result_read, binaryIndexed_result_read, indexContents_tref_cons, indexContents_tref_empty]; rfl

/-- A trip of the second loop takes what it carries one step on. -/
theorem body1_carry (V : Valuation τ sig (Elt F)) : carry1 (after bodyOps1 V) = (carry1 V).next := by
  have keep (a : Ref sig .tc) (h : a ∉ bodyOps1W) : after bodyOps1 V (Proc.devRef .tc a) = V (Proc.devRef .tc a) :=
    after_of_writes_sub bodyOps1 V bodyOps1_writes h
  refine carry_ext (keep main_v38_0 (by decide)) (keep main_v38_1 (by decide)) (keep main_v38_2 (by decide)) (keep main_v38_3 (by decide))
    (keep main_v38_4 (by decide)) ?_ ?_ ?_
  · unfold carry1; dsimp only; after_reads_simp; rfl
  · unfold carry1; dsimp only; after_reads_simp [unaryIndexed_result_read, binaryIndexed_result_read, indexContents_tref_cons, indexContents_tref_empty]; rfl
  · unfold carry1; dsimp only; after_reads_simp [unaryIndexed_result_read, binaryIndexed_result_read, indexContents_tref_cons, indexContents_tref_empty]; rfl

end Cert.ReferenceIdeal.Scan
-- ==== Proof.RefChunk.lean ====
/-
  One chunk of the reference at the extended reals: on real operands its scores, output and next state are those of the recurrence's chunk.
-/
module

public import proofs.«01_k».proof.Proof.RefTrip
public import proofs.«01_k».proof.Proof.Recur

@[expose] public section

set_option maxRecDepth 16384

noncomputable section

namespace Cert.ReferenceIdeal.Scan

open Cert.ReferenceIdeal Cert.ReferenceIdeal.Gen Cert.Recur
open Idealize.ShloMosaic

/-! ## Running sums -/

/-- Adding up a list from a start. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A window sum is the sum over the window's positions. -/
theorem window_sum {s t u : Shape} (window strides lo hi : Fin s.rank → Nat) (x : s.Idx → EReal) (init : u.Idx → EReal)
    (h : s.ReduceWindows window strides lo hi t) (hu : 0 < u.numel) (j : t.Idx) :
    Host.reduceWindow (· + ·) window strides lo hi x init h hu j = init (Shape.Idx.first hu) + ∑ a : (⟨s.rank, window⟩ : Shape).Idx,
      if hin : ∀ i, lo i ≤ (j (i.cast h.1.symm)).val * strides i + (a i).val ∧ (j (i.cast h.1.symm)).val * strides i + (a i).val - lo i < s.size i
      then x (fun i => ⟨(j (i.cast h.1.symm)).val * strides i + (a i).val - lo i, (hin i).2⟩) else init (Shape.Idx.first hu) := by
  unfold Host.reduceWindow
  dsimp only
  rw [foldl_add, ← List.ofFn_eq_map, List.sum_ofFn]
  refine congrArg _ (Eq.trans (Finset.sum_congr rfl fun n _ => ?_) (Equiv.sum_comp (⟨s.rank, window⟩ : Shape).rowMajor.symm fun a : (⟨s.rank, window⟩ : Shape).Idx =>
    if hin : ∀ i, lo i ≤ (j (i.cast h.1.symm)).val * strides i + (a i).val ∧ (j (i.cast h.1.symm)).val * strides i + (a i).val - lo i < s.size i
    then x (fun i => ⟨(j (i.cast h.1.symm)).val * strides i + (a i).val - lo i, (hin i).2⟩) else init (Shape.Idx.first hu)))
  by_cases hin : ∀ i, lo i ≤ (j (i.cast h.1.symm)).val * strides i + (((⟨s.rank, window⟩ : Shape).rowMajor.symm n) i).val
      ∧ (j (i.cast h.1.symm)).val * strides i + (((⟨s.rank, window⟩ : Shape).rowMajor.symm n) i).val - lo i < s.size i
  · rw [dif_pos hin, dif_pos hin]
  · rw [dif_neg hin, dif_neg hin]

/-- A window that ends at row `t` takes the rows up to `t`. -/
theorem sum_window (f : ℕ → ℝ) (t : Fin 32) : (∑ r : Fin 32, if 31 ≤ t.val + r.val then f (t.val + r.val - 31) else 0) = ∑ n ∈ Finset.range (t.val + 1), f n := by
  have ht := t.isLt
  rw [Fin.sum_univ_eq_sum_range (fun r => if 31 ≤ t.val + r then f (t.val + r - 31) else 0) 32,
    show Finset.range 32 = Finset.range ((31 - t.val) + (t.val + 1)) from congrArg Finset.range (by omega), Finset.sum_range_add,
    Finset.sum_eq_zero fun r hr => if_neg (by have := Finset.mem_range.mp hr; omega), zero_add]
  refine Finset.sum_congr rfl fun m hm => ?_
  rw [if_pos (by omega), show t.val + (31 - t.val + m) - 31 = m from by omega]

/-- The window's positions. -/
abbrev Win : Shape := ⟨4, ![1, 32, 1, 1]⟩

theorem win_bij : Function.Bijective (fun r : Fin 32 => (ix4 0 r 0 0 : Win.Idx)) := by
  refine ⟨fun a b h => congrFun h 1, fun y => ⟨y 1, funext fun a => ?_⟩⟩
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _

variable {B : Fin 32} {h : Fin 8}

/-- The running sums of a chunk of reals. -/
theorem sums_at {x : FVec Ideal S32x32x8x128 .f32} {L : Fin 32 → Fin 128 → ℝ} (hx : ∀ r d, x (ix4 B r h d) = ((L r d : ℝ) : EReal))
    (t : Fin 32) (d : Fin 128) : sums x (ix4 B t h d) = ((locB L t d : ℝ) : EReal) := by
  have hz : (Ideal.ofBits .f32 0x00000000#32 : EReal) = 0 := by simp
  unfold sums Host.reduceWindowAdd
  rw [Ideal.hostReduceWindowAdd_def]
  unfold Ideal.hostReduceWindowAdd
  rw [window_sum]
  refine (congrArg₂ (· + ·) hz (win_bij.sum_comp _).symm).trans ?_
  rw [zero_add]
  have ht := t.isLt
  have key (r : Fin 32) : (if hin : ∀ i, (![0, 31, 0, 0] : Fin 4 → ℕ) i ≤ ((ix4 B t h d : S32x32x8x128.Idx) i).val * (![1, 1, 1, 1] : Fin 4 → ℕ) i + ((ix4 0 r 0 0 : Win.Idx) i).val
        ∧ ((ix4 B t h d : S32x32x8x128.Idx) i).val * (![1, 1, 1, 1] : Fin 4 → ℕ) i + ((ix4 0 r 0 0 : Win.Idx) i).val - (![0, 31, 0, 0] : Fin 4 → ℕ) i < S32x32x8x128.size i
      then x (fun i => ⟨((ix4 B t h d : S32x32x8x128.Idx) i).val * (![1, 1, 1, 1] : Fin 4 → ℕ) i + ((ix4 0 r 0 0 : Win.Idx) i).val - (![0, 31, 0, 0] : Fin 4 → ℕ) i, (hin i).2⟩)
      else Ideal.ofBits .f32 0x00000000#32)
      = (((if 31 ≤ t.val + r.val then (fun n : ℕ => if hn : n < 32 then L ⟨n, hn⟩ d else 0) (t.val + r.val - 31) else 0 : ℝ)) : EReal) := by
    have hr := r.isLt
    by_cases hc : 31 ≤ t.val + r.val
    · rw [dif_pos (fun i => ?_), if_pos hc]
      · dsimp only
        rw [dif_pos (by omega : t.val + r.val - 31 < 32), ← hx]
        refine congrArg x (funext fun i => Fin.ext ?_)
        match i with
        | ⟨0, _⟩ => show B.val * 1 + 0 - 0 = B.val; omega
        | ⟨1, _⟩ => show t.val * 1 + r.val - 31 = t.val + r.val - 31; omega
        | ⟨2, _⟩ => show h.val * 1 + 0 - 0 = h.val; omega
        | ⟨3, _⟩ => show d.val * 1 + 0 - 0 = d.val; omega
      · match i with
        | ⟨0, _⟩ => show 0 ≤ B.val * 1 + 0 ∧ B.val * 1 + 0 - 0 < 32; omega
        | ⟨1, _⟩ => show 31 ≤ t.val * 1 + r.val ∧ t.val * 1 + r.val - 31 < 32; omega
        | ⟨2, _⟩ => show 0 ≤ h.val * 1 + 0 ∧ h.val * 1 + 0 - 0 < 8; omega
        | ⟨3, _⟩ => show 0 ≤ d.val * 1 + 0 ∧ d.val * 1 + 0 - 0 < 128; omega
    · rw [dif_neg (fun hin => hc ?_), if_neg hc, hz, EReal.coe_zero]
      have h1 : 31 ≤ t.val * 1 + r.val := (hin 1).1
      omega
  refine (Finset.sum_congr rfl fun r _ => key r).trans ?_
  rw [← coe_sum]
  refine congrArg Real.toEReal ((sum_window (fun n : ℕ => if hn : n < 32 then L ⟨n, hn⟩ d else 0) t).trans
    ((sum_upto (fun n : ℕ => if hn : n < 32 then L ⟨n, hn⟩ d else 0) t).symm.trans ?_))
  unfold locB
  exact Finset.sum_congr rfl fun r _ => by rw [dif_pos r.isLt]

/-! ## Scores -/

/-- The decay between two steps: nought to an earlier one. -/
theorem gate_ideal {P : Prop} [Decidable P] (w : BitVec 1) (hw : w = if P then 1#1 else 0#1) (x y : ℝ) :
    Ideal.exp (Scalar.select w ((x : EReal) - (y : EReal)) (Ideal.ofBits .f32 0xFF800000#32)) = ((if P then Real.exp (x - y) else 0 : ℝ) : EReal) := by
  subst hw
  by_cases hP : P
  · rw [if_pos hP, if_pos hP]
    show Ideal.exp ((x : EReal) - (y : EReal)) = _
    rw [← EReal.coe_sub, Ideal.exp_coe]
  · rw [if_neg hP, if_neg hP]
    show Ideal.exp (Ideal.ofBits .f32 0xFF800000#32) = _
    have hb : (Ideal.ofBits .f32 0xFF800000#32 : EReal) = ⊥ := by simp [Ideal.ofBits, Ideal.ieee]
    rw [hb, EReal.coe_zero]
    rfl

variable {q k v b : FVec Ideal S32x32x8x128 .f32} {S : FVec Ideal S32x8x128x128 .f32} {w : IVec S32x32x1x1 1}
  {Q K L : Fin 32 → Fin 128 → ℝ} {W : Fin 32 → Fin 128 → ℝ} {St : Fin 128 → Fin 128 → ℝ}
  (hq : ∀ r d, q (ix4 B r h d) = ((Q r d : ℝ) : EReal)) (hk : ∀ r d, k (ix4 B r h d) = ((K r d : ℝ) : EReal))
  (hv : ∀ r d, v (ix4 B r h d) = ((W r d : ℝ) : EReal)) (hb : ∀ r d, b (ix4 B r h d) = ((locB L r d : ℝ) : EReal))
  (hS : ∀ d e, S (ix4 B h d e) = ((St d e : ℝ) : EReal)) (hw : ∀ t s : Fin 32, w (ix4 t s 0 0) = if s ≤ t then 1#1 else 0#1)
include hq hk hb hw in
/-- The scores of a chunk. -/
theorem scores_at (t s : Fin 32) : scores q k b w (ix4 B t s h) = ((locA Q K L t s : ℝ) : EReal) := by
  unfold scores decay
  pointwise
  simp only [hq, hk, hb, gate_ideal (P := s ≤ t) _ (hw t s), ← EReal.coe_mul, ← coe_sum]
  refine congrArg Real.toEReal ?_
  unfold locA
  by_cases hst : s ≤ t
  · simp only [if_pos hst]
  · simp only [if_neg hst, mul_zero, Finset.sum_const_zero]

include hq hk hv hb hS hw in
/-- The output of a chunk. -/
theorem chunkOut_at (t : Fin 32) (e : Fin 128) : chunkOut q k v b w S (ix4 B t h e) = ((locO Q K W L St t e : ℝ) : EReal) := by
  unfold chunkOut
  pointwise
  simp only [hq, hv, hb, hS, scores_at hq hk hb hw, Ideal.exp_coe, ← EReal.coe_mul, ← coe_sum, ← EReal.coe_add]
  refine congrArg Real.toEReal ?_
  unfold locO
  rw [add_comm]
  exact congrArg₂ (· + ·) (Finset.sum_congr rfl fun _ _ => by ring) (Finset.sum_congr rfl fun _ _ => by ring)

include hk hv hb hS in
/-- The state after a chunk. -/
theorem nextState_at (d e : Fin 128) : nextState k v b S (ix4 B h d e) = ((locS K W L St d e : ℝ) : EReal) := by
  have hl : locB L 31 d = ∑ r, L r d := Finset.sum_congr rfl fun r _ => if_pos (by show r.val ≤ 31; omega)
  unfold nextState lastSum
  pointwise
  simp only [hk, hv, hb, hS, Ideal.exp_coe, ← EReal.coe_mul, ← EReal.coe_sub, ← coe_sum, ← EReal.coe_add]
  refine congrArg Real.toEReal ?_
  unfold locS
  refine congrArg₂ (· + ·) ?_ (Finset.sum_congr rfl fun i _ => ?_)
  · refine Eq.trans ?_ (mul_comm _ _)
    exact congrArg (fun x => Real.exp x * St d e) hl
  · refine Eq.trans ?_ (mul_comm _ _)
    exact congrArg (fun x => K i d * Real.exp (x - locB L i d) * W i e) hl

end Cert.ReferenceIdeal.Scan
-- ==== Proof.RefLoop.lean ====
/-
  The reference's loop at the extended reals: after `k` trips the state is the recurrence's after `32 k` steps, and the first `k`
  chunks of the output array hold its outputs.
-/
module

public import proofs.«01_k».proof.Proof.RefChunk
public import Idealize.ShloMosaic.Lib.DynamicIndex
public import Idealize.ShloMosaic.Lib.Pipeline.Value

@[expose] public section

set_option maxRecDepth 16384

noncomputable section

namespace Cert.ReferenceIdeal.Scan

open Cert.ReferenceIdeal Cert.ReferenceIdeal.Gen Cert.Recur
open Idealize.ShloMosaic

/-- The counter after `k` trips. -/
abbrev ctr (k : ℕ) : IVec S_ 32 := fun _ => Scf.iv 0#32 1#32 k

theorem ctr_toInt : ∀ k : Fin 8, (Scf.iv 0#32 1#32 k.val).toInt = (k.val : Int) := by decide

/-- The chunk's starts after `k` trips. -/
theorem starts_at (k : Fin 8) (a : Fin 5) : starts (ctr k.val) a = (((![k.val, 0, 0, 0, 0] : Fin 5 → ℕ) a : ℕ) : Int) := by
  match a with
  | ⟨0, _⟩ => exact ctr_toInt k
  | ⟨1, _⟩ => rfl
  | ⟨2, _⟩ => rfl
  | ⟨3, _⟩ => rfl
  | ⟨4, _⟩ => rfl

theorem slices_at (k : Fin 8) : S8x32x32x8x128.Slices (![k.val, 0, 0, 0, 0] : Fin 5 → ℕ) S1x32x32x8x128 := by
  revert k; decide

/-- The chunk of a carried array after `k` trips. -/
theorem cut_at (x : FVec Ideal S8x32x32x8x128 .f32) (k : Fin 8) (B i : Fin 32) (h : Fin 8) (d : Fin 128) :
    cut x (ctr k.val) (ix4 B i h d) = x (ix5 k B i h d) := by
  unfold cut
  rw [Host.dynamicSlice_eq_extractStridedSlice _ _ _ (![k.val, 0, 0, 0, 0] : Fin 5 → ℕ) _ (slices_at k) (starts_at k)]
  pointwise

/-- The output array after a chunk is put in its place. -/
theorem put_at (o : FVec Ideal S8x32x32x8x128 .f32) (u : FVec Ideal S32x32x8x128 .f32) (k n : Fin 8) (B i : Fin 32) (h : Fin 8) (d : Fin 128) :
    put o u (ctr k.val) (ix5 n B i h d) = if n = k then u (ix4 B i h d) else o (ix5 n B i h d) := by
  unfold put
  rw [Host.dynamicUpdateSlice_eq_updateSlice _ _ _ _ (![k.val, 0, 0, 0, 0] : Fin 5 → ℕ)
    (fun a => by have := (slices_at k).2 a; rw [starts_at k a]; omega) (slices_at k)]
  unfold updateSlice
  by_cases hn : n = k
  · subst hn
    rw [if_pos rfl, dif_pos fun a => ?_]
    · pointwise
    · match a with
      | ⟨0, _⟩ => show n.val ≤ n.val ∧ n.val < n.val + 1; omega
      | ⟨1, _⟩ => show 0 ≤ B.val ∧ B.val < 0 + 32; omega
      | ⟨2, _⟩ => show 0 ≤ i.val ∧ i.val < 0 + 32; omega
      | ⟨3, _⟩ => show 0 ≤ h.val ∧ h.val < 0 + 8; omega
      | ⟨4, _⟩ => show 0 ≤ d.val ∧ d.val < 0 + 128; omega
  · rw [if_neg hn, dif_neg fun hin => ?_]
    have h0 : k.val ≤ n.val ∧ n.val < k.val + 1 := hin 0
    exact hn (Fin.ext (by omega))

/-- What the loop's carried operands hold: a head's sequences by chunks, and the mask. -/
structure Holds (Q K W L : Fin 32 → Fin 8 → ℕ → Fin 128 → ℝ) (x : Carry Ideal) : Prop where
  q : ∀ n B i h d, x.q (ix5 n B i h d) = ((Q B h (32 * n.val + i.val) d : ℝ) : EReal)
  k : ∀ n B i h d, x.k (ix5 n B i h d) = ((K B h (32 * n.val + i.val) d : ℝ) : EReal)
  v : ∀ n B i h d, x.v (ix5 n B i h d) = ((W B h (32 * n.val + i.val) d : ℝ) : EReal)
  l : ∀ n B i h d, x.l (ix5 n B i h d) = ((L B h (32 * n.val + i.val) d : ℝ) : EReal)
  w : ∀ t s : Fin 32, x.w (ix4 t s 0 0) = if s ≤ t then 1#1 else 0#1

/-- What the loop has made after `k` trips. -/
structure Made (Q K W L : Fin 32 → Fin 8 → ℕ → Fin 128 → ℝ) (k : ℕ) (x : Carry Ideal) : Prop where
  n : x.n = ctr k
  S : ∀ B h d e, x.S (ix4 B h d e) = ((state (K B h) (W B h) (L B h) (32 * k) d e : ℝ) : EReal)
  o : ∀ (n : Fin 8) B i h e, n.val < k → x.o (ix5 n B i h e) = ((out (Q B h) (K B h) (W B h) (L B h) (32 * n.val + i.val) e : ℝ) : EReal)

variable {Q K W L : Fin 32 → Fin 8 → ℕ → Fin 128 → ℝ} {x : Carry Ideal}

theorem Holds.next (hx : Holds Q K W L x) : Holds Q K W L x.next := ⟨hx.q, hx.k, hx.v, hx.l, hx.w⟩

/-- One trip. -/
theorem Made.next {k : ℕ} (hk : k < 8) (hx : Holds Q K W L x) (hm : Made Q K W L k x) : Made Q K W L (k + 1) x.next := by
  have cq (B i : Fin 32) (h : Fin 8) (d : Fin 128) := (cut_at x.q ⟨k, hk⟩ B i h d).trans (hx.q ⟨k, hk⟩ B i h d)
  have ck (B i : Fin 32) (h : Fin 8) (d : Fin 128) := (cut_at x.k ⟨k, hk⟩ B i h d).trans (hx.k ⟨k, hk⟩ B i h d)
  have cv (B i : Fin 32) (h : Fin 8) (d : Fin 128) := (cut_at x.v ⟨k, hk⟩ B i h d).trans (hx.v ⟨k, hk⟩ B i h d)
  have cl (B i : Fin 32) (h : Fin 8) (d : Fin 128) := (cut_at x.l ⟨k, hk⟩ B i h d).trans (hx.l ⟨k, hk⟩ B i h d)
  have cb (B : Fin 32) (h : Fin 8) := sums_at (x := cut x.l (ctr k)) (B := B) (h := h) (fun r d => cl B r h d)
  refine ⟨?_, fun B h d e => ?_, fun n B i h e hn => ?_⟩
  · show addi x.n (constantI S_ 32 1#32) = _
    rw [hm.n]
    exact funext fun _ => (Scf.iv_succ 0#32 1#32 k).symm
  · show nextState (cut x.k x.n) (cut x.v x.n) (sums (cut x.l x.n)) x.S (ix4 B h d e) = _
    rw [hm.n, nextState_at (fun r d => ck B r h d) (fun r d => cv B r h d) (cb B h) (hm.S B h)]
    exact congrArg Real.toEReal (locS_eq (fun _ => rfl) (fun _ => rfl) (fun _ => rfl) d e)
  · show put x.o (chunkOut (cut x.q x.n) (cut x.k x.n) (cut x.v x.n) (sums (cut x.l x.n)) x.w x.S) x.n (ix5 n B i h e) = _
    rw [hm.n, put_at x.o _ ⟨k, hk⟩]
    by_cases hc : n = ⟨k, hk⟩
    · rw [if_pos hc, chunkOut_at (fun r d => cq B r h d) (fun r d => ck B r h d) (fun r d => cv B r h d) (cb B h) (hm.S B h) hx.w, hc]
      exact congrArg Real.toEReal (locO_eq (fun _ => rfl) (fun _ => rfl) (fun _ => rfl) (fun _ => rfl) i e)
    · rw [if_neg hc]
      exact hm.o n B i h e (by have : n.val ≠ k := fun h' => hc (Fin.ext h'); omega)

/-- `k` trips. -/
theorem made_all (hx : Holds Q K W L x) (hm : Made Q K W L 0 x) : ∀ k, k ≤ 8 → Holds Q K W L (Carry.next^[k] x) ∧ Made Q K W L k (Carry.next^[k] x)
  | 0, _ => ⟨hx, hm⟩
  | k + 1, hk => by
    rw [Function.iterate_succ_apply']
    have ih := made_all hx hm k (by omega)
    exact ⟨ih.1.next, Made.next (by omega) ih.1 ih.2⟩

end Cert.ReferenceIdeal.Scan
-- ==== Proof.RefValue.lean ====
/-
  The reference's two results at the end of a run on real operands: the mixed values and the final states of the recurrence.
-/
module

public import proofs.«01_k».proof.Proof.RefLoop

@[expose] public section

set_option maxRecDepth 16384

noncomputable section

namespace Cert.ReferenceIdeal.Scan

open Cert.ReferenceIdeal Cert.ReferenceIdeal.Gen Cert.Recur
open Idealize.ShloMosaic Idealize.ShloMosaic.TcCoe Idealize.ShloMosaic.StableHlo

/-! ## The straight stretches, as functions -/

variable {F : FTy → Type} [FloatOps F]

/-- An argument array by batches, steps and heads. -/
def rows (a : FVec F S8192x1024 .f32) : FVec F S32x256x8x128 .f32 := shapeCast S32x256x8x128 a shapeCasts_S8192x1024_S32x256x8x128

/-- The chunks of an array, the chunk first. -/
def chunks (a : FVec F S32x256x8x128 .f32) : FVec F S8x32x32x8x128 .f32 :=
  transpose S8x32x32x8x128 [1, 0, 2, 3, 4] (shapeCast S32x8x32x8x128 a shapeCasts_S32x256x8x128_S32x8x32x8x128) transposes_S32x8x32x8x128_S8x32x32x8x128_1_0_2_3_4

/-- The chunks put back together. -/
def joined (a : FVec F S8x32x32x8x128 .f32) : FVec F S32x256x8x128 .f32 :=
  shapeCast S32x256x8x128 (transpose S32x8x32x8x128 [1, 0, 2, 3, 4] a transposes_S8x32x32x8x128_S32x8x32x8x128_1_0_2_3_4) shapeCasts_S32x8x32x8x128_S32x256x8x128

/-- The steps in reverse order. -/
def back (a : FVec F S32x256x8x128 .f32) : FVec F S32x256x8x128 .f32 := Host.reverse [1] a

/-- The mask of the steps up to each step. -/
def mask : IVec S32x32x1x1 1 :=
  broadcastInDim S32x32x1x1 ![0, 1] bcast_S32x32_S32x32x1x1_0_1
    (select (cmpi .sge (addi (iotaInDim S32x32 32 0) (broadcastInDim S32x32 ![] bcast_S_S32x32 (constantI S_ 32 0#32))) (iotaInDim S32x32 32 1))
      (broadcastInDim S32x32 ![] bcast_S_S32x32 (constantI S_ 1 1#1)) (broadcastInDim S32x32 ![] bcast_S_S32x32 (constantI S_ 1 0#1)))

/-- No state yet. -/
def noState : FVec F S32x8x128x128 .f32 := broadcastInDim S32x8x128x128 ![] bcast_S_S32x8x128x128 (constant S_ .f32 0x00000000#32)
/-- No output yet. -/
def noOut : FVec F S8x32x32x8x128 .f32 := broadcastInDim S8x32x32x8x128 ![] bcast_S_S8x32x32x8x128 (constant S_ .f32 0x00000000#32)

/-- The silu of the gate. -/
def silu (g : FVec F S32x256x8x128 .f32) : FVec F S32x256x8x128 .f32 :=
  mulf g (Host.divf (broadcastInDim S32x256x8x128 ![] bcast_S_S32x256x8x128 (constant S_ .f32 0x3F800000#32))
    (addf (broadcastInDim S32x256x8x128 ![] bcast_S_S32x256x8x128 (constant S_ .f32 0x3F800000#32)) (Host.exp (Host.negf g))))

/-- A row over its root mean square, scaled. -/
def normed (o : FVec F S32x256x8x128 .f32) (w : FVec F S128 .f32) : FVec F S32x256x8x128 .f32 :=
  mulf (mulf o (broadcastInDim S32x256x8x128 ![0, 1, 2, 3] bcast_S32x256x8x1_S32x256x8x128_0_1_2_3 (Host.rsqrt (addf
    (Host.divf (broadcastInDim S32x256x8x1 ![0, 1, 2] bcast_S32x256x8_S32x256x8x1_0_1_2 (Host.reduceAdd (mulf o o) (constant S_ .f32 0x00000000#32) reducesTo_S32x256x8x128_S32x256x8_d3 h_S_))
      (broadcastInDim S32x256x8x1 ![] bcast_S_S32x256x8x1 (constant S_ .f32 0x43000000#32)))
    (broadcastInDim S32x256x8x1 ![] bcast_S_S32x256x8x1 (constant S_ .f32 0x358637BD#32))))))
    (broadcastInDim S32x256x8x128 ![0, 1, 2, 3] bcast_S1x1x1x128_S32x256x8x128_0_1_2_3 (broadcastInDim S1x1x1x128 ![3] bcast_S128_S1x1x1x128_3 w))

/-- The mixed values from the two directions' outputs. -/
def mixV (o : FVec F S32x256x8x128 .f32) (g : FVec F S8192x1024 .f32) (w : FVec F S128 .f32) : FVec F S8192x1024 .bf16 :=
  shapeCast S8192x1024 (truncf .bf16 (mulf (normed o w) (silu (rows g))) bitsLt_bf16_f32) shapeCasts_S32x256x8x128_S8192x1024

/-- The two directions' states side by side. -/
def bothV (a b : FVec F S32x8x128x128 .f32) : FVec F S32x2x8x128x128 .f32 :=
  concatenate S32x2x8x128x128 1 [⟨S32x1x8x128x128, broadcastInDim S32x1x8x128x128 ![0, 2, 3, 4] bcast_S32x8x128x128_S32x1x8x128x128_0_2_3_4 a⟩,
    ⟨S32x1x8x128x128, broadcastInDim S32x1x8x128x128 ![0, 2, 3, 4] bcast_S32x8x128x128_S32x1x8x128x128_0_2_3_4 b⟩] concatenates_S32x1x8x128x128_S32x1x8x128x128_S32x2x8x128x128_d1

/-- What a loop is entered with. -/
def entry (q k v l : FVec F S32x256x8x128 .f32) : Carry F := ⟨chunks q, chunks k, chunks v, chunks l, mask, ctr 0, noState, noOut⟩

/-! ## What the buffers hold -/

variable (m : (ℓ : Loc nD τ sig) → Buf (Elt F) ℓ) (c : Dev nD)

/-- The first loop's condition leaves its carry. -/
theorem cond0_carry (V : Valuation τ sig (Elt F)) : carry0 (after condOps0 V) = carry0 V := by
  have keep (a : Ref sig .tc) (h : a ∉ condOps0W) : after condOps0 V (Proc.devRef .tc a) = V (Proc.devRef .tc a) := after_of_writes_sub condOps0 V condOps0_writes h
  exact carry_ext (keep main_v19_0 (by decide)) (keep main_v19_1 (by decide)) (keep main_v19_2 (by decide)) (keep main_v19_3 (by decide))
    (keep main_v19_4 (by decide)) (keep main_v19_5 (by decide)) (keep main_v19_6 (by decide)) (keep main_v19_7 (by decide))

/-- The second loop's condition leaves its carry. -/
theorem cond1_carry (V : Valuation τ sig (Elt F)) : carry1 (after condOps1 V) = carry1 V := by
  have keep (a : Ref sig .tc) (h : a ∉ condOps1W) : after condOps1 V (Proc.devRef .tc a) = V (Proc.devRef .tc a) := after_of_writes_sub condOps1 V condOps1_writes h
  exact carry_ext (keep main_v38_0 (by decide)) (keep main_v38_1 (by decide)) (keep main_v38_2 (by decide)) (keep main_v38_3 (by decide))
    (keep main_v38_4 (by decide)) (keep main_v38_5 (by decide)) (keep main_v38_6 (by decide)) (keep main_v38_7 (by decide))

/-- After the first loop its carry is eight trips on. -/
theorem X0_carry : carry0 (X0 m c) = Carry.next^[8] (carry0 (E0 m c)) :=
  (cond0_carry _).trans (trips condOps0 bodyOps0 (E0 m) c carry0 Carry.next cond0_carry body0_carry 8)
/-- After the second loop its carry is eight trips on. -/
theorem X1_carry : carry1 (X1 m c) = Carry.next^[8] (carry1 (E1 m c)) :=
  (cond1_carry _).trans (trips condOps1 bodyOps1 (E1 m) c carry1 Carry.next cond1_carry body1_carry 8)

/-- What the first loop does not write. -/
theorem keep0 (a : Ref sig .tc) (hc : a ∉ condOps0W) (hb : a ∉ bodyOps0W) : X0 m c (Proc.devRef .tc a) = E0 m c (Proc.devRef .tc a) := by
  refine (after_of_writes_sub condOps0 _ condOps0_writes hc).trans ?_
  rw [trips condOps0 bodyOps0 (E0 m) c (fun V => V (Proc.devRef .tc a)) id (fun V => after_of_writes_sub condOps0 V condOps0_writes hc)
    (fun V => after_of_writes_sub bodyOps0 V bodyOps0_writes hb), Function.iterate_id, id_eq]
/-- What the second loop does not write. -/
theorem keep1 (a : Ref sig .tc) (hc : a ∉ condOps1W) (hb : a ∉ bodyOps1W) : X1 m c (Proc.devRef .tc a) = E1 m c (Proc.devRef .tc a) := by
  refine (after_of_writes_sub condOps1 _ condOps1_writes hc).trans ?_
  rw [trips condOps1 bodyOps1 (E1 m) c (fun V => V (Proc.devRef .tc a)) id (fun V => after_of_writes_sub condOps1 V condOps1_writes hc)
    (fun V => after_of_writes_sub bodyOps1 V bodyOps1_writes hb), Function.iterate_id, id_eq]

theorem ctr_zero : (constantI S_ 32 0#32 : IVec S_ 32) = ctr 0 := funext fun _ => (Scf.iv_zero 0#32 1#32).symm

/-- What the first loop is entered with. -/
theorem E0_carry : carry0 (E0 m c) = entry (rows (m ((c : Thread nD τ).loc main_arg0))) (rows (m ((c : Thread nD τ).loc main_arg2)))
    (rows (m ((c : Thread nD τ).loc main_arg5))) (rows (m ((c : Thread nD τ).loc main_arg1))) := by
  unfold carry0 E0
  simp only [afterL_cons, afterL_nil]
  refine carry_ext ?_ ?_ ?_ ?_ ?_ ?_ ?_ ?_
  · dsimp only; after_reads_simp; rfl
  · dsimp only; after_reads_simp; rfl
  · dsimp only; after_reads_simp; rfl
  · dsimp only; after_reads_simp; rfl
  · dsimp only; after_reads_simp; rfl
  · refine Eq.trans ?_ ctr_zero; dsimp only; after_reads_simp; rfl
  · dsimp only; after_reads_simp; rfl
  · dsimp only; after_reads_simp; rfl

/-- What the stretch between the loops makes of the first loop's exit. -/
theorem mid_carry (V : Valuation τ sig (Elt F)) (hS : V (Proc.devRef .tc main_v6) = (noState : FVec F S32x8x128x128 .f32)) : carry1 (after midOps V)
    = entry (back (V (Proc.devRef .tc main_v0))) (back (V (Proc.devRef .tc main_v4))) (back (V (Proc.devRef .tc main_v5))) (back (V (Proc.devRef .tc main_v3))) := by
  unfold carry1
  refine carry_ext ?_ ?_ ?_ ?_ ?_ ?_ ?_ ?_
  · dsimp only; after_reads_simp; rfl
  · dsimp only; after_reads_simp; rfl
  · dsimp only; after_reads_simp; rfl
  · dsimp only; after_reads_simp; rfl
  · dsimp only; after_reads_simp; rfl
  · refine Eq.trans ?_ ctr_zero; dsimp only; after_reads_simp; rfl
  · refine Eq.trans ?_ hS; dsimp only; after_reads_simp; rfl
  · dsimp only; after_reads_simp; rfl

/-- What the second loop is entered with. -/
theorem E1_carry : carry1 (E1 m c) = entry (back (rows (m ((c : Thread nD τ).loc main_arg0)))) (back (rows (m ((c : Thread nD τ).loc main_arg4))))
    (back (rows (m ((c : Thread nD τ).loc main_arg5)))) (back (rows (m ((c : Thread nD τ).loc main_arg3)))) := by
  unfold E1
  simp only [afterL_cons, afterL_nil]
  have e0 : X0 m c (Proc.devRef .tc main_v0) = rows (m ((c : Thread nD τ).loc main_arg0)) :=
    (keep0 m c main_v0 (by decide) (by decide)).trans (by simp only [E0, afterL_cons, afterL_nil]; after_reads_simp; rfl)
  have e3 : X0 m c (Proc.devRef .tc main_v3) = rows (m ((c : Thread nD τ).loc main_arg3)) :=
    (keep0 m c main_v3 (by decide) (by decide)).trans (by simp only [E0, afterL_cons, afterL_nil]; after_reads_simp; rfl)
  have e4 : X0 m c (Proc.devRef .tc main_v4) = rows (m ((c : Thread nD τ).loc main_arg4)) :=
    (keep0 m c main_v4 (by decide) (by decide)).trans (by simp only [E0, afterL_cons, afterL_nil]; after_reads_simp; rfl)
  have e5 : X0 m c (Proc.devRef .tc main_v5) = rows (m ((c : Thread nD τ).loc main_arg5)) :=
    (keep0 m c main_v5 (by decide) (by decide)).trans (by simp only [E0, afterL_cons, afterL_nil]; after_reads_simp; rfl)
  have e6 : X0 m c (Proc.devRef .tc main_v6) = (noState : FVec F S32x8x128x128 .f32) :=
    (keep0 m c main_v6 (by decide) (by decide)).trans (by simp only [E0, afterL_cons, afterL_nil]; after_reads_simp; rfl)
  rw [mid_carry _ e6, e0, e3, e4, e5]

/-- The first loop's output put back together, by the stretch between the loops. -/
theorem mid_joined (V : Valuation τ sig (Elt F)) : after midOps V (Proc.devRef .tc main_v21) = joined (carry0 V).o := by
  after_reads_simp
  rfl

/-- The first result from the second loop's exit. -/
theorem post_mixed (V : Valuation τ sig (Elt F)) : after postOps V (Proc.devRef .tc main_v60)
    = mixV (addf (V (Proc.devRef .tc main_v21)) (back (joined (carry1 V).o))) (V (Proc.devRef .tc main_arg6)) (V (Proc.devRef .tc main_arg7)) := by
  after_reads_simp
  rfl

/-- The second result from the second loop's exit. -/
theorem post_finals (V : Valuation τ sig (Elt F)) : after postOps V (Proc.devRef .tc main_v63) = bothV (V (Proc.devRef .tc main_v19_6)) (carry1 V).S := by
  after_reads_simp
  rfl

/-- The first result at the end. -/
theorem end_mixed : Fin' m c (Proc.devRef .tc main_v60)
    = mixV (addf (joined (carry0 (X0 m c)).o) (back (joined (carry1 (X1 m c)).o))) (m ((c : Thread nD τ).loc main_arg6)) (m ((c : Thread nD τ).loc main_arg7)) := by
  have e21 : X1 m c (Proc.devRef .tc main_v21) = joined (carry0 (X0 m c)).o :=
    (keep1 m c main_v21 (by decide) (by decide)).trans (mid_joined (X0 m c))
  have e6 : X1 m c (Proc.devRef .tc main_arg6) = m ((c : Thread nD τ).loc main_arg6) :=
    (keep1 m c main_arg6 (by decide) (by decide)).trans ((after_of_writes_sub midOps _ midOps_writes (by decide)).trans
      ((keep0 m c main_arg6 (by decide) (by decide)).trans (after_of_writes_sub preOps _ preOps_writes (by decide))))
  have e7 : X1 m c (Proc.devRef .tc main_arg7) = m ((c : Thread nD τ).loc main_arg7) :=
    (keep1 m c main_arg7 (by decide) (by decide)).trans ((after_of_writes_sub midOps _ midOps_writes (by decide)).trans
      ((keep0 m c main_arg7 (by decide) (by decide)).trans (after_of_writes_sub preOps _ preOps_writes (by decide))))
  refine (post_mixed (X1 m c)).trans ?_
  rw [e21, e6, e7]

/-- The second result at the end. -/
theorem end_finals : Fin' m c (Proc.devRef .tc main_v63) = bothV (carry0 (X0 m c)).S (carry1 (X1 m c)).S := by
  have e : X1 m c (Proc.devRef .tc main_v19_6) = (carry0 (X0 m c)).S :=
    (keep1 m c main_v19_6 (by decide) (by decide)).trans (after_of_writes_sub midOps _ midOps_writes (by decide))
  refine (post_finals (X1 m c)).trans ?_
  rw [e]

end Cert.ReferenceIdeal.Scan
-- ==== Proof.RefMeaning.lean ====
/-
  The reference's two results on real operands, entry by entry.
-/
module

public import proofs.«01_k».proof.Proof.RefValue

@[expose] public section

set_option maxRecDepth 16384

noncomputable section

namespace Cert.ReferenceIdeal.Scan

open Cert.ReferenceIdeal Cert.ReferenceIdeal.Gen Cert.Recur
open Idealize.ShloMosaic Idealize.ShloMosaic.TcCoe Idealize.ShloMosaic.StableHlo

/-- An argument array's entry by batch, step and head. -/
theorem rows_at {a : FVec Ideal S8192x1024 .f32} (ha : Finite' a) (B : Fin 32) (t : Fin 256) (h : Fin 8) (d : Fin 128) :
    rows a (ix4 B t h d) = ((rl a (256 * B.val + t.val) (128 * h.val + d.val) : ℝ) : EReal) := by
  refine Eq.trans ?_ (rl_eq ha ⟨256 * B.val + t.val, by omega⟩ ⟨128 * h.val + d.val, by omega⟩)
  unfold rows
  pointwise
  exact congrArg a (congrArg₂ ix2 (Fin.ext (by show B.val * 256 + t.val = 256 * B.val + t.val; omega)) (Fin.ext (by show h.val * 128 + d.val = 128 * h.val + d.val; omega)))

/-- An argument array's entry at its own row and column. -/
theorem rows_entry (a : FVec Ideal S8192x1024 .f32) (r : Fin 8192) (k : Fin 1024) :
    rows a (ix4 ⟨r.val / 256, by omega⟩ ⟨r.val % 256, by omega⟩ ⟨k.val / 128, by omega⟩ ⟨k.val % 128, by omega⟩) = a (ix2 r k) := by
  unfold rows
  pointwise

/-- A chunk's entry. -/
theorem chunks_at (x : FVec Ideal S32x256x8x128 .f32) (n : Fin 8) (B i : Fin 32) (h : Fin 8) (d : Fin 128) :
    chunks x (ix5 n B i h d) = x (ix4 B ⟨32 * n.val + i.val, by omega⟩ h d) := by
  unfold chunks
  pointwise
  exact congrArg (fun z => x (ix4 B z h d)) (Fin.ext (by show n.val * 32 + i.val = 32 * n.val + i.val; omega))

/-- An entry of the chunks put back together. -/
theorem joined_at (x : FVec Ideal S8x32x32x8x128 .f32) (B : Fin 32) (t : Fin 256) (h : Fin 8) (d : Fin 128) :
    joined x (ix4 B t h d) = x (ix5 ⟨t.val / 32, by omega⟩ B ⟨t.val % 32, by omega⟩ h d) := by
  unfold joined
  pointwise

/-- An entry of the reversed steps. -/
theorem back_at (x : FVec Ideal S32x256x8x128 .f32) (B : Fin 32) (t : Fin 256) (h : Fin 8) (d : Fin 128) :
    back x (ix4 B t h d) = x (ix4 B ⟨255 - t.val, by omega⟩ h d) := by
  unfold back
  pointwise
  exact congrArg (fun z => x (ix4 B z h d)) (Fin.ext (by show 256 - (t.val + 1) = 255 - t.val; omega))

/-- The mask lets through the steps up to each step. -/
theorem mask_at (t s : Fin 32) : mask (ix4 t s 0 0) = if s ≤ t then 1#1 else 0#1 := by
  unfold mask
  pointwise
  revert t s
  decide +kernel

/-- The silu is its argument times its logistic. -/
theorem silu_at (g : FVec Ideal S32x256x8x128 .f32) (j : S32x256x8x128.Idx) : silu g j = g j * Ideal.logistic (g j) := by
  unfold silu
  pointwise
  rfl

/-- An entry of the normalized rows. -/
theorem normed_at (o : FVec Ideal S32x256x8x128 .f32) (w : FVec Ideal S128 .f32) (B : Fin 32) (t : Fin 256) (h : Fin 8) (e : Fin 128) :
    normed o w (ix4 B t h e) = o (ix4 B t h e) * Ideal.rsqrt (Ideal.div (∑ l, o (ix4 B t h l) * o (ix4 B t h l)) (Ideal.ofBits .f32 0x43000000#32) + Ideal.ofBits .f32 0x358637BD#32) * w (ix1 e) := by
  unfold normed
  pointwise

/-! ## The loops' carries -/

/-- A loop entered with real sequences by batches, steps and heads holds them. -/
theorem entry_holds {q k v l : FVec Ideal S32x256x8x128 .f32} {Q K W L : Fin 32 → Fin 8 → ℕ → Fin 128 → ℝ}
    (hq : ∀ B (t : Fin 256) h d, q (ix4 B t h d) = ((Q B h t.val d : ℝ) : EReal)) (hk : ∀ B (t : Fin 256) h d, k (ix4 B t h d) = ((K B h t.val d : ℝ) : EReal))
    (hv : ∀ B (t : Fin 256) h d, v (ix4 B t h d) = ((W B h t.val d : ℝ) : EReal)) (hl : ∀ B (t : Fin 256) h d, l (ix4 B t h d) = ((L B h t.val d : ℝ) : EReal)) :
    Holds Q K W L (entry q k v l) :=
  ⟨fun n B i h d => (chunks_at q n B i h d).trans (hq _ _ _ _), fun n B i h d => (chunks_at k n B i h d).trans (hk _ _ _ _),
    fun n B i h d => (chunks_at v n B i h d).trans (hv _ _ _ _), fun n B i h d => (chunks_at l n B i h d).trans (hl _ _ _ _), mask_at⟩

/-- On entry nothing is made. -/
theorem entry_made {q k v l : FVec Ideal S32x256x8x128 .f32} {Q K W L : Fin 32 → Fin 8 → ℕ → Fin 128 → ℝ} : Made Q K W L 0 (entry q k v l) := by
  refine ⟨rfl, fun B h d e => ?_, fun n B i h e hn => absurd hn (Nat.not_lt_zero _)⟩
  rw [Nat.mul_zero, state_zero, EReal.coe_zero]
  show noState (ix4 B h d e) = 0
  unfold noState
  pointwise

/-- A sequence in the order of steps. -/
theorem rows_fwd {a : FVec Ideal S8192x1024 .f32} (ha : Finite' a) (B : Fin 32) (t : Fin 256) (h : Fin 8) (d : Fin 128) :
    rows a (ix4 B t h d) = ((seqF (rl a) B.val h.val t.val d : ℝ) : EReal) := by
  rw [rows_at ha]
  unfold seqF
  rw [Nat.mod_eq_of_lt t.isLt]

/-- A sequence in reverse order. -/
theorem rows_bwd {a : FVec Ideal S8192x1024 .f32} (ha : Finite' a) (B : Fin 32) (t : Fin 256) (h : Fin 8) (d : Fin 128) :
    back (rows a) (ix4 B t h d) = ((seqB (rl a) B.val h.val t.val d : ℝ) : EReal) := by
  rw [back_at, rows_at ha]
  unfold seqB
  rw [Nat.mod_eq_of_lt t.isLt]

variable (m : (ℓ : Loc nD τ sig) → Buf (Elt Ideal) ℓ) (c : Dev nD)

/-- An argument array. -/
abbrev arg0 : FVec Ideal S8192x1024 .f32 := m ((c : Thread nD τ).loc main_arg0)
abbrev arg1 : FVec Ideal S8192x1024 .f32 := m ((c : Thread nD τ).loc main_arg1)
abbrev arg2 : FVec Ideal S8192x1024 .f32 := m ((c : Thread nD τ).loc main_arg2)
abbrev arg3 : FVec Ideal S8192x1024 .f32 := m ((c : Thread nD τ).loc main_arg3)
abbrev arg4 : FVec Ideal S8192x1024 .f32 := m ((c : Thread nD τ).loc main_arg4)
abbrev arg5 : FVec Ideal S8192x1024 .f32 := m ((c : Thread nD τ).loc main_arg5)
abbrev arg6 : FVec Ideal S8192x1024 .f32 := m ((c : Thread nD τ).loc main_arg6)
abbrev arg7 : FVec Ideal S128 .f32 := m ((c : Thread nD τ).loc main_arg7)

/-- The six arrays the recurrence reads hold real numbers. -/
structure Ok : Prop where
  h0 : Finite' (arg0 m c)
  h1 : Finite' (arg1 m c)
  h2 : Finite' (arg2 m c)
  h3 : Finite' (arg3 m c)
  h4 : Finite' (arg4 m c)
  h5 : Finite' (arg5 m c)

/-- The recurrence's arrays. -/
abbrev D : Arrays := arrays (arg0 m c) (arg1 m c) (arg2 m c) (arg3 m c) (arg4 m c) (arg5 m c)

variable {m c}

/-- What the first loop has made at its exit. -/
theorem made0 (ok : Ok m c) : Made (fun B h => seqF (D m c).q B h) (fun B h => seqF (D m c).kf B h) (fun B h => seqF (D m c).v B h) (fun B h => seqF (D m c).lf B h) 8 (carry0 (X0 m c)) := by
  rw [X0_carry, E0_carry]
  exact (made_all (entry_holds (rows_fwd ok.h0) (rows_fwd ok.h2) (rows_fwd ok.h5) (rows_fwd ok.h1)) entry_made 8 le_rfl).2

/-- What the second loop has made at its exit. -/
theorem made1 (ok : Ok m c) : Made (fun B h => seqB (D m c).q B h) (fun B h => seqB (D m c).kb B h) (fun B h => seqB (D m c).v B h) (fun B h => seqB (D m c).lb B h) 8 (carry1 (X1 m c)) := by
  rw [X1_carry, E1_carry]
  exact (made_all (entry_holds (rows_bwd ok.h0) (rows_bwd ok.h4) (rows_bwd ok.h5) (rows_bwd ok.h3)) entry_made 8 le_rfl).2

/-- A direction's outputs, put back together. -/
theorem joined_made {Q K W L : Fin 32 → Fin 8 → ℕ → Fin 128 → ℝ} {x : Carry Ideal} (hm : Made Q K W L 8 x) (B : Fin 32) (t : Fin 256) (h : Fin 8) (e : Fin 128) :
    joined x.o (ix4 B t h e) = ((out (Q B h) (K B h) (W B h) (L B h) t.val e : ℝ) : EReal) := by
  rw [joined_at, hm.o _ _ _ _ _ (show t.val / 32 < 8 by omega)]
  exact congrArg (fun n => ((out (Q B h) (K B h) (W B h) (L B h) n e : ℝ) : EReal)) (Nat.div_add_mod t.val 32)

/-- The first result. -/
theorem value0 (ok : Ok m c) : Fin' m c (Proc.devRef .tc main_v60)
    = mixed (arg0 m c) (arg1 m c) (arg2 m c) (arg3 m c) (arg4 m c) (arg5 m c) (arg6 m c) (arg7 m c) := by
  rw [end_mixed]
  funext j
  idx_vars j
  have ho (B : Fin 32) (t : Fin 256) (h : Fin 8) (e : Fin 128) :
      addf (joined (carry0 (X0 m c)).o) (back (joined (carry1 (X1 m c)).o)) (ix4 B t h e)
        = ((outF (D m c) B.val h.val t.val e : ℝ) : EReal) + ((outB (D m c) B.val h.val (255 - t.val) e : ℝ) : EReal) := by
    refine congrArg₂ (· + ·) (joined_made (made0 ok) B t h e) ?_
    rw [back_at, joined_made (made1 ok)]
    rfl
  generalize addf (joined (carry0 (X0 m c)).o) (back (joined (carry1 (X1 m c)).o)) = o at ho
  unfold mixV
  pointwise
  simp only [normed_at, silu_at, ho, rows_entry]
  rfl

/-- The second result. -/
theorem value1 (ok : Ok m c) : Fin' m c (Proc.devRef .tc main_v63)
    = finals (arg0 m c) (arg1 m c) (arg2 m c) (arg3 m c) (arg4 m c) (arg5 m c) := by
  rw [end_finals]
  have h0 := (made0 ok).S
  have h1 := (made1 ok).S
  generalize (carry0 (X0 m c)).S = a at h0
  generalize (carry1 (X1 m c)).S = b at h1
  funext j
  idx_vars j
  unfold bothV
  fin_cases j1
  · pointwise
    exact h0 _ _ _ _
  · pointwise
    exact h1 _ _ _ _

end Cert.ReferenceIdeal.Scan
-- ==== Proof.lean ====
module

public import proofs.«01_k».proof.Defs
public import proofs.«01_k».proof.Proof.Gen.Kernel
public import proofs.«01_k».proof.Proof.Run
public import proofs.«01_k».proof.Proof.FfnClaims
public import proofs.«01_k».proof.Proof.ProjClaims
public import proofs.«01_k».proof.Proof.Value
public import proofs.«01_k».proof.Proof.AttnClaims
public import proofs.«01_k».proof.Proof.RefMeaning
public import Idealize.ShloMosaic.Adequacy
public import Idealize.ShloMosaic.Init

@[expose] public section

noncomputable section

namespace Cert.Proof

open Idealize.ShloMosaic Idealize.SL.Sem

/-- The kernel's frame statement is its idealization's at words: the two programs have the same text. -/
theorem same_text (m : (ℓ : Loc Cert.Kernel.nD Cert.Kernel.τ Cert.Kernel.sig) → Buf (Elt Bits) ℓ) (ρ : Dev Cert.Kernel.nD → PrngReg) :
    (θ_run (Cert.Kernel.defs (F := Bits)) (onTc (τ := Cert.Kernel.τ) (Cert.Kernel.main (F := Bits))) ⟨m, fun _ => 0, ρ⟩
      (fun r => (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0) ∧ r.2.mem ((c.tc : Thread Cert.Kernel.nD Cert.Kernel.τ).loc Cert.Kernel.main_arg1) = m ((c.tc : Thread Cert.Kernel.nD Cert.Kernel.τ).loc Cert.Kernel.main_arg1) ∧ r.2.mem ((c.tc : Thread Cert.Kernel.nD Cert.Kernel.τ).loc Cert.Kernel.main_arg2) = m ((c.tc : Thread Cert.Kernel.nD Cert.Kernel.τ).loc Cert.Kernel.main_arg2) ∧ r.2.mem ((c.tc : Thread Cert.Kernel.nD Cert.Kernel.τ).loc Cert.Kernel.main_arg3) = m ((c.tc : Thread Cert.Kernel.nD Cert.Kernel.τ).loc Cert.Kernel.main_arg3) ∧ r.2.mem ((c.tc : Thread Cert.Kernel.nD Cert.Kernel.τ).loc Cert.Kernel.main_arg4) = m ((c.tc : Thread Cert.Kernel.nD Cert.Kernel.τ).loc Cert.Kernel.main_arg4) ∧ r.2.mem ((c.tc : Thread Cert.Kernel.nD Cert.Kernel.τ).loc Cert.Kernel.main_arg5) = m ((c.tc : Thread Cert.Kernel.nD Cert.Kernel.τ).loc Cert.Kernel.main_arg5) ∧ r.2.mem ((c.tc : Thread Cert.Kernel.nD Cert.Kernel.τ).loc Cert.Kernel.main_arg6) = m ((c.tc : Thread Cert.Kernel.nD Cert.Kernel.τ).loc Cert.Kernel.main_arg6) ∧ r.2.mem ((c.tc : Thread Cert.Kernel.nD Cert.Kernel.τ).loc Cert.Kernel.main_arg7) = m ((c.tc : Thread Cert.Kernel.nD Cert.Kernel.τ).loc Cert.Kernel.main_arg7)) ∧ r.2.sem = fun _ => 0))
      = (θ_run (Cert.KernelIdeal.defs (F := Bits)) (onTc (τ := Cert.KernelIdeal.τ) (Cert.KernelIdeal.main (F := Bits))) ⟨m, fun _ => 0, ρ⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) ∧ r.2.sem = fun _ => 0)) := by
  chain_rfl

/-- The kernel's frame: the run of its idealization, which has the same text, read at words. -/
theorem frame_kernel : Cert.quiescent_Kernel (hKernel := Cert.Kernel.Gen.facts) := fun m ρ _ =>
  (same_text m ρ).mpr (Cert.KernelIdeal.Hgrn.args_kept (F := Bits) m ρ)

/-- The precondition's one shape relation. -/
theorem pre_facts : Cert.Pre_operands_finite.Facts := ⟨by decide⟩

/-- The kernel's run on real operands ends with the mixed values and the final states. -/
theorem kernel_values (m : (ℓ : Loc Cert.KernelIdeal.nD Cert.KernelIdeal.τ Cert.KernelIdeal.sig) → Buf (Elt Ideal) ℓ) (g : Dev Cert.KernelIdeal.nD → PrngReg)
    (ok : ∀ c, Cert.KernelIdeal.Hgrn.Ok m c) : θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0) = Cert.Recur.mixed (Cert.KernelIdeal.Hgrn.arg0 m c) (Cert.KernelIdeal.Hgrn.arg1 m c) (Cert.KernelIdeal.Hgrn.arg2 m c) (Cert.KernelIdeal.Hgrn.arg3 m c) (Cert.KernelIdeal.Hgrn.arg4 m c) (Cert.KernelIdeal.Hgrn.arg5 m c) (Cert.KernelIdeal.Hgrn.arg6 m c) (Cert.KernelIdeal.Hgrn.arg7 m c)
      ∧ r.2.mem ((c.tc : Thread Cert.KernelIdeal.nD Cert.KernelIdeal.τ).loc Cert.KernelIdeal.main_v1_1) = Cert.Recur.finals (Cert.KernelIdeal.Hgrn.arg0 m c) (Cert.KernelIdeal.Hgrn.arg1 m c) (Cert.KernelIdeal.Hgrn.arg2 m c) (Cert.KernelIdeal.Hgrn.arg3 m c) (Cert.KernelIdeal.Hgrn.arg4 m c) (Cert.KernelIdeal.Hgrn.arg5 m c)) :=
  (θ_run _ _ _).mono (fun r h c => ⟨((h c).1 8).trans (Cert.KernelIdeal.Hgrn.final8 (ok c)), ((h c).1 9).trans (Cert.KernelIdeal.Hgrn.final9 (ok c))⟩) (Cert.KernelIdeal.Hgrn.run_arrays m g)

/-- The precondition makes the six arrays real. -/
theorem ok_of_pre (m : (ℓ : Loc Cert.KernelIdeal.nD Cert.KernelIdeal.τ Cert.KernelIdeal.sig) → Buf (Elt Ideal) ℓ)
    (h : Cert.Pre_KernelIdeal_operands_finite (hPre_operands_finite := pre_facts) m) (c : Dev Cert.KernelIdeal.nD) : Cert.KernelIdeal.Hgrn.Ok m c := by
  obtain ⟨h0, h1, h2, h3, h4, h5⟩ := h c
  exact ⟨fun j => real_of_below (congrFun h0 j), fun j => real_of_below (congrFun h1 j), fun j => real_of_below (congrFun h2 j),
    fun j => real_of_below (congrFun h3 j), fun j => real_of_below (congrFun h4 j), fun j => real_of_below (congrFun h5 j)⟩

/-- On real operands the kernel and the reference end with the same results. -/
theorem values : Cert.algebraic_KernelIdeal_ReferenceIdeal_pre_operands_finite (hKernelIdeal := Cert.KernelIdeal.Gen.facts)
    (hReferenceIdeal := Cert.ReferenceIdeal.Gen.facts) (hPre_operands_finite := pre_facts) := by
  intro m g m' g' hp he
  have ok := ok_of_pre m hp
  refine ⟨_, _, (θ_run _ _ _).mono (fun r h c => ⟨(h.1 c).1, (h.1 c).2, h.2.1 c⟩) (θ_run_and (kernel_values m g ok) (Cert.KernelIdeal.Hgrn.args_kept m g)),
    (θ_run _ _ _).mono (fun r h c => ?_) (θ_run_and (Cert.ReferenceIdeal.Scan.run_at m' g') (Cert.ReferenceIdeal.Scan.args_kept m' g'))⟩
  obtain ⟨e0, e1, e2, e3, e4, e5, e6, e7⟩ := he c
  have a0 : Cert.ReferenceIdeal.Scan.arg0 m' c = Cert.KernelIdeal.Hgrn.arg0 m c := e0
  have a1 : Cert.ReferenceIdeal.Scan.arg1 m' c = Cert.KernelIdeal.Hgrn.arg1 m c := e1
  have a2 : Cert.ReferenceIdeal.Scan.arg2 m' c = Cert.KernelIdeal.Hgrn.arg2 m c := e2
  have a3 : Cert.ReferenceIdeal.Scan.arg3 m' c = Cert.KernelIdeal.Hgrn.arg3 m c := e3
  have a4 : Cert.ReferenceIdeal.Scan.arg4 m' c = Cert.KernelIdeal.Hgrn.arg4 m c := e4
  have a5 : Cert.ReferenceIdeal.Scan.arg5 m' c = Cert.KernelIdeal.Hgrn.arg5 m c := e5
  have a6 : Cert.ReferenceIdeal.Scan.arg6 m' c = Cert.KernelIdeal.Hgrn.arg6 m c := e6
  have a7 : Cert.ReferenceIdeal.Scan.arg7 m' c = Cert.KernelIdeal.Hgrn.arg7 m c := e7
  have ok' : Cert.ReferenceIdeal.Scan.Ok m' c := ⟨a0 ▸ (ok c).h0, a1 ▸ (ok c).h1, a2 ▸ (ok c).h2, a3 ▸ (ok c).h3, a4 ▸ (ok c).h4, a5 ▸ (ok c).h5⟩
  refine ⟨(h.1.1 c Cert.ReferenceIdeal.main_v60 rfl).trans ((Cert.ReferenceIdeal.Scan.value0 ok').trans ?_),
    (h.1.1 c Cert.ReferenceIdeal.main_v63 rfl).trans ((Cert.ReferenceIdeal.Scan.value1 ok').trans ?_), h.2.1 c⟩
  · rw [a0, a1, a2, a3, a4, a5, a6, a7]
  · rw [a0, a1, a2, a3, a4, a5]

/-- All the claims. -/
theorem claim : Cert.Claim := ⟨Cert.Kernel.Gen.facts, Cert.KernelIdeal.Gen.facts, Cert.ReferenceIdeal.Gen.facts,
  Cert.FfnPrompt.Gen.facts, Cert.FfnPromptIdeal.Gen.facts, Cert.FfnPromptRefIdeal.Gen.facts,
  Cert.FfnSample.Gen.facts, Cert.FfnSampleIdeal.Gen.facts, Cert.FfnSampleRefIdeal.Gen.facts,
  Cert.FfnFirst.Gen.facts, Cert.FfnFirstIdeal.Gen.facts, Cert.FfnFirstRefIdeal.Gen.facts,
  Cert.ProjAttn.Gen.facts, Cert.ProjAttnIdeal.Gen.facts, Cert.ProjAttnRefIdeal.Gen.facts,
  Cert.ProjGlu.Gen.facts, Cert.ProjGluIdeal.Gen.facts, Cert.ProjGluRefIdeal.Gen.facts,
  Cert.ProjPair.Gen.facts, Cert.ProjPairIdeal.Gen.facts, Cert.ProjPairRefIdeal.Gen.facts,
  Cert.Attention.Gen.facts, Cert.AttentionIdeal.Gen.facts, Cert.AttentionRefIdeal.Gen.facts, pre_facts, attention_pre_facts,
  frame_kernel,
  fun m ρ _ => Cert.KernelIdeal.Hgrn.args_kept m ρ,
  fun m ρ _ => Cert.KernelIdeal.Hgrn.args_kept m ρ,
  fun m ρ _ => Cert.ReferenceIdeal.Scan.args_kept m ρ,
  fun m ρ _ => Cert.ReferenceIdeal.Scan.args_kept m ρ,
  frame_ffn_prompt,
  fun m ρ _ => Cert.FfnPromptIdeal.Gen.frame m ρ,
  frame_ffn_prompt_ref,
  frame_ffn_sample,
  fun m ρ _ => Cert.FfnSampleIdeal.Gen.frame m ρ,
  frame_ffn_sample_ref,
  frame_first,
  fun m ρ _ => Cert.FfnFirstIdeal.Gen.frame m ρ,
  frame_first_ref,
  frame_attn,
  fun m ρ _ => Cert.ProjAttnIdeal.Gen.frame m ρ,
  frame_attn_ref,
  frame_glu,
  fun m ρ _ => Cert.ProjGluIdeal.Gen.frame m ρ,
  frame_glu_ref,
  frame_pair,
  fun m ρ _ => Cert.ProjPairIdeal.Gen.frame m ρ,
  frame_pair_ref,
  frame_attention,
  fun m ρ _ => Cert.AttentionIdeal.Gen.frame m ρ,
  fun m ρ _ => Cert.AttentionIdeal.Gen.frame m ρ,
  frame_attention_ref,
  fun m ρ _ => frame_attention_ref m ρ trivial,
  trivial,
  values,
  trivial,
  values_ffn_prompt,
  trivial,
  values_ffn_sample,
  trivial,
  values_first,
  trivial,
  values_attn,
  trivial,
  values_glu,
  trivial,
  values_pair,
  trivial,
  values_attention⟩

end Cert.Proof

end
